-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference5 (m : (ℓ : Loc Cert.Reference5.nD Cert.Reference5.τ Cert.Reference5.sig) → Buf (Elt Bits) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Reference6 (m : (ℓ : Loc Cert.Reference6.nD Cert.Reference6.τ Cert.Reference6.sig) → Buf (Elt Bits) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Reference7 (m : (ℓ : Loc Cert.Reference7.nD Cert.Reference7.τ Cert.Reference7.sig) → Buf (Elt Bits) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Reference8 (m : (ℓ : Loc Cert.Reference8.nD Cert.Reference8.τ Cert.Reference8.sig) → Buf (Elt Bits) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Reference9 (m : (ℓ : Loc Cert.Reference9.nD Cert.Reference9.τ Cert.Reference9.sig) → Buf (Elt Bits) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_padded [hPre_padded : Cert.Pre_padded.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_padded.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).1 = (fun _ => 1#1)
    ∧ (Cert.Pre_padded.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.1 = (fun _ => 1#1)
    ∧ (Cert.Pre_padded.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.1 = (fun _ => 1#1)
    ∧ (Cert.Pre_padded.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2.1 = (fun _ => 1#1)
    ∧ (Cert.Pre_padded.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2.2.1 = (fun _ => 1#1)
    ∧ (Cert.Pre_padded.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2.2.2.1 = (fun _ => 1#1)
    ∧ (Cert.Pre_padded.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_padded [hPre_padded : Cert.Pre_padded.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_padded.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).1 = (fun _ => 1#1)
    ∧ (Cert.Pre_padded.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.1 = (fun _ => 1#1)
    ∧ (Cert.Pre_padded.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.1 = (fun _ => 1#1)
    ∧ (Cert.Pre_padded.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2.1 = (fun _ => 1#1)
    ∧ (Cert.Pre_padded.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2.2.1 = (fun _ => 1#1)
    ∧ (Cert.Pre_padded.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2.2.2.1 = (fun _ => 1#1)
    ∧ (Cert.Pre_padded.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2.2.2.2 = (fun _ => 1#1)

def Pre_Reference10 (m : (ℓ : Loc Cert.Reference10.nD Cert.Reference10.τ Cert.Reference10.sig) → Buf (Elt Bits) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Reference11 (m : (ℓ : Loc Cert.Reference11.nD Cert.Reference11.τ Cert.Reference11.sig) → Buf (Elt Bits) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Reference12 (m : (ℓ : Loc Cert.Reference12.nD Cert.Reference12.τ Cert.Reference12.sig) → Buf (Elt Bits) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Reference13 (m : (ℓ : Loc Cert.Reference13.nD Cert.Reference13.τ Cert.Reference13.sig) → Buf (Elt Bits) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Reference14 (m : (ℓ : Loc Cert.Reference14.nD Cert.Reference14.τ Cert.Reference14.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0)
      ∧ r.2.mem ((c.tc : Thread Cert.Reference6.nD Cert.Reference6.τ).loc Cert.Reference6.main_arg1) = m ((c.tc : Thread Cert.Reference6.nD Cert.Reference6.τ).loc Cert.Reference6.main_arg1)
      ∧ r.2.mem ((c.tc : Thread Cert.Reference6.nD Cert.Reference6.τ).loc Cert.Reference6.main_arg2) = m ((c.tc : Thread Cert.Reference6.nD Cert.Reference6.τ).loc Cert.Reference6.main_arg2)
      ∧ r.2.mem ((c.tc : Thread Cert.Reference6.nD Cert.Reference6.τ).loc Cert.Reference6.main_arg3) = m ((c.tc : Thread Cert.Reference6.nD Cert.Reference6.τ).loc Cert.Reference6.main_arg3)
      ∧ r.2.mem ((c.tc : Thread Cert.Reference6.nD Cert.Reference6.τ).loc Cert.Reference6.main_arg4) = m ((c.tc : Thread Cert.Reference6.nD Cert.Reference6.τ).loc Cert.Reference6.main_arg4)
      ∧ r.2.mem ((c.tc : Thread Cert.Reference6.nD Cert.Reference6.τ).loc Cert.Reference6.main_arg5) = m ((c.tc : Thread Cert.Reference6.nD Cert.Reference6.τ).loc Cert.Reference6.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7 [hReference7 : Cert.Reference7.Facts] : Prop :=
  ∀ (m : (ℓ : Loc Cert.Reference7.nD Cert.Reference7.τ Cert.Reference7.sig) → Buf (Elt Bits) ℓ) (g : Dev Cert.Reference7.nD → PrngReg), Pre_Reference7 m →
    θ_run (Cert.Reference7.defs (F := Bits)) (onTc (τ := Cert.Reference7.τ) (Cert.Reference7.main (F := Bits))) ⟨m, fun _ => 0, g⟩ (fun r => (∀ c : Dev Cert.Reference7.nD,
      r.2.mem ((c.tc : Thread Cert.Reference7.nD Cert.Reference7.τ).loc Cert.Reference7.main_arg0) = m ((c.tc : Thread Cert.Reference7.nD Cert.Reference7.τ).loc Cert.Reference7.main_arg0)
      ∧ r.2.mem ((c.tc : Thread Cert.Reference7.nD Cert.Reference7.τ).loc Cert.Reference7.main_arg1) = m ((c.tc : Thread Cert.Reference7.nD Cert.Reference7.τ).loc Cert.Reference7.main_arg1)
      ∧ r.2.mem ((c.tc : Thread Cert.Reference7.nD Cert.Reference7.τ).loc Cert.Reference7.main_arg2) = m ((c.tc : Thread Cert.Reference7.nD Cert.Reference7.τ).loc Cert.Reference7.main_arg2)
      ∧ r.2.mem ((c.tc : Thread Cert.Reference7.nD Cert.Reference7.τ).loc Cert.Reference7.main_arg3) = m ((c.tc : Thread Cert.Reference7.nD Cert.Reference7.τ).loc Cert.Reference7.main_arg3)
      ∧ r.2.mem ((c.tc : Thread Cert.Reference7.nD Cert.Reference7.τ).loc Cert.Reference7.main_arg4) = m ((c.tc : Thread Cert.Reference7.nD Cert.Reference7.τ).loc Cert.Reference7.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8 [hReference8 : Cert.Reference8.Facts] : Prop :=
  ∀ (m : (ℓ : Loc Cert.Reference8.nD Cert.Reference8.τ Cert.Reference8.sig) → Buf (Elt Bits) ℓ) (g : Dev Cert.Reference8.nD → PrngReg), Pre_Reference8 m →
    θ_run (Cert.Reference8.defs (F := Bits)) (onTc (τ := Cert.Reference8.τ) (Cert.Reference8.main (F := Bits))) ⟨m, fun _ => 0, g⟩ (fun r => (∀ c : Dev Cert.Reference8.nD,
      r.2.mem ((c.tc : Thread Cert.Reference8.nD Cert.Reference8.τ).loc Cert.Reference8.main_arg0) = m ((c.tc : Thread Cert.Reference8.nD Cert.Reference8.τ).loc Cert.Reference8.main_arg0)
      ∧ r.2.mem ((c.tc : Thread Cert.Reference8.nD Cert.Reference8.τ).loc Cert.Reference8.main_arg1) = m ((c.tc : Thread Cert.Reference8.nD Cert.Reference8.τ).loc Cert.Reference8.main_arg1)
      ∧ r.2.mem ((c.tc : Thread Cert.Reference8.nD Cert.Reference8.τ).loc Cert.Reference8.main_arg2) = m ((c.tc : Thread Cert.Reference8.nD Cert.Reference8.τ).loc Cert.Reference8.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9 [hReference9 : Cert.Reference9.Facts] : Prop :=
  ∀ (m : (ℓ : Loc Cert.Reference9.nD Cert.Reference9.τ Cert.Reference9.sig) → Buf (Elt Bits) ℓ) (g : Dev Cert.Reference9.nD → PrngReg), Pre_Reference9 m →
    θ_run (Cert.Reference9.defs (F := Bits)) (onTc (τ := Cert.Reference9.τ) (Cert.Reference9.main (F := Bits))) ⟨m, fun _ => 0, g⟩ (fun r => (∀ c : Dev Cert.Reference9.nD,
      r.2.mem ((c.tc : Thread Cert.Reference9.nD Cert.Reference9.τ).loc Cert.Reference9.main_arg0) = m ((c.tc : Thread Cert.Reference9.nD Cert.Reference9.τ).loc Cert.Reference9.main_arg0)
      ∧ r.2.mem ((c.tc : Thread Cert.Reference9.nD Cert.Reference9.τ).loc Cert.Reference9.main_arg1) = m ((c.tc : Thread Cert.Reference9.nD Cert.Reference9.τ).loc Cert.Reference9.main_arg1)
      ∧ r.2.mem ((c.tc : Thread Cert.Reference9.nD Cert.Reference9.τ).loc Cert.Reference9.main_arg2) = m ((c.tc : Thread Cert.Reference9.nD Cert.Reference9.τ).loc Cert.Reference9.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_padded [hKernel10Ideal : Cert.Kernel10Ideal.Facts] [hPre_padded : Cert.Pre_padded.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_padded m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_padded [hReference10Ideal : Cert.Reference10Ideal.Facts] [hPre_padded : Cert.Pre_padded.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_padded m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10 [hReference10 : Cert.Reference10.Facts] : Prop :=
  ∀ (m : (ℓ : Loc Cert.Reference10.nD Cert.Reference10.τ Cert.Reference10.sig) → Buf (Elt Bits) ℓ) (g : Dev Cert.Reference10.nD → PrngReg), Pre_Reference10 m →
    θ_run (Cert.Reference10.defs (F := Bits)) (onTc (τ := Cert.Reference10.τ) (Cert.Reference10.main (F := Bits))) ⟨m, fun _ => 0, g⟩ (fun r => (∀ c : Dev Cert.Reference10.nD,
      r.2.mem ((c.tc : Thread Cert.Reference10.nD Cert.Reference10.τ).loc Cert.Reference10.main_arg0) = m ((c.tc : Thread Cert.Reference10.nD Cert.Reference10.τ).loc Cert.Reference10.main_arg0)
      ∧ r.2.mem ((c.tc : Thread Cert.Reference10.nD Cert.Reference10.τ).loc Cert.Reference10.main_arg1) = m ((c.tc : Thread Cert.Reference10.nD Cert.Reference10.τ).loc Cert.Reference10.main_arg1)
      ∧ r.2.mem ((c.tc : Thread Cert.Reference10.nD Cert.Reference10.τ).loc Cert.Reference10.main_arg2) = m ((c.tc : Thread Cert.Reference10.nD Cert.Reference10.τ).loc Cert.Reference10.main_arg2)
      ∧ r.2.mem ((c.tc : Thread Cert.Reference10.nD Cert.Reference10.τ).loc Cert.Reference10.main_arg3) = m ((c.tc : Thread Cert.Reference10.nD Cert.Reference10.τ).loc Cert.Reference10.main_arg3)
      ∧ r.2.mem ((c.tc : Thread Cert.Reference10.nD Cert.Reference10.τ).loc Cert.Reference10.main_arg4) = m ((c.tc : Thread Cert.Reference10.nD Cert.Reference10.τ).loc Cert.Reference10.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11 [hReference11 : Cert.Reference11.Facts] : Prop :=
  ∀ (m : (ℓ : Loc Cert.Reference11.nD Cert.Reference11.τ Cert.Reference11.sig) → Buf (Elt Bits) ℓ) (g : Dev Cert.Reference11.nD → PrngReg), Pre_Reference11 m →
    θ_run (Cert.Reference11.defs (F := Bits)) (onTc (τ := Cert.Reference11.τ) (Cert.Reference11.main (F := Bits))) ⟨m, fun _ => 0, g⟩ (fun r => (∀ c : Dev Cert.Reference11.nD,
      r.2.mem ((c.tc : Thread Cert.Reference11.nD Cert.Reference11.τ).loc Cert.Reference11.main_arg0) = m ((c.tc : Thread Cert.Reference11.nD Cert.Reference11.τ).loc Cert.Reference11.main_arg0)
      ∧ r.2.mem ((c.tc : Thread Cert.Reference11.nD Cert.Reference11.τ).loc Cert.Reference11.main_arg1) = m ((c.tc : Thread Cert.Reference11.nD Cert.Reference11.τ).loc Cert.Reference11.main_arg1)
      ∧ r.2.mem ((c.tc : Thread Cert.Reference11.nD Cert.Reference11.τ).loc Cert.Reference11.main_arg2) = m ((c.tc : Thread Cert.Reference11.nD Cert.Reference11.τ).loc Cert.Reference11.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Reference12 [hReference12 : Cert.Reference12.Facts] : Prop :=
  ∀ (m : (ℓ : Loc Cert.Reference12.nD Cert.Reference12.τ Cert.Reference12.sig) → Buf (Elt Bits) ℓ) (g : Dev Cert.Reference12.nD → PrngReg), Pre_Reference12 m →
    θ_run (Cert.Reference12.defs (F := Bits)) (onTc (τ := Cert.Reference12.τ) (Cert.Reference12.main (F := Bits))) ⟨m, fun _ => 0, g⟩ (fun r => (∀ c : Dev Cert.Reference12.nD,
      r.2.mem ((c.tc : Thread Cert.Reference12.nD Cert.Reference12.τ).loc Cert.Reference12.main_arg0) = m ((c.tc : Thread Cert.Reference12.nD Cert.Reference12.τ).loc Cert.Reference12.main_arg0)
      ∧ r.2.mem ((c.tc : Thread Cert.Reference12.nD Cert.Reference12.τ).loc Cert.Reference12.main_arg1) = m ((c.tc : Thread Cert.Reference12.nD Cert.Reference12.τ).loc Cert.Reference12.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13 [hReference13 : Cert.Reference13.Facts] : Prop :=
  ∀ (m : (ℓ : Loc Cert.Reference13.nD Cert.Reference13.τ Cert.Reference13.sig) → Buf (Elt Bits) ℓ) (g : Dev Cert.Reference13.nD → PrngReg), Pre_Reference13 m →
    θ_run (Cert.Reference13.defs (F := Bits)) (onTc (τ := Cert.Reference13.τ) (Cert.Reference13.main (F := Bits))) ⟨m, fun _ => 0, g⟩ (fun r => (∀ c : Dev Cert.Reference13.nD,
      r.2.mem ((c.tc : Thread Cert.Reference13.nD Cert.Reference13.τ).loc Cert.Reference13.main_arg0) = m ((c.tc : Thread Cert.Reference13.nD Cert.Reference13.τ).loc Cert.Reference13.main_arg0)
      ∧ r.2.mem ((c.tc : Thread Cert.Reference13.nD Cert.Reference13.τ).loc Cert.Reference13.main_arg1) = m ((c.tc : Thread Cert.Reference13.nD Cert.Reference13.τ).loc Cert.Reference13.main_arg1)
      ∧ r.2.mem ((c.tc : Thread Cert.Reference13.nD Cert.Reference13.τ).loc Cert.Reference13.main_arg2) = m ((c.tc : Thread Cert.Reference13.nD Cert.Reference13.τ).loc Cert.Reference13.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Reference14 [hReference14 : Cert.Reference14.Facts] : Prop :=
  ∀ (m : (ℓ : Loc Cert.Reference14.nD Cert.Reference14.τ Cert.Reference14.sig) → Buf (Elt Bits) ℓ) (g : Dev Cert.Reference14.nD → PrngReg), Pre_Reference14 m →
    θ_run (Cert.Reference14.defs (F := Bits)) (onTc (τ := Cert.Reference14.τ) (Cert.Reference14.main (F := Bits))) ⟨m, fun _ => 0, g⟩ (fun r => (∀ c : Dev Cert.Reference14.nD,
      r.2.mem ((c.tc : Thread Cert.Reference14.nD Cert.Reference14.τ).loc Cert.Reference14.main_arg0) = m ((c.tc : Thread Cert.Reference14.nD Cert.Reference14.τ).loc Cert.Reference14.main_arg0)
      ∧ r.2.mem ((c.tc : Thread Cert.Reference14.nD Cert.Reference14.τ).loc Cert.Reference14.main_arg1) = m ((c.tc : Thread Cert.Reference14.nD Cert.Reference14.τ).loc Cert.Reference14.main_arg1))
      ∧ r.2.sem = fun _ => 0)

def preserves_Kernel_KernelIdeal : Prop :=
  True

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def preserves_Reference4_Reference4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def preserves_Reference5_Reference5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def preserves_Reference6_Reference6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def preserves_Reference7_Reference7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def preserves_Reference8_Reference8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def preserves_Reference9_Reference9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def preserves_Reference10_Reference10Ideal : Prop :=
  True

def algebraic_Kernel10Ideal_Reference10Ideal_pre_padded [hKernel10Ideal : Cert.Kernel10Ideal.Facts] [hReference10Ideal : Cert.Reference10Ideal.Facts] [hPre_padded : Cert.Pre_padded.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_padded m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v115) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def preserves_Reference11_Reference11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v19) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def preserves_Reference12_Reference12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def preserves_Reference13_Reference13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v49) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def preserves_Reference14_Reference14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v60) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hKernel5 : Cert.Kernel5.Facts) (hKernel5Ideal : Cert.Kernel5Ideal.Facts) (hReference5Ideal : Cert.Reference5Ideal.Facts) (hReference5 : Cert.Reference5.Facts) (hKernel6 : Cert.Kernel6.Facts) (hKernel6Ideal : Cert.Kernel6Ideal.Facts) (hReference6Ideal : Cert.Reference6Ideal.Facts) (hReference6 : Cert.Reference6.Facts) (hKernel7 : Cert.Kernel7.Facts) (hKernel7Ideal : Cert.Kernel7Ideal.Facts) (hReference7Ideal : Cert.Reference7Ideal.Facts) (hReference7 : Cert.Reference7.Facts) (hKernel8 : Cert.Kernel8.Facts) (hKernel8Ideal : Cert.Kernel8Ideal.Facts) (hReference8Ideal : Cert.Reference8Ideal.Facts) (hReference8 : Cert.Reference8.Facts) (hKernel9 : Cert.Kernel9.Facts) (hKernel9Ideal : Cert.Kernel9Ideal.Facts) (hReference9Ideal : Cert.Reference9Ideal.Facts) (hReference9 : Cert.Reference9.Facts) (hKernel10 : Cert.Kernel10.Facts) (hKernel10Ideal : Cert.Kernel10Ideal.Facts) (hReference10Ideal : Cert.Reference10Ideal.Facts) (hReference10 : Cert.Reference10.Facts) (hKernel11 : Cert.Kernel11.Facts) (hKernel11Ideal : Cert.Kernel11Ideal.Facts) (hReference11Ideal : Cert.Reference11Ideal.Facts) (hReference11 : Cert.Reference11.Facts) (hKernel12 : Cert.Kernel12.Facts) (hKernel12Ideal : Cert.Kernel12Ideal.Facts) (hReference12Ideal : Cert.Reference12Ideal.Facts) (hReference12 : Cert.Reference12.Facts) (hKernel13 : Cert.Kernel13.Facts) (hKernel13Ideal : Cert.Kernel13Ideal.Facts) (hReference13Ideal : Cert.Reference13Ideal.Facts) (hReference13 : Cert.Reference13.Facts) (hKernel14 : Cert.Kernel14.Facts) (hKernel14Ideal : Cert.Kernel14Ideal.Facts) (hReference14Ideal : Cert.Reference14Ideal.Facts) (hReference14 : Cert.Reference14.Facts) (hPre_finite : Cert.Pre_finite.Facts) (hPre_padded : Cert.Pre_padded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ quiescent_Kernel5 (hKernel5 := hKernel5)
    ∧ quiescent_Kernel5Ideal (hKernel5Ideal := hKernel5Ideal)
    ∧ quiescent_Reference5Ideal (hReference5Ideal := hReference5Ideal)
    ∧ quiescent_Reference5 (hReference5 := hReference5)
    ∧ quiescent_Kernel6 (hKernel6 := hKernel6)
    ∧ quiescent_Kernel6Ideal (hKernel6Ideal := hKernel6Ideal)
    ∧ quiescent_Reference6Ideal (hReference6Ideal := hReference6Ideal)
    ∧ quiescent_Reference6 (hReference6 := hReference6)
    ∧ quiescent_Kernel7 (hKernel7 := hKernel7)
    ∧ quiescent_Kernel7Ideal (hKernel7Ideal := hKernel7Ideal)
    ∧ quiescent_Reference7Ideal (hReference7Ideal := hReference7Ideal)
    ∧ quiescent_Reference7 (hReference7 := hReference7)
    ∧ quiescent_Kernel8 (hKernel8 := hKernel8)
    ∧ quiescent_Kernel8Ideal (hKernel8Ideal := hKernel8Ideal)
    ∧ quiescent_Reference8Ideal (hReference8Ideal := hReference8Ideal)
    ∧ quiescent_Reference8 (hReference8 := hReference8)
    ∧ quiescent_Kernel9 (hKernel9 := hKernel9)
    ∧ quiescent_Kernel9Ideal (hKernel9Ideal := hKernel9Ideal)
    ∧ quiescent_Reference9Ideal (hReference9Ideal := hReference9Ideal)
    ∧ quiescent_Reference9 (hReference9 := hReference9)
    ∧ quiescent_Kernel10 (hKernel10 := hKernel10)
    ∧ quiescent_Kernel10Ideal (hKernel10Ideal := hKernel10Ideal)
    ∧ quiescent_Kernel10Ideal_pre_padded (hKernel10Ideal := hKernel10Ideal) (hPre_padded := hPre_padded)
    ∧ quiescent_Reference10Ideal (hReference10Ideal := hReference10Ideal)
    ∧ quiescent_Reference10Ideal_pre_padded (hReference10Ideal := hReference10Ideal) (hPre_padded := hPre_padded)
    ∧ quiescent_Reference10 (hReference10 := hReference10)
    ∧ quiescent_Kernel11 (hKernel11 := hKernel11)
    ∧ quiescent_Kernel11Ideal (hKernel11Ideal := hKernel11Ideal)
    ∧ quiescent_Reference11Ideal (hReference11Ideal := hReference11Ideal)
    ∧ quiescent_Reference11 (hReference11 := hReference11)
    ∧ quiescent_Kernel12 (hKernel12 := hKernel12)
    ∧ quiescent_Kernel12Ideal (hKernel12Ideal := hKernel12Ideal)
    ∧ quiescent_Reference12Ideal (hReference12Ideal := hReference12Ideal)
    ∧ quiescent_Reference12 (hReference12 := hReference12)
    ∧ quiescent_Kernel13 (hKernel13 := hKernel13)
    ∧ quiescent_Kernel13Ideal (hKernel13Ideal := hKernel13Ideal)
    ∧ quiescent_Reference13Ideal (hReference13Ideal := hReference13Ideal)
    ∧ quiescent_Reference13 (hReference13 := hReference13)
    ∧ quiescent_Kernel14 (hKernel14 := hKernel14)
    ∧ quiescent_Kernel14Ideal (hKernel14Ideal := hKernel14Ideal)
    ∧ quiescent_Reference14Ideal (hReference14Ideal := hReference14Ideal)
    ∧ quiescent_Reference14 (hReference14 := hReference14)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal (hKernel4Ideal := hKernel4Ideal) (hReference4Ideal := hReference4Ideal)
    ∧ preserves_Kernel5_Kernel5Ideal
    ∧ preserves_Reference5_Reference5Ideal
    ∧ algebraic_Kernel5Ideal_Reference5Ideal (hKernel5Ideal := hKernel5Ideal) (hReference5Ideal := hReference5Ideal)
    ∧ preserves_Kernel6_Kernel6Ideal
    ∧ preserves_Reference6_Reference6Ideal
    ∧ algebraic_Kernel6Ideal_Reference6Ideal (hKernel6Ideal := hKernel6Ideal) (hReference6Ideal := hReference6Ideal)
    ∧ preserves_Kernel7_Kernel7Ideal
    ∧ preserves_Reference7_Reference7Ideal
    ∧ algebraic_Kernel7Ideal_Reference7Ideal (hKernel7Ideal := hKernel7Ideal) (hReference7Ideal := hReference7Ideal)
    ∧ preserves_Kernel8_Kernel8Ideal
    ∧ preserves_Reference8_Reference8Ideal
    ∧ algebraic_Kernel8Ideal_Reference8Ideal (hKernel8Ideal := hKernel8Ideal) (hReference8Ideal := hReference8Ideal)
    ∧ preserves_Kernel9_Kernel9Ideal
    ∧ preserves_Reference9_Reference9Ideal
    ∧ algebraic_Kernel9Ideal_Reference9Ideal (hKernel9Ideal := hKernel9Ideal) (hReference9Ideal := hReference9Ideal)
    ∧ preserves_Kernel10_Kernel10Ideal
    ∧ preserves_Reference10_Reference10Ideal
    ∧ algebraic_Kernel10Ideal_Reference10Ideal_pre_padded (hKernel10Ideal := hKernel10Ideal) (hReference10Ideal := hReference10Ideal) (hPre_padded := hPre_padded)
    ∧ preserves_Kernel11_Kernel11Ideal
    ∧ preserves_Reference11_Reference11Ideal
    ∧ algebraic_Kernel11Ideal_Reference11Ideal (hKernel11Ideal := hKernel11Ideal) (hReference11Ideal := hReference11Ideal)
    ∧ preserves_Kernel12_Kernel12Ideal
    ∧ preserves_Reference12_Reference12Ideal
    ∧ algebraic_Kernel12Ideal_Reference12Ideal (hKernel12Ideal := hKernel12Ideal) (hReference12Ideal := hReference12Ideal)
    ∧ preserves_Kernel13_Kernel13Ideal
    ∧ preserves_Reference13_Reference13Ideal
    ∧ algebraic_Kernel13Ideal_Reference13Ideal (hKernel13Ideal := hKernel13Ideal) (hReference13Ideal := hReference13Ideal)
    ∧ preserves_Kernel14_Kernel14Ideal
    ∧ preserves_Reference14_Reference14Ideal
    ∧ algebraic_Kernel14Ideal_Reference14Ideal (hKernel14Ideal := hKernel14Ideal) (hReference14Ideal := hReference14Ideal)
-- ==== Pre_finite.lean ====
abbrev S16384x12288 : Shape := ⟨2, ![16384, 12288]⟩
abbrev S2048x4096 : Shape := ⟨2, ![2048, 4096]⟩
abbrev S2048x32 : Shape := ⟨2, ![2048, 32]⟩
abbrev S4x64 : Shape := ⟨2, ![4, 64]⟩
abbrev S128 : Shape := ⟨1, ![128]⟩
abbrev S16384x6144 : Shape := ⟨2, ![16384, 6144]⟩
abbrev S_ : Shape := ⟨0, ![]⟩

class Facts : Prop where
  slices_S16384x12288_S16384x6144_0_0 : S16384x12288.Slices ![0, 0] S16384x6144
  bcast_S_S16384x6144 : S_.BroadcastsInDim S16384x6144 (![] : Fin 0 → Fin S16384x6144.rank)
  bcast_S_S2048x4096 : S_.BroadcastsInDim S2048x4096 (![] : Fin 0 → Fin S2048x4096.rank)
  bcast_S_S2048x32 : S_.BroadcastsInDim S2048x32 (![] : Fin 0 → Fin S2048x32.rank)
  bcast_S_S4x64 : S_.BroadcastsInDim S4x64 (![] : Fin 0 → Fin S4x64.rank)

variable [Facts]

def fn {F : FTy → Type} [FloatOps F] (main_arg0 : FVec F S16384x12288 .bf16) (main_arg1 : FVec F S2048x4096 .bf16) (main_arg2 : FVec F S2048x32 .f32) (main_arg3 : FVec F S2048x32 .f32) (main_arg4 : FVec F S4x64 .f32) (main_arg5 : FVec F S128 .f32) : IVec S16384x6144 1 × IVec S2048x4096 1 × IVec S2048x32 1 × IVec S2048x32 1 × IVec S4x64 1 :=
  let main_v0 : FVec F S16384x6144 .bf16 := (extractStridedSlice S16384x6144 ![0, 0] · slices_S16384x12288_S16384x6144_0_0) main_arg0
  let main_v1 : FVec F S16384x6144 .bf16 := Host.absf main_v0
  let main_cst : FVec F S_ .bf16 := constant S_ .bf16 0x7F80#16
  let main_v2 : FVec F S16384x6144 .bf16 := broadcastInDim S16384x6144 ![] bcast_S_S16384x6144 main_cst
  let main_v3 : IVec S16384x6144 1 := cmpf .olt main_v1 main_v2
  let main_v4 : FVec F S2048x4096 .bf16 := Host.absf main_arg1
  let main_cst_0 : FVec F S_ .bf16 := constant S_ .bf16 0x7F80#16
  let main_v5 : FVec F S2048x4096 .bf16 := broadcastInDim S2048x4096 ![] bcast_S_S2048x4096 main_cst_0
  let main_v6 : IVec S2048x4096 1 := cmpf .olt main_v4 main_v5
  let main_v7 : FVec F S2048x32 .f32 := Host.absf main_arg2
  let main_cst_1 : FVec F S_ .f32 := constant S_ .f32 0x7F800000#32
  let main_v8 : FVec F S2048x32 .f32 := broadcastInDim S2048x32 ![] bcast_S_S2048x32 main_cst_1
  let main_v9 : IVec S2048x32 1 := cmpf .olt main_v7 main_v8
  let main_v10 : FVec F S2048x32 .f32 := Host.absf main_arg3
  let main_cst_2 : FVec F S_ .f32 := constant S_ .f32 0x7F800000#32
  let main_v11 : FVec F S2048x32 .f32 := broadcastInDim S2048x32 ![] bcast_S_S2048x32 main_cst_2
  let main_v12 : IVec S2048x32 1 := cmpf .olt main_v10 main_v11
  let main_v13 : FVec F S4x64 .f32 := Host.absf main_arg4
  let main_cst_3 : FVec F S_ .f32 := constant S_ .f32 0x7F800000#32
  let main_v14 : FVec F S4x64 .f32 := broadcastInDim S4x64 ![] bcast_S_S4x64 main_cst_3
  let main_v15 : IVec S4x64 1 := cmpf .olt main_v13 main_v14
  (main_v3, main_v6, main_v9, main_v12, main_v15)
-- ==== Pre_padded.lean ====
abbrev S18432x4096 : Shape := ⟨2, ![18432, 4096]⟩
abbrev S18432x1664 : Shape := ⟨2, ![18432, 1664]⟩
abbrev S2048x32 : Shape := ⟨2, ![2048, 32]⟩
abbrev S18432x2048 : Shape := ⟨2, ![18432, 2048]⟩
abbrev S18432x16x128 : Shape := ⟨3, ![18432, 16, 128]⟩
abbrev S18432x16x64 : Shape := ⟨3, ![18432, 16, 64]⟩
abbrev S18432x16x256 : Shape := ⟨3, ![18432, 16, 256]⟩
abbrev S18432x64 : Shape := ⟨2, ![18432, 64]⟩
abbrev S_ : Shape := ⟨0, ![]⟩

class Facts : Prop where
  slices_S18432x4096_S18432x2048_0_0 : S18432x4096.Slices ![0, 0] S18432x2048
  slices_S18432x4096_S18432x2048_0_2048 : S18432x4096.Slices ![0, 2048] S18432x2048
  shapeCasts_S18432x2048_S18432x16x128 : S18432x2048.ShapeCasts S18432x16x128
  slices_S18432x16x128_S18432x16x64_0_0_0 : S18432x16x128.Slices ![0, 0, 0] S18432x16x64
  shapeCasts_S18432x4096_S18432x16x256 : S18432x4096.ShapeCasts S18432x16x256
  slices_S18432x16x256_S18432x16x128_0_0_0 : S18432x16x256.Slices ![0, 0, 0] S18432x16x128
  slices_S18432x1664_S18432x64_0_1536 : S18432x1664.Slices ![0, 1536] S18432x64
  bcast_S_S18432x2048 : S_.BroadcastsInDim S18432x2048 (![] : Fin 0 → Fin S18432x2048.rank)
  bcast_S_S18432x16x64 : S_.BroadcastsInDim S18432x16x64 (![] : Fin 0 → Fin S18432x16x64.rank)
  bcast_S_S18432x16x128 : S_.BroadcastsInDim S18432x16x128 (![] : Fin 0 → Fin S18432x16x128.rank)
  bcast_S_S18432x64 : S_.BroadcastsInDim S18432x64 (![] : Fin 0 → Fin S18432x64.rank)
  bcast_S_S2048x32 : S_.BroadcastsInDim S2048x32 (![] : Fin 0 → Fin S2048x32.rank)
  slices_S18432x1664_S18432x64_0_1600 : S18432x1664.Slices ![0, 1600] S18432x64

variable [Facts]

def fn_part1 {F : FTy → Type} [FloatOps F] (main_arg2 : FVec F S18432x1664 .bf16) (main_arg4 : FVec F S2048x32 .f32) (main_v9 : IVec S18432x2048 1) (main_v12 : IVec S18432x16x64 1) (main_v15 : IVec S18432x16x128 1) (main_v18 : IVec S18432x64 1) (main_v19 : FVec F S2048x32 .f32) : IVec S18432x2048 1 × IVec S18432x16x64 1 × IVec S18432x16x128 1 × IVec S18432x64 1 × IVec S2048x32 1 × IVec S2048x32 1 × IVec S18432x64 1 :=
  let main_cst_3 : FVec F S_ .f32 := constant S_ .f32 0x7F800000#32
  let main_v20 : FVec F S2048x32 .f32 := broadcastInDim S2048x32 ![] bcast_S_S2048x32 main_cst_3
  let main_v21 : IVec S2048x32 1 := cmpf .olt main_v19 main_v20
  let main_v22 : FVec F S2048x32 .f32 := Host.absf main_arg4
  let main_cst_4 : FVec F S_ .f32 := constant S_ .f32 0x7F800000#32
  let main_v23 : FVec F S2048x32 .f32 := broadcastInDim S2048x32 ![] bcast_S_S2048x32 main_cst_4
  let main_v24 : IVec S2048x32 1 := cmpf .olt main_v22 main_v23
  let main_v25 : FVec F S18432x64 .bf16 := (extractStridedSlice S18432x64 ![0, 1600] · slices_S18432x1664_S18432x64_0_1600) main_arg2
  let main_cst_5 : FVec F S_ .bf16 := constant S_ .bf16 0x0000#16
  let main_v26 : FVec F S18432x64 .bf16 := broadcastInDim S18432x64 ![] bcast_S_S18432x64 main_cst_5
  let main_v27 : IVec S18432x64 1 := cmpf .oeq main_v25 main_v26
  (main_v9, main_v12, main_v15, main_v18, main_v21, main_v24, main_v27)

def fn {F : FTy → Type} [FloatOps F] (main_arg0 : FVec F S18432x4096 .bf16) (main_arg1 : FVec F S18432x4096 .bf16) (main_arg2 : FVec F S18432x1664 .bf16) (main_arg3 : FVec F S2048x32 .f32) (main_arg4 : FVec F S2048x32 .f32) : IVec S18432x2048 1 × IVec S18432x16x64 1 × IVec S18432x16x128 1 × IVec S18432x64 1 × IVec S2048x32 1 × IVec S2048x32 1 × IVec S18432x64 1 :=
  let main_v0 : FVec F S18432x2048 .bf16 := (extractStridedSlice S18432x2048 ![0, 0] · slices_S18432x4096_S18432x2048_0_0) main_arg0
  let main_v1 : FVec F S18432x2048 .bf16 := (extractStridedSlice S18432x2048 ![0, 2048] · slices_S18432x4096_S18432x2048_0_2048) main_arg0
  let main_v2 : FVec F S18432x16x128 .bf16 := shapeCast S18432x16x128 main_v1 shapeCasts_S18432x2048_S18432x16x128
  let main_v3 : FVec F S18432x16x64 .bf16 := (extractStridedSlice S18432x16x64 ![0, 0, 0] · slices_S18432x16x128_S18432x16x64_0_0_0) main_v2
  let main_v4 : FVec F S18432x16x256 .bf16 := shapeCast S18432x16x256 main_arg1 shapeCasts_S18432x4096_S18432x16x256
  let main_v5 : FVec F S18432x16x128 .bf16 := (extractStridedSlice S18432x16x128 ![0, 0, 0] · slices_S18432x16x256_S18432x16x128_0_0_0) main_v4
  let main_v6 : FVec F S18432x64 .bf16 := (extractStridedSlice S18432x64 ![0, 1536] · slices_S18432x1664_S18432x64_0_1536) main_arg2
  let main_v7 : FVec F S18432x2048 .bf16 := Host.absf main_v0
  let main_cst : FVec F S_ .bf16 := constant S_ .bf16 0x7F80#16
  let main_v8 : FVec F S18432x2048 .bf16 := broadcastInDim S18432x2048 ![] bcast_S_S18432x2048 main_cst
  let main_v9 : IVec S18432x2048 1 := cmpf .olt main_v7 main_v8
  let main_v10 : FVec F S18432x16x64 .bf16 := Host.absf main_v3
  let main_cst_0 : FVec F S_ .bf16 := constant S_ .bf16 0x7F80#16
  let main_v11 : FVec F S18432x16x64 .bf16 := broadcastInDim S18432x16x64 ![] bcast_S_S18432x16x64 main_cst_0
  let main_v12 : IVec S18432x16x64 1 := cmpf .olt main_v10 main_v11
  let main_v13 : FVec F S18432x16x128 .bf16 := Host.absf main_v5
  let main_cst_1 : FVec F S_ .bf16 := constant S_ .bf16 0x7F80#16
  let main_v14 : FVec F S18432x16x128 .bf16 := broadcastInDim S18432x16x128 ![] bcast_S_S18432x16x128 main_cst_1
  let main_v15 : IVec S18432x16x128 1 := cmpf .olt main_v13 main_v14
  let main_v16 : FVec F S18432x64 .bf16 := Host.absf main_v6
  let main_cst_2 : FVec F S_ .bf16 := constant S_ .bf16 0x7F80#16
  let main_v17 : FVec F S18432x64 .bf16 := broadcastInDim S18432x64 ![] bcast_S_S18432x64 main_cst_2
  let main_v18 : IVec S18432x64 1 := cmpf .olt main_v16 main_v17
  let main_v19 : FVec F S2048x32 .f32 := Host.absf main_arg3
  fn_part1 (F := F) main_arg2 main_arg4 main_v9 main_v12 main_v15 main_v18 main_v19
-- ==== Kernel.lean ====
abbrev S16384x12288 : Shape := ⟨2, ![16384, 12288]⟩
abbrev S2048x4096 : Shape := ⟨2, ![2048, 4096]⟩
abbrev S2048x32 : Shape := ⟨2, ![2048, 32]⟩
abbrev S4x64 : Shape := ⟨2, ![4, 64]⟩
abbrev S128 : Shape := ⟨1, ![128]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S_ : Shape := ⟨0, ![]⟩
abbrev S4x128 : Shape := ⟨2, ![4, 128]⟩
abbrev S1x128 : Shape := ⟨2, ![1, 128]⟩
abbrev S16384x2048 : Shape := ⟨2, ![16384, 2048]⟩
abbrev S512x512 : Shape := ⟨2, ![512, 512]⟩
abbrev S2048x512 : Shape := ⟨2, ![2048, 512]⟩
abbrev S256x512 : Shape := ⟨2, ![256, 512]⟩
abbrev S512x128 : Shape := ⟨2, ![512, 128]⟩
abbrev S4x2304x128 : Shape := ⟨3, ![4, 2304, 128]⟩
abbrev S4x2304x256 : Shape := ⟨3, ![4, 2304, 256]⟩
abbrev S2304x128 : Shape := ⟨2, ![2304, 128]⟩
abbrev S1x2048x128 : Shape := ⟨3, ![1, 2048, 128]⟩
abbrev S256x128 : Shape := ⟨2, ![256, 128]⟩
abbrev S1x256x128 : Shape := ⟨3, ![1, 256, 128]⟩
abbrev S1x2304x128 : Shape := ⟨3, ![1, 2304, 128]⟩
abbrev S1 : Shape := ⟨1, ![1]⟩
abbrev S1x1 : Shape := ⟨2, ![1, 1]⟩
abbrev S128x128 : Shape := ⟨2, ![128, 128]⟩
abbrev S256x2304 : Shape := ⟨2, ![256, 2304]⟩
abbrev S256 : Shape := ⟨1, ![256]⟩
abbrev S256x1 : Shape := ⟨2, ![256, 1]⟩
abbrev S1x2304x256 : Shape := ⟨3, ![1, 2304, 256]⟩
abbrev S2304x256 : Shape := ⟨2, ![2304, 256]⟩
abbrev S256x256 : Shape := ⟨2, ![256, 256]⟩
abbrev S128x1 : Shape := ⟨2, ![128, 1]⟩

abbrev nBuf : Space → Nat
  | .hbm => 19
  | .vmem => 22
  | .smem => 0
  | _ => 0

abbrev bufTy : (tb : Table) → Fin (tcTables nBuf tb) → BufTy
  | .hbm, ⟨0, _⟩ => ⟨S16384x12288, .bf16⟩
  | .hbm, ⟨1, _⟩ => ⟨S2048x4096, .bf16⟩
  | .hbm, ⟨2, _⟩ => ⟨S2048x32, .f32⟩
  | .hbm, ⟨3, _⟩ => ⟨S2048x32, .f32⟩
  | .hbm, ⟨4, _⟩ => ⟨S4x64, .f32⟩
  | .hbm, ⟨5, _⟩ => ⟨S128, .f32⟩
  | .hbm, ⟨6, _⟩ => ⟨S1x2048x1x32, .f32⟩
  | .hbm, ⟨7, _⟩ => ⟨S1x2048x4x32, .f32⟩
  | .hbm, ⟨8, _⟩ => ⟨S2048x128, .f32⟩
  | .hbm, ⟨9, _⟩ => ⟨S2048x32, .f32⟩
  | .hbm, ⟨10, _⟩ => ⟨S2048x64, .f32⟩
  | .hbm, ⟨11, _⟩ => ⟨S1x2048x1x64, .f32⟩
  | .hbm, ⟨12, _⟩ => ⟨S1x2048x2x64, .f32⟩
  | .hbm, ⟨13, _⟩ => ⟨S2048x128, .f32⟩
  | .hbm, ⟨14, _⟩ => ⟨S_, .i32⟩
  | .hbm, ⟨15, _⟩ => ⟨S_, .f32⟩
  | .hbm, ⟨16, _⟩ => ⟨S4x128, .f32⟩
  | .hbm, ⟨17, _⟩ => ⟨S1x128, .f32⟩
  | .hbm, ⟨18, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S256x512, .bf16⟩
  | .local _ .vmem, ⟨5, _⟩ => ⟨S256x512, .bf16⟩
  | .local _ .vmem, ⟨6, _⟩ => ⟨S2048x512, .bf16⟩
  | .local _ .vmem, ⟨7, _⟩ => ⟨S2048x512, .bf16⟩
  | .local _ .vmem, ⟨8, _⟩ => ⟨S256x512, .bf16⟩
  | .local _ .vmem, ⟨9, _⟩ => ⟨S256x512, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S2048x128, .f32⟩
  | .local _ .vmem, ⟨15, _⟩ => ⟨S2048x128, .f32⟩
  | .local _ .vmem, ⟨16, _⟩ => ⟨S4x128, .f32⟩
  | .local _ .vmem, ⟨17, _⟩ => ⟨S1x128, .f32⟩
  | .local _ .vmem, ⟨18, _⟩ => ⟨S512x512, .bf16⟩
  | .local _ .vmem, ⟨19, _⟩ => ⟨S512x512, .bf16⟩
  | .local _ .vmem, ⟨20, _⟩ => ⟨S4x2304x128, .bf16⟩
  | .local _ .vmem, ⟨21, _⟩ => ⟨S4x2304x256, .bf16⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Reference.lean ====
abbrev S16384x12288 : Shape := ⟨2, ![16384, 12288]⟩
abbrev S2048x4096 : Shape := ⟨2, ![2048, 4096]⟩
abbrev S2048x32 : Shape := ⟨2, ![2048, 32]⟩
abbrev S4x64 : Shape := ⟨2, ![4, 64]⟩
abbrev S128 : Shape := ⟨1, ![128]⟩
abbrev S8x2048x12288 : Shape := ⟨3, ![8, 2048, 12288]⟩
abbrev S8x256x4096 : Shape := ⟨3, ![8, 256, 4096]⟩
abbrev S8x2048x2048 : Shape := ⟨3, ![8, 2048, 2048]⟩
abbrev S8x2048x16x2x64 : Shape := ⟨5, ![8, 2048, 16, 2, 64]⟩
abbrev S2048x1x1x32 : Shape := ⟨4, ![2048, 1, 1, 32]⟩
abbrev S8x2048x16x2x32 : Shape := ⟨5, ![8, 2048, 16, 2, 32]⟩
abbrev S1x2048x1x1x32 : Shape := ⟨5, ![1, 2048, 1, 1, 32]⟩
abbrev S8x2048x16x128 : Shape := ⟨4, ![8, 2048, 16, 128]⟩
abbrev S8x256x2048 : Shape := ⟨3, ![8, 256, 2048]⟩
abbrev S8x256x16x2x64 : Shape := ⟨5, ![8, 256, 16, 2, 64]⟩
abbrev S8x256x16x128 : Shape := ⟨4, ![8, 256, 16, 128]⟩
abbrev S8x2304x16x2x64 : Shape := ⟨5, ![8, 2304, 16, 2, 64]⟩
abbrev S8x2304x16x128 : Shape := ⟨4, ![8, 2304, 16, 128]⟩
abbrev S1x64 : Shape := ⟨2, ![1, 64]⟩
abbrev S64 : Shape := ⟨1, ![64]⟩
abbrev S_ : Shape := ⟨0, ![]⟩
abbrev S8x16x2x2048x2304 : Shape := ⟨5, ![8, 16, 2, 2048, 2304]⟩
abbrev S8x16x2x2048 : Shape := ⟨4, ![8, 16, 2, 2048]⟩
abbrev S8x16x2x2048x1 : Shape := ⟨5, ![8, 16, 2, 2048, 1]⟩
abbrev S8x16x1x2048x2304 : Shape := ⟨5, ![8, 16, 1, 2048, 2304]⟩
abbrev S8x16x2048x2304 : Shape := ⟨4, ![8, 16, 2048, 2304]⟩
abbrev S8x16x128x2048 : Shape := ⟨4, ![8, 16, 128, 2048]⟩
abbrev S8x2048x16 : Shape := ⟨3, ![8, 2048, 16]⟩
abbrev S8x2048x16x1 : Shape := ⟨4, ![8, 2048, 16, 1]⟩
abbrev S1x1x1x128 : Shape := ⟨4, ![1, 1, 1, 128]⟩
abbrev S16384x2048 : Shape := ⟨2, ![16384, 2048]⟩

abbrev nBuf : Space → Nat
  | .hbm => 128
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S2048x4096, .bf16⟩
  | .hbm, ⟨2, _⟩ => ⟨S2048x32, .f32⟩
  | .hbm, ⟨3, _⟩ => ⟨S2048x32, .f32⟩
  | .hbm, ⟨4, _⟩ => ⟨S4x64, .f32⟩
  | .hbm, ⟨5, _⟩ => ⟨S128, .f32⟩
  | .hbm, ⟨6, _⟩ => ⟨S16384x12288, .f32⟩
  | .hbm, ⟨7, _⟩ => ⟨S8x2048x12288, .f32⟩
  | .hbm, ⟨8, _⟩ => ⟨S2048x4096, .f32⟩
  | .hbm, ⟨9, _⟩ => ⟨S8x256x4096, .f32⟩
  | .hbm, ⟨10, _⟩ => ⟨S8x2048x2048, .f32⟩
  | .hbm, ⟨11, _⟩ => ⟨S8x2048x16x2x64, .f32⟩
  | .hbm, ⟨12, _⟩ => ⟨S2048x1x1x32, .f32⟩
  | .hbm, ⟨13, _⟩ => ⟨S2048x1x1x32, .f32⟩
  | .hbm, ⟨14, _⟩ => ⟨S8x2048x16x2x32, .f32⟩
  | .hbm, ⟨15, _⟩ => ⟨S8x2048x16x2x32, .f32⟩
  | .hbm, ⟨16, _⟩ => ⟨S1x2048x1x1x32, .f32⟩
  | .hbm, ⟨17, _⟩ => ⟨S8x2048x16x2x32, .f32⟩
  | .hbm, ⟨18, _⟩ => ⟨S8x2048x16x2x32, .f32⟩
  | .hbm, ⟨19, _⟩ => ⟨S1x2048x1x1x32, .f32⟩
  | .hbm, ⟨20, _⟩ => ⟨S8x2048x16x2x32, .f32⟩
  | .hbm, ⟨21, _⟩ => ⟨S8x2048x16x2x32, .f32⟩
  | .hbm, ⟨22, _⟩ => ⟨S8x2048x16x2x32, .f32⟩
  | .hbm, ⟨23, _⟩ => ⟨S1x2048x1x1x32, .f32⟩
  | .hbm, ⟨24, _⟩ => ⟨S8x2048x16x2x32, .f32⟩
  | .hbm, ⟨25, _⟩ => ⟨S8x2048x16x2x32, .f32⟩
  | .hbm, ⟨26, _⟩ => ⟨S1x2048x1x1x32, .f32⟩
  | .hbm, ⟨27, _⟩ => ⟨S8x2048x16x2x32, .f32⟩
  | .hbm, ⟨28, _⟩ => ⟨S8x2048x16x2x32, .f32⟩
  | .hbm, ⟨29, _⟩ => ⟨S8x2048x16x2x32, .f32⟩
  | .hbm, ⟨30, _⟩ => ⟨S8x2048x16x2x64, .f32⟩
  | .hbm, ⟨31, _⟩ => ⟨S8x2048x2048, .f32⟩
  | .hbm, ⟨32, _⟩ => ⟨S8x2048x16x2x64, .f32⟩
  | .hbm, ⟨33, _⟩ => ⟨S2048x1x1x32, .f32⟩
  | .hbm, ⟨34, _⟩ => ⟨S2048x1x1x32, .f32⟩
  | .hbm, ⟨35, _⟩ => ⟨S8x2048x16x2x32, .f32⟩
  | .hbm, ⟨36, _⟩ => ⟨S8x2048x16x2x32, .f32⟩
  | .hbm, ⟨37, _⟩ => ⟨S1x2048x1x1x32, .f32⟩
  | .hbm, ⟨38, _⟩ => ⟨S8x2048x16x2x32, .f32⟩
  | .hbm, ⟨39, _⟩ => ⟨S8x2048x16x2x32, .f32⟩
  | .hbm, ⟨40, _⟩ => ⟨S1x2048x1x1x32, .f32⟩
  | .hbm, ⟨41, _⟩ => ⟨S8x2048x16x2x32, .f32⟩
  | .hbm, ⟨42, _⟩ => ⟨S8x2048x16x2x32, .f32⟩
  | .hbm, ⟨43, _⟩ => ⟨S8x2048x16x2x32, .f32⟩
  | .hbm, ⟨44, _⟩ => ⟨S1x2048x1x1x32, .f32⟩
  | .hbm, ⟨45, _⟩ => ⟨S8x2048x16x2x32, .f32⟩
  | .hbm, ⟨46, _⟩ => ⟨S8x2048x16x2x32, .f32⟩
  | .hbm, ⟨47, _⟩ => ⟨S1x2048x1x1x32, .f32⟩
  | .hbm, ⟨48, _⟩ => ⟨S8x2048x16x2x32, .f32⟩
  | .hbm, ⟨49, _⟩ => ⟨S8x2048x16x2x32, .f32⟩
  | .hbm, ⟨50, _⟩ => ⟨S8x2048x16x2x32, .f32⟩
  | .hbm, ⟨51, _⟩ => ⟨S8x2048x16x2x64, .f32⟩
  | .hbm, ⟨52, _⟩ => ⟨S8x2048x2048, .f32⟩
  | .hbm, ⟨53, _⟩ => ⟨S8x2048x16x128, .f32⟩
  | .hbm, ⟨54, _⟩ => ⟨S8x256x2048, .f32⟩
  | .hbm, ⟨55, _⟩ => ⟨S8x256x16x2x64, .f32⟩
  | .hbm, ⟨56, _⟩ => ⟨S8x256x2048, .f32⟩
  | .hbm, ⟨57, _⟩ => ⟨S8x256x16x128, .f32⟩
  | .hbm, ⟨58, _⟩ => ⟨S8x2304x16x2x64, .f32⟩
  | .hbm, ⟨59, _⟩ => ⟨S8x2304x16x128, .f32⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S64, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S64, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S8x16x2x2048x2304, .f32⟩
  | .hbm, ⟨80, _⟩ => ⟨S_, .f32⟩
  | .hbm, ⟨81, _⟩ => ⟨S_, .f32⟩
  | .hbm, ⟨82, _⟩ => ⟨S8x16x2x2048x2304, .f32⟩
  | .hbm, ⟨83, _⟩ => ⟨S8x16x2x2048x2304, .f32⟩
  | .hbm, ⟨84, _⟩ => ⟨S_, .f32⟩
  | .hbm, ⟨85, _⟩ => ⟨S8x16x2x2048, .f32⟩
  | .hbm, ⟨86, _⟩ => ⟨S_, .f32⟩
  | .hbm, ⟨87, _⟩ => ⟨S8x16x2x2048, .f32⟩
  | .hbm, ⟨88, _⟩ => ⟨S8x16x2x2048, .f32⟩
  | .hbm, ⟨89, _⟩ => ⟨S8x16x2x2048x1, .f32⟩
  | .hbm, ⟨90, _⟩ => ⟨S8x16x2x2048x2304, .f32⟩
  | .hbm, ⟨91, _⟩ => ⟨S8x16x2x2048x2304, .f32⟩
  | .hbm, ⟨92, _⟩ => ⟨S8x16x2x2048x2304, .f32⟩
  | .hbm, ⟨93, _⟩ => ⟨S_, .f32⟩
  | .hbm, ⟨94, _⟩ => ⟨S8x16x2x2048, .f32⟩
  | .hbm, ⟨95, _⟩ => ⟨S8x16x2x2048x1, .f32⟩
  | .hbm, ⟨96, _⟩ => ⟨S8x16x2x2048x2304, .f32⟩
  | .hbm, ⟨97, _⟩ => ⟨S8x16x2x2048x2304, .f32⟩
  | .hbm, ⟨98, _⟩ => ⟨S8x16x1x2048x2304, .f32⟩
  | .hbm, ⟨99, _⟩ => ⟨S8x16x2048x2304, .f32⟩
  | .hbm, ⟨100, _⟩ => ⟨S8x16x1x2048x2304, .f32⟩
  | .hbm, ⟨101, _⟩ => ⟨S8x16x2048x2304, .f32⟩
  | .hbm, ⟨102, _⟩ => ⟨S8x16x2048x2304, .f32⟩
  | .hbm, ⟨103, _⟩ => ⟨S8x16x2048x2304, .f32⟩
  | .hbm, ⟨104, _⟩ => ⟨S8x16x2048x2304, .f32⟩
  | .hbm, ⟨105, _⟩ => ⟨S8x16x128x2048, .f32⟩
  | .hbm, ⟨106, _⟩ => ⟨S8x2048x16x128, .f32⟩
  | .hbm, ⟨107, _⟩ => ⟨S8x2048x16x128, .f32⟩
  | .hbm, ⟨108, _⟩ => ⟨S_, .f32⟩
  | .hbm, ⟨109, _⟩ => ⟨S8x2048x16, .f32⟩
  | .hbm, ⟨110, _⟩ => ⟨S8x2048x16x1, .f32⟩
  | .hbm, ⟨111, _⟩ => ⟨S_, .f32⟩
  | .hbm, ⟨112, _⟩ => ⟨S8x2048x16x1, .f32⟩
  | .hbm, ⟨113, _⟩ => ⟨S8x2048x16x1, .f32⟩
  | .hbm, ⟨114, _⟩ => ⟨S_, .f32⟩
  | .hbm, ⟨115, _⟩ => ⟨S8x2048x16x1, .f32⟩
  | .hbm, ⟨116, _⟩ => ⟨S8x2048x16x1, .f32⟩
  | .hbm, ⟨117, _⟩ => ⟨S8x2048x16x1, .f32⟩
  | .hbm, ⟨118, _⟩ => ⟨S8x2048x16x128, .f32⟩
  | .hbm, ⟨119, _⟩ => ⟨S8x2048x16x128, .f32⟩
  | .hbm, ⟨120, _⟩ => ⟨S1x1x1x128, .f32⟩
  | .hbm, ⟨121, _⟩ => ⟨S8x2048x16x128, .f32⟩
  | .hbm, ⟨122, _⟩ => ⟨S8x2048x16x128, .f32⟩
  | .hbm, ⟨123, _⟩ => ⟨S_, .f32⟩
  | .hbm, ⟨124, _⟩ => ⟨S8x2048x16x128, .f32⟩
  | .hbm, ⟨125, _⟩ => ⟨S8x2048x16x128, .f32⟩
  | .hbm, ⟨126, _⟩ => ⟨S16384x2048, .f32⟩
  | .hbm, ⟨127, _⟩ => ⟨S16384x2048, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_cst : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_0 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_1 : Ref sig .tc := ⟨.hbm, 77, rfl⟩
abbrev main_v69 : Ref sig .tc := ⟨.hbm, 78, rfl⟩
abbrev main_v70 : Ref sig .tc := ⟨.hbm, 79, rfl⟩
abbrev main_cst_2 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_3 : Ref sig .tc := ⟨.hbm, 84, rfl⟩
abbrev main_v74 : Ref sig .tc := ⟨.hbm, 85, rfl⟩
abbrev main_cst_4 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_5 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_6 : Ref sig .tc := ⟨.hbm, 108, rfl⟩
abbrev main_v95 : Ref sig .tc := ⟨.hbm, 109, rfl⟩
abbrev main_v96 : Ref sig .tc := ⟨.hbm, 110, rfl⟩
abbrev main_cst_7 : Ref sig .tc := ⟨.hbm, 111, rfl⟩
abbrev main_v97 : Ref sig .tc := ⟨.hbm, 112, rfl⟩
abbrev main_v98 : Ref sig .tc := ⟨.hbm, 113, rfl⟩
abbrev main_cst_8 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_9 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩

abbrev nD : Nat := 1
abbrev τ : Topo := Topo.v7x

variable {F : FTy → Type} [FloatOps F]
-- ==== Kernel2.lean ====
abbrev S18432x4096 : Shape := ⟨2, ![18432, 4096]⟩
abbrev S4096x12288 : Shape := ⟨2, ![4096, 12288]⟩
abbrev S12288 : Shape := ⟨1, ![12288]⟩
abbrev S_ : Shape := ⟨0, ![]⟩
abbrev S1x12288 : Shape := ⟨2, ![1, 12288]⟩
abbrev S16384x12288 : Shape := ⟨2, ![16384, 12288]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 17
  | .vmem => 6
  | .smem => 0
  | _ => 0

abbrev bufTy : (tb : Table) → Fin (tcTables nBuf tb) → BufTy
  | .hbm, ⟨0, _⟩ => ⟨S18432x4096, .bf16⟩
  | .hbm, ⟨1, _⟩ => ⟨S4096x12288, .f32⟩
  | .hbm, ⟨2, _⟩ => ⟨S12288, .i32⟩
  | .hbm, ⟨3, _⟩ => ⟨S_, .i32⟩
  | .hbm, ⟨4, _⟩ => ⟨S12288, .i32⟩
  | .hbm, ⟨5, _⟩ => ⟨S12288, .i1⟩
  | .hbm, ⟨6, _⟩ => ⟨S_, .f32⟩
  | .hbm, ⟨7, _⟩ => ⟨S_, .f32⟩
  | .hbm, ⟨8, _⟩ => ⟨S12288, .f32⟩
  | .hbm, ⟨9, _⟩ => ⟨S12288, .f32⟩
  | .hbm, ⟨10, _⟩ => ⟨S12288, .f32⟩
  | .hbm, ⟨11, _⟩ => ⟨S12288, .f32⟩
  | .hbm, ⟨12, _⟩ => ⟨S1x12288, .f32⟩
  | .hbm, ⟨13, _⟩ => ⟨S4096x12288, .f32⟩
  | .hbm, ⟨14, _⟩ => ⟨S4096x12288, .f32⟩
  | .hbm, ⟨15, _⟩ => ⟨S4096x12288, .bf16⟩
  | .hbm, ⟨16, _⟩ => ⟨S16384x12288, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2.lean ====
abbrev S18432x4096 : Shape := ⟨2, ![18432, 4096]⟩
abbrev S4096x12288 : Shape := ⟨2, ![4096, 12288]⟩
abbrev S16384x4096 : Shape := ⟨2, ![16384, 4096]⟩
abbrev S16384x12288 : Shape := ⟨2, ![16384, 12288]⟩
abbrev S16384x2048 : Shape := ⟨2, ![16384, 2048]⟩
abbrev S_ : Shape := ⟨0, ![]⟩
abbrev S16384x10240 : Shape := ⟨2, ![16384, 10240]⟩

abbrev nBuf : Space → Nat
  | .hbm => 12
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x12288, .f32⟩
  | .hbm, ⟨2, _⟩ => ⟨S16384x4096, .bf16⟩
  | .hbm, ⟨3, _⟩ => ⟨S16384x4096, .f32⟩
  | .hbm, ⟨4, _⟩ => ⟨S16384x12288, .f32⟩
  | .hbm, ⟨5, _⟩ => ⟨S16384x2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x10240, .f32⟩
  | .hbm, ⟨10, _⟩ => ⟨S16384x12288, .f32⟩
  | .hbm, ⟨11, _⟩ => ⟨S16384x12288, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S18432x4096 : Shape := ⟨2, ![18432, 4096]⟩
abbrev S4096x12288 : Shape := ⟨2, ![4096, 12288]⟩
abbrev S12288 : Shape := ⟨1, ![12288]⟩
abbrev S_ : Shape := ⟨0, ![]⟩
abbrev S1x12288 : Shape := ⟨2, ![1, 12288]⟩
abbrev S2048x4096 : Shape := ⟨2, ![2048, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 17
  | .vmem => 6
  | .smem => 0
  | _ => 0

abbrev bufTy : (tb : Table) → Fin (tcTables nBuf tb) → BufTy
  | .hbm, ⟨0, _⟩ => ⟨S18432x4096, .bf16⟩
  | .hbm, ⟨1, _⟩ => ⟨S4096x12288, .f32⟩
  | .hbm, ⟨2, _⟩ => ⟨S12288, .i32⟩
  | .hbm, ⟨3, _⟩ => ⟨S_, .i32⟩
  | .hbm, ⟨4, _⟩ => ⟨S12288, .i32⟩
  | .hbm, ⟨5, _⟩ => ⟨S12288, .i1⟩
  | .hbm, ⟨6, _⟩ => ⟨S_, .f32⟩
  | .hbm, ⟨7, _⟩ => ⟨S_, .f32⟩
  | .hbm, ⟨8, _⟩ => ⟨S12288, .f32⟩
  | .hbm, ⟨9, _⟩ => ⟨S12288, .f32⟩
  | .hbm, ⟨10, _⟩ => ⟨S12288, .f32⟩
  | .hbm, ⟨11, _⟩ => ⟨S12288, .f32⟩
  | .hbm, ⟨12, _⟩ => ⟨S1x12288, .f32⟩
  | .hbm, ⟨13, _⟩ => ⟨S4096x12288, .f32⟩
  | .hbm, ⟨14, _⟩ => ⟨S4096x12288, .f32⟩
  | .hbm, ⟨15, _⟩ => ⟨S4096x12288, .bf16⟩
  | .hbm, ⟨16, _⟩ => ⟨S2048x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3.lean ====
abbrev S18432x4096 : Shape := ⟨2, ![18432, 4096]⟩
abbrev S4096x12288 : Shape := ⟨2, ![4096, 12288]⟩
abbrev S2048x4096 : Shape := ⟨2, ![2048, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x12288, .f32⟩
  | .hbm, ⟨2, _⟩ => ⟨S2048x4096, .bf16⟩
  | .hbm, ⟨3, _⟩ => ⟨S2048x4096, .f32⟩
  | .hbm, ⟨4, _⟩ => ⟨S4096x4096, .f32⟩
  | .hbm, ⟨5, _⟩ => ⟨S2048x4096, .f32⟩
  | .hbm, ⟨6, _⟩ => ⟨S2048x4096, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S18432x4096 : Shape := ⟨2, ![18432, 4096]⟩
abbrev S4096x7744 : Shape := ⟨2, ![4096, 7744]⟩
abbrev S4096x1600 : Shape := ⟨2, ![4096, 1600]⟩
abbrev S_ : Shape := ⟨0, ![]⟩
abbrev S4096x1664 : Shape := ⟨2, ![4096, 1664]⟩
abbrev S18432x1664 : Shape := ⟨2, ![18432, 1664]⟩
abbrev S512x4096 : Shape := ⟨2, ![512, 4096]⟩
abbrev S512x1664 : Shape := ⟨2, ![512, 1664]⟩

abbrev nBuf : Space → Nat
  | .hbm => 8
  | .vmem => 5
  | .smem => 0
  | _ => 0

abbrev bufTy : (tb : Table) → Fin (tcTables nBuf tb) → BufTy
  | .hbm, ⟨0, _⟩ => ⟨S18432x4096, .bf16⟩
  | .hbm, ⟨1, _⟩ => ⟨S4096x7744, .f32⟩
  | .hbm, ⟨2, _⟩ => ⟨S4096x1600, .f32⟩
  | .hbm, ⟨3, _⟩ => ⟨S_, .i32⟩
  | .hbm, ⟨4, _⟩ => ⟨S_, .f32⟩
  | .hbm, ⟨5, _⟩ => ⟨S4096x1664, .f32⟩
  | .hbm, ⟨6, _⟩ => ⟨S4096x1664, .bf16⟩
  | .hbm, ⟨7, _⟩ => ⟨S18432x1664, .bf16⟩
  | .local _ .vmem, ⟨0, _⟩ => ⟨S512x4096, .bf16⟩
  | .local _ .vmem, ⟨1, _⟩ => ⟨S512x4096, .bf16⟩
  | .local _ .vmem, ⟨2, _⟩ => ⟨S4096x1664, .bf16⟩
  | .local _ .vmem, ⟨3, _⟩ => ⟨S512x1664, .bf16⟩
  | .local _ .vmem, ⟨4, _⟩ => ⟨S512x1664, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4.lean ====
abbrev S18432x4096 : Shape := ⟨2, ![18432, 4096]⟩
abbrev S4096x7744 : Shape := ⟨2, ![4096, 7744]⟩
abbrev S4096x1600 : Shape := ⟨2, ![4096, 1600]⟩
abbrev S18432x1600 : Shape := ⟨2, ![18432, 1600]⟩
abbrev S_ : Shape := ⟨0, ![]⟩
abbrev S18432x64 : Shape := ⟨2, ![18432, 64]⟩
abbrev S18432x1664 : Shape := ⟨2, ![18432, 1664]⟩

abbrev nBuf : Space → Nat
  | .hbm => 9
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x7744, .f32⟩
  | .hbm, ⟨2, _⟩ => ⟨S18432x4096, .f32⟩
  | .hbm, ⟨3, _⟩ => ⟨S4096x1600, .f32⟩
  | .hbm, ⟨4, _⟩ => ⟨S18432x1600, .f32⟩
  | .hbm, ⟨5, _⟩ => ⟨S_, .f32⟩
  | .hbm, ⟨6, _⟩ => ⟨S18432x64, .f32⟩
  | .hbm, ⟨7, _⟩ => ⟨S18432x1664, .f32⟩
  | .hbm, ⟨8, _⟩ => ⟨S18432x1664, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S18432x4096 : Shape := ⟨2, ![18432, 4096]⟩
abbrev S4096x7744 : Shape := ⟨2, ![4096, 7744]⟩
abbrev S4096x6144 : Shape := ⟨2, ![4096, 6144]⟩
abbrev S18432x6144 : Shape := ⟨2, ![18432, 6144]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S18432x4096, .bf16⟩
  | .hbm, ⟨1, _⟩ => ⟨S4096x7744, .f32⟩
  | .hbm, ⟨2, _⟩ => ⟨S4096x6144, .f32⟩
  | .hbm, ⟨3, _⟩ => ⟨S4096x6144, .bf16⟩
  | .hbm, ⟨4, _⟩ => ⟨S18432x6144, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5.lean ====
abbrev S18432x4096 : Shape := ⟨2, ![18432, 4096]⟩
abbrev S4096x7744 : Shape := ⟨2, ![4096, 7744]⟩
abbrev S4096x6144 : Shape := ⟨2, ![4096, 6144]⟩
abbrev S18432x6144 : Shape := ⟨2, ![18432, 6144]⟩

abbrev nBuf : Space → Nat
  | .hbm => 6
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x7744, .f32⟩
  | .hbm, ⟨2, _⟩ => ⟨S18432x4096, .f32⟩
  | .hbm, ⟨3, _⟩ => ⟨S4096x6144, .f32⟩
  | .hbm, ⟨4, _⟩ => ⟨S18432x6144, .f32⟩
  | .hbm, ⟨5, _⟩ => ⟨S18432x6144, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S18432x2048 : Shape := ⟨2, ![18432, 2048]⟩
abbrev S4096x4096 : Shape := ⟨2, ![4096, 4096]⟩
abbrev S8x2048x4096 : Shape := ⟨3, ![8, 2048, 4096]⟩
abbrev S8x256x4096 : Shape := ⟨3, ![8, 256, 4096]⟩
abbrev S2x16x1x24576 : Shape := ⟨4, ![2, 16, 1, 24576]⟩
abbrev S16384x4096 : Shape := ⟨2, ![16384, 4096]⟩
abbrev S2048x4096 : Shape := ⟨2, ![2048, 4096]⟩
abbrev S18432x4096 : Shape := ⟨2, ![18432, 4096]⟩
abbrev S512x2048 : Shape := ⟨2, ![512, 2048]⟩
abbrev S4096x1024 : Shape := ⟨2, ![4096, 1024]⟩
abbrev S512x1024 : Shape := ⟨2, ![512, 1024]⟩
abbrev S1x1x1x1024 : Shape := ⟨4, ![1, 1, 1, 1024]⟩
abbrev S2048x1024 : Shape := ⟨2, ![2048, 1024]⟩
abbrev S1x1024 : Shape := ⟨2, ![1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S18432x2048, .bf16⟩
  | .hbm, ⟨1, _⟩ => ⟨S18432x2048, .bf16⟩
  | .hbm, ⟨2, _⟩ => ⟨S4096x4096, .f32⟩
  | .hbm, ⟨3, _⟩ => ⟨S8x2048x4096, .f32⟩
  | .hbm, ⟨4, _⟩ => ⟨S8x256x4096, .f32⟩
  | .hbm, ⟨5, _⟩ => ⟨S2x16x1x24576, .f32⟩
  | .hbm, ⟨6, _⟩ => ⟨S16384x4096, .f32⟩
  | .hbm, ⟨7, _⟩ => ⟨S2048x4096, .f32⟩
  | .hbm, ⟨8, _⟩ => ⟨S4096x4096, .bf16⟩
  | .hbm, ⟨9, _⟩ => ⟨S18432x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S512x1024, .f32⟩
  | .local _ .vmem, ⟨13, _⟩ => ⟨S512x1024, .f32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![v2.toNat, arg0.toNat]

def cc0_transform_5 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16384_i32 : BitVec 32 := 16384#32
  let v1 : BitVec 1 := Scalar.cmpi .slt v0 c16384_i32
  let c2048_i32 : BitVec 32 := 2048#32
  let v2 : BitVec 32 := Scalar.divsi v0 c2048_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v0 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v1 v18 c8_i32
  let c8_i32_4 : BitVec 32 := 8#32
  let v20 : BitVec 32 := Scalar.addi c8_i32_4 arg0
  let c0_i32_5 : BitVec 32 := 0#32
  let c0_i32_6 : BitVec 32 := 0#32
  let c0_i32_7 : BitVec 32 := 0#32
  ![c0_i32_5.toNat, v19.toNat, c0_i32_6.toNat, v20.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6.lean ====
abbrev S18432x2048 : Shape := ⟨2, ![18432, 2048]⟩
abbrev S4096x4096 : Shape := ⟨2, ![4096, 4096]⟩
abbrev S8x2048x4096 : Shape := ⟨3, ![8, 2048, 4096]⟩
abbrev S8x256x4096 : Shape := ⟨3, ![8, 256, 4096]⟩
abbrev S2x16x1x24576 : Shape := ⟨4, ![2, 16, 1, 24576]⟩
abbrev S18432x4096 : Shape := ⟨2, ![18432, 4096]⟩
abbrev S1x16x1x4096 : Shape := ⟨4, ![1, 16, 1, 4096]⟩
abbrev S16x4096 : Shape := ⟨2, ![16, 4096]⟩
abbrev S8x4096 : Shape := ⟨2, ![8, 4096]⟩
abbrev S8x1x4096 : Shape := ⟨3, ![8, 1, 4096]⟩
abbrev S16384x4096 : Shape := ⟨2, ![16384, 4096]⟩
abbrev S1x4096 : Shape := ⟨2, ![1, 4096]⟩
abbrev S4096 : Shape := ⟨1, ![4096]⟩
abbrev S2048x4096 : Shape := ⟨2, ![2048, 4096]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S18432x2048, .bf16⟩
  | .hbm, ⟨2, _⟩ => ⟨S4096x4096, .f32⟩
  | .hbm, ⟨3, _⟩ => ⟨S8x2048x4096, .f32⟩
  | .hbm, ⟨4, _⟩ => ⟨S8x256x4096, .f32⟩
  | .hbm, ⟨5, _⟩ => ⟨S2x16x1x24576, .f32⟩
  | .hbm, ⟨6, _⟩ => ⟨S18432x4096, .bf16⟩
  | .hbm, ⟨7, _⟩ => ⟨S18432x4096, .f32⟩
  | .hbm, ⟨8, _⟩ => ⟨S18432x4096, .f32⟩
  | .hbm, ⟨9, _⟩ => ⟨S1x16x1x4096, .f32⟩
  | .hbm, ⟨10, _⟩ => ⟨S16x4096, .f32⟩
  | .hbm, ⟨11, _⟩ => ⟨S8x4096, .f32⟩
  | .hbm, ⟨12, _⟩ => ⟨S8x1x4096, .f32⟩
  | .hbm, ⟨13, _⟩ => ⟨S16384x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S1x4096, .f32⟩
  | .hbm, ⟨19, _⟩ => ⟨S4096, .f32⟩
  | .hbm, ⟨20, _⟩ => ⟨S2048x4096, .f32⟩
  | .hbm, ⟨21, _⟩ => ⟨S8x256x4096, .f32⟩
  | .hbm, ⟨22, _⟩ => ⟨S1x1x4096, .f32⟩
  | .hbm, ⟨23, _⟩ => ⟨S8x256x4096, .f32⟩
  | .hbm, ⟨24, _⟩ => ⟨S8x256x4096, .f32⟩
  | .hbm, ⟨25, _⟩ => ⟨S8x256x4096, .f32⟩
  | .hbm, ⟨26, _⟩ => ⟨S16384x4096, .f32⟩
  | .hbm, ⟨27, _⟩ => ⟨S2048x4096, .f32⟩
  | .hbm, ⟨28, _⟩ => ⟨S18432x4096, .f32⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel7.lean ====
abbrev S16384x2048 : Shape := ⟨2, ![16384, 2048]⟩
abbrev S4096x4096 : Shape := ⟨2, ![4096, 4096]⟩
abbrev S18432x4096 : Shape := ⟨2, ![18432, 4096]⟩
abbrev S2x16x1x24576 : Shape := ⟨4, ![2, 16, 1, 24576]⟩
abbrev S16384x4096 : Shape := ⟨2, ![16384, 4096]⟩
abbrev S512x2048 : Shape := ⟨2, ![512, 2048]⟩
abbrev S4096x1024 : Shape := ⟨2, ![4096, 1024]⟩
abbrev S512x1024 : Shape := ⟨2, ![512, 1024]⟩
abbrev S1x1x1x1024 : Shape := ⟨4, ![1, 1, 1, 1024]⟩
abbrev S2048x1024 : Shape := ⟨2, ![2048, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S18432x4096, .f32⟩
  | .hbm, ⟨4, _⟩ => ⟨S2x16x1x24576, .f32⟩
  | .hbm, ⟨5, _⟩ => ⟨S4096x4096, .bf16⟩
  | .hbm, ⟨6, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .f32⟩
  | .local _ .vmem, ⟨11, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c35_i32 : BitVec 32 := 35#32
  let v1 : BitVec 32 := Scalar.maxsi c0_i32_0 v0
  let v2 : BitVec 32 := Scalar.minsi c35_i32 v1
  let c0_i32_1 : BitVec 32 := 0#32
  ![v2.toNat, arg0.toNat]

def cc0_transform_4 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16384_i32 : BitVec 32 := 16384#32
  let v1 : BitVec 1 := Scalar.cmpi .slt v0 c16384_i32
  let c2048_i32 : BitVec 32 := 2048#32
  let v2 : BitVec 32 := Scalar.divsi v0 c2048_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v0 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v1 v18 c8_i32
  let c8_i32_4 : BitVec 32 := 8#32
  let v20 : BitVec 32 := Scalar.addi c8_i32_4 arg0
  let c1_i32_5 : BitVec 32 := 1#32
  let c0_i32_6 : BitVec 32 := 0#32
  let c0_i32_7 : BitVec 32 := 0#32
  ![c1_i32_5.toNat, v19.toNat, c0_i32_6.toNat, v20.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7.lean ====
abbrev S16384x2048 : Shape := ⟨2, ![16384, 2048]⟩
abbrev S4096x4096 : Shape := ⟨2, ![4096, 4096]⟩
abbrev S18432x4096 : Shape := ⟨2, ![18432, 4096]⟩
abbrev S2x16x1x24576 : Shape := ⟨4, ![2, 16, 1, 24576]⟩
abbrev S16384x4096 : Shape := ⟨2, ![16384, 4096]⟩
abbrev S1x8x1x4096 : Shape := ⟨4, ![1, 8, 1, 4096]⟩
abbrev S8x4096 : Shape := ⟨2, ![8, 4096]⟩
abbrev S8x2048x4096 : Shape := ⟨3, ![8, 2048, 4096]⟩
abbrev S8x1x4096 : Shape := ⟨3, ![8, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S18432x4096, .f32⟩
  | .hbm, ⟨4, _⟩ => ⟨S2x16x1x24576, .f32⟩
  | .hbm, ⟨5, _⟩ => ⟨S16384x4096, .bf16⟩
  | .hbm, ⟨6, _⟩ => ⟨S16384x4096, .f32⟩
  | .hbm, ⟨7, _⟩ => ⟨S16384x4096, .f32⟩
  | .hbm, ⟨8, _⟩ => ⟨S1x8x1x4096, .f32⟩
  | .hbm, ⟨9, _⟩ => ⟨S8x4096, .f32⟩
  | .hbm, ⟨10, _⟩ => ⟨S16384x4096, .f32⟩
  | .hbm, ⟨11, _⟩ => ⟨S8x2048x4096, .f32⟩
  | .hbm, ⟨12, _⟩ => ⟨S8x1x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S18432x1664 : Shape := ⟨2, ![18432, 1664]⟩
abbrev S512 : Shape := ⟨1, ![512]⟩
abbrev S512x4096 : Shape := ⟨2, ![512, 4096]⟩
abbrev S1x512 : Shape := ⟨2, ![1, 512]⟩
abbrev S18432x4096 : Shape := ⟨2, ![18432, 4096]⟩
abbrev S512x512 : Shape := ⟨2, ![512, 512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S18432x1664, .bf16⟩
  | .hbm, ⟨1, _⟩ => ⟨S512, .f32⟩
  | .hbm, ⟨2, _⟩ => ⟨S512x4096, .f32⟩
  | .hbm, ⟨3, _⟩ => ⟨S512x4096, .bf16⟩
  | .hbm, ⟨4, _⟩ => ⟨S1x512, .f32⟩
  | .hbm, ⟨5, _⟩ => ⟨S18432x4096, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | _, _ => ⟨S18432x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8.lean ====
abbrev S18432x1664 : Shape := ⟨2, ![18432, 1664]⟩
abbrev S512 : Shape := ⟨1, ![512]⟩
abbrev S512x4096 : Shape := ⟨2, ![512, 4096]⟩
abbrev S18432x512 : Shape := ⟨2, ![18432, 512]⟩
abbrev S_ : Shape := ⟨0, ![]⟩
abbrev S18432 : Shape := ⟨1, ![18432]⟩
abbrev S18432x1 : Shape := ⟨2, ![18432, 1]⟩
abbrev S1x512 : Shape := ⟨2, ![1, 512]⟩
abbrev S18432x4096 : Shape := ⟨2, ![18432, 4096]⟩

abbrev nBuf : Space → Nat
  | .hbm => 23
  | .vmem => 0
  | .smem => 0
  | _ => 0

abbrev bufTy : (tb : Table) → Fin (tcTables nBuf tb) → BufTy
  | .hbm, ⟨0, _⟩ => ⟨S18432x1664, .bf16⟩
  | .hbm, ⟨1, _⟩ => ⟨S512, .f32⟩
  | .hbm, ⟨2, _⟩ => ⟨S512x4096, .f32⟩
  | .hbm, ⟨3, _⟩ => ⟨S18432x512, .bf16⟩
  | .hbm, ⟨4, _⟩ => ⟨S18432x512, .f32⟩
  | .hbm, ⟨5, _⟩ => ⟨S18432x512, .f32⟩
  | .hbm, ⟨6, _⟩ => ⟨S_, .f32⟩
  | .hbm, ⟨7, _⟩ => ⟨S18432, .f32⟩
  | .hbm, ⟨8, _⟩ => ⟨S18432x1, .f32⟩
  | .hbm, ⟨9, _⟩ => ⟨S_, .f32⟩
  | .hbm, ⟨10, _⟩ => ⟨S18432x1, .f32⟩
  | .hbm, ⟨11, _⟩ => ⟨S18432x1, .f32⟩
  | .hbm, ⟨12, _⟩ => ⟨S_, .f32⟩
  | .hbm, ⟨13, _⟩ => ⟨S18432x1, .f32⟩
  | .hbm, ⟨14, _⟩ => ⟨S18432x1, .f32⟩
  | .hbm, ⟨15, _⟩ => ⟨S18432x1, .f32⟩
  | .hbm, ⟨16, _⟩ => ⟨S18432x512, .f32⟩
  | .hbm, ⟨17, _⟩ => ⟨S18432x512, .f32⟩
  | .hbm, ⟨18, _⟩ => ⟨S1x512, .f32⟩
  | .hbm, ⟨19, _⟩ => ⟨S18432x512, .f32⟩
  | .hbm, ⟨20, _⟩ => ⟨S18432x512, .f32⟩
  | .hbm, ⟨21, _⟩ => ⟨S18432x4096, .f32⟩
  | .hbm, ⟨22, _⟩ => ⟨S18432x4096, .bf16⟩
  | _, _ => ⟨S18432x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel9.lean ====
abbrev S18432x1664 : Shape := ⟨2, ![18432, 1664]⟩
abbrev S1024 : Shape := ⟨1, ![1024]⟩
abbrev S1024x3072 : Shape := ⟨2, ![1024, 3072]⟩
abbrev S_ : Shape := ⟨0, ![]⟩
abbrev S1024x16x192 : Shape := ⟨3, ![1024, 16, 192]⟩
abbrev S1024x16x64 : Shape := ⟨3, ![1024, 16, 64]⟩
abbrev S1024x16x128 : Shape := ⟨3, ![1024, 16, 128]⟩
abbrev S1024x2048 : Shape := ⟨2, ![1024, 2048]⟩
abbrev S1024x4096 : Shape := ⟨2, ![1024, 4096]⟩
abbrev S1x1024 : Shape := ⟨2, ![1, 1024]⟩
abbrev S18432x4096 : Shape := ⟨2, ![18432, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 18
  | .vmem => 6
  | .smem => 0
  | _ => 0

abbrev bufTy : (tb : Table) → Fin (tcTables nBuf tb) → BufTy
  | .hbm, ⟨0, _⟩ => ⟨S18432x1664, .bf16⟩
  | .hbm, ⟨1, _⟩ => ⟨S1024, .f32⟩
  | .hbm, ⟨2, _⟩ => ⟨S1024x3072, .f32⟩
  | .hbm, ⟨3, _⟩ => ⟨S_, .f32⟩
  | .hbm, ⟨4, _⟩ => ⟨S1024x3072, .f32⟩
  | .hbm, ⟨5, _⟩ => ⟨S1024x3072, .f32⟩
  | .hbm, ⟨6, _⟩ => ⟨S1024x16x192, .f32⟩
  | .hbm, ⟨7, _⟩ => ⟨S1024x16x64, .f32⟩
  | .hbm, ⟨8, _⟩ => ⟨S_, .i32⟩
  | .hbm, ⟨9, _⟩ => ⟨S_, .f32⟩
  | .hbm, ⟨10, _⟩ => ⟨S1024x16x128, .f32⟩
  | .hbm, ⟨11, _⟩ => ⟨S1024x16x128, .f32⟩
  | .hbm, ⟨12, _⟩ => ⟨S1024x2048, .f32⟩
  | .hbm, ⟨13, _⟩ => ⟨S1024x2048, .f32⟩
  | .hbm, ⟨14, _⟩ => ⟨S1024x4096, .f32⟩
  | .hbm, ⟨15, _⟩ => ⟨S1024x4096, .bf16⟩
  | .hbm, ⟨16, _⟩ => ⟨S1x1024, .f32⟩
  | .hbm, ⟨17, _⟩ => ⟨S18432x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1024x4096, .bf16⟩
  | .local _ .vmem, ⟨4, _⟩ => ⟨S512x4096, .bf16⟩
  | .local _ .vmem, ⟨5, _⟩ => ⟨S512x4096, .bf16⟩
  | _, _ => ⟨S18432x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9.lean ====
abbrev S18432x1664 : Shape := ⟨2, ![18432, 1664]⟩
abbrev S1024 : Shape := ⟨1, ![1024]⟩
abbrev S1024x3072 : Shape := ⟨2, ![1024, 3072]⟩
abbrev S18432x1024 : Shape := ⟨2, ![18432, 1024]⟩
abbrev S_ : Shape := ⟨0, ![]⟩
abbrev S18432 : Shape := ⟨1, ![18432]⟩
abbrev S18432x1 : Shape := ⟨2, ![18432, 1]⟩
abbrev S1x1024 : Shape := ⟨2, ![1, 1024]⟩
abbrev S18432x3072 : Shape := ⟨2, ![18432, 3072]⟩
abbrev S18432x16x192 : Shape := ⟨3, ![18432, 16, 192]⟩
abbrev S18432x16x64 : Shape := ⟨3, ![18432, 16, 64]⟩
abbrev S18432x16x128 : Shape := ⟨3, ![18432, 16, 128]⟩
abbrev S18432x2048 : Shape := ⟨2, ![18432, 2048]⟩
abbrev S18432x4096 : Shape := ⟨2, ![18432, 4096]⟩

abbrev nBuf : Space → Nat
  | .hbm => 35
  | .vmem => 0
  | .smem => 0
  | _ => 0

abbrev bufTy : (tb : Table) → Fin (tcTables nBuf tb) → BufTy
  | .hbm, ⟨0, _⟩ => ⟨S18432x1664, .bf16⟩
  | .hbm, ⟨1, _⟩ => ⟨S1024, .f32⟩
  | .hbm, ⟨2, _⟩ => ⟨S1024x3072, .f32⟩
  | .hbm, ⟨3, _⟩ => ⟨S18432x1024, .bf16⟩
  | .hbm, ⟨4, _⟩ => ⟨S18432x1024, .f32⟩
  | .hbm, ⟨5, _⟩ => ⟨S18432x1024, .f32⟩
  | .hbm, ⟨6, _⟩ => ⟨S_, .f32⟩
  | .hbm, ⟨7, _⟩ => ⟨S18432, .f32⟩
  | .hbm, ⟨8, _⟩ => ⟨S18432x1, .f32⟩
  | .hbm, ⟨9, _⟩ => ⟨S_, .f32⟩
  | .hbm, ⟨10, _⟩ => ⟨S18432x1, .f32⟩
  | .hbm, ⟨11, _⟩ => ⟨S18432x1, .f32⟩
  | .hbm, ⟨12, _⟩ => ⟨S_, .f32⟩
  | .hbm, ⟨13, _⟩ => ⟨S18432x1, .f32⟩
  | .hbm, ⟨14, _⟩ => ⟨S18432x1, .f32⟩
  | .hbm, ⟨15, _⟩ => ⟨S18432x1, .f32⟩
  | .hbm, ⟨16, _⟩ => ⟨S18432x1024, .f32⟩
  | .hbm, ⟨17, _⟩ => ⟨S18432x1024, .f32⟩
  | .hbm, ⟨18, _⟩ => ⟨S1x1024, .f32⟩
  | .hbm, ⟨19, _⟩ => ⟨S18432x1024, .f32⟩
  | .hbm, ⟨20, _⟩ => ⟨S18432x1024, .f32⟩
  | .hbm, ⟨21, _⟩ => ⟨S18432x3072, .f32⟩
  | .hbm, ⟨22, _⟩ => ⟨S_, .f32⟩
  | .hbm, ⟨23, _⟩ => ⟨S18432x3072, .f32⟩
  | .hbm, ⟨24, _⟩ => ⟨S18432x3072, .f32⟩
  | .hbm, ⟨25, _⟩ => ⟨S18432x16x192, .f32⟩
  | .hbm, ⟨26, _⟩ => ⟨S18432x16x64, .f32⟩
  | .hbm, ⟨27, _⟩ => ⟨S_, .f32⟩
  | .hbm, ⟨28, _⟩ => ⟨S18432x16x64, .f32⟩
  | .hbm, ⟨29, _⟩ => ⟨S18432x16x128, .f32⟩
  | .hbm, ⟨30, _⟩ => ⟨S18432x16x128, .f32⟩
  | .hbm, ⟨31, _⟩ => ⟨S18432x2048, .f32⟩
  | .hbm, ⟨32, _⟩ => ⟨S18432x2048, .f32⟩
  | .hbm, ⟨33, _⟩ => ⟨S18432x4096, .f32⟩
  | .hbm, ⟨34, _⟩ => ⟨S18432x4096, .bf16⟩
  | _, _ => ⟨S18432x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel10.lean ====
abbrev S18432x4096 : Shape := ⟨2, ![18432, 4096]⟩
abbrev S18432x1664 : Shape := ⟨2, ![18432, 1664]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S18432x2048 : Shape := ⟨2, ![18432, 2048]⟩
abbrev S256x1024 : Shape := ⟨2, ![256, 1024]⟩
abbrev S2048x2048 : Shape := ⟨2, ![2048, 2048]⟩
abbrev S256x2048 : Shape := ⟨2, ![256, 2048]⟩
abbrev S256x128 : Shape := ⟨2, ![256, 128]⟩
abbrev S8x2304x256 : Shape := ⟨3, ![8, 2304, 256]⟩
abbrev S2304x128 : Shape := ⟨2, ![2304, 128]⟩
abbrev S1x2048x128 : Shape := ⟨3, ![1, 2048, 128]⟩
abbrev S1x256x128 : Shape := ⟨3, ![1, 256, 128]⟩
abbrev S1x2304x128 : Shape := ⟨3, ![1, 2304, 128]⟩
abbrev S256x256 : Shape := ⟨2, ![256, 256]⟩
abbrev S1x2304x256 : Shape := ⟨3, ![1, 2304, 256]⟩
abbrev S2304x256 : Shape := ⟨2, ![2304, 256]⟩
abbrev S128x256 : Shape := ⟨2, ![128, 256]⟩
abbrev S128x2304 : Shape := ⟨2, ![128, 2304]⟩
abbrev S128 : Shape := ⟨1, ![128]⟩
abbrev S128x1 : Shape := ⟨2, ![128, 1]⟩
abbrev S128x128 : Shape := ⟨2, ![128, 128]⟩
abbrev S1x256x256 : Shape := ⟨3, ![1, 256, 256]⟩

abbrev nBuf : Space → Nat
  | .hbm => 14
  | .vmem => 22
  | .smem => 0
  | _ => 0

abbrev bufTy : (tb : Table) → Fin (tcTables nBuf tb) → BufTy
  | .hbm, ⟨0, _⟩ => ⟨S18432x4096, .bf16⟩
  | .hbm, ⟨1, _⟩ => ⟨S18432x4096, .bf16⟩
  | .hbm, ⟨2, _⟩ => ⟨S18432x1664, .bf16⟩
  | .hbm, ⟨3, _⟩ => ⟨S2048x32, .f32⟩
  | .hbm, ⟨4, _⟩ => ⟨S2048x32, .f32⟩
  | .hbm, ⟨5, _⟩ => ⟨S1x2048x1x32, .f32⟩
  | .hbm, ⟨6, _⟩ => ⟨S1x2048x4x32, .f32⟩
  | .hbm, ⟨7, _⟩ => ⟨S2048x128, .f32⟩
  | .hbm, ⟨8, _⟩ => ⟨S2048x32, .f32⟩
  | .hbm, ⟨9, _⟩ => ⟨S2048x64, .f32⟩
  | .hbm, ⟨10, _⟩ => ⟨S1x2048x1x64, .f32⟩
  | .hbm, ⟨11, _⟩ => ⟨S1x2048x2x64, .f32⟩
  | .hbm, ⟨12, _⟩ => ⟨S2048x128, .f32⟩
  | .hbm, ⟨13, _⟩ => ⟨S18432x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S2048x2048, .bf16⟩
  | .local _ .vmem, ⟨6, _⟩ => ⟨S256x2048, .bf16⟩
  | .local _ .vmem, ⟨7, _⟩ => ⟨S256x2048, .bf16⟩
  | .local _ .vmem, ⟨8, _⟩ => ⟨S2048x128, .bf16⟩
  | .local _ .vmem, ⟨9, _⟩ => ⟨S2048x128, .bf16⟩
  | .local _ .vmem, ⟨10, _⟩ => ⟨S256x128, .bf16⟩
  | .local _ .vmem, ⟨11, _⟩ => ⟨S256x128, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S2048x128, .f32⟩
  | .local _ .vmem, ⟨17, _⟩ => ⟨S2048x128, .f32⟩
  | .local _ .vmem, ⟨18, _⟩ => ⟨S256x1024, .bf16⟩
  | .local _ .vmem, ⟨19, _⟩ => ⟨S256x1024, .bf16⟩
  | .local _ .vmem, ⟨20, _⟩ => ⟨S8x2304x256, .bf16⟩
  | .local _ .vmem, ⟨21, _⟩ => ⟨S8x2304x256, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![8, 2, 9], ![false, false, false]⟩

def k0_cond2 (i : grid0.Coords) : BitVec 1 :=
  let arg2 : BitVec 32 := BitVec.ofNat 32 (i 2).val
  let c8_i32 : BitVec 32 := 8#32
  let v3 : BitVec 1 := Scalar.cmpi .slt arg2 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c8_i32_2 : BitVec 32 := 8#32
  let v6 : BitVec 1 := Scalar.cmpi .sge arg2 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c1_i32 : BitVec 32 := 1#32
  let v3 : BitVec 32 := Scalar.muli arg0 c1_i32
  let c64_i32 : BitVec 32 := 64#32
  let v4 : BitVec 32 := Scalar.addi c64_i32 v3
  let c8_i32_1 : BitVec 32 := 8#32
  let v5 : BitVec 32 := Scalar.subi arg2 c8_i32_1
  let v6 : BitVec 32 := Scalar.addi v4 v5
  let v7 : BitVec 32 := Scalar.select v0 v2 v6
  let c0_i32 : BitVec 32 := 0#32
  ![v7.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c1_i32 : BitVec 32 := 1#32
  let v3 : BitVec 32 := Scalar.muli arg0 c1_i32
  let c64_i32 : BitVec 32 := 64#32
  let v4 : BitVec 32 := Scalar.addi c64_i32 v3
  let c8_i32_1 : BitVec 32 := 8#32
  let v5 : BitVec 32 := Scalar.subi arg2 c8_i32_1
  let v6 : BitVec 32 := Scalar.addi v4 v5
  let v7 : BitVec 32 := Scalar.select v0 v2 v6
  let c2_i32 : BitVec 32 := 2#32
  let v8 : BitVec 32 := Scalar.addi c2_i32 arg1
  let c0_i32 : BitVec 32 := 0#32
  ![v7.toNat, v8.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c12_i32 : BitVec 32 := 12#32
  let c0_i32 : BitVec 32 := 0#32
  ![v0.toNat, c12_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c1_i32 : BitVec 32 := 1#32
  let v3 : BitVec 32 := Scalar.muli arg0 c1_i32
  let c64_i32 : BitVec 32 := 64#32
  let v4 : BitVec 32 := Scalar.addi c64_i32 v3
  let c8_i32_1 : BitVec 32 := 8#32
  let v5 : BitVec 32 := Scalar.subi arg2 c8_i32_1
  let v6 : BitVec 32 := Scalar.addi v4 v5
  let v7 : BitVec 32 := Scalar.select v0 v2 v6
  let c0_i32 : BitVec 32 := 0#32
  ![v7.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference10.lean ====
abbrev S18432x4096 : Shape := ⟨2, ![18432, 4096]⟩
abbrev S18432x1664 : Shape := ⟨2, ![18432, 1664]⟩
abbrev S2048x32 : Shape := ⟨2, ![2048, 32]⟩
abbrev S18432x2048 : Shape := ⟨2, ![18432, 2048]⟩
abbrev S18432x16x128 : Shape := ⟨3, ![18432, 16, 128]⟩
abbrev S18432x16x64 : Shape := ⟨3, ![18432, 16, 64]⟩
abbrev S18432x16x256 : Shape := ⟨3, ![18432, 16, 256]⟩
abbrev S18432x64 : Shape := ⟨2, ![18432, 64]⟩
abbrev S16384x16x128 : Shape := ⟨3, ![16384, 16, 128]⟩
abbrev S8x2048x16x128 : Shape := ⟨4, ![8, 2048, 16, 128]⟩
abbrev S16384x16x64 : Shape := ⟨3, ![16384, 16, 64]⟩
abbrev S8x2048x16x64 : Shape := ⟨4, ![8, 2048, 16, 64]⟩
abbrev S2048x1x32 : Shape := ⟨3, ![2048, 1, 32]⟩
abbrev S8x2048x16x32 : Shape := ⟨4, ![8, 2048, 16, 32]⟩
abbrev S1x2048x1x32 : Shape := ⟨4, ![1, 2048, 1, 32]⟩
abbrev S8x2048x16x192 : Shape := ⟨4, ![8, 2048, 16, 192]⟩
abbrev S16384x64 : Shape := ⟨2, ![16384, 64]⟩
abbrev S8x2048x64 : Shape := ⟨3, ![8, 2048, 64]⟩
abbrev S8x2048x32 : Shape := ⟨3, ![8, 2048, 32]⟩
abbrev S1x2048x32 : Shape := ⟨3, ![1, 2048, 32]⟩
abbrev S8x2048x1x64 : Shape := ⟨4, ![8, 2048, 1, 64]⟩
abbrev S2048x16x128 : Shape := ⟨3, ![2048, 16, 128]⟩
abbrev S8x256x16x128 : Shape := ⟨4, ![8, 256, 16, 128]⟩
abbrev S2048x16x64 : Shape := ⟨3, ![2048, 16, 64]⟩
abbrev S8x256x16x64 : Shape := ⟨4, ![8, 256, 16, 64]⟩
abbrev S8x256x16x192 : Shape := ⟨4, ![8, 256, 16, 192]⟩
abbrev S2048x64 : Shape := ⟨2, ![2048, 64]⟩
abbrev S8x256x64 : Shape := ⟨3, ![8, 256, 64]⟩
abbrev S8x256x1x64 : Shape := ⟨4, ![8, 256, 1, 64]⟩
abbrev S8x2304x16x192 : Shape := ⟨4, ![8, 2304, 16, 192]⟩
abbrev S8x2304x16x128 : Shape := ⟨4, ![8, 2304, 16, 128]⟩
abbrev S8x16x2048x2304 : Shape := ⟨4, ![8, 16, 2048, 2304]⟩
abbrev S_ : Shape := ⟨0, ![]⟩
abbrev S8x16x2048 : Shape := ⟨3, ![8, 16, 2048]⟩
abbrev S8x16x2048x1 : Shape := ⟨4, ![8, 16, 2048, 1]⟩
abbrev S8x16x128x2048 : Shape := ⟨4, ![8, 16, 128, 2048]⟩
abbrev S8x16x256x256 : Shape := ⟨4, ![8, 16, 256, 256]⟩
abbrev S8x16x256 : Shape := ⟨3, ![8, 16, 256]⟩
abbrev S8x16x256x1 : Shape := ⟨4, ![8, 16, 256, 1]⟩
abbrev S8x16x128x256 : Shape := ⟨4, ![8, 16, 128, 256]⟩
abbrev S16384x2048 : Shape := ⟨2, ![16384, 2048]⟩
abbrev S2048x2048 : Shape := ⟨2, ![2048, 2048]⟩

abbrev nBuf : Space → Nat
  | .hbm => 129
  | .vmem => 0
  | .smem => 0
  | _ => 0

abbrev hbmTy0_0 (i : Nat) : BufTy := match i % 128 with
  | 0 => ⟨S18432x4096, .bf16⟩
  | 1 => ⟨S18432x4096, .bf16⟩
  | 2 => ⟨S18432x1664, .bf16⟩
  | 3 => ⟨S2048x32, .f32⟩
  | 4 => ⟨S2048x32, .f32⟩
  | 5 => ⟨S18432x4096, .f32⟩
  | 6 => ⟨S18432x4096, .f32⟩
  | 7 => ⟨S18432x1664, .f32⟩
  | 8 => ⟨S18432x2048, .f32⟩
  | 9 => ⟨S18432x16x128, .f32⟩
  | 10 => ⟨S18432x2048, .f32⟩
  | 11 => ⟨S18432x16x128, .f32⟩
  | 12 => ⟨S18432x16x64, .f32⟩
  | 13 => ⟨S18432x16x256, .f32⟩
  | 14 => ⟨S18432x16x128, .f32⟩
  | 15 => ⟨S18432x16x128, .f32⟩
  | 16 => ⟨S18432x64, .f32⟩
  | 17 => ⟨S16384x16x128, .f32⟩
  | 18 => ⟨S8x2048x16x128, .f32⟩
  | 19 => ⟨S16384x16x64, .f32⟩
  | 20 => ⟨S8x2048x16x64, .f32⟩
  | 21 => ⟨S2048x1x32, .f32⟩
  | 22 => ⟨S2048x1x32, .f32⟩
  | 23 => ⟨S8x2048x16x32, .f32⟩
  | 24 => ⟨S8x2048x16x32, .f32⟩
  | 25 => ⟨S1x2048x1x32, .f32⟩
  | 26 => ⟨S8x2048x16x32, .f32⟩
  | 27 => ⟨S8x2048x16x32, .f32⟩
  | 28 => ⟨S1x2048x1x32, .f32⟩
  | 29 => ⟨S8x2048x16x32, .f32⟩
  | 30 => ⟨S8x2048x16x32, .f32⟩
  | 31 => ⟨S8x2048x16x32, .f32⟩
  | 32 => ⟨S1x2048x1x32, .f32⟩
  | 33 => ⟨S8x2048x16x32, .f32⟩
  | 34 => ⟨S8x2048x16x32, .f32⟩
  | 35 => ⟨S1x2048x1x32, .f32⟩
  | 36 => ⟨S8x2048x16x32, .f32⟩
  | 37 => ⟨S8x2048x16x32, .f32⟩
  | 38 => ⟨S8x2048x16x32, .f32⟩
  | 39 => ⟨S8x2048x16x64, .f32⟩
  | 40 => ⟨S8x2048x16x192, .f32⟩
  | 41 => ⟨S16384x16x128, .f32⟩
  | 42 => ⟨S8x2048x16x128, .f32⟩
  | 43 => ⟨S16384x64, .f32⟩
  | 44 => ⟨S8x2048x64, .f32⟩
  | 45 => ⟨S8x2048x32, .f32⟩
  | 46 => ⟨S8x2048x32, .f32⟩
  | 47 => ⟨S1x2048x32, .f32⟩
  | 48 => ⟨S8x2048x32, .f32⟩
  | 49 => ⟨S8x2048x32, .f32⟩
  | 50 => ⟨S1x2048x32, .f32⟩
  | 51 => ⟨S8x2048x32, .f32⟩
  | 52 => ⟨S8x2048x32, .f32⟩
  | 53 => ⟨S8x2048x32, .f32⟩
  | 54 => ⟨S1x2048x32, .f32⟩
  | 55 => ⟨S8x2048x32, .f32⟩
  | 56 => ⟨S8x2048x32, .f32⟩
  | 57 => ⟨S1x2048x32, .f32⟩
  | 58 => ⟨S8x2048x32, .f32⟩
  | 59 => ⟨S8x2048x32, .f32⟩
  | 60 => ⟨S8x2048x32, .f32⟩
  | 61 => ⟨S8x2048x64, .f32⟩
  | 62 => ⟨S8x2048x1x64, .f32⟩
  | 63 => ⟨S8x2048x16x64, .f32⟩
  | 64 => ⟨S8x2048x16x192, .f32⟩
  | 65 => ⟨S2048x16x128, .f32⟩
  | 66 => ⟨S8x256x16x128, .f32⟩
  | 67 => ⟨S2048x16x64, .f32⟩
  | 68 => ⟨S8x256x16x64, .f32⟩
  | 69 => ⟨S8x256x16x192, .f32⟩
  | 70 => ⟨S2048x16x128, .f32⟩
  | 71 => ⟨S8x256x16x128, .f32⟩
  | 72 => ⟨S2048x64, .f32⟩
  | 73 => ⟨S8x256x64, .f32⟩
  | 74 => ⟨S8x256x1x64, .f32⟩
  | 75 => ⟨S8x256x16x64, .f32⟩
  | 76 => ⟨S8x256x16x192, .f32⟩
  | 77 => ⟨S16384x16x128, .f32⟩
  | 78 => ⟨S8x2048x16x128, .f32⟩
  | 79 => ⟨S2048x16x128, .f32⟩
  | 80 => ⟨S8x256x16x128, .f32⟩
  | 81 => ⟨S8x2304x16x192, .f32⟩
  | 82 => ⟨S8x2304x16x128, .f32⟩
  | 83 => ⟨S8x16x2048x2304, .f32⟩
  | 84 => ⟨S_, .f32⟩
  | 85 => ⟨S_, .f32⟩
  | 86 => ⟨S8x16x2048x2304, .f32⟩
  | 87 => ⟨S8x16x2048x2304, .f32⟩
  | 88 => ⟨S_, .f32⟩
  | 89 => ⟨S8x16x2048, .f32⟩
  | 90 => ⟨S_, .f32⟩
  | 91 => ⟨S8x16x2048, .f32⟩
  | 92 => ⟨S8x16x2048, .f32⟩
  | 93 => ⟨S8x16x2048x1, .f32⟩
  | 94 => ⟨S8x16x2048x2304, .f32⟩
  | 95 => ⟨S8x16x2048x2304, .f32⟩
  | 96 => ⟨S8x16x2048x2304, .f32⟩
  | 97 => ⟨S_, .f32⟩
  | 98 => ⟨S8x16x2048, .f32⟩
  | 99 => ⟨S8x16x2048x1, .f32⟩
  | 100 => ⟨S8x16x2048x2304, .f32⟩
  | 101 => ⟨S8x16x2048x2304, .f32⟩
  | 102 => ⟨S8x16x128x2048, .f32⟩
  | 103 => ⟨S8x2048x16x128, .f32⟩
  | 104 => ⟨S8x16x256x256, .f32⟩
  | 105 => ⟨S_, .f32⟩
  | 106 => ⟨S_, .f32⟩
  | 107 => ⟨S8x16x256x256, .f32⟩
  | 108 => ⟨S8x16x256x256, .f32⟩
  | 109 => ⟨S_, .f32⟩
  | 110 => ⟨S8x16x256, .f32⟩
  | 111 => ⟨S_, .f32⟩
  | 112 => ⟨S8x16x256, .f32⟩
  | 113 => ⟨S8x16x256, .f32⟩
  | 114 => ⟨S8x16x256x1, .f32⟩
  | 115 => ⟨S8x16x256x256, .f32⟩
  | 116 => ⟨S8x16x256x256, .f32⟩
  | 117 => ⟨S8x16x256x256, .f32⟩
  | 118 => ⟨S_, .f32⟩
  | 119 => ⟨S8x16x256, .f32⟩
  | 120 => ⟨S8x16x256x1, .f32⟩
  | 121 => ⟨S8x16x256x256, .f32⟩
  | 122 => ⟨S8x16x256x256, .f32⟩
  | 123 => ⟨S8x16x128x256, .f32⟩
  | 124 => ⟨S8x256x16x128, .f32⟩
  | 125 => ⟨S16384x2048, .f32⟩
  | 126 => ⟨S2048x2048, .f32⟩
  | 127 => ⟨S18432x2048, .f32⟩
  | _ => ⟨S18432x4096, .bf16⟩

abbrev hbmTy0_1 (i : Nat) : BufTy := match i % 128 with
  | 0 => ⟨S18432x2048, .bf16⟩
  | _ => ⟨S18432x4096, .bf16⟩

abbrev hbmTy (i : Nat) : BufTy := match i / 128 with
  | 0 => hbmTy0_0 i
  | 1 => hbmTy0_1 i
  | _ => ⟨S18432x4096, .bf16⟩

abbrev bufTy : (tb : Table) → Fin (tcTables nBuf tb) → BufTy
  | .hbm, ⟨i, _⟩ => hbmTy i
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_cst : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_cst_0 : Ref sig .tc := ⟨.hbm, 88, rfl⟩
abbrev main_v82 : Ref sig .tc := ⟨.hbm, 89, rfl⟩
abbrev main_cst_1 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_cst_2 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_cst_3 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_cst_4 : Ref sig .tc := ⟨.hbm, 109, rfl⟩
abbrev main_v99 : Ref sig .tc := ⟨.hbm, 110, rfl⟩
abbrev main_cst_5 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_cst_6 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩

abbrev nD : Nat := 1
abbrev τ : Topo := Topo.v7x

variable {F : FTy → Type} [FloatOps F]
-- ==== Kernel11.lean ====
abbrev S16x4096 : Shape := ⟨2, ![16, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x16x24576 : Shape := ⟨3, ![2, 16, 24576]⟩
abbrev S1x4096x512 : Shape := ⟨3, ![1, 4096, 512]⟩
abbrev S1x1x512 : Shape := ⟨3, ![1, 1, 512]⟩
abbrev S1x16x512 : Shape := ⟨3, ![1, 16, 512]⟩
abbrev S4096x512 : Shape := ⟨2, ![4096, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x16x24576, .f32⟩
  | .local _ .vmem, ⟨0, _⟩ => ⟨S16x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11.lean ====
abbrev S16x4096 : Shape := ⟨2, ![16, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S16x24576 : Shape := ⟨2, ![16, 24576]⟩
abbrev S1x24576 : Shape := ⟨2, ![1, 24576]⟩
abbrev S24576 : Shape := ⟨1, ![24576]⟩
abbrev S1x16x24576 : Shape := ⟨3, ![1, 16, 24576]⟩
abbrev S2x16x24576 : Shape := ⟨3, ![2, 16, 24576]⟩

abbrev nBuf : Space → Nat
  | .hbm => 31
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S2x4096x24576, .f32⟩
  | .hbm, ⟨2, _⟩ => ⟨S2x24576, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S1x4096x24576, .f32⟩
  | .hbm, ⟨13, _⟩ => ⟨S4096x24576, .f32⟩
  | .hbm, ⟨14, _⟩ => ⟨S16x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S16x24576, .f32⟩
  | .hbm, ⟨19, _⟩ => ⟨S16x24576, .f32⟩
  | .hbm, ⟨20, _⟩ => ⟨S1x4096x24576, .f32⟩
  | .hbm, ⟨21, _⟩ => ⟨S4096x24576, .f32⟩
  | .hbm, ⟨22, _⟩ => ⟨S16x24576, .f32⟩
  | .hbm, ⟨23, _⟩ => ⟨S1x24576, .f32⟩
  | .hbm, ⟨24, _⟩ => ⟨S24576, .f32⟩
  | .hbm, ⟨25, _⟩ => ⟨S1x24576, .f32⟩
  | .hbm, ⟨26, _⟩ => ⟨S16x24576, .f32⟩
  | .hbm, ⟨27, _⟩ => ⟨S16x24576, .f32⟩
  | .hbm, ⟨28, _⟩ => ⟨S1x16x24576, .f32⟩
  | .hbm, ⟨29, _⟩ => ⟨S1x16x24576, .f32⟩
  | .hbm, ⟨30, _⟩ => ⟨S2x16x24576, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel12.lean ====
abbrev S16384x12288 : Shape := ⟨2, ![16384, 12288]⟩
abbrev S3x6144 : Shape := ⟨2, ![3, 6144]⟩
abbrev S16384x6144 : Shape := ⟨2, ![16384, 6144]⟩
abbrev S2048x512 : Shape := ⟨2, ![2048, 512]⟩
abbrev S3x512 : Shape := ⟨2, ![3, 512]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x12288, .bf16⟩
  | .hbm, ⟨1, _⟩ => ⟨S3x6144, .f32⟩
  | .hbm, ⟨2, _⟩ => ⟨S16384x6144, .bf16⟩
  | .local _ .vmem, ⟨0, _⟩ => ⟨S2048x512, .bf16⟩
  | .local _ .vmem, ⟨1, _⟩ => ⟨S2048x512, .bf16⟩
  | .local _ .vmem, ⟨2, _⟩ => ⟨S3x512, .f32⟩
  | .local _ .vmem, ⟨3, _⟩ => ⟨S3x512, .f32⟩
  | .local _ .vmem, ⟨4, _⟩ => ⟨S2048x512, .bf16⟩
  | .local _ .vmem, ⟨5, _⟩ => ⟨S2048x512, .bf16⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12.lean ====
abbrev S16384x12288 : Shape := ⟨2, ![16384, 12288]⟩
abbrev S3x6144 : Shape := ⟨2, ![3, 6144]⟩
abbrev S16384x6144 : Shape := ⟨2, ![16384, 6144]⟩
abbrev S8x2048x6144 : Shape := ⟨3, ![8, 2048, 6144]⟩
abbrev S_ : Shape := ⟨0, ![]⟩
abbrev S8x2050x6144 : Shape := ⟨3, ![8, 2050, 6144]⟩
abbrev S1x6144 : Shape := ⟨2, ![1, 6144]⟩
abbrev S6144 : Shape := ⟨1, ![6144]⟩
abbrev S1x1x6144 : Shape := ⟨3, ![1, 1, 6144]⟩

abbrev nBuf : Space → Nat
  | .hbm => 30
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S3x6144, .f32⟩
  | .hbm, ⟨2, _⟩ => ⟨S16384x6144, .bf16⟩
  | .hbm, ⟨3, _⟩ => ⟨S16384x6144, .f32⟩
  | .hbm, ⟨4, _⟩ => ⟨S8x2048x6144, .f32⟩
  | .hbm, ⟨5, _⟩ => ⟨S_, .i32⟩
  | .hbm, ⟨6, _⟩ => ⟨S_, .f32⟩
  | .hbm, ⟨7, _⟩ => ⟨S8x2050x6144, .f32⟩
  | .hbm, ⟨8, _⟩ => ⟨S8x2048x6144, .f32⟩
  | .hbm, ⟨9, _⟩ => ⟨S1x6144, .f32⟩
  | .hbm, ⟨10, _⟩ => ⟨S6144, .f32⟩
  | .hbm, ⟨11, _⟩ => ⟨S1x1x6144, .f32⟩
  | .hbm, ⟨12, _⟩ => ⟨S8x2048x6144, .f32⟩
  | .hbm, ⟨13, _⟩ => ⟨S8x2048x6144, .f32⟩
  | .hbm, ⟨14, _⟩ => ⟨S8x2048x6144, .f32⟩
  | .hbm, ⟨15, _⟩ => ⟨S1x6144, .f32⟩
  | .hbm, ⟨16, _⟩ => ⟨S6144, .f32⟩
  | .hbm, ⟨17, _⟩ => ⟨S1x1x6144, .f32⟩
  | .hbm, ⟨18, _⟩ => ⟨S8x2048x6144, .f32⟩
  | .hbm, ⟨19, _⟩ => ⟨S8x2048x6144, .f32⟩
  | .hbm, ⟨20, _⟩ => ⟨S8x2048x6144, .f32⟩
  | .hbm, ⟨21, _⟩ => ⟨S8x2048x6144, .f32⟩
  | .hbm, ⟨22, _⟩ => ⟨S1x6144, .f32⟩
  | .hbm, ⟨23, _⟩ => ⟨S6144, .f32⟩
  | .hbm, ⟨24, _⟩ => ⟨S1x1x6144, .f32⟩
  | .hbm, ⟨25, _⟩ => ⟨S8x2048x6144, .f32⟩
  | .hbm, ⟨26, _⟩ => ⟨S8x2048x6144, .f32⟩
  | .hbm, ⟨27, _⟩ => ⟨S8x2048x6144, .f32⟩
  | .hbm, ⟨28, _⟩ => ⟨S16384x6144, .f32⟩
  | .hbm, ⟨29, _⟩ => ⟨S16384x6144, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Kernel13.lean ====
abbrev S8x2048x4096 : Shape := ⟨3, ![8, 2048, 4096]⟩
abbrev S8x256x4096 : Shape := ⟨3, ![8, 256, 4096]⟩
abbrev S2x16x1x24576 : Shape := ⟨4, ![2, 16, 1, 24576]⟩
abbrev S16384x4096 : Shape := ⟨2, ![16384, 4096]⟩
abbrev S2048x4096 : Shape := ⟨2, ![2048, 4096]⟩
abbrev S18432x4096 : Shape := ⟨2, ![18432, 4096]⟩
abbrev S256x4096 : Shape := ⟨2, ![256, 4096]⟩
abbrev S1x1x1x4096 : Shape := ⟨4, ![1, 1, 1, 4096]⟩
abbrev S256 : Shape := ⟨1, ![256]⟩
abbrev S256x1 : Shape := ⟨2, ![256, 1]⟩
abbrev S1x4096 : Shape := ⟨2, ![1, 4096]⟩

abbrev nBuf : Space → Nat
  | .hbm => 6
  | .vmem => 10
  | .smem => 0
  | _ => 0

abbrev bufTy : (tb : Table) → Fin (tcTables nBuf tb) → BufTy
  | .hbm, ⟨0, _⟩ => ⟨S8x2048x4096, .f32⟩
  | .hbm, ⟨1, _⟩ => ⟨S8x256x4096, .f32⟩
  | .hbm, ⟨2, _⟩ => ⟨S2x16x1x24576, .f32⟩
  | .hbm, ⟨3, _⟩ => ⟨S16384x4096, .f32⟩
  | .hbm, ⟨4, _⟩ => ⟨S2048x4096, .f32⟩
  | .hbm, ⟨5, _⟩ => ⟨S18432x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S1x1x1x4096, .f32⟩
  | .local _ .vmem, ⟨8, _⟩ => ⟨S256x4096, .bf16⟩
  | .local _ .vmem, ⟨9, _⟩ => ⟨S256x4096, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c63_i32 : BitVec 32 := 63#32
  let v1 : BitVec 32 := Scalar.maxsi c0_i32_0 v0
  let v2 : BitVec 32 := Scalar.minsi c63_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let c256_i32 : BitVec 32 := 256#32
  let v0 : BitVec 32 := Scalar.muli arg0 c256_i32
  let c16384_i32 : BitVec 32 := 16384#32
  let v1 : BitVec 1 := Scalar.cmpi .slt v0 c16384_i32
  let c2048_i32 : BitVec 32 := 2048#32
  let v2 : BitVec 32 := Scalar.divsi v0 c2048_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v0 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v1 v18 c8_i32
  let c0_i32_4 : BitVec 32 := 0#32
  let c0_i32_5 : BitVec 32 := 0#32
  let c0_i32_6 : BitVec 32 := 0#32
  let c0_i32_7 : BitVec 32 := 0#32
  ![c0_i32_4.toNat, v19.toNat, c0_i32_5.toNat, c0_i32_6.toNat]

def cc0_transform_3 (i : grid0.Coords) : Fin 4 → Nat :=
  let arg0 : BitVec 32 := BitVec.ofNat 32 (i 0).val
  let c256_i32 : BitVec 32 := 256#32
  let v0 : BitVec 32 := Scalar.muli arg0 c256_i32
  let c16384_i32 : BitVec 32 := 16384#32
  let v1 : BitVec 1 := Scalar.cmpi .slt v0 c16384_i32
  let c2048_i32 : BitVec 32 := 2048#32
  let v2 : BitVec 32 := Scalar.divsi v0 c2048_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v0 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v1 v18 c8_i32
  let c0_i32_4 : BitVec 32 := 0#32
  let c0_i32_5 : BitVec 32 := 0#32
  let c1_i32_6 : BitVec 32 := 1#32
  let c0_i32_7 : BitVec 32 := 0#32
  ![c0_i32_4.toNat, v19.toNat, c0_i32_5.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13.lean ====
abbrev S8x2048x4096 : Shape := ⟨3, ![8, 2048, 4096]⟩
abbrev S8x256x4096 : Shape := ⟨3, ![8, 256, 4096]⟩
abbrev S2x16x1x24576 : Shape := ⟨4, ![2, 16, 1, 24576]⟩
abbrev S1x16x1x4096 : Shape := ⟨4, ![1, 16, 1, 4096]⟩
abbrev S16x4096 : Shape := ⟨2, ![16, 4096]⟩
abbrev S8x4096 : Shape := ⟨2, ![8, 4096]⟩
abbrev S8x1x4096 : Shape := ⟨3, ![8, 1, 4096]⟩
abbrev S_ : Shape := ⟨0, ![]⟩
abbrev S8x2048 : Shape := ⟨2, ![8, 2048]⟩
abbrev S8x2048x1 : Shape := ⟨3, ![8, 2048, 1]⟩
abbrev S1x4096 : Shape := ⟨2, ![1, 4096]⟩
abbrev S4096 : Shape := ⟨1, ![4096]⟩
abbrev S8x256 : Shape := ⟨2, ![8, 256]⟩
abbrev S8x256x1 : Shape := ⟨3, ![8, 256, 1]⟩
abbrev S1x1x4096 : Shape := ⟨3, ![1, 1, 4096]⟩
abbrev S16384x4096 : Shape := ⟨2, ![16384, 4096]⟩
abbrev S2048x4096 : Shape := ⟨2, ![2048, 4096]⟩
abbrev S18432x4096 : Shape := ⟨2, ![18432, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8x256x4096, .f32⟩
  | .hbm, ⟨2, _⟩ => ⟨S2x16x1x24576, .f32⟩
  | .hbm, ⟨3, _⟩ => ⟨S1x16x1x4096, .f32⟩
  | .hbm, ⟨4, _⟩ => ⟨S16x4096, .f32⟩
  | .hbm, ⟨5, _⟩ => ⟨S1x16x1x4096, .f32⟩
  | .hbm, ⟨6, _⟩ => ⟨S16x4096, .f32⟩
  | .hbm, ⟨7, _⟩ => ⟨S8x4096, .f32⟩
  | .hbm, ⟨8, _⟩ => ⟨S8x1x4096, .f32⟩
  | .hbm, ⟨9, _⟩ => ⟨S8x4096, .f32⟩
  | .hbm, ⟨10, _⟩ => ⟨S8x1x4096, .f32⟩
  | .hbm, ⟨11, _⟩ => ⟨S8x2048x4096, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x4096, .f32⟩
  | .hbm, ⟨23, _⟩ => ⟨S8x2048x4096, .f32⟩
  | .hbm, ⟨24, _⟩ => ⟨S_, .f32⟩
  | .hbm, ⟨25, _⟩ => ⟨S8x1x4096, .f32⟩
  | .hbm, ⟨26, _⟩ => ⟨S8x1x4096, .f32⟩
  | .hbm, ⟨27, _⟩ => ⟨S8x2048x4096, .f32⟩
  | .hbm, ⟨28, _⟩ => ⟨S8x2048x4096, .f32⟩
  | .hbm, ⟨29, _⟩ => ⟨S8x2048x4096, .f32⟩
  | .hbm, ⟨30, _⟩ => ⟨S8x2048x4096, .f32⟩
  | .hbm, ⟨31, _⟩ => ⟨S1x4096, .f32⟩
  | .hbm, ⟨32, _⟩ => ⟨S4096, .f32⟩
  | .hbm, ⟨33, _⟩ => ⟨S1x4096, .f32⟩
  | .hbm, ⟨34, _⟩ => ⟨S4096, .f32⟩
  | .hbm, ⟨35, _⟩ => ⟨S8x256x4096, .f32⟩
  | .hbm, ⟨36, _⟩ => ⟨S_, .f32⟩
  | .hbm, ⟨37, _⟩ => ⟨S8x256, .f32⟩
  | .hbm, ⟨38, _⟩ => ⟨S8x256x1, .f32⟩
  | .hbm, ⟨39, _⟩ => ⟨S_, .f32⟩
  | .hbm, ⟨40, _⟩ => ⟨S8x256x1, .f32⟩
  | .hbm, ⟨41, _⟩ => ⟨S8x256x1, .f32⟩
  | .hbm, ⟨42, _⟩ => ⟨S_, .f32⟩
  | .hbm, ⟨43, _⟩ => ⟨S8x256x1, .f32⟩
  | .hbm, ⟨44, _⟩ => ⟨S8x256x1, .f32⟩
  | .hbm, ⟨45, _⟩ => ⟨S8x256x1, .f32⟩
  | .hbm, ⟨46, _⟩ => ⟨S8x256x4096, .f32⟩
  | .hbm, ⟨47, _⟩ => ⟨S8x256x4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S1x1x4096, .f32⟩
  | .hbm, ⟨52, _⟩ => ⟨S8x256x4096, .f32⟩
  | .hbm, ⟨53, _⟩ => ⟨S8x256x4096, .f32⟩
  | .hbm, ⟨54, _⟩ => ⟨S1x1x4096, .f32⟩
  | .hbm, ⟨55, _⟩ => ⟨S8x256x4096, .f32⟩
  | .hbm, ⟨56, _⟩ => ⟨S8x256x4096, .f32⟩
  | .hbm, ⟨57, _⟩ => ⟨S16384x4096, .f32⟩
  | .hbm, ⟨58, _⟩ => ⟨S2048x4096, .f32⟩
  | .hbm, ⟨59, _⟩ => ⟨S18432x4096, .f32⟩
  | .hbm, ⟨60, _⟩ => ⟨S18432x4096, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Kernel14.lean ====
abbrev S18432x6144 : Shape := ⟨2, ![18432, 6144]⟩
abbrev S3x2048 : Shape := ⟨2, ![3, 2048]⟩
abbrev S18432x2048 : Shape := ⟨2, ![18432, 2048]⟩
abbrev S256x1024 : Shape := ⟨2, ![256, 1024]⟩
abbrev S16x1024 : Shape := ⟨2, ![16, 1024]⟩
abbrev S3x1024 : Shape := ⟨2, ![3, 1024]⟩
abbrev S1x1024 : Shape := ⟨2, ![1, 1024]⟩

abbrev nBuf : Space → Nat
  | .hbm => 3
  | .vmem => 18
  | .smem => 0
  | _ => 0

abbrev bufTy : (tb : Table) → Fin (tcTables nBuf tb) → BufTy
  | .hbm, ⟨0, _⟩ => ⟨S18432x6144, .bf16⟩
  | .hbm, ⟨1, _⟩ => ⟨S3x2048, .f32⟩
  | .hbm, ⟨2, _⟩ => ⟨S18432x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S3x1024, .f32⟩
  | .local _ .vmem, ⟨15, _⟩ => ⟨S3x1024, .f32⟩
  | .local _ .vmem, ⟨16, _⟩ => ⟨S256x1024, .bf16⟩
  | .local _ .vmem, ⟨17, _⟩ => ⟨S256x1024, .bf16⟩
  | _, _ => ⟨S18432x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![72, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c1151_i32 : BitVec 32 := 1151#32
  let v2 : BitVec 32 := Scalar.minsi v1 c1151_i32
  let c2_i32 : BitVec 32 := 2#32
  let v3 : BitVec 32 := Scalar.addi c2_i32 arg1
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c1151_i32 : BitVec 32 := 1151#32
  let v2 : BitVec 32 := Scalar.minsi v1 c1151_i32
  let c4_i32 : BitVec 32 := 4#32
  let v3 : BitVec 32 := Scalar.addi c4_i32 arg1
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14.lean ====
abbrev S18432x6144 : Shape := ⟨2, ![18432, 6144]⟩
abbrev S3x2048 : Shape := ⟨2, ![3, 2048]⟩
abbrev S16384x6144 : Shape := ⟨2, ![16384, 6144]⟩
abbrev S8x2048x6144 : Shape := ⟨3, ![8, 2048, 6144]⟩
abbrev S8x2048x2048 : Shape := ⟨3, ![8, 2048, 2048]⟩
abbrev S_ : Shape := ⟨0, ![]⟩
abbrev S8x2050x2048 : Shape := ⟨3, ![8, 2050, 2048]⟩
abbrev S1x2048 : Shape := ⟨2, ![1, 2048]⟩
abbrev S2048 : Shape := ⟨1, ![2048]⟩
abbrev S1x1x2048 : Shape := ⟨3, ![1, 1, 2048]⟩
abbrev S2048x6144 : Shape := ⟨2, ![2048, 6144]⟩
abbrev S8x256x6144 : Shape := ⟨3, ![8, 256, 6144]⟩
abbrev S8x256x2048 : Shape := ⟨3, ![8, 256, 2048]⟩
abbrev S8x258x2048 : Shape := ⟨3, ![8, 258, 2048]⟩
abbrev S16384x2048 : Shape := ⟨2, ![16384, 2048]⟩
abbrev S2048x2048 : Shape := ⟨2, ![2048, 2048]⟩
abbrev S18432x2048 : Shape := ⟨2, ![18432, 2048]⟩

abbrev nBuf : Space → Nat
  | .hbm => 67
  | .vmem => 0
  | .smem => 0
  | _ => 0

abbrev bufTy : (tb : Table) → Fin (tcTables nBuf tb) → BufTy
  | .hbm, ⟨0, _⟩ => ⟨S18432x6144, .bf16⟩
  | .hbm, ⟨1, _⟩ => ⟨S3x2048, .f32⟩
  | .hbm, ⟨2, _⟩ => ⟨S18432x6144, .f32⟩
  | .hbm, ⟨3, _⟩ => ⟨S16384x6144, .f32⟩
  | .hbm, ⟨4, _⟩ => ⟨S8x2048x6144, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S_, .i32⟩
  | .hbm, ⟨10, _⟩ => ⟨S_, .f32⟩
  | .hbm, ⟨11, _⟩ => ⟨S8x2050x2048, .f32⟩
  | .hbm, ⟨12, _⟩ => ⟨S8x2048x2048, .f32⟩
  | .hbm, ⟨13, _⟩ => ⟨S1x2048, .f32⟩
  | .hbm, ⟨14, _⟩ => ⟨S2048, .f32⟩
  | .hbm, ⟨15, _⟩ => ⟨S1x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S2048x6144, .f32⟩
  | .hbm, ⟨34, _⟩ => ⟨S8x256x6144, .f32⟩
  | .hbm, ⟨35, _⟩ => ⟨S8x256x2048, .f32⟩
  | .hbm, ⟨36, _⟩ => ⟨S8x256x2048, .f32⟩
  | .hbm, ⟨37, _⟩ => ⟨S8x256x2048, .f32⟩
  | .hbm, ⟨38, _⟩ => ⟨S8x256x2048, .f32⟩
  | .hbm, ⟨39, _⟩ => ⟨S_, .i32⟩
  | .hbm, ⟨40, _⟩ => ⟨S_, .f32⟩
  | .hbm, ⟨41, _⟩ => ⟨S8x258x2048, .f32⟩
  | .hbm, ⟨42, _⟩ => ⟨S8x256x2048, .f32⟩
  | .hbm, ⟨43, _⟩ => ⟨S1x2048, .f32⟩
  | .hbm, ⟨44, _⟩ => ⟨S2048, .f32⟩
  | .hbm, ⟨45, _⟩ => ⟨S1x1x2048, .f32⟩
  | .hbm, ⟨46, _⟩ => ⟨S8x256x2048, .f32⟩
  | .hbm, ⟨47, _⟩ => ⟨S8x256x2048, .f32⟩
  | .hbm, ⟨48, _⟩ => ⟨S8x256x2048, .f32⟩
  | .hbm, ⟨49, _⟩ => ⟨S1x2048, .f32⟩
  | .hbm, ⟨50, _⟩ => ⟨S2048, .f32⟩
  | .hbm, ⟨51, _⟩ => ⟨S1x1x2048, .f32⟩
  | .hbm, ⟨52, _⟩ => ⟨S8x256x2048, .f32⟩
  | .hbm, ⟨53, _⟩ => ⟨S8x256x2048, .f32⟩
  | .hbm, ⟨54, _⟩ => ⟨S8x256x2048, .f32⟩
  | .hbm, ⟨55, _⟩ => ⟨S8x256x2048, .f32⟩
  | .hbm, ⟨56, _⟩ => ⟨S1x2048, .f32⟩
  | .hbm, ⟨57, _⟩ => ⟨S2048, .f32⟩
  | .hbm, ⟨58, _⟩ => ⟨S1x1x2048, .f32⟩
  | .hbm, ⟨59, _⟩ => ⟨S8x256x2048, .f32⟩
  | .hbm, ⟨60, _⟩ => ⟨S8x256x2048, .f32⟩
  | .hbm, ⟨61, _⟩ => ⟨S8x256x2048, .f32⟩
  | .hbm, ⟨62, _⟩ => ⟨S8x256x2048, .f32⟩
  | .hbm, ⟨63, _⟩ => ⟨S16384x2048, .f32⟩
  | .hbm, ⟨64, _⟩ => ⟨S2048x2048, .f32⟩
  | .hbm, ⟨65, _⟩ => ⟨S18432x2048, .f32⟩
  | .hbm, ⟨66, _⟩ => ⟨S18432x2048, .bf16⟩
  | _, _ => ⟨S18432x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_c_0 : Ref sig .tc := ⟨.hbm, 39, rfl⟩
abbrev main_call1_v0 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩

abbrev nD : Nat := 1
abbrev τ : Topo := Topo.v7x

variable {F : FTy → Type} [FloatOps F]
-- ==== Proof.Softmax.lean ====
/- Softmax over real scores, in the two forms the certificate compares: powers of two with the division after
   the product with the values, and exponentials with the weights divided first. -/
module

public import Idealize.ShloMosaic.PureOps.Ideal
public import Mathlib.Analysis.SpecialFunctions.Pow.Real

@[expose] public section

noncomputable section

namespace Cert.DiffAttn

open Idealize.ShloMosaic

variable {n : ℕ}

/-- The largest of the values `s`, the fold that a reduction from minus infinity is. -/
def top (s : Fin n → EReal) : EReal := Finset.univ.fold max ⊥ s

/-- The largest of finitely many real values, at least one of them, is a real number. -/
theorem top_real (hn : 0 < n) (s : Fin n → ℝ) : ∃ M : ℝ, top (fun k => (s k : EReal)) = (M : EReal) := by
  have h1 : top (fun k => (s k : EReal)) ≠ ⊤ := by
    apply ne_of_lt
    rw [top, Finset.fold_max_lt]
    exact ⟨bot_lt_top, fun k _ => EReal.coe_lt_top _⟩
  have h2 : top (fun k => (s k : EReal)) ≠ ⊥ := by
    apply ne_of_gt
    rw [top, Finset.lt_fold_max]
    exact Or.inr ⟨⟨0, hn⟩, Finset.mem_univ _, EReal.bot_lt_coe _⟩
  exact ⟨_, (EReal.coe_toReal h1 h2).symm⟩

/-- Scaling the values by a positive real scales their largest. -/
theorem top_mul (c : ℝ) (hc : 0 < c) (s : Fin n → EReal) :
    top (fun k => s k * (c : EReal)) = top s * (c : EReal) := by
  have hc' : (0 : EReal) ≤ (c : EReal) := by exact_mod_cast hc.le
  have h := Finset.fold_hom (op := (max : EReal → EReal → EReal)) (op' := (max : EReal → EReal → EReal))
    (m := fun x : EReal => x * (c : EReal)) (b := ⊥) (f := s) (s := (Finset.univ : Finset (Fin n)))
    (fun x y => (monotone_mul_right_of_nonneg hc').map_max)
  rw [top, top, ← h]
  congr 1
  exact (EReal.bot_mul_coe_of_pos hc).symm

/-- The power of two of a difference of reals is the exponential of the difference of their multiples by log 2. -/
theorem exp2_sub (a b : ℝ) :
    Ideal.exp2 ((a : EReal) - (b : EReal)) = ((Real.exp ((a - b) * Real.log 2) : ℝ) : EReal) := by
  rw [← EReal.coe_sub, Ideal.exp2_coe]
  congr 1
  show (2 : ℝ) ^ (a - b) = _
  rw [Real.rpow_def_of_pos (by norm_num), mul_comm]

theorem exp_sub (a b c : ℝ) :
    Ideal.exp ((a : EReal) * (c : EReal) - (b : EReal) * (c : EReal)) = ((Real.exp ((a - b) * c) : ℝ) : EReal) := by
  rw [← EReal.coe_mul, ← EReal.coe_mul, ← EReal.coe_sub, Ideal.exp_coe, sub_mul]

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem div_real (a b : ℝ) (hb : b ≠ 0) : Ideal.div (a : EReal) (b : EReal) = ((a / b : ℝ) : EReal) := by
  rw [Ideal.div_coe hb, ← EReal.coe_mul, mul_one_div]

/-- One attention map with powers of two, divided after the product with the values: the sum of the weighted values
    over the sum of the weights. -/
def after (s v : Fin n → EReal) : EReal :=
  Ideal.div (∑ k, Ideal.exp2 (s k - top s) * v k) (∑ k, Ideal.exp2 (s k - top s))

/-- One attention map's weights with exponentials of the scores times log 2, divided before use. -/
def weight (s : Fin n → EReal) (k : Fin n) : EReal :=
  Ideal.div (Ideal.exp (s k * Ideal.log 2 - top (fun j => s j * Ideal.log 2)))
    (∑ i, Ideal.exp (s i * Ideal.log 2 - top (fun j => s j * Ideal.log 2)))

/-- The word that every row's maximum starts from is minus infinity. -/
theorem ofBits_bot : Ideal.ofBits .f32 4286578688#32 = ⊥ := by
  simp [Ideal.ofBits, Ideal.ieee]

/-- The word of two. -/
theorem ofBits_two : Ideal.ofBits .f32 1073741824#32 = 2 := by
  have h : (8388608 : ℝ) * (2 ^ 22)⁻¹ = 2 := by norm_num
  simp [Ideal.ofBits, Ideal.ieee]
  rw [← EReal.coe_mul, h]
  rfl

theorem log_two : Ideal.log 2 = ((Real.log 2 : ℝ) : EReal) := by
  have : (2 : EReal) = ((2 : ℝ) : EReal) := rfl
  rw [this, Ideal.log_coe, if_neg (by norm_num)]

/-- The weights of real scores are real, and both forms are made of them. -/
theorem weights_real (hn : 0 < n) (s : Fin n → ℝ) : ∃ w : Fin n → ℝ,
    (∀ k, weight (fun k => (s k : EReal)) k = (w k : EReal))
    ∧ ∀ v : Fin n → ℝ, after (fun k => (s k : EReal)) (fun k => (v k : EReal)) = ((∑ k, w k * v k : ℝ) : EReal) := by
  obtain ⟨M, hM⟩ := top_real hn s
  have hl : 0 < Real.log 2 := Real.log_pos (by norm_num)
  have hS : (∑ i, Real.exp ((s i - M) * Real.log 2)) ≠ 0 := by
    haveI : Nonempty (Fin n) := ⟨⟨0, hn⟩⟩
    exact (Finset.sum_pos (fun i _ => Real.exp_pos _) Finset.univ_nonempty).ne'
  refine ⟨fun k => Real.exp ((s k - M) * Real.log 2) / ∑ i, Real.exp ((s i - M) * Real.log 2), fun k => ?_, fun v => ?_⟩
  · rw [weight, log_two, top_mul _ hl, hM]
    simp only [exp_sub]
    rw [← coe_sum, div_real _ _ hS]
  · rw [after, hM]
    simp only [exp2_sub, ← EReal.coe_mul]
    rw [← coe_sum, ← coe_sum, div_real _ _ hS, Finset.sum_div]
    congr 1
    exact Finset.sum_congr rfl fun k _ => by ring

/-- A product's factor comes out of its sum. -/
theorem sum_scale {n : ℕ} (f : Fin n → EReal) (r : ℝ) (hr : 0 ≤ r) : ∑ k, f k * (r : EReal) = (∑ k, f k) * (r : EReal) := by
  induction n with
  | zero => simp
  | succ n ih =>
    rw [Fin.sum_univ_succ, Fin.sum_univ_succ, ih, EReal.right_distrib_of_nonneg_of_ne_top (EReal.coe_nonneg.mpr hr) (EReal.coe_ne_top r)]

/-- One map over real scores and any values: the quotient after the product with the values is the sum over the weights. -/
theorem after_eq (hn : 0 < n) (s v : Fin n → EReal) (hs : ∀ k, ∃ r : ℝ, s k = r) : after s v = ∑ k, weight s k * v k := by
  choose a ha using hs
  obtain rfl : s = fun k => (a k : EReal) := funext ha
  obtain ⟨M, hM⟩ := top_real hn a
  have hl : 0 < Real.log 2 := Real.log_pos (by norm_num)
  have hS : 0 < ∑ i, Real.exp ((a i - M) * Real.log 2) := by
    haveI : Nonempty (Fin n) := ⟨⟨0, hn⟩⟩
    exact Finset.sum_pos (fun i _ => Real.exp_pos _) Finset.univ_nonempty
  unfold after weight
  rw [log_two, top_mul _ hl, hM]
  simp only [exp_sub, exp2_sub]
  rw [← coe_sum, Ideal.div_coe hS.ne', ← sum_scale _ _ (one_div_nonneg.mpr hS.le)]
  exact Finset.sum_congr rfl fun k _ => by rw [Ideal.div_coe hS.ne', mul_right_comm]

/-- Differential attention: the difference of the two maps' outputs is the output of the difference of their weights. -/
theorem diff_eq (hn : 0 < n) (s₁ s₂ v : Fin n → EReal) (lam : EReal)
    (h₁ : ∀ k, ∃ r : ℝ, s₁ k = r) (h₂ : ∀ k, ∃ r : ℝ, s₂ k = r) (hv : ∀ k, ∃ r : ℝ, v k = r) (hl : ∃ r : ℝ, lam = r) :
    after s₁ v - lam * after s₂ v = ∑ k, v k * (weight s₁ k - lam * weight s₂ k) := by
  choose a ha using h₁
  choose b hb using h₂
  choose u hu using hv
  obtain ⟨l, rfl⟩ := hl
  obtain rfl : s₁ = fun k => (a k : EReal) := funext ha
  obtain rfl : s₂ = fun k => (b k : EReal) := funext hb
  obtain rfl : v = fun k => (u k : EReal) := funext hu
  obtain ⟨w, hw, hwv⟩ := weights_real hn a
  obtain ⟨x, hx, hxv⟩ := weights_real hn b
  rw [hwv, hxv]
  simp only [hw, hx, ← EReal.coe_mul, ← EReal.coe_sub]
  rw [← coe_sum]
  congr 1
  rw [Finset.mul_sum, ← Finset.sum_sub_distrib]
  exact Finset.sum_congr rfl fun k _ => by ring

end Cert.DiffAttn
-- ==== Proof.Spec.lean ====
/- The differential attention as plain functions of its operands' entries: the rotary embedding, the queries, keys and
   values of a head, the scores, the second map's weight and the head-wise norm. -/
module

public import proofs.«01_k».proof.Proof.Softmax

@[expose] public section

noncomputable section

namespace Cert.DiffAttn

open Idealize.ShloMosaic

/-- The rotary embedding of 64 lanes: the first half times the cosine less the second times the sine, and the first
    times the sine plus the second times the cosine. -/
def rot (x : Fin 64 → EReal) (c s : Fin 32 → EReal) (d : Fin 64) : EReal :=
  if h : d.val < 32 then x ⟨d.val, by omega⟩ * c ⟨d.val, h⟩ - x ⟨32 + d.val, by omega⟩ * s ⟨d.val, h⟩
  else x ⟨d.val - 32, by omega⟩ * s ⟨d.val - 32, by omega⟩ + x ⟨32 + (d.val - 32), by omega⟩ * c ⟨d.val - 32, by omega⟩

/-- The query of batch `b`, row `r`, head `h`, map `c`: its 64 lanes rotated by the row's angle. -/
def query (HL : Fin 16384 → Fin 12288 → EReal) (co si : Fin 2048 → Fin 32 → EReal)
    (b : Fin 8) (r : Fin 2048) (h : Fin 16) (c : Fin 2) : Fin 64 → EReal :=
  rot (fun d => HL ⟨b.val * 2048 + r.val, by omega⟩ ⟨h.val * 128 + c.val * 64 + d.val, by omega⟩) (co r) (si r)

/-- Key `j` of a batch, a head and a map: a rotated row of the latents for the first 2048, a row of the context after. -/
def key (HL : Fin 16384 → Fin 12288 → EReal) (HC : Fin 2048 → Fin 4096 → EReal) (co si : Fin 2048 → Fin 32 → EReal)
    (b : Fin 8) (j : Fin 2304) (h : Fin 16) (c : Fin 2) (d : Fin 64) : EReal :=
  if hj : j.val < 2048 then
    rot (fun d => HL ⟨b.val * 2048 + j.val, by omega⟩ ⟨2048 + (h.val * 128 + c.val * 64 + d.val), by omega⟩) (co ⟨j.val, hj⟩) (si ⟨j.val, hj⟩) d
  else HC ⟨b.val * 256 + (j.val - 2048), by omega⟩ ⟨h.val * 128 + c.val * 64 + d.val, by omega⟩

/-- Value `j` of a batch and a head. -/
def value (HL : Fin 16384 → Fin 12288 → EReal) (HC : Fin 2048 → Fin 4096 → EReal)
    (b : Fin 8) (j : Fin 2304) (h : Fin 16) (e : Fin 128) : EReal :=
  if hj : j.val < 2048 then HL ⟨b.val * 2048 + j.val, by omega⟩ ⟨4096 + (h.val * 128 + e.val), by omega⟩
  else HC ⟨b.val * 256 + (j.val - 2048), by omega⟩ ⟨2048 + (h.val * 128 + e.val), by omega⟩

/-- The scores of a query's row against every key, for one map. -/
def score (HL : Fin 16384 → Fin 12288 → EReal) (HC : Fin 2048 → Fin 4096 → EReal) (co si : Fin 2048 → Fin 32 → EReal)
    (b : Fin 8) (r : Fin 2048) (h : Fin 16) (c : Fin 2) (j : Fin 2304) : EReal :=
  ∑ d, query HL co si b r h c d * key HL HC co si b j h c d

/-- The weight of the second map. -/
def lambda (LA : Fin 4 → Fin 64 → EReal) : EReal :=
  Ideal.exp (∑ x, LA 0 x * LA 1 x) - Ideal.exp (∑ x, LA 2 x * LA 3 x) + Ideal.ofBits .f32 1052116297#32

/-- The root-mean-square norm over a head's 128 lanes, with the gain and the last factor. -/
def norm (o g : Fin 128 → EReal) (e : Fin 128) : EReal :=
  o e * Ideal.rsqrt (Ideal.div (∑ x, o x * o x) (Ideal.ofBits .f32 1124073472#32) + Ideal.ofBits .f32 897988541#32)
    * g e * Ideal.ofBits .f32 1059388764#32

/-- What a head yields when each map is divided by its sum after the product with the values. -/
def headAfter (s : Fin 2 → Fin 2304 → EReal) (v : Fin 2304 → Fin 128 → EReal) (lam : EReal) (e : Fin 128) : EReal :=
  after (s 0) (fun j => v j e) - lam * after (s 1) (fun j => v j e)

/-- What a head yields when the difference of the two softmaxes meets the values. -/
def headWeights (s : Fin 2 → Fin 2304 → EReal) (v : Fin 2304 → Fin 128 → EReal) (lam : EReal) (e : Fin 128) : EReal :=
  ∑ j, v j e * (weight (s 0) j - lam * weight (s 1) j)

end Cert.DiffAttn
-- ==== Proof.Unit.lean ====
/- What the kernel body computes for one head and 128 queries: the tile it stores, read at an index. -/
module

public import proofs.«01_k».proof.Proof.Gen.KernelIdeal.Skeleton
public import proofs.«01_k».proof.Proof.Spec
public import Idealize.ShloMosaic.Lib.Pipeline.ValueKit
public import Idealize.ShloMosaic.Lib.Pointwise

@[expose] public section

set_option maxRecDepth 16384
noncomputable section
namespace Cert.KernelIdeal.Value
open Cert.KernelIdeal Cert.KernelIdeal.Gen Idealize.ShloMosaic Cert.DiffAttn

/-- A row of 128 lanes, two maps of 64, with each half of a map paired with the other: the lane times the row's
    cosine, and its partner times the row's signed sine. -/
def turn (x c s : Fin 128 → EReal) (l : Fin 128) : EReal :=
  x l * c l + (if l.val % 64 < 32 then x ⟨(l.val + 32) % 128, by omega⟩ else x ⟨(l.val + 96) % 128, by omega⟩) * s l

/-- Lane `d` of map `c`. -/
def lane (c : Fin 2) (d : Fin 64) : Fin 128 := ⟨c.val * 64 + d.val, by omega⟩

/-- The lanes' mask: whether a lane lies in the first half of its map. -/
theorem half_mask (l : Fin 128) : IntOp.cmpi .slt (IntOp.andi (BitVec.ofNat 32 l.val) 63#32) 32#32 = if l.val % 64 < 32 then 1#1 else 0#1 := by
  revert l; decide +kernel

/-- The mask of the first map's lanes. -/
theorem map_mask (l : Fin 128) : IntOp.cmpi .slt (BitVec.ofNat 32 l.val) 64#32 = if l.val < 64 then 1#1 else 0#1 := by
  revert l; decide +kernel

/-- A choice between two values by a one-bit word that says whether `p`. -/
theorem select_ite {α : Type} (p : Prop) [Decidable p] (x y : α) : Scalar.select (if p then 1#1 else 0#1) x y = if p then x else y := by
  split <;> rfl

/-- The rotated queries. -/
theorem rot_apply (Q : FVec Ideal S128x128 .bf16) (C S : FVec Ideal S128x128 .f32) (a l : Fin 128) :
    k0_pay100 (F := Ideal) Q C S (ix2 a l) = turn (fun l => Q (ix2 a l)) (fun l => C (ix2 a l)) (fun l => S (ix2 a l)) l := by
  pointwise [k0_pay100]
  rw [half_mask, select_ite]
  rfl

/-- The rotated queries with the second map's lanes put to zero. -/
theorem first_apply (Q : FVec Ideal S128x128 .bf16) (C S : FVec Ideal S128x128 .f32) (a l : Fin 128) :
    k0_pay102 (F := Ideal) Q C S (ix2 a l) = if l.val < 64 then k0_pay100 (F := Ideal) Q C S (ix2 a l) else 0 := by
  have e : ∀ R : FVec Ideal S128x128 .f32,
      select k0_pay101 R (broadcast S128x128 (Scalar.ofBits (F := Ideal) .f32 0#32)) (ix2 a l) = if l.val < 64 then R (ix2 a l) else 0 := by
    intro R
    pointwise [k0_pay101]
    rw [map_mask, select_ite]
  exact e _

/-- Row `a` of the 256 query rows at a lane: the first map's queries above, the second map's below, whose other lanes
    are zero. -/
def stacked (R R' : FVec Ideal S128x128 .f32) (a : Fin 256) (x : Fin 128) : EReal :=
  if h : a.val < 128 then R' (ix2 ⟨a.val, h⟩ x) else if x.val < 64 then 0 else R (ix2 ⟨a.val - 128, by omega⟩ x)

/-- The scores of both maps, one above the other. -/
theorem score_apply (R R' : FVec Ideal S128x128 .f32) (K : FVec Ideal S1x2304x128 .bf16) (a : Fin 256) (k : Fin 2304) :
    k0_pay103 (F := Ideal) R k0_pay101 R' (FloatOps.ofBits FTy.f32 0#32) K (ix2 a k) = ∑ x : Fin 128, stacked R R' a x * K (ix3 0 k x) := by
  pointwise [k0_pay103, k0_pay101]
  simp only [map_mask, select_ite]
  rfl

/-- A sum over the lanes is the sum over the first map's and over the second's. -/
theorem sum_lanes (f : Fin 128 → EReal) : ∑ x, f x = ∑ d, f (lane 0 d) + ∑ d, f (lane 1 d) := by
  rw [show (∑ x, f x) = ∑ x : Fin (64 + 64), f x from rfl, Fin.sum_univ_add]
  congr 1 <;> exact Finset.sum_congr rfl fun d _ => congrArg f (Fin.ext (by simp [lane, Fin.val_castAdd, Fin.val_natAdd]))

/-- The scores of one query row against key `j`, for the two maps. -/
theorem scores_apply (Q : FVec Ideal S128x128 .bf16) (C S : FVec Ideal S128x128 .f32) (K : FVec Ideal S1x2304x128 .bf16) (c : Fin 2) (a : Fin 128)
    (a' : Fin 256) (ha : a'.val = c.val * 128 + a.val) (j : Fin 2304) :
    k0_pay103 (F := Ideal) (k0_pay100 Q C S) k0_pay101 (k0_pay102 Q C S) (FloatOps.ofBits FTy.f32 0#32) K (ix2 a' j)
      = ∑ d, turn (fun l => Q (ix2 a l)) (fun l => C (ix2 a l)) (fun l => S (ix2 a l)) (lane c d) * K (ix3 0 j (lane c d)) := by
  rw [score_apply, sum_lanes]
  have h0 : ∀ d : Fin 64, (lane 0 d).val < 64 := fun d => by simp [lane]
  have h1 : ∀ d : Fin 64, ¬ (lane 1 d).val < 64 := fun d => by simp [lane]
  match c with
  | 0 =>
    have hb : a'.val < 128 := by simp at ha; omega
    have e : (⟨a'.val, hb⟩ : Fin 128) = a := Fin.ext (by simp [ha])
    simp only [stacked, dif_pos hb, e, first_apply, rot_apply, h0, h1, if_true, if_false, zero_mul, Finset.sum_const_zero, add_zero]
  | 1 =>
    have hb : ¬ a'.val < 128 := by simp at ha; omega
    have e : (⟨a'.val - 128, by omega⟩ : Fin 128) = a := Fin.ext (by simp [ha])
    simp only [stacked, dif_neg hb, e, rot_apply, h0, h1, if_true, if_false, zero_mul, Finset.sum_const_zero, zero_add]

/-- The second map's weight. -/
theorem weight_apply (L : FVec Ideal S4x128 .f32) :
    k0_pay28 (F := Ideal) L (ix2 0 0) = Ideal.exp (∑ x, L (ix2 0 x) * L (ix2 1 x)) - Ideal.exp (∑ x, L (ix2 2 x) * L (ix2 3 x)) + Ideal.ofBits .f32 1052116297#32 := by
  pointwise [k0_pay28]

/-- The stored tile from the scores. -/
theorem out_apply (L : FVec Ideal S1x1 .f32) (U : FVec Ideal S1x128 .f32) (s : FVec Ideal S256x2304 .f32) (V : FVec Ideal S1x2304x256 .bf16)
    (hV : ∀ j, V (ix3 0 j 128) = (1 : EReal)) (a : Fin 128) (k : Fin 128) :
    k0_pay104 (F := Ideal) L s V U (ix2 a k)
      = DiffAttn.norm (fun e => after (fun j => s (ix2 ⟨a.val, by omega⟩ j)) (fun j => V (ix3 0 j ⟨e.val, by omega⟩))
            - L (ix2 0 0) * after (fun j => s (ix2 ⟨128 + a.val, by omega⟩ j)) (fun j => V (ix3 0 j ⟨e.val, by omega⟩)))
          (fun e => U (ix2 0 e)) k := by
  pointwise [k0_pay104]
  simp only [hV, mul_one, ofBits_bot]
  rfl

/-- The tile of one head and 128 queries. -/
def tile (L : FVec Ideal S4x128 .f32) (Q : FVec Ideal S128x128 .bf16) (C S : FVec Ideal S128x128 .f32) (K : FVec Ideal S1x2304x128 .bf16)
    (V : FVec Ideal S1x2304x256 .bf16) (U : FVec Ideal S1x128 .f32) : FVec Ideal S128x128 .bf16 :=
  k0_pay104 (k0_pay28 L) (k0_pay103 (k0_pay100 Q C S) k0_pay101 (k0_pay102 Q C S) (FloatOps.ofBits FTy.f32 0#32) K) V U

/-- The tile read at an index: the norm of the head's two maps, each divided by its sum after the product with the values. -/
theorem tile_apply (L : FVec Ideal S4x128 .f32) (Q : FVec Ideal S128x128 .bf16) (C S : FVec Ideal S128x128 .f32) (K : FVec Ideal S1x2304x128 .bf16)
    (V : FVec Ideal S1x2304x256 .bf16) (U : FVec Ideal S1x128 .f32) (hV : ∀ j, V (ix3 0 j 128) = (1 : EReal)) (a k : Fin 128) :
    tile L Q C S K V U (ix2 a k)
      = DiffAttn.norm (headAfter (fun c j => ∑ d, turn (fun l => Q (ix2 a l)) (fun l => C (ix2 a l)) (fun l => S (ix2 a l)) (lane c d) * K (ix3 0 j (lane c d)))
          (fun j e => V (ix3 0 j ⟨e.val, by omega⟩))
          (Ideal.exp (∑ x, L (ix2 0 x) * L (ix2 1 x)) - Ideal.exp (∑ x, L (ix2 2 x) * L (ix2 3 x)) + Ideal.ofBits .f32 1052116297#32))
          (fun e => U (ix2 0 e)) k := by
  have e0 := fun j => scores_apply Q C S K 0 a ⟨a.val, by omega⟩ (by simp) j
  have e1 := fun j => scores_apply Q C S K 1 a ⟨128 + a.val, by omega⟩ (by simp) j
  rw [tile, out_apply _ _ _ _ hV, weight_apply]
  simp only [e0, e1]
  rfl

end Cert.KernelIdeal.Value
-- ==== Proof.Slabs.lean ====
/- The two scratch arrays the kernel body fills at the first point of a run: the keys and the values of four heads. -/
module

public import proofs.«01_k».proof.Proof.Unit
public import Idealize.ShloMosaic.Lib.Ring

@[expose] public section

set_option maxRecDepth 16384
noncomputable section
namespace Cert.KernelIdeal.Value
open Cert.KernelIdeal Cert.KernelIdeal.Gen Idealize.ShloMosaic Idealize.ShloMosaic.TcCoe Idealize.SL.Sem Cert.DiffAttn

/-- Key `j` of head `h` at a lane: a rotated row of the latents, or a row of the context behind them. -/
def keyAt (X : FVec Ideal S2048x512 .bf16) (Y : FVec Ideal S256x512 .bf16) (C S : FVec Ideal S2048x128 .f32)
    (h : Fin 4) (j : Fin 2304) (l : Fin 128) : EReal :=
  if hj : j.val < 2048 then
    turn (fun l => X (ix2 ⟨j.val, hj⟩ ⟨h.val * 128 + l.val, by omega⟩)) (fun l => C (ix2 ⟨j.val, hj⟩ l)) (fun l => S (ix2 ⟨j.val, hj⟩ l)) l
  else Y (ix2 ⟨j.val - 2048, by omega⟩ ⟨h.val * 128 + l.val, by omega⟩)

/-- Value `j` of head `h` at a lane; lane 128 is one and the lanes behind it zero. -/
def valAt (X : FVec Ideal S2048x512 .bf16) (Y : FVec Ideal S256x512 .bf16) (h : Fin 4) (j : Fin 2304) (l : Fin 256) : EReal :=
  if hl : l.val < 128 then
    if hj : j.val < 2048 then X (ix2 ⟨j.val, hj⟩ ⟨h.val * 128 + l.val, by omega⟩)
    else Y (ix2 ⟨j.val - 2048, by omega⟩ ⟨h.val * 128 + l.val, by omega⟩)
  else if l.val = 128 then 1 else 0

/-- The keys of four heads. -/
def keySlab (X : FVec Ideal S2048x512 .bf16) (Y : FVec Ideal S256x512 .bf16) (C S : FVec Ideal S2048x128 .f32) : FVec Ideal S4x2304x128 .bf16 :=
  fun i => keyAt X Y C S (i 0) (i 1) (i 2)

/-- The values of four heads, with their column of ones. -/
def valSlab (X : FVec Ideal S2048x512 .bf16) (Y : FVec Ideal S256x512 .bf16) : FVec Ideal S4x2304x256 .bf16 :=
  fun i => valAt X Y (i 0) (i 1) (i 2)

/-- An index of a slab's rows by its coordinates. -/
theorem idx_eq {n k : ℕ} (i : (⟨3, ![1, n, k]⟩ : Shape).Idx) (a : Fin n) (l : Fin k) (ha : (i 1).val = a.val) (hl : (i 2).val = l.val) :
    i = ix3 0 a l := by
  funext x
  match x with
  | 0 => exact Fin.ext (by have := (i 0).isLt; simp at this; simpa using this)
  | 1 => exact Fin.ext ha
  | 2 => exact Fin.ext hl

/-- The rotated keys of one head. -/
theorem rotKeys_apply (X : FVec Ideal S2048x128 .bf16) (C S : FVec Ideal S2048x128 .f32) (a : Fin 2048) (l : Fin 128) :
    k0_pay3 (F := Ideal) X C S (ix3 0 a l) = turn (fun l => X (ix2 a l)) (fun l => C (ix2 a l)) (fun l => S (ix2 a l)) l := by
  pointwise [k0_pay3]
  rw [half_mask, select_ite]
  rfl

/-- The context's keys of one head, and its values. -/
theorem ctxRows_apply (X : FVec Ideal S256x128 .bf16) (a : Fin 256) (l : Fin 128) : k0_pay4 (F := Ideal) X (ix3 0 a l) = X (ix2 a l) := by
  pointwise [k0_pay4]

/-- The latents' values of one head. -/
theorem latVals_apply (X : FVec Ideal S2048x128 .bf16) (a : Fin 2048) (l : Fin 128) : k0_pay5 (F := Ideal) X (ix3 0 a l) = X (ix2 a l) := by
  pointwise [k0_pay5]

/-- The column of ones among zeros. -/
theorem ones_apply (j : Fin 2304) (l : Fin 128) : k0_pay7 (F := Ideal) k0_pay2 (ix3 0 j l) = if l.val = 0 then (1 : EReal) else 0 := by
  have e : IntOp.cmpi .eq (BitVec.ofNat 32 l.val) 0#32 = if l.val = 0 then 1#1 else 0#1 := by revert l; decide +kernel
  pointwise [k0_pay7, k0_pay2]
  rw [e, select_ite]

/-- A head's rotated keys at an index of the keys' array. -/
theorem rotKeys_at (X : FVec Ideal S2048x512 .bf16) (Y : FVec Ideal S256x512 .bf16) (C S : FVec Ideal S2048x128 .f32) (h : Fin 4)
    (B : FVec Ideal S2048x128 .bf16) (hB : ∀ a l, B (ix2 a l) = X (ix2 a ⟨h.val * 128 + l.val, by omega⟩)) (x : S1x2048x128.Idx) (y : S4x2304x128.Idx)
    (h0 : (y 0).val = h.val + (x 0).val) (h1 : (y 1).val = (x 1).val) (h2 : (y 2).val = (x 2).val) :
    k0_pay3 (F := Ideal) B C S x = keySlab X Y C S y := by
  have x0 : (x 0).val = 0 := by have := (x 0).isLt; simpa [S1x2048x128] using this
  have x1 : (x 1).val < 2048 := (x 1).isLt
  rw [idx_eq x ⟨(x 1).val, (x 1).isLt⟩ ⟨(x 2).val, (x 2).isLt⟩ rfl rfl, rotKeys_apply]
  have e0 : y 0 = h := Fin.ext (by omega)
  have e1 : y 1 = (⟨(x 1).val, by omega⟩ : Fin 2304) := Fin.ext (by simpa using h1)
  have e2 : y 2 = (⟨(x 2).val, (x 2).isLt⟩ : Fin 128) := Fin.ext (by simpa using h2)
  unfold keySlab
  rw [e0, e1, e2, keyAt, dif_pos x1]
  simp only [hB]

/-- The context's keys of one head at an index of the keys' array. -/
theorem ctxKeys_at (X : FVec Ideal S2048x512 .bf16) (Y : FVec Ideal S256x512 .bf16) (C S : FVec Ideal S2048x128 .f32) (h : Fin 4)
    (B : FVec Ideal S256x128 .bf16) (hB : ∀ a l, B (ix2 a l) = Y (ix2 a ⟨h.val * 128 + l.val, by omega⟩)) (x : S1x256x128.Idx) (y : S4x2304x128.Idx)
    (h0 : (y 0).val = h.val + (x 0).val) (h1 : (y 1).val = 2048 + (x 1).val) (h2 : (y 2).val = (x 2).val) :
    k0_pay4 (F := Ideal) B x = keySlab X Y C S y := by
  have x0 : (x 0).val = 0 := by have := (x 0).isLt; simpa [S1x256x128] using this
  have x1 : (x 1).val < 256 := (x 1).isLt
  rw [idx_eq x ⟨(x 1).val, (x 1).isLt⟩ ⟨(x 2).val, (x 2).isLt⟩ rfl rfl, ctxRows_apply]
  have e0 : y 0 = h := Fin.ext (by omega)
  have e1 : y 1 = (⟨2048 + (x 1).val, by omega⟩ : Fin 2304) := Fin.ext (by simpa using h1)
  have e2 : y 2 = (⟨(x 2).val, (x 2).isLt⟩ : Fin 128) := Fin.ext (by simpa using h2)
  unfold keySlab
  rw [e0, e1, e2, keyAt, dif_neg (by simp), hB]
  exact congrArg Y (congrArg (fun a => ix2 a _) (Fin.ext (by simp)))

/-- The latents' values of one head at an index of the values' array. -/
theorem latVals_at (X : FVec Ideal S2048x512 .bf16) (Y : FVec Ideal S256x512 .bf16) (h : Fin 4)
    (B : FVec Ideal S2048x128 .bf16) (hB : ∀ a l, B (ix2 a l) = X (ix2 a ⟨h.val * 128 + l.val, by omega⟩)) (x : S1x2048x128.Idx) (y : S4x2304x256.Idx)
    (h0 : (y 0).val = h.val + (x 0).val) (h1 : (y 1).val = (x 1).val) (h2 : (y 2).val = (x 2).val) :
    k0_pay5 (F := Ideal) B x = valSlab X Y y := by
  have x0 : (x 0).val = 0 := by have := (x 0).isLt; simpa [S1x2048x128] using this
  have x1 : (x 1).val < 2048 := (x 1).isLt
  have x2 : (x 2).val < 128 := (x 2).isLt
  rw [idx_eq x ⟨(x 1).val, (x 1).isLt⟩ ⟨(x 2).val, (x 2).isLt⟩ rfl rfl, latVals_apply]
  have e0 : y 0 = h := Fin.ext (by omega)
  have e1 : y 1 = (⟨(x 1).val, by omega⟩ : Fin 2304) := Fin.ext (by simpa using h1)
  have e2 : y 2 = (⟨(x 2).val, by omega⟩ : Fin 256) := Fin.ext (by simpa using h2)
  unfold valSlab
  rw [e0, e1, e2, valAt, dif_pos x2, dif_pos x1, hB]

/-- The context's values of one head at an index of the values' array. -/
theorem ctxVals_at (X : FVec Ideal S2048x512 .bf16) (Y : FVec Ideal S256x512 .bf16) (h : Fin 4)
    (B : FVec Ideal S256x128 .bf16) (hB : ∀ a l, B (ix2 a l) = Y (ix2 a ⟨h.val * 128 + l.val, by omega⟩)) (x : S1x256x128.Idx) (y : S4x2304x256.Idx)
    (h0 : (y 0).val = h.val + (x 0).val) (h1 : (y 1).val = 2048 + (x 1).val) (h2 : (y 2).val = (x 2).val) :
    k0_pay4 (F := Ideal) B x = valSlab X Y y := by
  have x0 : (x 0).val = 0 := by have := (x 0).isLt; simpa [S1x256x128] using this
  have x1 : (x 1).val < 256 := (x 1).isLt
  have x2 : (x 2).val < 128 := (x 2).isLt
  rw [idx_eq x ⟨(x 1).val, (x 1).isLt⟩ ⟨(x 2).val, (x 2).isLt⟩ rfl rfl, ctxRows_apply]
  have e0 : y 0 = h := Fin.ext (by omega)
  have e1 : y 1 = (⟨2048 + (x 1).val, by omega⟩ : Fin 2304) := Fin.ext (by simpa using h1)
  have e2 : y 2 = (⟨(x 2).val, by omega⟩ : Fin 256) := Fin.ext (by simpa using h2)
  unfold valSlab
  rw [e0, e1, e2, valAt, dif_pos x2, dif_neg (by simp), hB]
  exact congrArg Y (congrArg (fun a => ix2 a _) (Fin.ext (by simp)))

/-- The column of ones at an index of the values' array. -/
theorem ones_at (X : FVec Ideal S2048x512 .bf16) (Y : FVec Ideal S256x512 .bf16) (x : S1x2304x128.Idx) (y : S4x2304x256.Idx)
    (h1 : (y 1).val = (x 1).val) (h2 : (y 2).val = 128 + (x 2).val) :
    k0_pay7 (F := Ideal) k0_pay2 x = valSlab X Y y := by
  have x2 : (x 2).val < 128 := (x 2).isLt
  rw [idx_eq x ⟨(x 1).val, (x 1).isLt⟩ ⟨(x 2).val, (x 2).isLt⟩ rfl rfl, ones_apply]
  have e2 : y 2 = (⟨128 + (x 2).val, by omega⟩ : Fin 256) := Fin.ext (by simpa using h2)
  unfold valSlab
  rw [e2]
  unfold valAt
  rw [dif_neg (by simp)]
  simp

/-- The stores that fill the keys leave the keys of four heads. -/
theorem keys_canon (X : FVec Ideal S2048x512 .bf16) (Y : FVec Ideal S256x512 .bf16) (C S : FVec Ideal S2048x128 .f32) :
    View.canon (Val := Elt Ideal) (s := S4x2304x128) (e := .bf16)
      [⟨Rect.unit ![3, 2048, 0] ![1, 256, 128] inb_S4x2304x128_S1x256x128_3_2048_0,
          k0_pay24 (F := Ideal) (View.ld (Val := Elt Ideal) (S := S256x512) (e' := .bf16) Y (Rect.unit (s := S256x512) ![0, 384] ![256, 128] inb_S256x512_S256x128_0_384))⟩,
        ⟨Rect.unit ![3, 0, 0] ![1, 2048, 128] inb_S4x2304x128_S1x2048x128_3_0_0,
          k0_pay23 (k0_pay19 (View.ld (Val := Elt Ideal) (S := S2048x512) (e' := .bf16) X (Rect.unit (s := S2048x512) ![0, 384] ![2048, 128] inb_S2048x512_S2048x128_0_384))) C (k0_pay20 S) k0_pay21 k0_pay22⟩,
        ⟨Rect.unit ![2, 2048, 0] ![1, 256, 128] inb_S4x2304x128_S1x256x128_2_2048_0,
          k0_pay15 (F := Ideal) (View.ld (Val := Elt Ideal) (S := S256x512) (e' := .bf16) Y (Rect.unit (s := S256x512) ![0, 256] ![256, 128] inb_S256x512_S256x128_0_256))⟩,
        ⟨Rect.unit ![2, 0, 0] ![1, 2048, 128] inb_S4x2304x128_S1x2048x128_2_0_0,
          k0_pay14 (F := Ideal) (k0_pay13 (View.ld (Val := Elt Ideal) (S := S2048x512) (e' := .bf16) X (Rect.unit (s := S2048x512) ![0, 256] ![2048, 128] inb_S2048x512_S2048x128_0_256)) C S)⟩,
        ⟨Rect.unit ![1, 2048, 0] ![1, 256, 128] inb_S4x2304x128_S1x256x128_1_2048_0,
          k0_pay9 (F := Ideal) (View.ld (Val := Elt Ideal) (S := S256x512) (e' := .bf16) Y (Rect.unit (s := S256x512) ![0, 128] ![256, 128] inb_S256x512_S256x128_0_128))⟩,
        ⟨Rect.unit ![1, 0, 0] ![1, 2048, 128] inb_S4x2304x128_S1x2048x128_1_0_0,
          k0_pay8 (F := Ideal) (View.ld (Val := Elt Ideal) (S := S2048x512) (e' := .bf16) X (Rect.unit (s := S2048x512) ![0, 128] ![2048, 128] inb_S2048x512_S2048x128_0_128)) C S⟩,
        ⟨Rect.unit ![0, 2048, 0] ![1, 256, 128] inb_S4x2304x128_S1x256x128_0_2048_0,
          k0_pay4 (F := Ideal) (View.ld (Val := Elt Ideal) (S := S256x512) (e' := .bf16) Y (Rect.unit (s := S256x512) ![0, 0] ![256, 128] inb_S256x512_S256x128_0_0))⟩,
        ⟨Rect.unit ![0, 0, 0] ![1, 2048, 128] inb_S4x2304x128_S1x2048x128_0_0_0,
          k0_pay3 (F := Ideal) (View.ld (Val := Elt Ideal) (S := S2048x512) (e' := .bf16) X (Rect.unit (s := S2048x512) ![0, 0] ![2048, 128] inb_S2048x512_S2048x128_0_0)) C S⟩]
      = keySlab X Y C S := by
  funext y
  canon_tiles x hx using View.cover_of_tiledBy _ ![1, 256, 128] (by sl_kernel_rfl) y
  · exact ctxKeys_at X Y C S 3 _ (fun a l => by pointwise) x y (by omega) (by omega) (by omega)
  · exact rotKeys_at X Y C S 3 _ (fun a l => by pointwise) x y (by omega) (by omega) (by omega)
  · exact ctxKeys_at X Y C S 2 _ (fun a l => by pointwise) x y (by omega) (by omega) (by omega)
  · exact rotKeys_at X Y C S 2 _ (fun a l => by pointwise) x y (by omega) (by omega) (by omega)
  · exact ctxKeys_at X Y C S 1 _ (fun a l => by pointwise) x y (by omega) (by omega) (by omega)
  · exact rotKeys_at X Y C S 1 _ (fun a l => by pointwise) x y (by omega) (by omega) (by omega)
  · exact ctxKeys_at X Y C S 0 _ (fun a l => by pointwise) x y (by omega) (by omega) (by omega)
  · exact rotKeys_at X Y C S 0 _ (fun a l => by pointwise) x y (by omega) (by omega) (by omega)

/-- The stores that fill the values leave the values of four heads with their column of ones. -/
theorem vals_canon (X : FVec Ideal S2048x512 .bf16) (Y : FVec Ideal S256x512 .bf16) :
    View.canon (Val := Elt Ideal) (s := S4x2304x256) (e := .bf16)
      [⟨Rect.unit ![3, 0, 128] ![1, 2304, 128] inb_S4x2304x256_S1x2304x128_3_0_128, k0_pay27 (F := Ideal) k0_pay2⟩,
        ⟨Rect.unit ![3, 2048, 0] ![1, 256, 128] inb_S4x2304x256_S1x256x128_3_2048_0,
          k0_pay26 (F := Ideal) (View.ld (Val := Elt Ideal) (S := S256x512) (e' := .bf16) Y (Rect.unit (s := S256x512) ![0, 384] ![256, 128] inb_S256x512_S256x128_0_384))⟩,
        ⟨Rect.unit ![3, 0, 0] ![1, 2048, 128] inb_S4x2304x256_S1x2048x128_3_0_0,
          k0_pay25 (F := Ideal) (View.ld (Val := Elt Ideal) (S := S2048x512) (e' := .bf16) X (Rect.unit (s := S2048x512) ![0, 384] ![2048, 128] inb_S2048x512_S2048x128_0_384))⟩,
        ⟨Rect.unit ![2, 0, 128] ![1, 2304, 128] inb_S4x2304x256_S1x2304x128_2_0_128, k0_pay18 (F := Ideal) k0_pay2⟩,
        ⟨Rect.unit ![2, 2048, 0] ![1, 256, 128] inb_S4x2304x256_S1x256x128_2_2048_0,
          k0_pay17 (F := Ideal) (View.ld (Val := Elt Ideal) (S := S256x512) (e' := .bf16) Y (Rect.unit (s := S256x512) ![0, 256] ![256, 128] inb_S256x512_S256x128_0_256))⟩,
        ⟨Rect.unit ![2, 0, 0] ![1, 2048, 128] inb_S4x2304x256_S1x2048x128_2_0_0,
          k0_pay16 (F := Ideal) (View.ld (Val := Elt Ideal) (S := S2048x512) (e' := .bf16) X (Rect.unit (s := S2048x512) ![0, 256] ![2048, 128] inb_S2048x512_S2048x128_0_256))⟩,
        ⟨Rect.unit ![1, 0, 128] ![1, 2304, 128] inb_S4x2304x256_S1x2304x128_1_0_128, k0_pay12 (F := Ideal) k0_pay2⟩,
        ⟨Rect.unit ![1, 2048, 0] ![1, 256, 128] inb_S4x2304x256_S1x256x128_1_2048_0,
          k0_pay11 (F := Ideal) (View.ld (Val := Elt Ideal) (S := S256x512) (e' := .bf16) Y (Rect.unit (s := S256x512) ![0, 128] ![256, 128] inb_S256x512_S256x128_0_128))⟩,
        ⟨Rect.unit ![1, 0, 0] ![1, 2048, 128] inb_S4x2304x256_S1x2048x128_1_0_0,
          k0_pay10 (F := Ideal) (View.ld (Val := Elt Ideal) (S := S2048x512) (e' := .bf16) X (Rect.unit (s := S2048x512) ![0, 128] ![2048, 128] inb_S2048x512_S2048x128_0_128))⟩,
        ⟨Rect.unit ![0, 0, 128] ![1, 2304, 128] inb_S4x2304x256_S1x2304x128_0_0_128, k0_pay7 (F := Ideal) k0_pay2⟩,
        ⟨Rect.unit ![0, 2048, 0] ![1, 256, 128] inb_S4x2304x256_S1x256x128_0_2048_0,
          k0_pay6 (F := Ideal) (View.ld (Val := Elt Ideal) (S := S256x512) (e' := .bf16) Y (Rect.unit (s := S256x512) ![0, 0] ![256, 128] inb_S256x512_S256x128_0_0))⟩,
        ⟨Rect.unit ![0, 0, 0] ![1, 2048, 128] inb_S4x2304x256_S1x2048x128_0_0_0,
          k0_pay5 (F := Ideal) (View.ld (Val := Elt Ideal) (S := S2048x512) (e' := .bf16) X (Rect.unit (s := S2048x512) ![0, 0] ![2048, 128] inb_S2048x512_S2048x128_0_0))⟩]
      = valSlab X Y := by
  funext y
  canon_tiles x hx using View.cover_of_tiledBy _ ![1, 256, 128] (by sl_kernel_rfl) y
  · exact ones_at X Y x y (by omega) (by omega)
  · exact ctxVals_at X Y 3 _ (fun a l => by pointwise) x y (by omega) (by omega) (by omega)
  · exact latVals_at X Y 3 _ (fun a l => by pointwise) x y (by omega) (by omega) (by omega)
  · exact ones_at X Y x y (by omega) (by omega)
  · exact ctxVals_at X Y 2 _ (fun a l => by pointwise) x y (by omega) (by omega) (by omega)
  · exact latVals_at X Y 2 _ (fun a l => by pointwise) x y (by omega) (by omega) (by omega)
  · exact ones_at X Y x y (by omega) (by omega)
  · exact ctxVals_at X Y 1 _ (fun a l => by pointwise) x y (by omega) (by omega) (by omega)
  · exact latVals_at X Y 1 _ (fun a l => by pointwise) x y (by omega) (by omega) (by omega)
  · exact ones_at X Y x y (by omega) (by omega)
  · exact ctxVals_at X Y 0 _ (fun a l => by pointwise) x y (by omega) (by omega) (by omega)
  · exact latVals_at X Y 0 _ (fun a l => by pointwise) x y (by omega) (by omega) (by omega)

end Cert.KernelIdeal.Value
-- ==== Proof.Blocks.lean ====
/- The kernel's windows at a grid point, read as entries of the arguments. Point `t` of the grid is batch `t / 16`, the
   group `t / 4 % 4` of four heads and the block `t % 4` of 512 queries. -/
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.KernelVsHost
public import proofs.«01_k».proof.Proof.Spec

@[expose] public section

set_option maxRecDepth 16384
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ)

/-- The windows' block indices at every point. -/
theorem idx : ∀ t : Fin cfg0.N,
    win0_0.index t = ![t.val / 16 * 4 + t.val % 4, t.val / 4 % 4] ∧ win0_1.index t = ![t.val / 16, 4 + t.val / 4 % 4]
    ∧ win0_2.index t = ![t.val / 16, t.val / 4 % 4] ∧ win0_3.index t = ![t.val / 16, 8 + t.val / 4 % 4]
    ∧ win0_4.index t = ![t.val / 16, 4 + t.val / 4 % 4] ∧ win0_5.index t = ![t.val % 4, 0] ∧ win0_6.index t = ![t.val % 4, 0]
    ∧ win0_7.index t = ![0, 0] ∧ win0_8.index t = ![0, 0] ∧ win0_9.index t = ![0, 0] ∧ win0_10.index t = ![0, 0]
    ∧ win0_11.index t = ![t.val / 16 * 4 + t.val % 4, t.val / 4 % 4] :=
  (by decide +kernel : ∀ t : Fin grid0.N, _)

theorem lt128 (t : Fin cfg0.N) : t.val < 128 := lt_of_lt_of_eq t.isLt N_0

/-! ## The arguments -/

/-- The latents' projections, rows by columns. -/
abbrev HL (c : Dev nD) (i : Fin 16384) (j : Fin 12288) : EReal :=
  (show FVec Ideal S16384x12288 .bf16 from m ((c : Thread nD τ).loc main_arg0)) (ix2 i j)
/-- The context's keys and values, rows by columns. -/
abbrev HC (c : Dev nD) (i : Fin 2048) (j : Fin 4096) : EReal :=
  (show FVec Ideal S2048x4096 .bf16 from m ((c : Thread nD τ).loc main_arg1)) (ix2 i j)
/-- The cosines of the rotary angles. -/
abbrev CO (c : Dev nD) (i : Fin 2048) (j : Fin 32) : EReal :=
  (show FVec Ideal S2048x32 .f32 from m ((c : Thread nD τ).loc main_arg2)) (ix2 i j)
/-- The sines of the rotary angles. -/
abbrev SI (c : Dev nD) (i : Fin 2048) (j : Fin 32) : EReal :=
  (show FVec Ideal S2048x32 .f32 from m ((c : Thread nD τ).loc main_arg3)) (ix2 i j)
/-- The four lambda vectors. -/
abbrev LA (c : Dev nD) (i : Fin 4) (j : Fin 64) : EReal :=
  (show FVec Ideal S4x64 .f32 from m ((c : Thread nD τ).loc main_arg4)) (ix2 i j)
/-- The gain of the normalisation of a head. -/
abbrev SU (c : Dev nD) (j : Fin 128) : EReal :=
  (show FVec Ideal S128 .f32 from m ((c : Thread nD τ).loc main_arg5)) (ix1 j)

/-! ## The tables made on the host -/

/-- The cosine table the kernel is handed: lane `l` holds the angle `l % 32`. -/
theorem cosTable (c : Dev nD) (a : Fin 2048) (l : Fin 128) :
    (show FVec Ideal S2048x128 .f32 from V m c main_v2) (ix2 a l) = CO m c a ⟨l.val % 32, by omega⟩ := by
  unfold V
  simp only [List.flatten_cons, List.flatten_nil, List.append_nil, List.cons_append, List.nil_append, hostOps0, hostOps0_1, hostOps0_2]
  entry_read
  pointwise

/-- The sign the rotation gives the sine at a lane: minus in the first half of a component's 64 lanes. -/
def signed (l : Fin 128) (x : EReal) : EReal := if l.val % 64 < 32 then -x else x

/-- The sine table the kernel is handed: lane `l` holds the angle `l % 32`, negated for the first half of its 64. -/
theorem sinTable (c : Dev nD) (a : Fin 2048) (l : Fin 128) :
    (show FVec Ideal S2048x128 .f32 from V m c main_v7) (ix2 a l) = signed l (SI m c a ⟨l.val % 32, by omega⟩) := by
  unfold V
  simp only [List.flatten_cons, List.flatten_nil, List.append_nil, List.cons_append, List.nil_append, hostOps0, hostOps0_1, hostOps0_2]
  entry_read
  pointwise
  unfold signed
  split
  · exact congrArg (fun q => -SI m c a q) (Fin.ext (show _ = l.val % 32 by show _ = _; dsimp only; omega))
  · exact congrArg (fun q => SI m c a q) (Fin.ext (show _ = l.val % 32 by show _ = _; dsimp only; omega))

/-- The lambda table the kernel is handed: 64 lanes of the argument, 64 of zero. -/
theorem lamTable (c : Dev nD) (a : Fin 4) (l : Fin 128) :
    (show FVec Ideal S4x128 .f32 from V m c main_v8) (ix2 a l) = if h : l.val < 64 then LA m c a ⟨l.val, h⟩ else (0 : EReal) := by
  unfold V
  simp only [List.flatten_cons, List.flatten_nil, List.append_nil, List.cons_append, List.nil_append, hostOps0, hostOps0_1, hostOps0_2]
  entry_read
  show pad S4x128 ![0, 0] ![0, 64] ![0, 0] (show FVec Ideal S4x64 .f32 from m ((c : Thread nD τ).loc main_arg4))
    (sitofp (F := Ideal) .f32 (constantI S_ 32 0#32)) pads_S4x64_S4x128_000_0640 h_S_ (ix2 a l) = _
  pointwise
  split
  · rfl
  · exact Idealize.ShloMosaic.sitofp_zero

/-- The gain the kernel is handed: the argument as one row. -/
theorem gainTable (c : Dev nD) (l : Fin 128) : (show FVec Ideal S1x128 .f32 from V m c main_v9) (ix2 0 l) = SU m c l := by
  unfold V
  simp only [List.flatten_cons, List.flatten_nil, List.append_nil, List.cons_append, List.nil_append, hostOps0, hostOps0_1, hostOps0_2]
  entry_read
  pointwise

/-! ## The blocks -/

/-- The block of 512 rows of queries of four heads. -/
theorem q_apply (c : Dev nD) (t : Fin cfg0.N) (a : Fin 512) (l : Fin 512) :
    (show FVec Ideal S512x512 .bf16 from iblk m c 0 t) (ix2 a l) = HL m c ⟨t.val / 16 * 2048 + t.val % 4 * 512 + a.val, by have := lt128 t; omega⟩ ⟨t.val / 4 % 4 * 512 + l.val, by omega⟩ := by
  have := lt128 t
  blk_ext [iblk, V, idx t]

/-- The batch's latent keys of four heads. -/
theorem kl_apply (c : Dev nD) (t : Fin cfg0.N) (a : Fin 2048) (l : Fin 512) :
    (show FVec Ideal S2048x512 .bf16 from iblk m c 1 t) (ix2 a l) = HL m c ⟨t.val / 16 * 2048 + a.val, by have := lt128 t; omega⟩ ⟨2048 + (t.val / 4 % 4 * 512 + l.val), by omega⟩ := by
  have := lt128 t
  blk_ext [iblk, V, idx t]

/-- The batch's context keys of four heads. -/
theorem kc_apply (c : Dev nD) (t : Fin cfg0.N) (a : Fin 256) (l : Fin 512) :
    (show FVec Ideal S256x512 .bf16 from iblk m c 2 t) (ix2 a l) = HC m c ⟨t.val / 16 * 256 + a.val, by have := lt128 t; omega⟩ ⟨t.val / 4 % 4 * 512 + l.val, by omega⟩ := by
  have := lt128 t
  blk_ext [iblk, V, idx t]

/-- The batch's latent values of four heads. -/
theorem vl_apply (c : Dev nD) (t : Fin cfg0.N) (a : Fin 2048) (l : Fin 512) :
    (show FVec Ideal S2048x512 .bf16 from iblk m c 3 t) (ix2 a l) = HL m c ⟨t.val / 16 * 2048 + a.val, by have := lt128 t; omega⟩ ⟨4096 + (t.val / 4 % 4 * 512 + l.val), by omega⟩ := by
  have := lt128 t
  blk_ext [iblk, V, idx t]

/-- The batch's context values of four heads. -/
theorem vc_apply (c : Dev nD) (t : Fin cfg0.N) (a : Fin 256) (l : Fin 512) :
    (show FVec Ideal S256x512 .bf16 from iblk m c 4 t) (ix2 a l) = HC m c ⟨t.val / 16 * 256 + a.val, by have := lt128 t; omega⟩ ⟨2048 + (t.val / 4 % 4 * 512 + l.val), by omega⟩ := by
  have := lt128 t
  blk_ext [iblk, V, idx t]

/-- The cosines of a block of queries. -/
theorem cq_apply (c : Dev nD) (t : Fin cfg0.N) (a : Fin 512) (l : Fin 128) :
    (show FVec Ideal S512x128 .f32 from iblk m c 5 t) (ix2 a l) = CO m c ⟨t.val % 4 * 512 + a.val, by omega⟩ ⟨l.val % 32, by omega⟩ := by
  refine Eq.trans ?_ (cosTable m c ⟨t.val % 4 * 512 + a.val, by omega⟩ l)
  blk_ext [iblk, idx t]

/-- The sines of a block of queries. -/
theorem sq_apply (c : Dev nD) (t : Fin cfg0.N) (a : Fin 512) (l : Fin 128) :
    (show FVec Ideal S512x128 .f32 from iblk m c 6 t) (ix2 a l) = signed l (SI m c ⟨t.val % 4 * 512 + a.val, by omega⟩ ⟨l.val % 32, by omega⟩) := by
  refine Eq.trans ?_ (sinTable m c ⟨t.val % 4 * 512 + a.val, by omega⟩ l)
  blk_ext [iblk, idx t]

/-- The cosines of the keys. -/
theorem ck_apply (c : Dev nD) (t : Fin cfg0.N) (a : Fin 2048) (l : Fin 128) :
    (show FVec Ideal S2048x128 .f32 from iblk m c 7 t) (ix2 a l) = CO m c a ⟨l.val % 32, by omega⟩ := by
  refine Eq.trans ?_ (cosTable m c a l)
  blk_ext [iblk, idx t]

/-- The sines of the keys. -/
theorem sk_apply (c : Dev nD) (t : Fin cfg0.N) (a : Fin 2048) (l : Fin 128) :
    (show FVec Ideal S2048x128 .f32 from iblk m c 8 t) (ix2 a l) = signed l (SI m c a ⟨l.val % 32, by omega⟩) := by
  refine Eq.trans ?_ (sinTable m c a l)
  blk_ext [iblk, idx t]

/-- The lambda vectors. -/
theorem l_apply (c : Dev nD) (t : Fin cfg0.N) (a : Fin 4) (l : Fin 128) :
    (show FVec Ideal S4x128 .f32 from iblk m c 9 t) (ix2 a l) = if h : l.val < 64 then LA m c a ⟨l.val, h⟩ else (0 : EReal) := by
  refine Eq.trans ?_ (lamTable m c a l)
  blk_ext [iblk, idx t]

/-- The gain. -/
theorem u_apply (c : Dev nD) (t : Fin cfg0.N) (l : Fin 128) : (show FVec Ideal S1x128 .f32 from iblk m c 10 t) (ix2 0 l) = SU m c l := by
  refine Eq.trans ?_ (gainTable m c l)
  blk_ext [iblk, idx t]

end Cert.KernelIdeal.Value
-- ==== Proof.Scratch.lean ====
/- What the two scratch arrays hold at every point: the keys and the values of the four heads of the point's run, filled
   at the run's first point and kept by the three others. -/
module

public import proofs.«01_k».proof.Proof.Slabs
public import proofs.«01_k».proof.Proof.Blocks
public import Idealize.ShloMosaic.Lib.Pipeline.ValueKit.Held

@[expose] public section

set_option maxRecDepth 16384
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ)

/-- The keys of the blocks at a point. -/
abbrev keysAt (c : Dev nD) (t : Fin cfg0.N) : FVec Ideal S4x2304x128 .bf16 :=
  keySlab (iblk m c 1 t) (iblk m c 2 t) (iblk m c 7 t) (iblk m c 8 t)

/-- The values of the blocks at a point. -/
abbrev valsAt (c : Dev nD) (t : Fin cfg0.N) : FVec Ideal S4x2304x256 .bf16 := valSlab (iblk m c 3 t) (iblk m c 4 t)

/-- The first point of a run fills the first scratch array with the keys. -/
theorem keys_first (c : Dev nD) (t : Fin cfg0.N) (h : t.val % 4 = 0) : (outsAt0 m c t.val t.isLt).2.1 = keysAt m c t := by
  funext y
  rw [outsAt0_A m c t h]; frame_out
  exact congrFun (keys_canon (iblk m c 1 t) (iblk m c 2 t) (iblk m c 7 t) (iblk m c 8 t)) y

/-- The first point of a run fills the second scratch array with the values. -/
theorem vals_first (c : Dev nD) (t : Fin cfg0.N) (h : t.val % 4 = 0) : (outsAt0 m c t.val t.isLt).2.2 = valsAt m c t := by
  funext y
  rw [outsAt0_A m c t h]; frame_out
  exact congrFun (vals_canon (iblk m c 3 t) (iblk m c 4 t)) y

/-- The point at which the run of `t` starts. -/
abbrev runStart (t : Fin cfg0.N) : Fin cfg0.N := ⟨4 * (t.val / 4), Pipeline.run_start_lt t⟩

/-- At every point the first scratch array holds the keys of its run. -/
theorem keys_held (c : Dev nD) (t : Fin cfg0.N) : (outsAt0 m c t.val t.isLt).2.1 = keysAt m c (runStart t) :=
  Pipeline.eq_of_write_hold (fun n h => (outsAt0 m c n h).2.1) 4 (keysAt m c) (fun t h => keys_first m c t h)
    (fun t h => by rw [outsAt0_B m c t h]; rfl) t

/-- At every point the second scratch array holds the values of its run. -/
theorem vals_held (c : Dev nD) (t : Fin cfg0.N) : (outsAt0 m c t.val t.isLt).2.2 = valsAt m c (runStart t) :=
  Pipeline.eq_of_write_hold (fun n h => (outsAt0 m c n h).2.2) 4 (valsAt m c) (fun t h => vals_first m c t h)
    (fun t h => by rw [outsAt0_B m c t h]; rfl) t

end Cert.KernelIdeal.Value
-- ==== Proof.Tiles.lean ====
/- One entry of the block of 512 queries and four heads that a grid point stores: its tile read at the entry. -/
module

public import proofs.«01_k».proof.Proof.Scratch

@[expose] public section

set_option maxRecDepth 16384
noncomputable section
namespace Cert.KernelIdeal.Value
open Cert.KernelIdeal Cert.KernelIdeal.Gen Idealize.ShloMosaic Idealize.ShloMosaic.TcCoe Idealize.SL.Sem Cert.DiffAttn
variable (m : (ℓ : Loc nD τ sig) → Buf (Elt Ideal) ℓ)

/-- Entry `e` of head `h` of the four, for the query in row `a` of the block, over the blocks and the filled scratch arrays. -/
def cell (L : FVec Ideal S4x128 .f32) (Q : FVec Ideal S512x512 .bf16) (C S : FVec Ideal S512x128 .f32) (K : FVec Ideal S4x2304x128 .bf16)
    (V : FVec Ideal S4x2304x256 .bf16) (U : FVec Ideal S1x128 .f32) (a : Fin 512) (h : Fin 4) (e : Fin 128) : EReal :=
  DiffAttn.norm (headAfter
      (fun c j => ∑ d, turn (fun l => Q (ix2 a ⟨h.val * 128 + l.val, by omega⟩)) (fun l => C (ix2 a l)) (fun l => S (ix2 a l)) (lane c d)
        * K (ix3 h j (lane c d)))
      (fun j e => V (ix3 h j ⟨e.val, by omega⟩))
      (Ideal.exp (∑ x, L (ix2 0 x) * L (ix2 1 x)) - Ideal.exp (∑ x, L (ix2 2 x) * L (ix2 3 x)) + Ideal.ofBits .f32 1052116297#32))
    (fun e => U (ix2 0 e)) e

/-- The tile of 128 queries from row `o` and of the head at column `p`, read at `x`, is the block's entry at row `o + x 0`. -/
theorem tile_at (L : FVec Ideal S4x128 .f32) (Q : FVec Ideal S512x512 .bf16) (C S : FVec Ideal S512x128 .f32) (K : FVec Ideal S4x2304x128 .bf16)
    (V : FVec Ideal S4x2304x256 .bf16) (U : FVec Ideal S1x128 .f32) (h : Fin 4) (hV : ∀ j, V (ix3 h j 128) = (1 : EReal)) (o p k : ℕ)
    (hp : p = h.val * 128) (hk : k = h.val)
    (iq : ∀ a, (![o, p] : Fin 2 → ℕ) a + (![128, 128] : Fin 2 → ℕ) a ≤ S512x512.size a)
    (ic : ∀ a, (![o, 0] : Fin 2 → ℕ) a + (![128, 128] : Fin 2 → ℕ) a ≤ S512x128.size a)
    (ik : ∀ a, (![k, 0, 0] : Fin 3 → ℕ) a + (![1, 2304, 128] : Fin 3 → ℕ) a ≤ S4x2304x128.size a)
    (iv : ∀ a, (![k, 0, 0] : Fin 3 → ℕ) a + (![1, 2304, 256] : Fin 3 → ℕ) a ≤ S4x2304x256.size a)
    (x : S128x128.Idx) (a : Fin 512) (e : Fin 128) (ha : a.val = o + (x 0).val) (he : e.val = (x 1).val) :
    tile L (View.ld (Val := Elt Ideal) (S := S512x512) (e' := .bf16) Q (Rect.unit (s := S512x512) ![o, p] ![128, 128] iq))
        (View.ld (Val := Elt Ideal) (S := S512x128) (e' := .f32) C (Rect.unit (s := S512x128) ![o, 0] ![128, 128] ic))
        (View.ld (Val := Elt Ideal) (S := S512x128) (e' := .f32) S (Rect.unit (s := S512x128) ![o, 0] ![128, 128] ic))
        (View.ld (Val := Elt Ideal) (S := S4x2304x128) (e' := .bf16) K (Rect.unit (s := S4x2304x128) ![k, 0, 0] ![1, 2304, 128] ik))
        (View.ld (Val := Elt Ideal) (S := S4x2304x256) (e' := .bf16) V (Rect.unit (s := S4x2304x256) ![k, 0, 0] ![1, 2304, 256] iv)) U x
      = cell L Q C S K V U a h e := by
  subst hk
  have hx : x = ix2 (⟨(x 0).val, (x 0).isLt⟩ : Fin 128) e := by
    funext i; fin_cases i
    · rfl
    · exact Fin.ext he.symm
  have hq (l : Fin 128) : View.ld (Val := Elt Ideal) (S := S512x512) (e' := .bf16) Q (Rect.unit (s := S512x512) ![o, p] ![128, 128] iq) (ix2 ⟨(x 0).val, (x 0).isLt⟩ l)
      = Q (ix2 a ⟨h.val * 128 + l.val, by omega⟩) :=
    View.ld_unit_apply_of _ _ _ _ _ _ (by intro i; fin_cases i <;> simp [ha, hp])
  have hc (X : FVec Ideal S512x128 .f32) (l : Fin 128) : View.ld (Val := Elt Ideal) (S := S512x128) (e' := .f32) X (Rect.unit (s := S512x128) ![o, 0] ![128, 128] ic) (ix2 ⟨(x 0).val, (x 0).isLt⟩ l)
      = X (ix2 a l) :=
    View.ld_unit_apply_of _ _ _ _ _ _ (by intro i; fin_cases i <;> simp [ha])
  have hkk (j : Fin 2304) (l : Fin 128) : View.ld (Val := Elt Ideal) (S := S4x2304x128) (e' := .bf16) K (Rect.unit (s := S4x2304x128) ![h.val, 0, 0] ![1, 2304, 128] ik) (ix3 0 j l)
      = K (ix3 h j l) :=
    View.ld_unit_apply_of _ _ _ _ _ _ (by intro i; fin_cases i <;> simp [])
  have hvv (j : Fin 2304) (l : Fin 256) : View.ld (Val := Elt Ideal) (S := S4x2304x256) (e' := .bf16) V (Rect.unit (s := S4x2304x256) ![h.val, 0, 0] ![1, 2304, 256] iv) (ix3 0 j l)
      = V (ix3 h j l) :=
    View.ld_unit_apply_of _ _ _ _ _ _ (by intro i; fin_cases i <;> simp [])
  rw [hx]
  refine (tile_apply L _ _ _ _ _ U (fun j => (hvv j 128).trans (hV j)) _ e).trans ?_
  simp only [hq, hc C, hc S, hkk, hvv]
  rfl

end Cert.KernelIdeal.Value
-- ==== Proof.Point.lean ====
/- The block of 512 queries and four heads that every grid point stores, entry by entry: first over the point's blocks
   and its run's scratch arrays, then over the arguments. -/
module

public import proofs.«01_k».proof.Proof.Tiles
public import Idealize.ShloMosaic.Lib.Pipeline.ReadBack

@[expose] public section

set_option maxRecDepth 16384
noncomputable section
namespace Cert.KernelIdeal.Value
open Cert.KernelIdeal Cert.KernelIdeal.Gen Idealize.ShloMosaic Idealize.ShloMosaic.TcCoe Idealize.SL.Sem Cert.DiffAttn
variable (m : (ℓ : Loc nD τ sig) → Buf (Elt Ideal) ℓ)

/-- The values' lane 128 is the column of ones. -/
theorem ones_lane (X : FVec Ideal S2048x512 .bf16) (Y : FVec Ideal S256x512 .bf16) (h : Fin 4) (j : Fin 2304) :
    valSlab X Y (ix3 h j 128) = (1 : EReal) := rfl

set_option maxHeartbeats 1000000 in
/-- At a run's first point the block holds the cells over the keys and values just stored. -/
theorem cell_first (c : Dev nD) (t : Fin cfg0.N) (h : t.val % 4 = 0) (y : S512x512.Idx) (a : Fin 512) (hh : Fin 4) (e : Fin 128)
    (h0 : (y 0).val = a.val) (h1 : (y 1).val = hh.val * 128 + e.val) :
    (outsAt0 m c t.val t.isLt).1 y
      = cell (iblk m c 9 t) (iblk m c 0 t) (iblk m c 5 t) (iblk m c 6 t) (keysAt m c t) (valsAt m c t) (iblk m c 10 t) a hh e := by
  have hO : ∀ j, valsAt m c t (ix3 hh j 128) = (1 : EReal) := fun j => ones_lane _ _ _ _
  have he := e.isLt
  rw [outsAt0_A m c t h]
  frame_open
  simp only [View.readCov_eq_canon']
  frame_out
  canon_tiles x hx
  all_goals
    simp only [keys_canon, vals_canon]
    exact tile_at _ _ _ _ (keysAt m c t) (valsAt m c t) _ hh hO _ _ _ (by omega) (by omega) _ _ _ _ x a e (by omega) (by omega)

set_option maxHeartbeats 1000000 in
/-- At a run's later points the block holds the cells over the keys and values kept. -/
theorem cell_later (c : Dev nD) (t : Fin cfg0.N) (h : ¬t.val % 4 = 0) (y : S512x512.Idx) (a : Fin 512) (hh : Fin 4) (e : Fin 128)
    (h0 : (y 0).val = a.val) (h1 : (y 1).val = hh.val * 128 + e.val) :
    (outsAt0 m c t.val t.isLt).1 y
      = cell (iblk m c 9 t) (iblk m c 0 t) (iblk m c 5 t) (iblk m c 6 t) (outsAt0 m c t.val t.isLt).2.1 (outsAt0 m c t.val t.isLt).2.2
          (iblk m c 10 t) a hh e := by
  have hK : (outsAt0 m c t.val t.isLt).2.1 = (outsAt0 m c (t.val - 1) (Nat.lt_of_le_of_lt (Nat.sub_le _ _) t.isLt)).2.1 := by
    rw [outsAt0_B m c t h]; rfl
  have hV : (outsAt0 m c t.val t.isLt).2.2 = (outsAt0 m c (t.val - 1) (Nat.lt_of_le_of_lt (Nat.sub_le _ _) t.isLt)).2.2 := by
    rw [outsAt0_B m c t h]; rfl
  have hO : ∀ j, (outsAt0 m c t.val t.isLt).2.2 (ix3 hh j 128) = (1 : EReal) := fun j => by rw [vals_held]; exact ones_lane _ _ _ _
  have he := e.isLt
  rw [hK, hV]
  rw [hV] at hO
  rw [outsAt0_B m c t h]; frame_out
  generalize (outsAt0 m c (t.val - 1) (Nat.lt_of_le_of_lt (Nat.sub_le _ _) t.isLt)).2.1 = K at *
  generalize (outsAt0 m c (t.val - 1) (Nat.lt_of_le_of_lt (Nat.sub_le _ _) t.isLt)).2.2 = V at *
  canon_tiles x hx
  all_goals
    simp only [read_unread_whole]
    exact tile_at _ _ _ _ K V _ hh hO _ _ _ (by omega) (by omega) _ _ _ _ x a e (by omega) (by omega)

/-- At every point the block holds the cells over the keys and values of its run. -/
theorem cell_point (c : Dev nD) (t : Fin cfg0.N) (y : S512x512.Idx) (a : Fin 512) (hh : Fin 4) (e : Fin 128)
    (h0 : (y 0).val = a.val) (h1 : (y 1).val = hh.val * 128 + e.val) :
    (outsAt0 m c t.val t.isLt).1 y
      = cell (iblk m c 9 t) (iblk m c 0 t) (iblk m c 5 t) (iblk m c 6 t) (keysAt m c (runStart t)) (valsAt m c (runStart t))
          (iblk m c 10 t) a hh e := by
  by_cases h : t.val % 4 = 0
  · have e : runStart t = t := Fin.ext (show 4 * (t.val / 4) = t.val by omega)
    rw [e]
    exact cell_first m c t h y a hh _ h0 h1
  · rw [← keys_held, ← vals_held]
    exact cell_later m c t h y a hh e h0 h1

end Cert.KernelIdeal.Value
-- ==== Proof.Entry.lean ====
/- A grid point's cells over the arguments: the scores, the values, the second map's weight and the gain are those of
   the batch, the head and the row that the entry stands for. -/
module

public import proofs.«01_k».proof.Proof.Point

@[expose] public section

set_option maxRecDepth 16384
noncomputable section
namespace Cert.KernelIdeal.Value
open Cert.KernelIdeal Cert.KernelIdeal.Gen Idealize.ShloMosaic Idealize.ShloMosaic.TcCoe Idealize.SL.Sem Cert.DiffAttn
variable (m : (ℓ : Loc nD τ sig) → Buf (Elt Ideal) ℓ)

/-- The turn of 128 lanes by the doubled tables is, on a component's 64 lanes, the rotary embedding. -/
theorem turn_rot (x : Fin 128 → EReal) (co si : Fin 32 → EReal) (c : Fin 2) (d : Fin 64) :
    turn x (fun l => co ⟨l.val % 32, by omega⟩) (fun l => signed l (si ⟨l.val % 32, by omega⟩)) (lane c d)
      = rot (fun d => x (lane c d)) co si d := by
  unfold turn rot signed
  dsimp only
  by_cases h : d.val < 32
  · have hl : (lane c d).val % 64 < 32 := by show (c.val * 64 + d.val) % 64 < 32; omega
    rw [if_pos hl, if_pos hl, dif_pos h, mul_neg, ← sub_eq_add_neg]
    have e1 : (⟨(lane c d).val % 32, by omega⟩ : Fin 32) = ⟨d.val, h⟩ := Fin.ext (show (c.val * 64 + d.val) % 32 = d.val by omega)
    have e2 : (⟨((lane c d).val + 32) % 128, by omega⟩ : Fin 128) = lane c ⟨32 + d.val, by omega⟩ :=
      Fin.ext (show (c.val * 64 + d.val + 32) % 128 = c.val * 64 + (32 + d.val) by omega)
    rw [e1, e2]
  · have hl : ¬(lane c d).val % 64 < 32 := by show ¬(c.val * 64 + d.val) % 64 < 32; omega
    rw [if_neg hl, if_neg hl, dif_neg h, add_comm]
    have e1 : (⟨(lane c d).val % 32, by omega⟩ : Fin 32) = ⟨d.val - 32, by omega⟩ := Fin.ext (show (c.val * 64 + d.val) % 32 = d.val - 32 by omega)
    have e2 : (⟨((lane c d).val + 96) % 128, by omega⟩ : Fin 128) = lane c ⟨d.val - 32, by omega⟩ :=
      Fin.ext (show (c.val * 64 + d.val + 96) % 128 = c.val * 64 + (d.val - 32) by omega)
    have e3 : lane c d = lane c ⟨32 + (d.val - 32), by omega⟩ := congrArg (lane c) (Fin.ext (show d.val = 32 + (d.val - 32) by omega))
    rw [e1, e2]
    exact congrArg (fun q => x (lane c ⟨d.val - 32, by omega⟩) * si ⟨d.val - 32, by omega⟩ + x q * co ⟨d.val - 32, by omega⟩) e3

/-- A sum over 128 lanes of which the second 64 are zero is the sum over the first 64. -/
theorem sum_half (f g : Fin 64 → EReal) :
    ∑ x : Fin 128, (if h : x.val < 64 then f ⟨x.val, h⟩ else 0) * (if h : x.val < 64 then g ⟨x.val, h⟩ else 0) = ∑ x, f x * g x := by
  rw [show (128 : ℕ) = 64 + 64 from rfl, Fin.sum_univ_add]
  simp

/-- The batch of a grid point. -/
def batch (t : Fin cfg0.N) : Fin 8 := ⟨t.val / 16, by have := lt128 t; omega⟩
/-- The head a grid point's local head is. -/
def headOf (t : Fin cfg0.N) (h : Fin 4) : Fin 16 := ⟨t.val / 4 % 4 * 4 + h.val, by omega⟩
/-- The row of the latents a grid point's local row is. -/
def rowOf (t : Fin cfg0.N) (a : Fin 512) : Fin 2048 := ⟨t.val % 4 * 512 + a.val, by omega⟩

/-- The rotated query of a point's row and head. -/
theorem query_point (c : Dev nD) (t : Fin cfg0.N) (a : Fin 512) (h : Fin 4) (k : Fin 2) (d : Fin 64) :
    turn (fun l => (show FVec Ideal S512x512 .bf16 from iblk m c 0 t) (ix2 a ⟨h.val * 128 + l.val, by omega⟩))
        (fun l => (show FVec Ideal S512x128 .f32 from iblk m c 5 t) (ix2 a l)) (fun l => (show FVec Ideal S512x128 .f32 from iblk m c 6 t) (ix2 a l)) (lane k d)
      = query (HL m c) (CO m c) (SI m c) (batch t) (rowOf t a) (headOf t h) k d := by
  have hq := funext fun l : Fin 128 => q_apply m c t a ⟨h.val * 128 + l.val, by omega⟩
  have hc := funext fun l : Fin 128 => cq_apply m c t a l
  have hs := funext fun l : Fin 128 => sq_apply m c t a l
  rw [hq, hc, hs]
  refine (turn_rot _ (CO m c (rowOf t a)) (SI m c (rowOf t a)) k d).trans ?_
  have hx : (fun d => HL m c ⟨t.val / 16 * 2048 + t.val % 4 * 512 + a.val, by have := lt128 t; omega⟩ ⟨t.val / 4 % 4 * 512 + (h.val * 128 + (lane k d).val), by have := (lane k d).isLt; omega⟩)
      = fun d : Fin 64 => HL m c ⟨(batch t).val * 2048 + (rowOf t a).val, by omega⟩ ⟨(headOf t h).val * 128 + k.val * 64 + d.val, by omega⟩ :=
    funext fun d => congr (congrArg (HL m c) (Fin.ext (show t.val / 16 * 2048 + t.val % 4 * 512 + a.val = t.val / 16 * 2048 + (t.val % 4 * 512 + a.val) by omega)))
      (Fin.ext (show t.val / 4 % 4 * 512 + (h.val * 128 + (k.val * 64 + d.val)) = (t.val / 4 % 4 * 4 + h.val) * 128 + k.val * 64 + d.val by omega))
  exact congrFun (congrArg (fun q => rot q (CO m c (rowOf t a)) (SI m c (rowOf t a))) hx) d

/-- The keys of a run. -/
theorem key_point (c : Dev nD) (t : Fin cfg0.N) (h : Fin 4) (j : Fin 2304) (k : Fin 2) (d : Fin 64) :
    keysAt m c t (ix3 h j (lane k d)) = key (HL m c) (HC m c) (CO m c) (SI m c) (batch t) j (headOf t h) k d := by
  show keyAt _ _ _ _ h j (lane k d) = _
  unfold keyAt key
  by_cases hj : j.val < 2048
  · rw [dif_pos hj, dif_pos hj]
    have hq := funext fun l : Fin 128 => kl_apply m c t ⟨j.val, hj⟩ ⟨h.val * 128 + l.val, by omega⟩
    have hc := funext fun l : Fin 128 => ck_apply m c t ⟨j.val, hj⟩ l
    have hs := funext fun l : Fin 128 => sk_apply m c t ⟨j.val, hj⟩ l
    refine (congrFun (congr (congr (congrArg turn hq) hc) hs) (lane k d)).trans ?_
    refine (turn_rot _ (CO m c ⟨j.val, hj⟩) (SI m c ⟨j.val, hj⟩) k d).trans ?_
    refine congrFun (congrArg (fun q => rot q (CO m c ⟨j.val, hj⟩) (SI m c ⟨j.val, hj⟩)) (funext fun d => ?_)) d
    exact congr (congrArg (HL m c) (Fin.ext (show t.val / 16 * 2048 + j.val = t.val / 16 * 2048 + j.val from rfl)))
      (Fin.ext (show 2048 + (t.val / 4 % 4 * 512 + (h.val * 128 + (k.val * 64 + d.val))) = 2048 + ((t.val / 4 % 4 * 4 + h.val) * 128 + k.val * 64 + d.val) by omega))
  · rw [dif_neg hj, dif_neg hj]
    refine (kc_apply m c t ⟨j.val - 2048, by omega⟩ ⟨h.val * 128 + (lane k d).val, by have := (lane k d).isLt; omega⟩).trans ?_
    exact congr (congrArg (HC m c) (Fin.ext (show t.val / 16 * 256 + (j.val - 2048) = t.val / 16 * 256 + (j.val - 2048) from rfl)))
      (Fin.ext (show t.val / 4 % 4 * 512 + (h.val * 128 + (k.val * 64 + d.val)) = (t.val / 4 % 4 * 4 + h.val) * 128 + k.val * 64 + d.val by omega))

/-- The values of a run. -/
theorem value_point (c : Dev nD) (t : Fin cfg0.N) (h : Fin 4) (j : Fin 2304) (e : Fin 128) :
    valsAt m c t (ix3 h j ⟨e.val, by omega⟩) = value (HL m c) (HC m c) (batch t) j (headOf t h) e := by
  show valAt _ _ h j ⟨e.val, by omega⟩ = _
  unfold valAt value
  rw [dif_pos e.isLt]
  by_cases hj : j.val < 2048
  · rw [dif_pos hj, dif_pos hj]
    refine (vl_apply m c t ⟨j.val, hj⟩ ⟨h.val * 128 + e.val, by omega⟩).trans ?_
    exact congr (congrArg (HL m c) (Fin.ext (show t.val / 16 * 2048 + j.val = t.val / 16 * 2048 + j.val from rfl)))
      (Fin.ext (show 4096 + (t.val / 4 % 4 * 512 + (h.val * 128 + e.val)) = 4096 + ((t.val / 4 % 4 * 4 + h.val) * 128 + e.val) by omega))
  · rw [dif_neg hj, dif_neg hj]
    refine (vc_apply m c t ⟨j.val - 2048, by omega⟩ ⟨h.val * 128 + e.val, by omega⟩).trans ?_
    exact congr (congrArg (HC m c) (Fin.ext (show t.val / 16 * 256 + (j.val - 2048) = t.val / 16 * 256 + (j.val - 2048) from rfl)))
      (Fin.ext (show 2048 + (t.val / 4 % 4 * 512 + (h.val * 128 + e.val)) = 2048 + ((t.val / 4 % 4 * 4 + h.val) * 128 + e.val) by omega))

/-- The sums over the lambda vectors. -/
theorem lambda_point (c : Dev nD) (t : Fin cfg0.N) (i j : Fin 4) :
    ∑ x : Fin 128, (show FVec Ideal S4x128 .f32 from iblk m c 9 t) (ix2 i x) * (show FVec Ideal S4x128 .f32 from iblk m c 9 t) (ix2 j x)
      = ∑ x : Fin 64, LA m c i x * LA m c j x :=
  (Finset.sum_congr rfl fun x _ => congr (congrArg HMul.hMul (l_apply m c t i x)) (l_apply m c t j x)).trans (sum_half (LA m c i) (LA m c j))

/-- What head `h` and row `r` of batch `b` yield at lane `e`, each map divided by its sum after the product with the values. -/
def entry (c : Dev nD) (b : Fin 8) (r : Fin 2048) (h : Fin 16) (e : Fin 128) : EReal :=
  DiffAttn.norm (headAfter (score (HL m c) (HC m c) (CO m c) (SI m c) b r h) (fun j => value (HL m c) (HC m c) b j h) (lambda (LA m c))) (SU m c) e

/-- Every entry of the block that a grid point stores, over the arguments. -/
theorem point_entry (c : Dev nD) (t : Fin cfg0.N) (y : S512x512.Idx) (a : Fin 512) (h : Fin 4) (e : Fin 128)
    (h0 : (y 0).val = a.val) (h1 : (y 1).val = h.val * 128 + e.val) :
    (outsAt0 m c t.val t.isLt).1 y = entry m c (batch t) (rowOf t a) (headOf t h) e := by
  rw [cell_point m c t y a h e h0 h1]
  have hb : batch (runStart t) = batch t := Fin.ext (show 4 * (t.val / 4) / 16 = t.val / 16 by omega)
  have hh : headOf (runStart t) h = headOf t h := Fin.ext (show 4 * (t.val / 4) / 4 % 4 * 4 + h.val = t.val / 4 % 4 * 4 + h.val by omega)
  have hs : (fun k j => ∑ d, turn (fun l => (show FVec Ideal S512x512 .bf16 from iblk m c 0 t) (ix2 a ⟨h.val * 128 + l.val, by omega⟩))
        (fun l => (show FVec Ideal S512x128 .f32 from iblk m c 5 t) (ix2 a l)) (fun l => (show FVec Ideal S512x128 .f32 from iblk m c 6 t) (ix2 a l)) (lane k d)
          * keysAt m c (runStart t) (ix3 h j (lane k d)))
      = score (HL m c) (HC m c) (CO m c) (SI m c) (batch t) (rowOf t a) (headOf t h) :=
    funext fun k => funext fun j => Finset.sum_congr rfl fun d _ =>
      congr (congrArg HMul.hMul (query_point m c t a h k d)) ((key_point m c (runStart t) h j k d).trans (by rw [hb, hh]))
  have hv : (fun j (e : Fin 128) => valsAt m c (runStart t) (ix3 h j ⟨e.val, by omega⟩))
      = fun j => value (HL m c) (HC m c) (batch t) j (headOf t h) :=
    funext fun j => funext fun e => (value_point m c (runStart t) h j e).trans (by rw [hb, hh])
  have hl := lambda_point m c t
  have hu := funext fun e : Fin 128 => u_apply m c t e
  unfold cell entry lambda
  refine congrFun (congr (congrArg DiffAttn.norm ?_) hu) e
  refine congr (congr (congrArg headAfter hs) hv) ?_
  exact congrArg (· + _) (congr (congrArg HSub.hSub (congrArg Ideal.exp (hl 0 1))) (congrArg Ideal.exp (hl 2 3)))

end Cert.KernelIdeal.Value
-- ==== Proof.Final.lean ====
/- The array the kernel returns, entry by entry. -/
module

public import proofs.«01_k».proof.Proof.Entry

@[expose] public section

set_option maxRecDepth 16384
noncomputable section
namespace Cert.KernelIdeal.Value
open Cert.KernelIdeal Cert.KernelIdeal.Gen Idealize.ShloMosaic Idealize.ShloMosaic.TcCoe Idealize.SL.Sem Cert.DiffAttn
variable (m : (ℓ : Loc nD τ sig) → Buf (Elt Ideal) ℓ)

/-- The kernel's array: row `b * 2048 + r` and column `h * 128 + e` hold the entry of batch `b`, row `r`, head `h`, lane `e`. -/
def outArr (c : Dev nD) : FVec Ideal S16384x2048 .bf16 := fun i =>
  entry m c ⟨(i 0).val / 2048, by have h : (i 0).val < 16384 := (i 0).isLt; omega⟩ ⟨(i 0).val % 2048, by omega⟩
    ⟨(i 1).val / 128, by have h : (i 1).val < 2048 := (i 1).isLt; omega⟩ ⟨(i 1).val % 128, by omega⟩

/-- What a grid point stores at an index of its block is the array's entry at the index's place. -/
theorem point (c : Dev nD) (t : Fin cfg0.N) (y : S512x512.Idx) (i : S16384x2048.Idx)
    (h0 : (i 0).val = (t.val / 16 * 4 + t.val % 4) * 512 + (y 0).val) (h1 : (i 1).val = t.val / 4 % 4 * 512 + (y 1).val) :
    (outsAt0 m c t.val t.isLt).1 y = outArr m c i := by
  have l0 : (y 0).val < 512 := (y 0).isLt
  have l1 : (y 1).val < 512 := (y 1).isLt
  have lt := lt128 t
  rw [point_entry m c t y ⟨(y 0).val, l0⟩ ⟨(y 1).val / 128, by omega⟩ ⟨(y 1).val % 128, by omega⟩ rfl (by show (y 1).val = (y 1).val / 128 * 128 + (y 1).val % 128; omega)]
  unfold outArr
  congr 1 <;> apply Fin.ext
  · show t.val / 16 = (i 0).val / 2048
    omega
  · show t.val % 4 * 512 + (y 0).val = (i 0).val % 2048
    omega
  · show t.val / 4 % 4 * 4 + (y 1).val / 128 = (i 1).val / 128
    omega
  · show (y 1).val % 128 = (i 1).val % 128
    omega

/-- The array after the run. -/
theorem final (c : Dev nD) : (dats m 0 c).arrAt 11 cfg0.N = outArr m c := by
  refine (dats m 0 c).arrAt_eq_of_covers 11 _ (by decide +kernel) fun t hf y => ?_
  blk_simp
  rw [after0_11]

  refine point m c t y _ ?_ ?_
  all_goals blk_simp [idx t]

end Cert.KernelIdeal.Value
-- ==== Proof.Finite.lean ====
/- The scores, the values and the second map's weight of real operands are real, so that the head may divide by its sums
   before or after the product with the values. -/
module

public import proofs.«01_k».proof.Proof.Spec

@[expose] public section

noncomputable section

namespace Cert.DiffAttn

open Idealize.ShloMosaic

/-- An extended real that is a real number. -/
def IsReal (x : EReal) : Prop := ∃ r : ℝ, x = r

theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.exp {x : EReal} : IsReal x → IsReal (Ideal.exp x) := by
  rintro ⟨a, rfl⟩; exact ⟨Real.exp a, by simp⟩
theorem IsReal.sum {ι : Type} [Fintype ι] {f : ι → EReal} (h : ∀ i, IsReal (f i)) : IsReal (∑ i, f i) :=
  Finset.sum_induction f IsReal (fun _ _ => IsReal.add) ⟨0, rfl⟩ fun i _ => h i

/-- An extended real whose magnitude is below infinity is real. -/
theorem isReal_of_abs_lt {x : EReal} (h : max x (-x) < ⊤) : IsReal x := by
  induction x with
  | bot => simp at h
  | top => simp at h
  | coe r => exact ⟨r, rfl⟩

/-- The first constant of the second map's weight is real. -/
theorem lamInit_real : IsReal (Ideal.ofBits .f32 1052116297#32) := by
  simp [Ideal.ofBits, Ideal.ieee]
  exact IsReal.mul ⟨_, rfl⟩ ⟨_, rfl⟩

section
variable {HL : Fin 16384 → Fin 12288 → EReal} {HC : Fin 2048 → Fin 4096 → EReal} {co si : Fin 2048 → Fin 32 → EReal} {LA : Fin 4 → Fin 64 → EReal}
  (hL : ∀ i j, j.val < 6144 → IsReal (HL i j)) (hC : ∀ i j, IsReal (HC i j)) (hc : ∀ i j, IsReal (co i j)) (hs : ∀ i j, IsReal (si i j)) (hA : ∀ i j, IsReal (LA i j))
include hc hs

theorem rot_real {x : Fin 64 → EReal} (hx : ∀ d, IsReal (x d)) (r : Fin 2048) (d : Fin 64) : IsReal (rot x (co r) (si r) d) := by
  unfold rot
  split
  · exact ((hx _).mul (hc _ _)).sub ((hx _).mul (hs _ _))
  · exact ((hx _).mul (hs _ _)).add ((hx _).mul (hc _ _))

include hL

theorem query_real (b : Fin 8) (r : Fin 2048) (h : Fin 16) (c : Fin 2) (d : Fin 64) : IsReal (query HL co si b r h c d) :=
  rot_real hc hs (fun d => hL _ _ (by show h.val * 128 + c.val * 64 + d.val < 6144; omega)) r d

include hC

theorem key_real (b : Fin 8) (j : Fin 2304) (h : Fin 16) (c : Fin 2) (d : Fin 64) : IsReal (key HL HC co si b j h c d) := by
  unfold key
  split
  · exact rot_real hc hs (fun d => hL _ _ (by show 2048 + (h.val * 128 + c.val * 64 + d.val) < 6144; omega)) _ d
  · exact hC _ _

theorem score_real (b : Fin 8) (r : Fin 2048) (h : Fin 16) (c : Fin 2) (j : Fin 2304) : IsReal (score HL HC co si b r h c j) :=
  IsReal.sum fun d => (query_real hL hc hs b r h c d).mul (key_real hL hC hc hs b j h c d)

omit hc hs in
theorem value_real (b : Fin 8) (j : Fin 2304) (h : Fin 16) (e : Fin 128) : IsReal (value HL HC b j h e) := by
  unfold value
  split
  · exact hL _ _ (by show 4096 + (h.val * 128 + e.val) < 6144; omega)
  · exact hC _ _

omit hL hc hs hC in
include hA in
theorem lambda_real : IsReal (lambda LA) :=
  (IsReal.sub (IsReal.exp (IsReal.sum fun x => (hA 0 x).mul (hA 1 x))) (IsReal.exp (IsReal.sum fun x => (hA 2 x).mul (hA 3 x)))).add lamInit_real

include hA in
/-- Over real operands a head may divide before the product with the values or after it. -/
theorem head_eq (b : Fin 8) (r : Fin 2048) (h : Fin 16) :
    headAfter (score HL HC co si b r h) (fun j => value HL HC b j h) (lambda LA)
      = headWeights (score HL HC co si b r h) (fun j => value HL HC b j h) (lambda LA) :=
  funext fun e => diff_eq (by decide) _ _ _ _ (fun k => score_real hL hC hc hs b r h 0 k) (fun k => score_real hL hC hc hs b r h 1 k)
    (fun k => value_real hL hC b k h e) (lambda_real hA)
end

end Cert.DiffAttn
-- ==== Proof.Reference.lean ====
/- The reference's result as a tower of named arrays of its six arguments, and each of them read at an index. -/
module

public import proofs.«01_k».proof.Proof.Gen.ReferenceIdeal
public import proofs.«01_k».proof.Proof.Spec
public import Idealize.ShloMosaic.Lib.Pipeline.ValueKit
public import Idealize.ShloMosaic.Lib.Pointwise

@[expose] public section

set_option maxRecDepth 16384
noncomputable section
namespace Cert.ReferenceIdeal.Value
open Cert.ReferenceIdeal Cert.ReferenceIdeal.Gen Idealize.ShloMosaic Cert.DiffAttn

/-- Rotary embedding of the queries' or the keys' pairs: both halves of each head's 64 lanes turned by the row's angle. -/
def rope (x : FVec Ideal S8x2048x16x2x64 .f32) (co si : FVec Ideal S2048x32 .f32) : FVec Ideal S8x2048x16x2x64 .f32 :=
  let c := broadcastInDim S8x2048x16x2x32 ![0, 1, 2, 3, 4] bcast_S1x2048x1x1x32_S8x2048x16x2x32_0_1_2_3_4
    (broadcastInDim S1x2048x1x1x32 ![1, 2, 3, 4] bcast_S2048x1x1x32_S1x2048x1x1x32_1_2_3_4 (shapeCast S2048x1x1x32 co shapeCasts_S2048x32_S2048x1x1x32))
  let s := broadcastInDim S8x2048x16x2x32 ![0, 1, 2, 3, 4] bcast_S1x2048x1x1x32_S8x2048x16x2x32_0_1_2_3_4
    (broadcastInDim S1x2048x1x1x32 ![1, 2, 3, 4] bcast_S2048x1x1x32_S1x2048x1x1x32_1_2_3_4 (shapeCast S2048x1x1x32 si shapeCasts_S2048x32_S2048x1x1x32))
  let a := extractStridedSlice S8x2048x16x2x32 ![0, 0, 0, 0, 0] x slices_S8x2048x16x2x64_S8x2048x16x2x32_0_0_0_0_0
  let b := extractStridedSlice S8x2048x16x2x32 ![0, 0, 0, 0, 32] x slices_S8x2048x16x2x64_S8x2048x16x2x32_0_0_0_0_32
  concatenate S8x2048x16x2x64 4 [⟨S8x2048x16x2x32, subf (mulf a c) (mulf b s)⟩, ⟨S8x2048x16x2x32, addf (mulf a s) (mulf b c)⟩]
    concatenates_S8x2048x16x2x32_S8x2048x16x2x32_S8x2048x16x2x64_d4

/-- The latents' projected rows, by batch. -/
def rows (HL : FVec Ideal S16384x12288 .bf16) : FVec Ideal S8x2048x12288 .f32 :=
  shapeCast S8x2048x12288 (extf .f32 HL bitsLt_bf16_f32) shapeCasts_S16384x12288_S8x2048x12288

/-- The context's projected keys and values, by batch. -/
def ctx (HC : FVec Ideal S2048x4096 .bf16) : FVec Ideal S8x256x4096 .f32 :=
  shapeCast S8x256x4096 (extf .f32 HC bitsLt_bf16_f32) shapeCasts_S2048x4096_S8x256x4096

/-- The rotated queries. -/
def queries (HL : FVec Ideal S16384x12288 .bf16) (co si : FVec Ideal S2048x32 .f32) : FVec Ideal S8x2048x16x2x64 .f32 :=
  rope (shapeCast S8x2048x16x2x64 (extractStridedSlice S8x2048x2048 ![0, 0, 0] (rows HL) slices_S8x2048x12288_S8x2048x2048_0_0_0) shapeCasts_S8x2048x2048_S8x2048x16x2x64) co si

/-- The rotated keys of the latents. -/
def latKeys (HL : FVec Ideal S16384x12288 .bf16) (co si : FVec Ideal S2048x32 .f32) : FVec Ideal S8x2048x16x2x64 .f32 :=
  rope (shapeCast S8x2048x16x2x64 (extractStridedSlice S8x2048x2048 ![0, 0, 2048] (rows HL) slices_S8x2048x12288_S8x2048x2048_0_0_2048) shapeCasts_S8x2048x2048_S8x2048x16x2x64) co si

/-- The keys: the latents' and the context's behind them. -/
def keys (HL : FVec Ideal S16384x12288 .bf16) (HC : FVec Ideal S2048x4096 .bf16) (co si : FVec Ideal S2048x32 .f32) : FVec Ideal S8x2304x16x2x64 .f32 :=
  concatenate S8x2304x16x2x64 1 [⟨S8x2048x16x2x64, latKeys HL co si⟩,
    ⟨S8x256x16x2x64, shapeCast S8x256x16x2x64 (extractStridedSlice S8x256x2048 ![0, 0, 0] (ctx HC) slices_S8x256x4096_S8x256x2048_0_0_0) shapeCasts_S8x256x2048_S8x256x16x2x64⟩]
    concatenates_S8x2048x16x2x64_S8x256x16x2x64_S8x2304x16x2x64_d1

/-- The values: the latents' and the context's behind them. -/
def vals (HL : FVec Ideal S16384x12288 .bf16) (HC : FVec Ideal S2048x4096 .bf16) : FVec Ideal S8x2304x16x128 .f32 :=
  concatenate S8x2304x16x128 1 [⟨S8x2048x16x128, shapeCast S8x2048x16x128 (extractStridedSlice S8x2048x2048 ![0, 0, 4096] (rows HL) slices_S8x2048x12288_S8x2048x2048_0_0_4096) shapeCasts_S8x2048x2048_S8x2048x16x128⟩,
    ⟨S8x256x16x128, shapeCast S8x256x16x128 (extractStridedSlice S8x256x2048 ![0, 0, 2048] (ctx HC) slices_S8x256x4096_S8x256x2048_0_0_2048) shapeCasts_S8x256x2048_S8x256x16x128⟩]
    concatenates_S8x2048x16x128_S8x256x16x128_S8x2304x16x128_d1

/-- The scores, times the logarithm of two. -/
def scores (q : FVec Ideal S8x2048x16x2x64 .f32) (k : FVec Ideal S8x2304x16x2x64 .f32) : FVec Ideal S8x16x2x2048x2304 .f32 :=
  mulf (Host.dotGeneral dot_S8x2048x16x2x64_S8x2304x16x2x64_S8x16x2x2048x2304_4_4_1_1_023_023 none q k)
    (broadcastInDim S8x16x2x2048x2304 ![] bcast_S_S8x16x2x2048x2304 (Host.log (constant S_ .f32 0x40000000#32)))

/-- The exponentials of the scores above their row's largest. -/
def exps (s : FVec Ideal S8x16x2x2048x2304 .f32) : FVec Ideal S8x16x2x2048x2304 .f32 :=
  Host.exp (subf s (broadcastInDim S8x16x2x2048x2304 ![0, 1, 2, 3, 4] bcast_S8x16x2x2048x1_S8x16x2x2048x2304_0_1_2_3_4
    (broadcastInDim S8x16x2x2048x1 ![0, 1, 2, 3] bcast_S8x16x2x2048_S8x16x2x2048x1_0_1_2_3
      (maximumf (broadcastInDim S8x16x2x2048 ![] bcast_S_S8x16x2x2048 (constant S_ .f32 0xFF800000#32))
        (Host.reduce FloatOps.maximumf s (constant S_ .f32 0xFF800000#32) reducesTo_S8x16x2x2048x2304_S8x16x2x2048_d4 h_S_)))))

/-- The softmax: the exponentials over their row's sum. -/
def softmax (e : FVec Ideal S8x16x2x2048x2304 .f32) : FVec Ideal S8x16x2x2048x2304 .f32 :=
  Host.divf e (broadcastInDim S8x16x2x2048x2304 ![0, 1, 2, 3, 4] bcast_S8x16x2x2048x1_S8x16x2x2048x2304_0_1_2_3_4
    (broadcastInDim S8x16x2x2048x1 ![0, 1, 2, 3] bcast_S8x16x2x2048_S8x16x2x2048x1_0_1_2_3
      (Host.reduceAdd e (constant S_ .f32 0x00000000#32) reducesTo_S8x16x2x2048x2304_S8x16x2x2048_d4 h_S_)))

/-- The weight of the second map, from the four learned vectors. -/
def lam (LA : FVec Ideal S4x64 .f32) : FVec Ideal S_ .f32 :=
  addf (subf
    (Host.exp (Host.reduceAdd (mulf (shapeCast S64 (extractStridedSlice S1x64 ![0, 0] LA slices_S4x64_S1x64_0_0) shapeCasts_S1x64_S64)
      (shapeCast S64 (extractStridedSlice S1x64 ![1, 0] LA slices_S4x64_S1x64_1_0) shapeCasts_S1x64_S64)) (constant S_ .f32 0x00000000#32) reducesTo_S64_S_d0 h_S_))
    (Host.exp (Host.reduceAdd (mulf (shapeCast S64 (extractStridedSlice S1x64 ![2, 0] LA slices_S4x64_S1x64_2_0) shapeCasts_S1x64_S64)
      (shapeCast S64 (extractStridedSlice S1x64 ![3, 0] LA slices_S4x64_S1x64_3_0) shapeCasts_S1x64_S64)) (constant S_ .f32 0x00000000#32) reducesTo_S64_S_d0 h_S_)))
    (constant S_ .f32 0x3EB60549#32)

/-- The attention's output: the difference of the two maps' weights against the values. -/
def attn (v : FVec Ideal S8x2304x16x128 .f32) (p : FVec Ideal S8x16x2x2048x2304 .f32) (l : FVec Ideal S_ .f32) : FVec Ideal S8x2048x16x128 .f32 :=
  transpose S8x2048x16x128 [0, 3, 1, 2] (Host.dotGeneral dot_S8x2304x16x128_S8x16x2048x2304_S8x16x128x2048_1_3_3_2_02_01 none v
    (subf (shapeCast S8x16x2048x2304 (extractStridedSlice S8x16x1x2048x2304 ![0, 0, 0, 0, 0] p slices_S8x16x2x2048x2304_S8x16x1x2048x2304_0_0_0_0_0) shapeCasts_S8x16x1x2048x2304_S8x16x2048x2304)
      (mulf (broadcastInDim S8x16x2048x2304 ![] bcast_S_S8x16x2048x2304 l)
        (shapeCast S8x16x2048x2304 (extractStridedSlice S8x16x1x2048x2304 ![0, 0, 1, 0, 0] p slices_S8x16x2x2048x2304_S8x16x1x2048x2304_0_0_1_0_0) shapeCasts_S8x16x1x2048x2304_S8x16x2048x2304))))
    transposes_S8x16x128x2048_S8x2048x16x128_0_3_1_2

/-- The head-wise root-mean-square norm with the gain, and the last factor. -/
def normed (o : FVec Ideal S8x2048x16x128 .f32) (SU : FVec Ideal S128 .f32) : FVec Ideal S8x2048x16x128 .f32 :=
  mulf (mulf (mulf o (broadcastInDim S8x2048x16x128 ![0, 1, 2, 3] bcast_S8x2048x16x1_S8x2048x16x128_0_1_2_3
    (Host.rsqrt (addf (Host.divf (broadcastInDim S8x2048x16x1 ![0, 1, 2] bcast_S8x2048x16_S8x2048x16x1_0_1_2
        (Host.reduceAdd (mulf o o) (constant S_ .f32 0x00000000#32) reducesTo_S8x2048x16x128_S8x2048x16_d3 h_S_))
        (broadcastInDim S8x2048x16x1 ![] bcast_S_S8x2048x16x1 (constant S_ .f32 0x43000000#32)))
      (broadcastInDim S8x2048x16x1 ![] bcast_S_S8x2048x16x1 (constant S_ .f32 0x358637BD#32))))))
    (broadcastInDim S8x2048x16x128 ![0, 1, 2, 3] bcast_S1x1x1x128_S8x2048x16x128_0_1_2_3 (broadcastInDim S1x1x1x128 ![3] bcast_S128_S1x1x1x128_3 SU)))
    (broadcastInDim S8x2048x16x128 ![] bcast_S_S8x2048x16x128 (constant S_ .f32 0x3F24FD5C#32))

/-- The reference's result. -/
def result (HL : FVec Ideal S16384x12288 .bf16) (HC : FVec Ideal S2048x4096 .bf16) (co si : FVec Ideal S2048x32 .f32)
    (LA : FVec Ideal S4x64 .f32) (SU : FVec Ideal S128 .f32) : FVec Ideal S16384x2048 .bf16 :=
  truncf .bf16 (shapeCast S16384x2048 (normed (attn (vals HL HC) (softmax (exps (scores (queries HL co si) (keys HL HC co si)))) (lam LA)) SU)
    shapeCasts_S8x2048x16x128_S16384x2048) bitsLt_bf16_f32

/-- The rotary embedding read at an index. -/
theorem rope_apply (x : FVec Ideal S8x2048x16x2x64 .f32) (co si : FVec Ideal S2048x32 .f32) (b : Fin 8) (r : Fin 2048) (h : Fin 16) (c : Fin 2) (d : Fin 64) :
    rope x co si (ix5 b r h c d) = rot (fun d => x (ix5 b r h c d)) (fun j => co (ix2 r j)) (fun j => si (ix2 r j)) d := by
  pointwise [rope]
  rfl

/-- The queries read at an index. -/
theorem queries_apply (HL : FVec Ideal S16384x12288 .bf16) (co si : FVec Ideal S2048x32 .f32) (b : Fin 8) (r : Fin 2048) (h : Fin 16) (c : Fin 2) (d : Fin 64) :
    queries HL co si (ix5 b r h c d)
      = query (fun i j => HL (ix2 i j)) (fun i j => co (ix2 i j)) (fun i j => si (ix2 i j)) b r h c d := by
  pointwise [queries, rope, rows]
  rfl

/-- The latents' keys read at an index. -/
theorem latKeys_apply (HL : FVec Ideal S16384x12288 .bf16) (co si : FVec Ideal S2048x32 .f32) (b : Fin 8) (r : Fin 2048) (h : Fin 16) (c : Fin 2) (d : Fin 64) :
    latKeys HL co si (ix5 b r h c d)
      = rot (fun d => HL (ix2 ⟨b.val * 2048 + r.val, by omega⟩ ⟨2048 + (h.val * 128 + c.val * 64 + d.val), by omega⟩))
          (fun j => co (ix2 r j)) (fun j => si (ix2 r j)) d := by
  pointwise [latKeys, rope, rows]
  rfl

/-- The keys read at an index. -/
theorem keys_apply (HL : FVec Ideal S16384x12288 .bf16) (HC : FVec Ideal S2048x4096 .bf16) (co si : FVec Ideal S2048x32 .f32) (b : Fin 8) (j : Fin 2304) (h : Fin 16) (c : Fin 2) (d : Fin 64) :
    keys HL HC co si (ix5 b j h c d)
      = key (fun i j => HL (ix2 i j)) (fun i j => HC (ix2 i j)) (fun i j => co (ix2 i j)) (fun i j => si (ix2 i j)) b j h c d := by
  pointwise [keys, ctx]
  unfold key
  split
  · exact latKeys_apply HL co si b _ h c d
  · rfl

/-- The values read at an index. -/
theorem vals_apply (HL : FVec Ideal S16384x12288 .bf16) (HC : FVec Ideal S2048x4096 .bf16) (b : Fin 8) (j : Fin 2304) (h : Fin 16) (e : Fin 128) :
    vals HL HC (ix4 b j h e) = value (fun i j => HL (ix2 i j)) (fun i j => HC (ix2 i j)) b j h e := by
  pointwise [vals, ctx, rows]
  rfl

/-- The scaled scores read at an index. -/
theorem scores_apply (q : FVec Ideal S8x2048x16x2x64 .f32) (k : FVec Ideal S8x2304x16x2x64 .f32) (b : Fin 8) (h : Fin 16) (c : Fin 2) (r : Fin 2048) (j : Fin 2304) :
    scores q k (ix5 b h c r j) = (∑ x, q (ix5 b r h c x) * k (ix5 b j h c x)) * Ideal.log (Ideal.ofBits .f32 1073741824#32) := by
  pointwise [scores]

/-- The largest score of a row. -/
theorem rowMax_apply (s : FVec Ideal S8x16x2x2048x2304 .f32) (b : Fin 8) (h : Fin 16) (c : Fin 2) (r : Fin 2048) :
    Host.reduce FloatOps.maximumf s (constant S_ .f32 0xFF800000#32) reducesTo_S8x16x2x2048x2304_S8x16x2x2048_d4 h_S_ (ix4 b h c r)
      = top fun x => s (ix5 b h c r x) := by
  pointwise
  rw [ofBits_bot]
  rfl

/-- The exponentials above any array of row maxima, read at an index. -/
theorem expsOf_apply (s : FVec Ideal S8x16x2x2048x2304 .f32) (M : FVec Ideal S8x16x2x2048 .f32) (b : Fin 8) (h : Fin 16) (c : Fin 2) (r : Fin 2048) (j : Fin 2304) :
    Host.exp (subf s (broadcastInDim S8x16x2x2048x2304 ![0, 1, 2, 3, 4] bcast_S8x16x2x2048x1_S8x16x2x2048x2304_0_1_2_3_4
      (broadcastInDim S8x16x2x2048x1 ![0, 1, 2, 3] bcast_S8x16x2x2048_S8x16x2x2048x1_0_1_2_3
        (maximumf (broadcastInDim S8x16x2x2048 ![] bcast_S_S8x16x2x2048 (constant S_ .f32 0xFF800000#32)) M)))) (ix5 b h c r j)
      = Ideal.exp (s (ix5 b h c r j) - M (ix4 b h c r)) := by
  pointwise
  rw [ofBits_bot, max_eq_right bot_le]

/-- The exponentials read at an index. -/
theorem exps_apply (s : FVec Ideal S8x16x2x2048x2304 .f32) (b : Fin 8) (h : Fin 16) (c : Fin 2) (r : Fin 2048) (j : Fin 2304) :
    exps s (ix5 b h c r j) = Ideal.exp (s (ix5 b h c r j) - top fun x => s (ix5 b h c r x)) := by
  unfold exps
  rw [expsOf_apply, rowMax_apply]

/-- The softmax read at an index. -/
theorem softmax_apply (e : FVec Ideal S8x16x2x2048x2304 .f32) (b : Fin 8) (h : Fin 16) (c : Fin 2) (r : Fin 2048) (j : Fin 2304) :
    softmax e (ix5 b h c r j) = Ideal.div (e (ix5 b h c r j)) (∑ x, e (ix5 b h c r x)) := by
  pointwise [softmax]

/-- The second map's weight. -/
theorem lam_apply (LA : FVec Ideal S4x64 .f32) : lam LA ix0 = lambda fun i j => LA (ix2 i j) := by
  pointwise [lam]
  rfl

/-- The attention's output read at an index. -/
theorem attn_apply (v : FVec Ideal S8x2304x16x128 .f32) (p : FVec Ideal S8x16x2x2048x2304 .f32) (l : FVec Ideal S_ .f32) (b : Fin 8) (r : Fin 2048) (h : Fin 16) (e : Fin 128) :
    attn v p l (ix4 b r h e) = ∑ x, v (ix4 b x h e) * (p (ix5 b h 0 r x) - l ix0 * p (ix5 b h 1 r x)) := by
  pointwise [attn]

/-- The attention of the softmax of the scaled scores is the head's difference of softmaxes against its values. -/
theorem head_apply (HL : FVec Ideal S16384x12288 .bf16) (HC : FVec Ideal S2048x4096 .bf16) (co si : FVec Ideal S2048x32 .f32)
    (LA : FVec Ideal S4x64 .f32) (b : Fin 8) (r : Fin 2048) (h : Fin 16) (e : Fin 128) :
    attn (vals HL HC) (softmax (exps (scores (queries HL co si) (keys HL HC co si)))) (lam LA) (ix4 b r h e)
      = headWeights (score (fun i j => HL (ix2 i j)) (fun i j => HC (ix2 i j)) (fun i j => co (ix2 i j)) (fun i j => si (ix2 i j)) b r h)
          (fun j => value (fun i j => HL (ix2 i j)) (fun i j => HC (ix2 i j)) b j h) (lambda fun i j => LA (ix2 i j)) e := by
  rw [attn_apply]
  simp only [softmax_apply, exps_apply, scores_apply, queries_apply, keys_apply, vals_apply, lam_apply, ofBits_two]
  rfl

/-- The norm read at an index of the flattened result. -/
theorem normed_apply (o : FVec Ideal S8x2048x16x128 .f32) (SU : FVec Ideal S128 .f32) (i : S16384x2048.Idx) :
    truncf (F := Ideal) .bf16 (shapeCast S16384x2048 (normed o SU) shapeCasts_S8x2048x16x128_S16384x2048) bitsLt_bf16_f32 i
      = norm (fun e => o (ix4 ⟨(i 0).val / 2048, by have := (i 0).isLt; simp [S16384x2048] at this; omega⟩ ⟨(i 0).val % 2048, by omega⟩ ⟨(i 1).val / 128, by have := (i 1).isLt; simp [S16384x2048] at this; omega⟩ e))
          (fun e => SU (ix1 e)) ⟨(i 1).val % 128, by omega⟩ := by
  pointwise [normed]
  rfl

/-- The reference's result read at an index. -/
theorem result_apply (HL : FVec Ideal S16384x12288 .bf16) (HC : FVec Ideal S2048x4096 .bf16) (co si : FVec Ideal S2048x32 .f32)
    (LA : FVec Ideal S4x64 .f32) (SU : FVec Ideal S128 .f32) (i : S16384x2048.Idx) (b : Fin 8) (r : Fin 2048) (h : Fin 16) (e : Fin 128)
    (hi : (i 0).val = b.val * 2048 + r.val) (hj : (i 1).val = h.val * 128 + e.val) :
    result HL HC co si LA SU i
      = norm (headWeights (score (fun i j => HL (ix2 i j)) (fun i j => HC (ix2 i j)) (fun i j => co (ix2 i j)) (fun i j => si (ix2 i j)) b r h)
          (fun j => value (fun i j => HL (ix2 i j)) (fun i j => HC (ix2 i j)) b j h) (lambda fun i j => LA (ix2 i j)))
          (fun e => SU (ix1 e)) e := by
  rw [result, normed_apply]
  have e0 : (⟨(i 0).val / 2048, by have := (i 0).isLt; simp [S16384x2048] at this; omega⟩ : Fin 8) = b := Fin.ext (by simp; omega)
  have e1 : (⟨(i 0).val % 2048, by omega⟩ : Fin 2048) = r := Fin.ext (by simp; omega)
  have e2 : (⟨(i 1).val / 128, by have := (i 1).isLt; simp [S16384x2048] at this; omega⟩ : Fin 16) = h := Fin.ext (by simp; omega)
  have e3 : (⟨(i 1).val % 128, by omega⟩ : Fin 128) = e := Fin.ext (by simp; omega)
  rw [e0, e1, e2, e3]
  simp only [head_apply]

end Cert.ReferenceIdeal.Value
-- ==== Proof.Equation.lean ====
/- The kernel's array is the reference's result, for queries, keys, values, tables and lambdas that hold no infinity. -/
module

public import proofs.«01_k».proof.Proof.Final
public import proofs.«01_k».proof.Proof.Finite
public import proofs.«01_k».proof.Proof.Reference
public import proofs.«01_k».proof.Defs

@[expose] public section

set_option maxRecDepth 16384
noncomputable section

namespace Cert.Pre_finite
/-- The predicate's side conditions. -/
theorem facts : Facts := ⟨by decide, by decide, by decide, by decide, by decide⟩
end Cert.Pre_finite

namespace Cert.KernelIdeal.Value
open Cert.KernelIdeal Cert.KernelIdeal.Gen Idealize.ShloMosaic Idealize.ShloMosaic.TcCoe Idealize.SL.Sem Cert.DiffAttn

attribute [local instance] Cert.Pre_finite.facts
variable (m : (ℓ : Loc nD τ sig) → Buf (Elt Ideal) ℓ)

/-- The word of infinity, in either format. -/
theorem ofBits_top32 : Ideal.ofBits .f32 0x7F800000#32 = ⊤ := by simp [Ideal.ofBits, Ideal.ieee]
theorem ofBits_top16 : Ideal.ofBits .bf16 0x7F80#16 = ⊤ := by simp [Ideal.ofBits, Ideal.ieee]

/-- A comparison of a magnitude with infinity that holds says that the operand is real. -/
theorem isReal_of_cmp {x : EReal} (h : Ideal.cmp .olt (max x (-x)) ⊤ = 1#1) : IsReal x := by
  refine isReal_of_abs_lt ?_
  by_contra hn
  simp [Ideal.cmp, hn] at h

/-- The same against the word of infinity, in either format. -/
theorem isReal_of_cmp16 {x : EReal} (h : Ideal.cmp .olt (max x (-x)) (Ideal.ofBits .bf16 0x7F80#16) = 1#1) : IsReal x :=
  isReal_of_cmp (ofBits_top16 ▸ h)
theorem isReal_of_cmp32 {x : EReal} (h : Ideal.cmp .olt (max x (-x)) (Ideal.ofBits .f32 0x7F800000#32) = 1#1) : IsReal x :=
  isReal_of_cmp (ofBits_top32 ▸ h)

/-- The columns of the queries, keys and values, read at an index. -/
theorem qkv_apply (X : FVec Ideal S16384x12288 .bf16) (i : Fin 16384) (j : Fin 6144) :
    extractStridedSlice Cert.Pre_finite.S16384x6144 ![0, 0] X Cert.Pre_finite.Facts.slices_S16384x12288_S16384x6144_0_0 (ix2 i j)
      = X (ix2 i ⟨j.val, by omega⟩) := by
  pointwise

/-- The precondition says that every query, key and value, every table entry and every lambda is real. -/
theorem real_of_pre (hpre : Cert.Pre_KernelIdeal_finite m) (c : Dev nD) :
    (∀ i j, j.val < 6144 → IsReal (HL m c i j)) ∧ (∀ i j, IsReal (HC m c i j)) ∧ (∀ i j, IsReal (CO m c i j)) ∧ (∀ i j, IsReal (SI m c i j)) ∧ (∀ i j, IsReal (LA m c i j)) := by
  obtain ⟨h0, h1, h2, h3, h4⟩ := hpre c
  refine ⟨fun i j hj => ?_, fun i j => ?_, fun i j => ?_, fun i j => ?_, fun i j => ?_⟩
  · have h := congrFun h0 (ix2 i ⟨j.val, hj⟩)
    exact (congrArg IsReal (qkv_apply _ i ⟨j.val, hj⟩)).mp (isReal_of_cmp16 h)
  · exact isReal_of_cmp16 (congrFun h1 (ix2 i j))
  · exact isReal_of_cmp32 (congrFun h2 (ix2 i j))
  · exact isReal_of_cmp32 (congrFun h3 (ix2 i j))
  · exact isReal_of_cmp32 (congrFun h4 (ix2 i j))

/-- The kernel's array is the reference's result over the kernel's arguments. -/
theorem outArr_eq (hpre : Cert.Pre_KernelIdeal_finite m) (c : Dev nD) :
    outArr m c = Cert.ReferenceIdeal.Value.result (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  obtain ⟨hL, hC, hc, hs, hA⟩ := real_of_pre m hpre c
  funext i
  have l0 : (i 0).val < 16384 := (i 0).isLt
  have l1 : (i 1).val < 2048 := (i 1).isLt
  refine Eq.trans ?_ (Cert.ReferenceIdeal.Value.result_apply _ _ _ _ _ _ i ⟨(i 0).val / 2048, by omega⟩ ⟨(i 0).val % 2048, by omega⟩
    ⟨(i 1).val / 128, by omega⟩ ⟨(i 1).val % 128, by omega⟩ (by show (i 0).val = (i 0).val / 2048 * 2048 + (i 0).val % 2048; omega)
    (by show (i 1).val = (i 1).val / 128 * 128 + (i 1).val % 128; omega)).symm
  unfold outArr entry
  rw [head_eq hL hC hc hs hA]

end Cert.KernelIdeal.Value
-- ==== Proof.MlaSpec.lean ====
/- The latent attention as plain functions of its operands' entries: the row of a key, its shared rotary part, the scores
   of the latents' and of the context's queries, and the values. -/
module

public import proofs.«01_k».proof.Proof.Finite

@[expose] public section

noncomputable section

namespace Cert.Mla

open Idealize.ShloMosaic Cert.DiffAttn

/-- The row of key `j` of batch `b`: the batch's 2048 latents come first, its 256 rows of context after them. -/
def keyRow (b : Fin 8) (j : Fin 2304) : Fin 18432 :=
  ⟨if j.val < 2048 then b.val * 2048 + j.val else 16384 + (b.val * 256 + (j.val - 2048)), by split <;> omega⟩

/-- The rotary part of key `j`, which all heads share: turned by the row's angle for a latent, as it is for the context. -/
def keyPe (HL : Fin 18432 → Fin 1664 → EReal) (co si : Fin 2048 → Fin 32 → EReal) (b : Fin 8) (j : Fin 2304) (d : Fin 64) : EReal :=
  if hj : j.val < 2048 then rot (fun d => HL (keyRow b j) ⟨1536 + d.val, by omega⟩) (co ⟨j.val, hj⟩) (si ⟨j.val, hj⟩) d
  else HL (keyRow b j) ⟨1536 + d.val, by omega⟩

/-- The score of a query, its positionless part `q` and its rotary part `p`, against key `j` of a batch and a head. -/
def score (KV : Fin 18432 → Fin 4096 → EReal) (HL : Fin 18432 → Fin 1664 → EReal) (co si : Fin 2048 → Fin 32 → EReal)
    (q : Fin 128 → EReal) (p : Fin 64 → EReal) (b : Fin 8) (h : Fin 16) (j : Fin 2304) : EReal :=
  ∑ d, q d * KV (keyRow b j) ⟨h.val * 256 + d.val, by omega⟩ + ∑ d, p d * keyPe HL co si b j d

/-- The positionless part of the query in row `i`. -/
def queryNope (QU : Fin 18432 → Fin 4096 → EReal) (i : Fin 18432) (h : Fin 16) (d : Fin 128) : EReal :=
  QU i ⟨h.val * 128 + d.val, by omega⟩

/-- The rotary part of the query in row `i`. -/
def queryPe (QU : Fin 18432 → Fin 4096 → EReal) (i : Fin 18432) (h : Fin 16) (d : Fin 64) : EReal :=
  QU i ⟨2048 + (h.val * 128 + d.val), by omega⟩

/-- The scores of row `r` of batch `b`'s latents against all keys. -/
def latScore (QU KV : Fin 18432 → Fin 4096 → EReal) (HL : Fin 18432 → Fin 1664 → EReal) (co si : Fin 2048 → Fin 32 → EReal)
    (b : Fin 8) (r : Fin 2048) (h : Fin 16) (j : Fin 2304) : EReal :=
  score KV HL co si (queryNope QU ⟨b.val * 2048 + r.val, by omega⟩ h)
    (rot (queryPe QU ⟨b.val * 2048 + r.val, by omega⟩ h) (co r) (si r)) b h j

/-- Key `j` of the context among all keys. -/
def ctxKey (j : Fin 256) : Fin 2304 := ⟨2048 + j.val, by omega⟩

/-- The scores of row `r` of batch `b`'s context against the context's keys. -/
def ctxScore (QU KV : Fin 18432 → Fin 4096 → EReal) (HL : Fin 18432 → Fin 1664 → EReal) (co si : Fin 2048 → Fin 32 → EReal)
    (b : Fin 8) (r : Fin 256) (h : Fin 16) (j : Fin 256) : EReal :=
  score KV HL co si (queryNope QU ⟨16384 + (b.val * 256 + r.val), by omega⟩ h)
    (queryPe QU ⟨16384 + (b.val * 256 + r.val), by omega⟩ h) b h (ctxKey j)

/-- Value `j` of a batch and a head. -/
def value (KV : Fin 18432 → Fin 4096 → EReal) (b : Fin 8) (h : Fin 16) (e : Fin 128) (j : Fin 2304) : EReal :=
  KV (keyRow b j) ⟨h.val * 256 + (128 + e.val), by omega⟩

section
variable {QU KV : Fin 18432 → Fin 4096 → EReal} {HL : Fin 18432 → Fin 1664 → EReal} {co si : Fin 2048 → Fin 32 → EReal}
  (hN : ∀ i h d, IsReal (queryNope QU i h d)) (hP : ∀ i h d, IsReal (queryPe QU i h d))
  (hK : ∀ i j, j.val % 256 < 128 → IsReal (KV i j))
  (hL : ∀ i j, 1536 ≤ j.val → j.val < 1600 → IsReal (HL i j))
  (hc : ∀ i j, IsReal (co i j)) (hs : ∀ i j, IsReal (si i j))

include hK hL hc hs in
theorem score_real {q : Fin 128 → EReal} {p : Fin 64 → EReal} (hq : ∀ d, IsReal (q d)) (hp : ∀ d, IsReal (p d))
    (b : Fin 8) (h : Fin 16) (j : Fin 2304) : IsReal (score KV HL co si q p b h j) := by
  refine (IsReal.sum fun d => (hq d).mul (hK _ _ (by show (h.val * 256 + d.val) % 256 < 128; omega))).add (IsReal.sum fun d => (hp d).mul ?_)
  have hx : ∀ d : Fin 64, IsReal (HL (keyRow b j) ⟨1536 + d.val, by omega⟩) := fun d =>
    hL _ _ (by show 1536 ≤ 1536 + d.val; omega) (by show 1536 + d.val < 1600; omega)
  unfold keyPe
  split
  · exact rot_real hc hs hx _ d
  · exact hx d

include hN hP hK hL hc hs

/-- Over real queries and keys a latent's row may divide before the product with the values or after it. -/
theorem lat_eq (b : Fin 8) (r : Fin 2048) (h : Fin 16) (e : Fin 128) :
    after (latScore QU KV HL co si b r h) (value KV b h e)
      = ∑ j, weight (latScore QU KV HL co si b r h) j * value KV b h e j :=
  after_eq (by decide) _ _ fun j => score_real hK hL hc hs (fun _ => hN _ _ _) (fun d => rot_real hc hs (fun _ => hP _ _ _) _ d) b h j

/-- Over real queries and keys a context's row may divide before the product with the values or after it. -/
theorem ctx_eq (b : Fin 8) (r : Fin 256) (h : Fin 16) (e : Fin 128) :
    after (ctxScore QU KV HL co si b r h) (fun j => value KV b h e (ctxKey j))
      = ∑ j, weight (ctxScore QU KV HL co si b r h) j * value KV b h e (ctxKey j) :=
  after_eq (by decide) _ _ fun j => score_real hK hL hc hs (fun _ => hN _ _ _) (fun _ => hP _ _ _) b h (ctxKey j)
end

end Cert.Mla
-- ==== Proof.MlaUnit.lean ====
/- What the latent attention's body computes for one head and 128 queries, read at an index. -/
module

public import proofs.«01_k».proof.Proof.Gen.Kernel10Ideal.Skeleton
public import proofs.«01_k».proof.Proof.Unit
public import proofs.«01_k».proof.Proof.MlaSpec

@[expose] public section

set_option maxRecDepth 16384
noncomputable section
namespace Cert.Kernel10Ideal.Value
open Cert.Kernel10Ideal Cert.Kernel10Ideal.Gen Idealize.ShloMosaic Cert.DiffAttn
open Cert.KernelIdeal.Value (turn lane half_mask select_ite)

/-- A context's query over its 256 lanes: the positionless part, then the rotary part as it is. -/
theorem ctxQuery_apply (N P : FVec Ideal S256x128 .bf16) (a x : Fin 256) :
    k0_pay144 (F := Ideal) N P (ix2 a x)
      = if h : x.val < 128 then N (ix2 a ⟨x.val, h⟩) else P (ix2 a ⟨x.val - 128, by omega⟩) := by
  pointwise [k0_pay144]

/-- A latent's query over its 256 lanes: the positionless part, then the turned rotary part. -/
theorem latQuery_apply (N P : FVec Ideal S256x128 .bf16) (C S : FVec Ideal S256x128 .f32) (a x : Fin 256) :
    k0_pay62 (F := Ideal) P C S N (ix2 a x)
      = if h : x.val < 128 then N (ix2 a ⟨x.val, h⟩)
        else turn (fun l => P (ix2 a l)) (fun l => C (ix2 a l)) (fun l => S (ix2 a l)) ⟨x.val - 128, by omega⟩ := by
  refine (ctxQuery_apply N _ a x).trans ?_
  by_cases h : x.val < 128
  · rw [dif_pos h, dif_pos h]
  · rw [dif_neg h, dif_neg h]
    generalize (⟨x.val - 128, by omega⟩ : Fin 128) = l
    pointwise
    rw [half_mask, select_ite]
    rfl

/-- The first 128 of 256 queries. -/
theorem upper_apply (Q : FVec Ideal S256x256 .bf16) (a : Fin 128) (x : Fin 256) :
    k0_pay94 (F := Ideal) Q (ix2 a x) = Q (ix2 ⟨a.val, by omega⟩ x) := by
  pointwise [k0_pay94]

/-- The last 128 of 256 queries. -/
theorem lower_apply (Q : FVec Ideal S256x256 .bf16) (a : Fin 128) (x : Fin 256) :
    k0_pay95 (F := Ideal) Q (ix2 a x) = Q (ix2 ⟨128 + a.val, by omega⟩ x) := by
  pointwise [k0_pay95]

/-- The tile of 128 latents' queries of one head. -/
def latTile (Q : FVec Ideal S128x256 .bf16) (K V : FVec Ideal S1x2304x256 .bf16) : FVec Ideal S128x128 .bf16 :=
  k0_pay114 (k0_pay63 K) (k0_pay64 V) Q

/-- The latents' tile read at an index: attention divided by its sum after the product with the values. -/
theorem latTile_apply (Q : FVec Ideal S128x256 .bf16) (K V : FVec Ideal S1x2304x256 .bf16) (hV : ∀ j, V (ix3 0 j 128) = (1 : EReal)) (a e : Fin 128) :
    latTile Q K V (ix2 a e)
      = after (fun j => ∑ x : Fin 256, Q (ix2 a x) * K (ix3 0 j x)) (fun j => V (ix3 0 j ⟨e.val, by omega⟩)) := by
  pointwise [latTile, k0_pay114, k0_pay63, k0_pay64]
  simp only [hV, mul_one, ofBits_bot]
  rfl

/-- The tile of 128 of the context's queries of one head. -/
def ctxTile (Q : FVec Ideal S128x256 .bf16) (K V : FVec Ideal S1x256x256 .bf16) : FVec Ideal S128x128 .bf16 :=
  k0_pay9 (k0_pay145 K) (k0_pay146 V) Q

/-- The context's tile read at an index. -/
theorem ctxTile_apply (Q : FVec Ideal S128x256 .bf16) (K V : FVec Ideal S1x256x256 .bf16) (hV : ∀ j, V (ix3 0 j 128) = (1 : EReal)) (a e : Fin 128) :
    ctxTile Q K V (ix2 a e)
      = after (fun j => ∑ x : Fin 256, Q (ix2 a x) * K (ix3 0 j x)) (fun j => V (ix3 0 j ⟨e.val, by omega⟩)) := by
  pointwise [ctxTile, k0_pay9, k0_pay145, k0_pay146]
  simp only [hV, mul_one, ofBits_bot]
  rfl

end Cert.Kernel10Ideal.Value
-- ==== Proof.MlaSlabs.lean ====
/- The two scratch arrays the latent attention fills at the first point of a run: the keys and the values of eight heads. -/
module

public import proofs.«01_k».proof.Proof.MlaUnit
public import proofs.«01_k».proof.Proof.Slabs
public import Idealize.ShloMosaic.Lib.Ring

@[expose] public section

set_option maxRecDepth 16384
noncomputable section
namespace Cert.Kernel10Ideal.Value
open Cert.Kernel10Ideal Cert.Kernel10Ideal.Gen Idealize.ShloMosaic Idealize.ShloMosaic.TcCoe Idealize.SL.Sem Cert.DiffAttn
open Cert.KernelIdeal.Value (turn lane half_mask select_ite idx_eq)

/-- Key `j` of head `h` at a lane: the positionless part on 128 lanes, then the rotary part that all heads share, turned
    for a latent; the latents come first, the context behind them. -/
def keyAt (X : FVec Ideal S2048x2048 .bf16) (Y : FVec Ideal S256x2048 .bf16) (P : FVec Ideal S2048x128 .bf16) (Z : FVec Ideal S256x128 .bf16)
    (C S : FVec Ideal S2048x128 .f32) (h : Fin 8) (j : Fin 2304) (l : Fin 256) : EReal :=
  if hj : j.val < 2048 then
    if hl : l.val < 128 then X (ix2 ⟨j.val, hj⟩ ⟨h.val * 256 + l.val, by omega⟩)
    else turn (fun l => P (ix2 ⟨j.val, hj⟩ l)) (fun l => C (ix2 ⟨j.val, hj⟩ l)) (fun l => S (ix2 ⟨j.val, hj⟩ l)) ⟨l.val - 128, by omega⟩
  else if hl : l.val < 128 then Y (ix2 ⟨j.val - 2048, by omega⟩ ⟨h.val * 256 + l.val, by omega⟩)
  else Z (ix2 ⟨j.val - 2048, by omega⟩ ⟨l.val - 128, by omega⟩)

/-- Value `j` of head `h` at a lane; lane 128 is one and the lanes behind it zero. -/
def valAt (X : FVec Ideal S2048x2048 .bf16) (Y : FVec Ideal S256x2048 .bf16) (h : Fin 8) (j : Fin 2304) (l : Fin 256) : EReal :=
  if hl : l.val < 128 then
    if hj : j.val < 2048 then X (ix2 ⟨j.val, hj⟩ ⟨h.val * 256 + (128 + l.val), by omega⟩)
    else Y (ix2 ⟨j.val - 2048, by omega⟩ ⟨h.val * 256 + (128 + l.val), by omega⟩)
  else if l.val = 128 then 1 else 0

/-- The keys of eight heads. -/
def keySlab (X : FVec Ideal S2048x2048 .bf16) (Y : FVec Ideal S256x2048 .bf16) (P : FVec Ideal S2048x128 .bf16) (Z : FVec Ideal S256x128 .bf16)
    (C S : FVec Ideal S2048x128 .f32) : FVec Ideal S8x2304x256 .bf16 :=
  fun i => keyAt X Y P Z C S (i 0) (i 1) (i 2)

/-- The values of eight heads, with their column of ones. -/
def valSlab (X : FVec Ideal S2048x2048 .bf16) (Y : FVec Ideal S256x2048 .bf16) : FVec Ideal S8x2304x256 .bf16 :=
  fun i => valAt X Y (i 0) (i 1) (i 2)

/-! ## The stored pieces -/

/-- A latents' block as a head's. -/
theorem latRows_apply (X : FVec Ideal S2048x128 .bf16) (a : Fin 2048) (l : Fin 128) : k0_pay12 (F := Ideal) X (ix3 0 a l) = X (ix2 a l) := by
  pointwise [k0_pay12]

/-- A context's block as a head's. -/
theorem ctxRows_apply (X : FVec Ideal S256x128 .bf16) (a : Fin 256) (l : Fin 128) : k0_pay1 (F := Ideal) X (ix3 0 a l) = X (ix2 a l) := by
  pointwise [k0_pay1]

/-- The turned rotary parts of the latents' keys. -/
theorem rotRows_apply (P : FVec Ideal S2048x128 .bf16) (C S : FVec Ideal S2048x128 .f32) (a : Fin 2048) (l : Fin 128) :
    k0_pay10 (F := Ideal) P C S (ix2 a l) = turn (fun l => P (ix2 a l)) (fun l => C (ix2 a l)) (fun l => S (ix2 a l)) l := by
  pointwise [k0_pay10]
  rw [half_mask, select_ite]
  rfl

/-- The column of ones among zeros. -/
theorem ones_apply (j : Fin 2304) (l : Fin 128) : k0_pay4 (F := Ideal) k0_pay11 (ix3 0 j l) = if l.val = 0 then (1 : EReal) else 0 := by
  have e : IntOp.cmpi .eq (BitVec.ofNat 32 l.val) 0#32 = if l.val = 0 then 1#1 else 0#1 := by revert l; decide +kernel
  pointwise [k0_pay4, k0_pay11]
  rw [e, select_ite]

section
variable (X : FVec Ideal S2048x2048 .bf16) (Y : FVec Ideal S256x2048 .bf16) (P : FVec Ideal S2048x128 .bf16) (Z : FVec Ideal S256x128 .bf16)
  (C S : FVec Ideal S2048x128 .f32)

/-- The coordinates of a place in a scratch array. -/
theorem slab_idx (y : S8x2304x256.Idx) : ∃ (h : Fin 8) (j : Fin 2304) (l : Fin 256), (y 0 = h ∧ y 1 = j ∧ y 2 = l)
    ∧ h.val = (y 0).val ∧ j.val = (y 1).val ∧ l.val = (y 2).val :=
  ⟨y 0, y 1, y 2, ⟨rfl, rfl, rfl⟩, rfl, rfl, rfl⟩

/-- A head's latent keys at a place in the keys' array. -/
theorem latKeys_at (p : ℕ) (i : ∀ a, (![0, p] : Fin 2 → ℕ) a + (![2048, 128] : Fin 2 → ℕ) a ≤ S2048x2048.size a) (x : S1x2048x128.Idx) (y : S8x2304x256.Idx)
    (hp : p = (y 0).val * 256) (h1 : (y 1).val = (x 1).val) (h2 : (y 2).val = (x 2).val) :
    k0_pay12 (F := Ideal) (View.ld (Val := Elt Ideal) (S := S2048x2048) (e' := .bf16) X (Rect.unit (s := S2048x2048) ![0, p] ![2048, 128] i)) x
      = keySlab X Y P Z C S y := by
  have x1 : (x 1).val < 2048 := (x 1).isLt
  have x2 : (x 2).val < 128 := (x 2).isLt
  obtain ⟨h, j, l, ⟨e0, e1, e2⟩, v0, v1, v2⟩ := slab_idx y
  rw [idx_eq x ⟨(x 1).val, x1⟩ ⟨(x 2).val, x2⟩ rfl rfl, latRows_apply]
  unfold keySlab
  rw [e0, e1, e2, keyAt, dif_pos (by omega), dif_pos (by omega)]
  exact View.ld_unit_apply_of _ _ _ _ _ _ (by intro i; fin_cases i <;> simp <;> omega)

/-- A head's context keys at a place in the keys' array. -/
theorem ctxKeys_at (p : ℕ) (i : ∀ a, (![0, p] : Fin 2 → ℕ) a + (![256, 128] : Fin 2 → ℕ) a ≤ S256x2048.size a) (x : S1x256x128.Idx) (y : S8x2304x256.Idx)
    (hp : p = (y 0).val * 256) (h1 : (y 1).val = 2048 + (x 1).val) (h2 : (y 2).val = (x 2).val) :
    k0_pay1 (F := Ideal) (View.ld (Val := Elt Ideal) (S := S256x2048) (e' := .bf16) Y (Rect.unit (s := S256x2048) ![0, p] ![256, 128] i)) x
      = keySlab X Y P Z C S y := by
  have x1 : (x 1).val < 256 := (x 1).isLt
  have x2 : (x 2).val < 128 := (x 2).isLt
  obtain ⟨h, j, l, ⟨e0, e1, e2⟩, v0, v1, v2⟩ := slab_idx y
  rw [idx_eq x ⟨(x 1).val, x1⟩ ⟨(x 2).val, x2⟩ rfl rfl, ctxRows_apply]
  unfold keySlab
  rw [e0, e1, e2, keyAt, dif_neg (by omega), dif_pos (by omega)]
  exact View.ld_unit_apply_of _ _ _ _ _ _ (by intro i; fin_cases i <;> simp <;> omega)

/-- The latents' rotary keys at a place in the keys' array. -/
theorem rotKeys_at (x : S1x2048x128.Idx) (y : S8x2304x256.Idx) (h1 : (y 1).val = (x 1).val) (h2 : (y 2).val = 128 + (x 2).val) :
    k0_pay5 (F := Ideal) (k0_pay10 P C S) x = keySlab X Y P Z C S y := by
  have x1 : (x 1).val < 2048 := (x 1).isLt
  have x2 : (x 2).val < 128 := (x 2).isLt
  obtain ⟨h, j, l, ⟨e0, e1, e2⟩, v0, v1, v2⟩ := slab_idx y
  rw [idx_eq x ⟨(x 1).val, x1⟩ ⟨(x 2).val, x2⟩ rfl rfl]
  refine (latRows_apply (k0_pay10 (F := Ideal) P C S) _ _).trans ?_
  rw [rotRows_apply]
  unfold keySlab
  rw [e0, e1, e2, keyAt, dif_pos (by omega), dif_neg (by omega)]
  have ej : (⟨(x 1).val, x1⟩ : Fin 2048) = ⟨j.val, by omega⟩ := Fin.ext (by dsimp only; omega)
  have el : (⟨(x 2).val, x2⟩ : Fin 128) = ⟨l.val - 128, by omega⟩ := Fin.ext (by dsimp only; omega)
  rw [ej, el]

/-- The context's rotary keys at a place in the keys' array. -/
theorem ctxPe_at (x : S1x256x128.Idx) (y : S8x2304x256.Idx) (h1 : (y 1).val = 2048 + (x 1).val) (h2 : (y 2).val = 128 + (x 2).val) :
    k0_pay1 (F := Ideal) Z x = keySlab X Y P Z C S y := by
  have x1 : (x 1).val < 256 := (x 1).isLt
  have x2 : (x 2).val < 128 := (x 2).isLt
  obtain ⟨h, j, l, ⟨e0, e1, e2⟩, v0, v1, v2⟩ := slab_idx y
  rw [idx_eq x ⟨(x 1).val, x1⟩ ⟨(x 2).val, x2⟩ rfl rfl, ctxRows_apply]
  unfold keySlab
  rw [e0, e1, e2, keyAt, dif_neg (by omega), dif_neg (by omega)]
  have ej : (⟨(x 1).val, x1⟩ : Fin 256) = ⟨j.val - 2048, by omega⟩ := Fin.ext (by dsimp only; omega)
  have el : (⟨(x 2).val, x2⟩ : Fin 128) = ⟨l.val - 128, by omega⟩ := Fin.ext (by dsimp only; omega)
  rw [ej, el]

/-- A head's latent values at a place in the values' array. -/
theorem latVals_at (p : ℕ) (i : ∀ a, (![0, p] : Fin 2 → ℕ) a + (![2048, 128] : Fin 2 → ℕ) a ≤ S2048x2048.size a) (x : S1x2048x128.Idx) (y : S8x2304x256.Idx)
    (hp : p = (y 0).val * 256 + 128) (h1 : (y 1).val = (x 1).val) (h2 : (y 2).val = (x 2).val) :
    k0_pay12 (F := Ideal) (View.ld (Val := Elt Ideal) (S := S2048x2048) (e' := .bf16) X (Rect.unit (s := S2048x2048) ![0, p] ![2048, 128] i)) x
      = valSlab X Y y := by
  have x1 : (x 1).val < 2048 := (x 1).isLt
  have x2 : (x 2).val < 128 := (x 2).isLt
  obtain ⟨h, j, l, ⟨e0, e1, e2⟩, v0, v1, v2⟩ := slab_idx y
  rw [idx_eq x ⟨(x 1).val, x1⟩ ⟨(x 2).val, x2⟩ rfl rfl, latRows_apply]
  unfold valSlab
  rw [e0, e1, e2, valAt, dif_pos (by omega), dif_pos (by omega)]
  exact View.ld_unit_apply_of _ _ _ _ _ _ (by intro i; fin_cases i <;> simp <;> omega)

/-- A head's context values at a place in the values' array. -/
theorem ctxVals_at (p : ℕ) (i : ∀ a, (![0, p] : Fin 2 → ℕ) a + (![256, 128] : Fin 2 → ℕ) a ≤ S256x2048.size a) (x : S1x256x128.Idx) (y : S8x2304x256.Idx)
    (hp : p = (y 0).val * 256 + 128) (h1 : (y 1).val = 2048 + (x 1).val) (h2 : (y 2).val = (x 2).val) :
    k0_pay1 (F := Ideal) (View.ld (Val := Elt Ideal) (S := S256x2048) (e' := .bf16) Y (Rect.unit (s := S256x2048) ![0, p] ![256, 128] i)) x
      = valSlab X Y y := by
  have x1 : (x 1).val < 256 := (x 1).isLt
  have x2 : (x 2).val < 128 := (x 2).isLt
  obtain ⟨h, j, l, ⟨e0, e1, e2⟩, v0, v1, v2⟩ := slab_idx y
  rw [idx_eq x ⟨(x 1).val, x1⟩ ⟨(x 2).val, x2⟩ rfl rfl, ctxRows_apply]
  unfold valSlab
  rw [e0, e1, e2, valAt, dif_pos (by omega), dif_neg (by omega)]
  exact View.ld_unit_apply_of _ _ _ _ _ _ (by intro i; fin_cases i <;> simp <;> omega)

/-- The column of ones at a place in the values' array. -/
theorem ones_at (x : S1x2304x128.Idx) (y : S8x2304x256.Idx) (h1 : (y 1).val = (x 1).val) (h2 : (y 2).val = 128 + (x 2).val) :
    k0_pay4 (F := Ideal) k0_pay11 x = valSlab X Y y := by
  have x1 : (x 1).val < 2304 := (x 1).isLt
  have x2 : (x 2).val < 128 := (x 2).isLt
  obtain ⟨h, j, l, ⟨e0, e1, e2⟩, v0, v1, v2⟩ := slab_idx y
  rw [idx_eq x ⟨(x 1).val, x1⟩ ⟨(x 2).val, x2⟩ rfl rfl, ones_apply]
  unfold valSlab
  rw [e0, e1, e2, valAt, dif_neg (by omega)]
  dsimp only
  by_cases hz : (x 2).val = 0
  · rw [if_pos hz, if_pos (by omega)]
  · rw [if_neg hz, if_neg (by omega)]

end

end Cert.Kernel10Ideal.Value
-- ==== Proof.MlaBlocks.lean ====
/- The latent attention's windows at a grid point, read as entries of the arguments. Point `t` of the grid is batch
   `t / 18`, the group `t / 9 % 2` of eight heads and the block `t % 9` of 256 queries, the context's for the last. -/
module

public import proofs.«01_k».proof.Proof.Gen.Kernel10Ideal.Value
public import proofs.«01_k».proof.Proof.Entry
public import proofs.«01_k».proof.Proof.MlaSpec

@[expose] public section

set_option maxRecDepth 16384
noncomputable section
namespace Cert.Kernel10Ideal.Value
open Cert.Kernel10Ideal Cert.Kernel10Ideal.Gen Idealize.ShloMosaic Idealize.ShloMosaic.TcCoe Idealize.SL.Sem
open Cert.KernelIdeal.Value (turn lane signed half_mask select_ite turn_rot)
variable (m : (ℓ : Loc nD τ sig) → Buf (Elt Ideal) ℓ)

/-- The block of 256 rows that a point's queries are. -/
def qblk (t : ℕ) : ℕ := if t % 9 < 8 then t / 18 * 8 + t % 9 else 64 + t / 18

/-- The windows' block indices at every point. -/
theorem idx : ∀ t : Fin cfg0.N,
    win0_0.index t = ![qblk t.val, t.val / 9 % 2] ∧ win0_1.index t = ![qblk t.val, 2 + t.val / 9 % 2]
    ∧ win0_2.index t = ![t.val / 18, t.val / 9 % 2] ∧ win0_3.index t = ![64 + t.val / 18, t.val / 9 % 2]
    ∧ win0_4.index t = ![t.val / 18, 12] ∧ win0_5.index t = ![64 + t.val / 18, 12]
    ∧ win0_6.index t = ![min (t.val % 9) 7, 0] ∧ win0_7.index t = ![min (t.val % 9) 7, 0]
    ∧ win0_8.index t = ![0, 0] ∧ win0_9.index t = ![0, 0] ∧ win0_10.index t = ![qblk t.val, t.val / 9 % 2] :=
  (by decide +kernel : ∀ t : Fin grid0.N, _)

theorem lt144 (t : Fin cfg0.N) : t.val < 144 := lt_of_lt_of_eq t.isLt N_0

theorem qblk_lt (t : Fin cfg0.N) : qblk t.val < 72 := by
  have := lt144 t
  unfold qblk
  split <;> omega

/-! ## The arguments -/

/-- The queries' projections, rows by columns. -/
abbrev QU (c : Dev nD) (i : Fin 18432) (j : Fin 4096) : EReal :=
  (show FVec Ideal S18432x4096 .bf16 from m ((c : Thread nD τ).loc main_arg0)) (ix2 i j)
/-- The keys' and values' projections, rows by columns. -/
abbrev KV (c : Dev nD) (i : Fin 18432) (j : Fin 4096) : EReal :=
  (show FVec Ideal S18432x4096 .bf16 from m ((c : Thread nD τ).loc main_arg1)) (ix2 i j)
/-- The latents, rows by columns. -/
abbrev HL (c : Dev nD) (i : Fin 18432) (j : Fin 1664) : EReal :=
  (show FVec Ideal S18432x1664 .bf16 from m ((c : Thread nD τ).loc main_arg2)) (ix2 i j)
/-- The cosines of the rotary angles. -/
abbrev CO (c : Dev nD) (i : Fin 2048) (j : Fin 32) : EReal :=
  (show FVec Ideal S2048x32 .f32 from m ((c : Thread nD τ).loc main_arg3)) (ix2 i j)
/-- The sines of the rotary angles. -/
abbrev SI (c : Dev nD) (i : Fin 2048) (j : Fin 32) : EReal :=
  (show FVec Ideal S2048x32 .f32 from m ((c : Thread nD τ).loc main_arg4)) (ix2 i j)

/-! ## The tables made on the host -/

/-- The cosine table the kernel is handed: lane `l` holds the angle `l % 32`. -/
theorem cosTable (c : Dev nD) (a : Fin 2048) (l : Fin 128) :
    (show FVec Ideal S2048x128 .f32 from V m c main_v2) (ix2 a l) = CO m c a ⟨l.val % 32, by omega⟩ := by
  unfold V
  simp only [List.flatten_cons, List.flatten_nil, List.append_nil, List.cons_append, List.nil_append, hostOps0]
  entry_read
  pointwise

/-- The sine table the kernel is handed: lane `l` holds the angle `l % 32`, negated for the first half of its 64. -/
theorem sinTable (c : Dev nD) (a : Fin 2048) (l : Fin 128) :
    (show FVec Ideal S2048x128 .f32 from V m c main_v7) (ix2 a l) = signed l (SI m c a ⟨l.val % 32, by omega⟩) := by
  unfold V
  simp only [List.flatten_cons, List.flatten_nil, List.append_nil, List.cons_append, List.nil_append, hostOps0]
  entry_read
  pointwise
  unfold signed
  split
  · exact congrArg (fun q => -SI m c a q) (Fin.ext (show _ = l.val % 32 by show _ = _; dsimp only; omega))
  · exact congrArg (fun q => SI m c a q) (Fin.ext (show _ = l.val % 32 by show _ = _; dsimp only; omega))

/-! ## The blocks -/

/-- The positionless parts of a block of queries, for eight heads. -/
theorem qn_apply (c : Dev nD) (t : Fin cfg0.N) (a : Fin 256) (l : Fin 1024) :
    (show FVec Ideal S256x1024 .bf16 from iblk m c 0 t) (ix2 a l)
      = QU m c ⟨qblk t.val * 256 + a.val, by have := qblk_lt t; omega⟩ ⟨t.val / 9 % 2 * 1024 + l.val, by omega⟩ := by
  have := qblk_lt t
  blk_ext [iblk, V, idx t]

/-- The rotary parts of a block of queries, for eight heads. -/
theorem qp_apply (c : Dev nD) (t : Fin cfg0.N) (a : Fin 256) (l : Fin 1024) :
    (show FVec Ideal S256x1024 .bf16 from iblk m c 1 t) (ix2 a l)
      = QU m c ⟨qblk t.val * 256 + a.val, by have := qblk_lt t; omega⟩ ⟨2048 + (t.val / 9 % 2 * 1024 + l.val), by omega⟩ := by
  have := qblk_lt t
  blk_ext [iblk, V, idx t]

/-- The batch's latent keys and values of eight heads. -/
theorem kvl_apply (c : Dev nD) (t : Fin cfg0.N) (a : Fin 2048) (l : Fin 2048) :
    (show FVec Ideal S2048x2048 .bf16 from iblk m c 2 t) (ix2 a l)
      = KV m c ⟨t.val / 18 * 2048 + a.val, by have := lt144 t; omega⟩ ⟨t.val / 9 % 2 * 2048 + l.val, by omega⟩ := by
  have := lt144 t
  blk_ext [iblk, V, idx t]

/-- The batch's context keys and values of eight heads. -/
theorem kvc_apply (c : Dev nD) (t : Fin cfg0.N) (a : Fin 256) (l : Fin 2048) :
    (show FVec Ideal S256x2048 .bf16 from iblk m c 3 t) (ix2 a l)
      = KV m c ⟨16384 + (t.val / 18 * 256 + a.val), by have := lt144 t; omega⟩ ⟨t.val / 9 % 2 * 2048 + l.val, by omega⟩ := by
  have := lt144 t
  blk_ext [iblk, V, idx t]

/-- The rotary parts of the batch's latent keys. -/
theorem kpl_apply (c : Dev nD) (t : Fin cfg0.N) (a : Fin 2048) (l : Fin 128) :
    (show FVec Ideal S2048x128 .bf16 from iblk m c 4 t) (ix2 a l)
      = HL m c ⟨t.val / 18 * 2048 + a.val, by have := lt144 t; omega⟩ ⟨1536 + l.val, by omega⟩ := by
  have := lt144 t
  blk_ext [iblk, V, idx t]

/-- The rotary parts of the batch's context keys. -/
theorem kpc_apply (c : Dev nD) (t : Fin cfg0.N) (a : Fin 256) (l : Fin 128) :
    (show FVec Ideal S256x128 .bf16 from iblk m c 5 t) (ix2 a l)
      = HL m c ⟨16384 + (t.val / 18 * 256 + a.val), by have := lt144 t; omega⟩ ⟨1536 + l.val, by omega⟩ := by
  have := lt144 t
  blk_ext [iblk, V, idx t]

/-- The cosines of a block of queries; the context's block is handed the last of them. -/
theorem cq_apply (c : Dev nD) (t : Fin cfg0.N) (a : Fin 256) (l : Fin 128) :
    (show FVec Ideal S256x128 .f32 from iblk m c 6 t) (ix2 a l) = CO m c ⟨min (t.val % 9) 7 * 256 + a.val, by omega⟩ ⟨l.val % 32, by omega⟩ := by
  refine Eq.trans ?_ (cosTable m c ⟨min (t.val % 9) 7 * 256 + a.val, by omega⟩ l)
  blk_ext [iblk, idx t]

/-- The sines of a block of queries; the context's block is handed the last of them. -/
theorem sq_apply (c : Dev nD) (t : Fin cfg0.N) (a : Fin 256) (l : Fin 128) :
    (show FVec Ideal S256x128 .f32 from iblk m c 7 t) (ix2 a l)
      = signed l (SI m c ⟨min (t.val % 9) 7 * 256 + a.val, by omega⟩ ⟨l.val % 32, by omega⟩) := by
  refine Eq.trans ?_ (sinTable m c ⟨min (t.val % 9) 7 * 256 + a.val, by omega⟩ l)
  blk_ext [iblk, idx t]

/-- The cosines of the keys. -/
theorem ck_apply (c : Dev nD) (t : Fin cfg0.N) (a : Fin 2048) (l : Fin 128) :
    (show FVec Ideal S2048x128 .f32 from iblk m c 8 t) (ix2 a l) = CO m c a ⟨l.val % 32, by omega⟩ := by
  refine Eq.trans ?_ (cosTable m c a l)
  blk_ext [iblk, idx t]

/-- The sines of the keys. -/
theorem sk_apply (c : Dev nD) (t : Fin cfg0.N) (a : Fin 2048) (l : Fin 128) :
    (show FVec Ideal S2048x128 .f32 from iblk m c 9 t) (ix2 a l) = signed l (SI m c a ⟨l.val % 32, by omega⟩) := by
  refine Eq.trans ?_ (sinTable m c a l)
  blk_ext [iblk, idx t]

end Cert.Kernel10Ideal.Value
-- ==== Proof.MlaScratch.lean ====
/- What the latent attention's two scratch arrays hold at every point: the keys and the values of the eight heads of the
   point's run, filled at the run's first point and kept by the eight others. -/
module

public import proofs.«01_k».proof.Proof.MlaSlabs
public import proofs.«01_k».proof.Proof.MlaBlocks
public import Idealize.ShloMosaic.Lib.Pipeline.ValueKit.Held

@[expose] public section

set_option maxRecDepth 16384
noncomputable section
namespace Cert.Kernel10Ideal.Value
open Cert.Kernel10Ideal Cert.Kernel10Ideal.Gen Idealize.ShloMosaic Idealize.ShloMosaic.TcCoe Idealize.SL.Sem
variable (m : (ℓ : Loc nD τ sig) → Buf (Elt Ideal) ℓ)

/-- The keys of the blocks at a point. -/
abbrev keysAt (c : Dev nD) (t : Fin cfg0.N) : FVec Ideal S8x2304x256 .bf16 :=
  keySlab (iblk m c 2 t) (iblk m c 3 t) (iblk m c 4 t) (iblk m c 5 t) (iblk m c 8 t) (iblk m c 9 t)

/-- The values of the blocks at a point. -/
abbrev valsAt (c : Dev nD) (t : Fin cfg0.N) : FVec Ideal S8x2304x256 .bf16 := valSlab (iblk m c 2 t) (iblk m c 3 t)

set_option maxHeartbeats 1000000 in
/-- The first point of a run fills the first scratch array with the keys. -/
theorem keys_first (c : Dev nD) (t : Fin cfg0.N) (h : t.val % 9 = 0) : (outsAt0 m c t.val t.isLt).2.1 = keysAt m c t := by
  funext y
  rw [outsAt0_A m c t h (by omega) (by omega)]; frame_out
  canon_tiles x hx using View.cover_of_tiledBy _ ![1, 256, 128] (by sl_kernel_rfl) y
  all_goals first
    | exact latKeys_at _ _ _ _ _ _ _ _ x y (by omega) (by omega) (by omega)
    | exact ctxKeys_at _ _ _ _ _ _ _ _ x y (by omega) (by omega) (by omega)
    | exact rotKeys_at _ _ _ _ _ _ x y (by omega) (by omega)
    | exact ctxPe_at _ _ _ _ _ _ x y (by omega) (by omega)

set_option maxHeartbeats 1000000 in
/-- The first point of a run fills the second scratch array with the values. -/
theorem vals_first (c : Dev nD) (t : Fin cfg0.N) (h : t.val % 9 = 0) : (outsAt0 m c t.val t.isLt).2.2 = valsAt m c t := by
  funext y
  rw [outsAt0_A m c t h (by omega) (by omega)]; frame_out
  canon_tiles x hx using View.cover_of_tiledBy _ ![1, 256, 128] (by sl_kernel_rfl) y
  all_goals first
    | exact latVals_at _ _ _ _ x y (by omega) (by omega) (by omega)
    | exact ctxVals_at _ _ _ _ x y (by omega) (by omega) (by omega)
    | exact ones_at _ _ x y (by omega) (by omega)

/-- The point at which the run of `t` starts. -/
abbrev runStart (t : Fin cfg0.N) : Fin cfg0.N := ⟨9 * (t.val / 9), Pipeline.run_start_lt t⟩

/-- Later points keep the first scratch array. -/
theorem keys_kept (c : Dev nD) (t : Fin cfg0.N) (h : ¬t.val % 9 = 0) :
    (outsAt0 m c t.val t.isLt).2.1 = (outsAt0 m c (t.val - 1) (Nat.lt_of_le_of_lt (Nat.sub_le _ _) t.isLt)).2.1 := by
  by_cases h1 : t.val % 9 = 8
  · rw [outsAt0_C m c t h (by omega) h1]; rfl
  · rw [outsAt0_B m c t h (by omega) h1]; rfl

/-- Later points keep the second scratch array. -/
theorem vals_kept (c : Dev nD) (t : Fin cfg0.N) (h : ¬t.val % 9 = 0) :
    (outsAt0 m c t.val t.isLt).2.2 = (outsAt0 m c (t.val - 1) (Nat.lt_of_le_of_lt (Nat.sub_le _ _) t.isLt)).2.2 := by
  by_cases h1 : t.val % 9 = 8
  · rw [outsAt0_C m c t h (by omega) h1]; rfl
  · rw [outsAt0_B m c t h (by omega) h1]; rfl

/-- At every point the first scratch array holds the keys of its run. -/
theorem keys_held (c : Dev nD) (t : Fin cfg0.N) : (outsAt0 m c t.val t.isLt).2.1 = keysAt m c (runStart t) :=
  Pipeline.eq_of_write_hold (fun n h => (outsAt0 m c n h).2.1) 9 (keysAt m c) (fun t h => keys_first m c t h)
    (fun t h => keys_kept m c t h) t

/-- At every point the second scratch array holds the values of its run. -/
theorem vals_held (c : Dev nD) (t : Fin cfg0.N) : (outsAt0 m c t.val t.isLt).2.2 = valsAt m c (runStart t) :=
  Pipeline.eq_of_write_hold (fun n h => (outsAt0 m c n h).2.2) 9 (valsAt m c) (fun t h => vals_first m c t h)
    (fun t h => vals_kept m c t h) t

end Cert.Kernel10Ideal.Value
-- ==== Proof.MlaTiles.lean ====
/- One entry of the block of 256 queries and eight heads that a grid point of the latent attention stores: its tile read
   at the entry. -/
module

public import proofs.«01_k».proof.Proof.MlaScratch

@[expose] public section

set_option maxRecDepth 16384
noncomputable section
namespace Cert.Kernel10Ideal.Value
open Cert.Kernel10Ideal Cert.Kernel10Ideal.Gen Idealize.ShloMosaic Idealize.ShloMosaic.TcCoe Idealize.SL.Sem Cert.DiffAttn
open Cert.KernelIdeal.Value (turn)

/-- A latent's query of head `h` over its 256 lanes, for the row `a` of the block. -/
def latLane (N P : FVec Ideal S256x1024 .bf16) (C S : FVec Ideal S256x128 .f32) (a : Fin 256) (h : Fin 8) (x : Fin 256) : EReal :=
  if hx : x.val < 128 then N (ix2 a ⟨h.val * 128 + x.val, by omega⟩)
  else turn (fun l => P (ix2 a ⟨h.val * 128 + l.val, by omega⟩)) (fun l => C (ix2 a l)) (fun l => S (ix2 a l)) ⟨x.val - 128, by omega⟩

/-- A context's query of head `h` over its 256 lanes, for the row `a` of the block. -/
def ctxLane (N P : FVec Ideal S256x1024 .bf16) (a : Fin 256) (h : Fin 8) (x : Fin 256) : EReal :=
  if hx : x.val < 128 then N (ix2 a ⟨h.val * 128 + x.val, by omega⟩) else P (ix2 a ⟨h.val * 128 + (x.val - 128), by omega⟩)

/-- Entry `e` of head `h` for a latent's query in row `a` of the block, over the blocks and the filled scratch arrays. -/
def latCell (N P : FVec Ideal S256x1024 .bf16) (C S : FVec Ideal S256x128 .f32) (K V : FVec Ideal S8x2304x256 .bf16)
    (a : Fin 256) (h : Fin 8) (e : Fin 128) : EReal :=
  after (fun j => ∑ x : Fin 256, latLane N P C S a h x * K (ix3 h j x)) (fun j => V (ix3 h j ⟨e.val, by omega⟩))

/-- Entry `e` of head `h` for a context's query in row `a` of the block, over the blocks and the context's part of the
    filled scratch arrays. -/
def ctxCell (N P : FVec Ideal S256x1024 .bf16) (K V : FVec Ideal S8x2304x256 .bf16) (a : Fin 256) (h : Fin 8) (e : Fin 128) : EReal :=
  after (fun j => ∑ x : Fin 256, ctxLane N P a h x * K (ix3 h (Mla.ctxKey j) x)) (fun j => V (ix3 h (Mla.ctxKey j) ⟨e.val, by omega⟩))

section
variable (N P : FVec Ideal S256x1024 .bf16) (C S : FVec Ideal S256x128 .f32) (K V : FVec Ideal S8x2304x256 .bf16) (h : Fin 8) (p : ℕ)
  (hp : p = h.val * 128)
  (iq : ∀ a, (![0, p] : Fin 2 → ℕ) a + (![256, 128] : Fin 2 → ℕ) a ≤ S256x1024.size a)

include hp in
/-- A head's columns of a block of queries. -/
theorem cols_apply (a : Fin 256) (l : Fin 128) :
    View.ld (Val := Elt Ideal) (S := S256x1024) (e' := .bf16) N (Rect.unit (s := S256x1024) ![0, p] ![256, 128] iq) (ix2 a l)
      = N (ix2 a ⟨h.val * 128 + l.val, by omega⟩) :=
  View.ld_unit_apply_of _ _ _ _ _ _ (by intro i; fin_cases i <;> simp [hp])

include hp in
/-- The latents' queries of a head. -/
theorem latQuery_lane (a x : Fin 256) :
    k0_pay62 (F := Ideal) (View.ld (Val := Elt Ideal) (S := S256x1024) (e' := .bf16) P (Rect.unit (s := S256x1024) ![0, p] ![256, 128] iq)) C S
        (View.ld (Val := Elt Ideal) (S := S256x1024) (e' := .bf16) N (Rect.unit (s := S256x1024) ![0, p] ![256, 128] iq)) (ix2 a x)
      = latLane N P C S a h x := by
  rw [latQuery_apply]
  unfold latLane
  by_cases hx : x.val < 128
  · rw [dif_pos hx, dif_pos hx]
    exact cols_apply N h p hp iq a ⟨x.val, hx⟩
  · rw [dif_neg hx, dif_neg hx]
    exact congrArg (fun f => turn f _ _ _) (funext fun l => cols_apply P h p hp iq a l)

include hp in
/-- The context's queries of a head. -/
theorem ctxQuery_lane (a x : Fin 256) :
    k0_pay144 (F := Ideal) (View.ld (Val := Elt Ideal) (S := S256x1024) (e' := .bf16) N (Rect.unit (s := S256x1024) ![0, p] ![256, 128] iq))
        (View.ld (Val := Elt Ideal) (S := S256x1024) (e' := .bf16) P (Rect.unit (s := S256x1024) ![0, p] ![256, 128] iq)) (ix2 a x)
      = ctxLane N P a h x := by
  rw [ctxQuery_apply]
  unfold ctxLane
  by_cases hx : x.val < 128
  · rw [dif_pos hx, dif_pos hx]
    exact cols_apply N h p hp iq a ⟨x.val, hx⟩
  · rw [dif_neg hx, dif_neg hx]
    exact cols_apply P h p hp iq a ⟨x.val - 128, by omega⟩

variable (k : ℕ) (hk : k = h.val)

include hk in
/-- A head's rows of a scratch array, read back from row `o`. -/
theorem rows_apply {n : ℕ} (o : ℕ) (i : ∀ a, (![k, o, 0] : Fin 3 → ℕ) a + (![1, n, 256] : Fin 3 → ℕ) a ≤ S8x2304x256.size a) (j : Fin n) (j' : Fin 2304)
    (hj : j'.val = o + j.val) (l : Fin 256) :
    View.ld (Val := Elt Ideal) (S := S8x2304x256) (e' := .bf16) K (Rect.unit (s := S8x2304x256) ![k, o, 0] ![1, n, 256] i) (ix3 0 j l)
      = K (ix3 h j' l) :=
  View.ld_unit_apply_of _ _ _ _ _ _ (by intro i; fin_cases i <;> simp [hk, hj])

/-- An index of a tile by its coordinates. -/
theorem tile_idx (x : S128x128.Idx) (e : Fin 128) (he : e.val = (x 1).val) : x = ix2 (⟨(x 0).val, (x 0).isLt⟩ : Fin 128) e := by
  funext i; fin_cases i
  · rfl
  · exact Fin.ext he.symm

variable (ik : ∀ a, (![k, 0, 0] : Fin 3 → ℕ) a + (![1, 2304, 256] : Fin 3 → ℕ) a ≤ S8x2304x256.size a)
  (ic : ∀ a, (![k, 2048, 0] : Fin 3 → ℕ) a + (![1, 256, 256] : Fin 3 → ℕ) a ≤ S8x2304x256.size a)
  (x : S128x128.Idx) (a : Fin 256) (e : Fin 128) (he : e.val = (x 1).val)

include hk he in
/-- A tile of latents' queries is the block's entry when its queries are the block's. -/
theorem latTile_at (hV : ∀ j, V (ix3 h j 128) = (1 : EReal)) (Q : FVec Ideal S128x256 .bf16)
    (hQ : ∀ l, Q (ix2 ⟨(x 0).val, (x 0).isLt⟩ l) = latLane N P C S a h l) :
    latTile Q (View.ld (Val := Elt Ideal) (S := S8x2304x256) (e' := .bf16) K (Rect.unit (s := S8x2304x256) ![k, 0, 0] ![1, 2304, 256] ik))
        (View.ld (Val := Elt Ideal) (S := S8x2304x256) (e' := .bf16) V (Rect.unit (s := S8x2304x256) ![k, 0, 0] ![1, 2304, 256] ik)) x
      = latCell N P C S K V a h e := by
  have hr (K : FVec Ideal S8x2304x256 .bf16) (j : Fin 2304) (l : Fin 256) :
      View.ld (Val := Elt Ideal) (S := S8x2304x256) (e' := .bf16) K (Rect.unit (s := S8x2304x256) ![k, 0, 0] ![1, 2304, 256] ik) (ix3 0 j l) = K (ix3 h j l) :=
    rows_apply K h k hk 0 ik j j (by omega) l
  rw [tile_idx x e he]
  refine (latTile_apply Q _ _ (fun j => (hr V j 128).trans (hV j)) _ e).trans ?_
  exact congr (congrArg after (funext fun j => Finset.sum_congr rfl fun x _ => congr (congrArg HMul.hMul (hQ x)) (hr K j x)))
    (funext fun j => hr V j _)

include hk he in
/-- A tile of context's queries is the block's entry when its queries are the block's. -/
theorem ctxTile_at (hV : ∀ j, V (ix3 h j 128) = (1 : EReal)) (Q : FVec Ideal S128x256 .bf16)
    (hQ : ∀ l, Q (ix2 ⟨(x 0).val, (x 0).isLt⟩ l) = ctxLane N P a h l) :
    ctxTile Q (View.ld (Val := Elt Ideal) (S := S8x2304x256) (e' := .bf16) K (Rect.unit (s := S8x2304x256) ![k, 2048, 0] ![1, 256, 256] ic))
        (View.ld (Val := Elt Ideal) (S := S8x2304x256) (e' := .bf16) V (Rect.unit (s := S8x2304x256) ![k, 2048, 0] ![1, 256, 256] ic)) x
      = ctxCell N P K V a h e := by
  have hr (K : FVec Ideal S8x2304x256 .bf16) (j : Fin 256) (l : Fin 256) :
      View.ld (Val := Elt Ideal) (S := S8x2304x256) (e' := .bf16) K (Rect.unit (s := S8x2304x256) ![k, 2048, 0] ![1, 256, 256] ic) (ix3 0 j l)
        = K (ix3 h (Mla.ctxKey j) l) :=
    rows_apply K h k hk 2048 ic j (Mla.ctxKey j) rfl l
  rw [tile_idx x e he]
  refine (ctxTile_apply Q _ _ (fun j => (hr V j 128).trans (hV _)) _ e).trans ?_
  exact congr (congrArg after (funext fun j => Finset.sum_congr rfl fun x _ => congr (congrArg HMul.hMul (hQ x)) (hr K j x)))
    (funext fun j => hr V j _)

include hp hk he

/-- The tile of the first 128 latents' queries of a head. -/
theorem latUpper_at (hV : ∀ j, V (ix3 h j 128) = (1 : EReal)) (ha : a.val = (x 0).val) :
    latTile (k0_pay94 (k0_pay62 (View.ld (Val := Elt Ideal) (S := S256x1024) (e' := .bf16) P (Rect.unit (s := S256x1024) ![0, p] ![256, 128] iq)) C S
          (View.ld (Val := Elt Ideal) (S := S256x1024) (e' := .bf16) N (Rect.unit (s := S256x1024) ![0, p] ![256, 128] iq))))
        (View.ld (Val := Elt Ideal) (S := S8x2304x256) (e' := .bf16) K (Rect.unit (s := S8x2304x256) ![k, 0, 0] ![1, 2304, 256] ik))
        (View.ld (Val := Elt Ideal) (S := S8x2304x256) (e' := .bf16) V (Rect.unit (s := S8x2304x256) ![k, 0, 0] ![1, 2304, 256] ik)) x
      = latCell N P C S K V a h e :=
  latTile_at N P C S K V h k hk ik x a e he hV _ fun l =>
    (upper_apply _ _ l).trans ((latQuery_lane N P C S h p hp iq _ l).trans (congrArg (latLane N P C S · h l) (Fin.ext ha.symm)))

/-- The tile of the last 128 latents' queries of a head. -/
theorem latLower_at (hV : ∀ j, V (ix3 h j 128) = (1 : EReal)) (ha : a.val = 128 + (x 0).val) :
    latTile (k0_pay95 (k0_pay62 (View.ld (Val := Elt Ideal) (S := S256x1024) (e' := .bf16) P (Rect.unit (s := S256x1024) ![0, p] ![256, 128] iq)) C S
          (View.ld (Val := Elt Ideal) (S := S256x1024) (e' := .bf16) N (Rect.unit (s := S256x1024) ![0, p] ![256, 128] iq))))
        (View.ld (Val := Elt Ideal) (S := S8x2304x256) (e' := .bf16) K (Rect.unit (s := S8x2304x256) ![k, 0, 0] ![1, 2304, 256] ik))
        (View.ld (Val := Elt Ideal) (S := S8x2304x256) (e' := .bf16) V (Rect.unit (s := S8x2304x256) ![k, 0, 0] ![1, 2304, 256] ik)) x
      = latCell N P C S K V a h e :=
  latTile_at N P C S K V h k hk ik x a e he hV _ fun l =>
    (lower_apply _ _ l).trans ((latQuery_lane N P C S h p hp iq _ l).trans (congrArg (latLane N P C S · h l) (Fin.ext ha.symm)))

/-- The tile of the first 128 context's queries of a head. -/
theorem ctxUpper_at (hV : ∀ j, V (ix3 h j 128) = (1 : EReal)) (ha : a.val = (x 0).val) :
    ctxTile (k0_pay94 (k0_pay144 (View.ld (Val := Elt Ideal) (S := S256x1024) (e' := .bf16) N (Rect.unit (s := S256x1024) ![0, p] ![256, 128] iq))
          (View.ld (Val := Elt Ideal) (S := S256x1024) (e' := .bf16) P (Rect.unit (s := S256x1024) ![0, p] ![256, 128] iq))))
        (View.ld (Val := Elt Ideal) (S := S8x2304x256) (e' := .bf16) K (Rect.unit (s := S8x2304x256) ![k, 2048, 0] ![1, 256, 256] ic))
        (View.ld (Val := Elt Ideal) (S := S8x2304x256) (e' := .bf16) V (Rect.unit (s := S8x2304x256) ![k, 2048, 0] ![1, 256, 256] ic)) x
      = ctxCell N P K V a h e :=
  ctxTile_at N P K V h k hk ic x a e he hV _ fun l =>
    (upper_apply _ _ l).trans ((ctxQuery_lane N P h p hp iq _ l).trans (congrArg (ctxLane N P · h l) (Fin.ext ha.symm)))

/-- The tile of the last 128 context's queries of a head. -/
theorem ctxLower_at (hV : ∀ j, V (ix3 h j 128) = (1 : EReal)) (ha : a.val = 128 + (x 0).val) :
    ctxTile (k0_pay95 (k0_pay144 (View.ld (Val := Elt Ideal) (S := S256x1024) (e' := .bf16) N (Rect.unit (s := S256x1024) ![0, p] ![256, 128] iq))
          (View.ld (Val := Elt Ideal) (S := S256x1024) (e' := .bf16) P (Rect.unit (s := S256x1024) ![0, p] ![256, 128] iq))))
        (View.ld (Val := Elt Ideal) (S := S8x2304x256) (e' := .bf16) K (Rect.unit (s := S8x2304x256) ![k, 2048, 0] ![1, 256, 256] ic))
        (View.ld (Val := Elt Ideal) (S := S8x2304x256) (e' := .bf16) V (Rect.unit (s := S8x2304x256) ![k, 2048, 0] ![1, 256, 256] ic)) x
      = ctxCell N P K V a h e :=
  ctxTile_at N P K V h k hk ic x a e he hV _ fun l =>
    (lower_apply _ _ l).trans ((ctxQuery_lane N P h p hp iq _ l).trans (congrArg (ctxLane N P · h l) (Fin.ext ha.symm)))
end

end Cert.Kernel10Ideal.Value
-- ==== Proof.MlaPoint.lean ====
/- The block of 256 queries and eight heads that every grid point of the latent attention stores, entry by entry, over the
   point's blocks and its run's scratch arrays. -/
module

public import proofs.«01_k».proof.Proof.MlaTiles
public import Idealize.ShloMosaic.Lib.Pipeline.ReadBack

@[expose] public section

set_option maxRecDepth 16384
noncomputable section
namespace Cert.Kernel10Ideal.Value
open Cert.Kernel10Ideal Cert.Kernel10Ideal.Gen Idealize.ShloMosaic Idealize.ShloMosaic.TcCoe Idealize.SL.Sem Cert.DiffAttn
variable (m : (ℓ : Loc nD τ sig) → Buf (Elt Ideal) ℓ)

/-- The values' lane 128 is the column of ones. -/
theorem ones_lane (X : FVec Ideal S2048x2048 .bf16) (Y : FVec Ideal S256x2048 .bf16) (h : Fin 8) (j : Fin 2304) :
    valSlab X Y (ix3 h j 128) = (1 : EReal) := rfl

set_option maxHeartbeats 2000000 in
/-- At a run's first point the block holds the latents' cells over the keys and values just stored. -/
theorem cell_first (c : Dev nD) (t : Fin cfg0.N) (h : t.val % 9 = 0) (y : S256x1024.Idx) (a : Fin 256) (hh : Fin 8) (e : Fin 128)
    (h0 : (y 0).val = a.val) (h1 : (y 1).val = hh.val * 128 + e.val) :
    (outsAt0 m c t.val t.isLt).1 y
      = latCell (iblk m c 0 t) (iblk m c 1 t) (iblk m c 6 t) (iblk m c 7 t) (keysAt m c t) (valsAt m c t) a hh e := by
  have hO : ∀ j, valsAt m c t (ix3 hh j 128) = (1 : EReal) := fun j => ones_lane _ _ _ _
  have he := e.isLt
  have hK := keys_first m c t h
  have hV := vals_first m c t h
  rw [outsAt0_A m c t h (by omega) (by omega)] at hK hV ⊢
  frame_out at hK
  frame_out at hV
  frame_open
  simp only [View.readCov_eq_canon']
  frame_out
  canon_tiles x hx
  all_goals
    simp only [hK, hV]
    by_cases ha : a.val < 128
    · first
      | (exfalso; omega)
      | exact latUpper_at _ _ _ _ (keysAt m c t) (valsAt m c t) hh _ (by omega) _ _ (by omega) _ x a e (by omega) hO (by omega)
    · first
      | (exfalso; omega)
      | exact latLower_at _ _ _ _ (keysAt m c t) (valsAt m c t) hh _ (by omega) _ _ (by omega) _ x a e (by omega) hO (by omega)

set_option maxHeartbeats 2000000 in
/-- At a run's later points of latents the block holds the latents' cells over the keys and values kept. -/
theorem cell_later (c : Dev nD) (t : Fin cfg0.N) (h : ¬t.val % 9 = 0) (h8 : ¬t.val % 9 = 8) (y : S256x1024.Idx) (a : Fin 256) (hh : Fin 8) (e : Fin 128)
    (h0 : (y 0).val = a.val) (h1 : (y 1).val = hh.val * 128 + e.val) :
    (outsAt0 m c t.val t.isLt).1 y
      = latCell (iblk m c 0 t) (iblk m c 1 t) (iblk m c 6 t) (iblk m c 7 t) (outsAt0 m c t.val t.isLt).2.1 (outsAt0 m c t.val t.isLt).2.2 a hh e := by
  have hO : ∀ j, (outsAt0 m c t.val t.isLt).2.2 (ix3 hh j 128) = (1 : EReal) := fun j => by rw [vals_held]; exact ones_lane _ _ _ _
  have he := e.isLt
  rw [vals_kept m c t h] at hO
  rw [keys_kept m c t h, vals_kept m c t h]
  rw [outsAt0_B m c t h (by omega) h8]; frame_out
  generalize (outsAt0 m c (t.val - 1) (Nat.lt_of_le_of_lt (Nat.sub_le _ _) t.isLt)).2.1 = K at *
  generalize (outsAt0 m c (t.val - 1) (Nat.lt_of_le_of_lt (Nat.sub_le _ _) t.isLt)).2.2 = V at *
  canon_tiles x hx
  all_goals
    simp only [read_unread_whole]
    by_cases ha : a.val < 128
    · first
      | (exfalso; omega)
      | exact latUpper_at _ _ _ _ K V hh _ (by omega) _ _ (by omega) _ x a e (by omega) hO (by omega)
    · first
      | (exfalso; omega)
      | exact latLower_at _ _ _ _ K V hh _ (by omega) _ _ (by omega) _ x a e (by omega) hO (by omega)

set_option maxHeartbeats 2000000 in
/-- At a run's last point the block holds the context's cells over the keys and values kept. -/
theorem cell_ctx (c : Dev nD) (t : Fin cfg0.N) (h8 : t.val % 9 = 8) (y : S256x1024.Idx) (a : Fin 256) (hh : Fin 8) (e : Fin 128)
    (h0 : (y 0).val = a.val) (h1 : (y 1).val = hh.val * 128 + e.val) :
    (outsAt0 m c t.val t.isLt).1 y
      = ctxCell (iblk m c 0 t) (iblk m c 1 t) (outsAt0 m c t.val t.isLt).2.1 (outsAt0 m c t.val t.isLt).2.2 a hh e := by
  have h : ¬t.val % 9 = 0 := by omega
  have hO : ∀ j, (outsAt0 m c t.val t.isLt).2.2 (ix3 hh j 128) = (1 : EReal) := fun j => by rw [vals_held]; exact ones_lane _ _ _ _
  have he := e.isLt
  rw [vals_kept m c t h] at hO
  rw [keys_kept m c t h, vals_kept m c t h]
  rw [outsAt0_C m c t h (by omega) h8]; frame_out
  generalize (outsAt0 m c (t.val - 1) (Nat.lt_of_le_of_lt (Nat.sub_le _ _) t.isLt)).2.1 = K at *
  generalize (outsAt0 m c (t.val - 1) (Nat.lt_of_le_of_lt (Nat.sub_le _ _) t.isLt)).2.2 = V at *
  canon_tiles x hx
  all_goals
    simp only [read_unread_whole]
    by_cases ha : a.val < 128
    · first
      | (exfalso; omega)
      | exact ctxUpper_at _ _ K V hh _ (by omega) _ _ (by omega) _ x a e (by omega) hO (by omega)
    · first
      | (exfalso; omega)
      | exact ctxLower_at _ _ K V hh _ (by omega) _ _ (by omega) _ x a e (by omega) hO (by omega)

/-- At every point of latents the block holds the latents' cells over the keys and values of its run. -/
theorem cell_lat (c : Dev nD) (t : Fin cfg0.N) (h8 : ¬t.val % 9 = 8) (y : S256x1024.Idx) (a : Fin 256) (hh : Fin 8) (e : Fin 128)
    (h0 : (y 0).val = a.val) (h1 : (y 1).val = hh.val * 128 + e.val) :
    (outsAt0 m c t.val t.isLt).1 y
      = latCell (iblk m c 0 t) (iblk m c 1 t) (iblk m c 6 t) (iblk m c 7 t) (keysAt m c (runStart t)) (valsAt m c (runStart t)) a hh e := by
  by_cases h : t.val % 9 = 0
  · have e : runStart t = t := Fin.ext (show 9 * (t.val / 9) = t.val by omega)
    rw [e]
    exact cell_first m c t h y a hh _ h0 h1
  · rw [← keys_held, ← vals_held]
    exact cell_later m c t h h8 y a hh e h0 h1

end Cert.Kernel10Ideal.Value
-- ==== Proof.MlaEntry.lean ====
/- The latent attention's cells over the arguments: the scores and the values are those of the batch, the head and the row
   that the entry stands for, when the columns behind the latents' rotary parts are zero. -/
module

public import proofs.«01_k».proof.Proof.MlaPoint

@[expose] public section

set_option maxRecDepth 16384
noncomputable section
namespace Cert.Kernel10Ideal.Value
open Cert.Kernel10Ideal Cert.Kernel10Ideal.Gen Idealize.ShloMosaic Idealize.ShloMosaic.TcCoe Idealize.SL.Sem Cert.DiffAttn
open Cert.KernelIdeal.Value (turn lane signed turn_rot sum_lanes)
variable (m : (ℓ : Loc nD τ sig) → Buf (Elt Ideal) ℓ)

/-- A sum over 256 lanes is the sum over the first 128, over the next 64 and over the last 64. -/
theorem sum_parts (f : Fin 256 → EReal) :
    ∑ x, f x = ∑ d : Fin 128, f ⟨d.val, by omega⟩ + (∑ d : Fin 64, f ⟨128 + d.val, by omega⟩ + ∑ d : Fin 64, f ⟨128 + (64 + d.val), by omega⟩) := by
  rw [show (∑ x, f x) = ∑ x : Fin (128 + 128), f x from rfl, Fin.sum_univ_add]
  congr 1
  rw [sum_lanes]
  congr 1 <;> exact Finset.sum_congr rfl fun d _ => congrArg f (Fin.ext (by simp [lane, Fin.val_natAdd]))

/-- The batch of a grid point. -/
def batch (t : Fin cfg0.N) : Fin 8 := ⟨t.val / 18, by have := lt144 t; omega⟩
/-- The head a grid point's local head is. -/
def headOf (t : Fin cfg0.N) (h : Fin 8) : Fin 16 := ⟨t.val / 9 % 2 * 8 + h.val, by omega⟩

/-- The columns behind the latents' rotary parts are zero. -/
abbrev Padded (c : Dev nD) : Prop := ∀ (i : Fin 18432) (d : Fin 64), HL m c i ⟨1600 + d.val, by omega⟩ = 0

/-- The positionless part of a point's keys. -/
theorem key_nope (c : Dev nD) (t : Fin cfg0.N) (h : Fin 8) (j : Fin 2304) (d : Fin 128) :
    keysAt m c t (ix3 h j ⟨d.val, by omega⟩) = KV m c (Mla.keyRow (batch t) j) ⟨(headOf t h).val * 256 + d.val, by omega⟩ := by
  show keyAt _ _ _ _ _ _ h j ⟨d.val, _⟩ = _
  have hc : t.val / 9 % 2 * 2048 + (h.val * 256 + d.val) = (t.val / 9 % 2 * 8 + h.val) * 256 + d.val := by omega
  unfold keyAt
  by_cases hj : j.val < 2048
  · rw [dif_pos hj, dif_pos d.isLt]
    refine (kvl_apply m c t ⟨j.val, hj⟩ ⟨h.val * 256 + d.val, by omega⟩).trans ?_
    exact congr (congrArg (KV m c) (Fin.ext (if_pos hj).symm)) (Fin.ext hc)
  · rw [dif_neg hj, dif_pos d.isLt]
    refine (kvc_apply m c t ⟨j.val - 2048, by omega⟩ ⟨h.val * 256 + d.val, by omega⟩).trans ?_
    exact congr (congrArg (KV m c) (Fin.ext (if_neg hj).symm)) (Fin.ext hc)

/-- The lanes behind the positionless part of a latent's key: its rotary columns turned. -/
theorem key_turn (c : Dev nD) (t : Fin cfg0.N) (h : Fin 8) (j : Fin 2304) (hj : j.val < 2048) (l : Fin 128) :
    keysAt m c t (ix3 h j ⟨128 + l.val, by omega⟩)
      = turn (fun l => HL m c (Mla.keyRow (batch t) j) ⟨1536 + l.val, by omega⟩) (fun l => CO m c ⟨j.val, hj⟩ ⟨l.val % 32, by omega⟩)
          (fun l => signed l (SI m c ⟨j.val, hj⟩ ⟨l.val % 32, by omega⟩)) l := by
  show keyAt _ _ _ _ _ _ h j ⟨128 + l.val, _⟩ = _
  unfold keyAt
  rw [dif_pos hj, dif_neg (by show ¬128 + l.val < 128; omega)]
  have hq : (fun l : Fin 128 => (show FVec Ideal S2048x128 .bf16 from iblk m c 4 t) (ix2 ⟨j.val, hj⟩ l))
      = fun l => HL m c (Mla.keyRow (batch t) j) ⟨1536 + l.val, by omega⟩ := funext fun l =>
    (kpl_apply m c t ⟨j.val, hj⟩ l).trans (congrArg (HL m c · ⟨1536 + l.val, by omega⟩) (Fin.ext (if_pos hj).symm))
  have hc := funext fun l : Fin 128 => ck_apply m c t ⟨j.val, hj⟩ l
  have hs := funext fun l : Fin 128 => sk_apply m c t ⟨j.val, hj⟩ l
  exact congr (congr (congr (congrArg turn hq) hc) hs) (Fin.ext (show 128 + l.val - 128 = l.val by omega))

/-- The lanes behind the positionless part of a context's key: its rotary columns. -/
theorem key_plain (c : Dev nD) (t : Fin cfg0.N) (h : Fin 8) (j : Fin 2304) (hj : ¬j.val < 2048) (l : Fin 128) :
    keysAt m c t (ix3 h j ⟨128 + l.val, by omega⟩) = HL m c (Mla.keyRow (batch t) j) ⟨1536 + l.val, by omega⟩ := by
  show keyAt _ _ _ _ _ _ h j ⟨128 + l.val, _⟩ = _
  unfold keyAt
  rw [dif_neg hj, dif_neg (by show ¬128 + l.val < 128; omega)]
  refine (kpc_apply m c t ⟨j.val - 2048, by omega⟩ ⟨128 + l.val - 128, by omega⟩).trans ?_
  exact congr (congrArg (HL m c) (Fin.ext (if_neg hj).symm)) (Fin.ext (show 1536 + (128 + l.val - 128) = 1536 + l.val by omega))

/-- The rotary part of a point's keys. -/
theorem key_pe (c : Dev nD) (t : Fin cfg0.N) (h : Fin 8) (j : Fin 2304) (d : Fin 64) :
    keysAt m c t (ix3 h j ⟨128 + d.val, by omega⟩) = Mla.keyPe (HL m c) (CO m c) (SI m c) (batch t) j d := by
  have hl : (lane 0 d).val = d.val := show 0 * 64 + d.val = d.val by omega
  have e : (⟨128 + d.val, by omega⟩ : Fin 256) = ⟨128 + (lane 0 d).val, by omega⟩ := Fin.ext (show 128 + d.val = 128 + (lane 0 d).val by omega)
  have hx : ∀ d : Fin 64, (⟨1536 + (lane 0 d).val, by have := (lane 0 d).isLt; omega⟩ : Fin 1664) = ⟨1536 + d.val, by omega⟩ := fun d =>
    Fin.ext (show 1536 + (0 * 64 + d.val) = 1536 + d.val by omega)
  rw [e]
  unfold Mla.keyPe
  by_cases hj : j.val < 2048
  · rw [dif_pos hj, key_turn m c t h j hj]
    refine (turn_rot _ (CO m c ⟨j.val, hj⟩) (SI m c ⟨j.val, hj⟩) 0 d).trans ?_
    exact congrFun (congrArg (fun q => rot q (CO m c ⟨j.val, hj⟩) (SI m c ⟨j.val, hj⟩)) (funext fun d => congrArg (HL m c _) (hx d))) d
  · rw [dif_neg hj, key_plain m c t h j hj]
    exact congrArg (HL m c _) (hx d)

/-- The lanes behind the rotary part of a point's keys are zero. -/
theorem key_pad (c : Dev nD) (hz : Padded m c) (t : Fin cfg0.N) (h : Fin 8) (j : Fin 2304) (d : Fin 64) :
    keysAt m c t (ix3 h j ⟨128 + (64 + d.val), by omega⟩) = 0 := by
  have e : (⟨128 + (64 + d.val), by omega⟩ : Fin 256) = ⟨128 + (lane 1 d).val, by have := (lane 1 d).isLt; omega⟩ :=
    Fin.ext (show 128 + (64 + d.val) = 128 + (1 * 64 + d.val) by omega)
  have hx : ∀ d : Fin 64, HL m c (Mla.keyRow (batch t) j) ⟨1536 + (lane 1 d).val, by have := (lane 1 d).isLt; omega⟩ = 0 := fun d =>
    (congrArg (HL m c _) (Fin.ext (show 1536 + (1 * 64 + d.val) = 1600 + d.val by omega))).trans (hz _ d)
  rw [e]
  by_cases hj : j.val < 2048
  · rw [key_turn m c t h j hj]
    refine (turn_rot _ (CO m c ⟨j.val, hj⟩) (SI m c ⟨j.val, hj⟩) 1 d).trans ?_
    refine (congrFun (congrArg (fun q => rot q (CO m c ⟨j.val, hj⟩) (SI m c ⟨j.val, hj⟩)) (funext hx)) d).trans ?_
    unfold rot
    split <;> simp
  · rw [key_plain m c t h j hj]
    exact hx d

/-- A query's lanes against a point's key are the query's score. -/
theorem score_point (c : Dev nD) (hz : Padded m c) (t : Fin cfg0.N) (h : Fin 8) (j : Fin 2304) (Q : Fin 256 → EReal) (q : Fin 128 → EReal) (p : Fin 64 → EReal)
    (hq : ∀ d : Fin 128, Q ⟨d.val, by omega⟩ = q d) (hp : ∀ d : Fin 64, Q ⟨128 + d.val, by omega⟩ = p d) :
    ∑ x, Q x * keysAt m c t (ix3 h j x) = Mla.score (KV m c) (HL m c) (CO m c) (SI m c) q p (batch t) (headOf t h) j := by
  rw [sum_parts]
  simp only [key_pad m c hz, mul_zero, Finset.sum_const_zero, add_zero, hq, hp, key_nope, key_pe]
  rfl

/-- A point's values. -/
theorem value_point (c : Dev nD) (t : Fin cfg0.N) (h : Fin 8) (j : Fin 2304) (e : Fin 128) :
    valsAt m c t (ix3 h j ⟨e.val, by omega⟩) = Mla.value (KV m c) (batch t) (headOf t h) e j := by
  show valAt _ _ h j ⟨e.val, _⟩ = _
  have hc : t.val / 9 % 2 * 2048 + (h.val * 256 + (128 + e.val)) = (t.val / 9 % 2 * 8 + h.val) * 256 + (128 + e.val) := by omega
  unfold valAt Mla.value
  rw [dif_pos e.isLt]
  by_cases hj : j.val < 2048
  · rw [dif_pos hj]
    refine (kvl_apply m c t ⟨j.val, hj⟩ ⟨h.val * 256 + (128 + e.val), by omega⟩).trans ?_
    exact congr (congrArg (KV m c) (Fin.ext (if_pos hj).symm)) (Fin.ext hc)
  · rw [dif_neg hj]
    refine (kvc_apply m c t ⟨j.val - 2048, by omega⟩ ⟨h.val * 256 + (128 + e.val), by omega⟩).trans ?_
    exact congr (congrArg (KV m c) (Fin.ext (if_neg hj).symm)) (Fin.ext hc)

/-- A run's first point has the batch of all its points. -/
theorem batch_start (t : Fin cfg0.N) : batch (runStart t) = batch t := Fin.ext (show 9 * (t.val / 9) / 18 = t.val / 18 by omega)
/-- A run's first point has the heads of all its points. -/
theorem head_start (t : Fin cfg0.N) (h : Fin 8) : headOf (runStart t) h = headOf t h :=
  Fin.ext (show 9 * (t.val / 9) / 9 % 2 * 8 + h.val = t.val / 9 % 2 * 8 + h.val by omega)

/-- What row `r` of batch `b`'s latents yields at lane `e` of head `h`, divided after the product with the values. -/
def latEntry (c : Dev nD) (b : Fin 8) (r : Fin 2048) (h : Fin 16) (e : Fin 128) : EReal :=
  after (Mla.latScore (QU m c) (KV m c) (HL m c) (CO m c) (SI m c) b r h) (Mla.value (KV m c) b h e)

/-- What row `r` of batch `b`'s context yields at lane `e` of head `h`, divided after the product with the values. -/
def ctxEntry (c : Dev nD) (b : Fin 8) (r : Fin 256) (h : Fin 16) (e : Fin 128) : EReal :=
  after (Mla.ctxScore (QU m c) (KV m c) (HL m c) (CO m c) (SI m c) b r h) (fun j => Mla.value (KV m c) b h e (Mla.ctxKey j))

/-- Every entry of a block of latents that a grid point stores, over the arguments. -/
theorem lat_entry (c : Dev nD) (hz : Padded m c) (t : Fin cfg0.N) (h8 : ¬t.val % 9 = 8) (y : S256x1024.Idx) (a : Fin 256) (hh : Fin 8) (e : Fin 128)
    (h0 : (y 0).val = a.val) (h1 : (y 1).val = hh.val * 128 + e.val) (r : Fin 2048) (hr : r.val = t.val % 9 * 256 + a.val) :
    (outsAt0 m c t.val t.isLt).1 y = latEntry m c (batch t) r (headOf t hh) e := by
  rw [cell_lat m c t h8 y a hh e h0 h1]
  have lt := lt144 t
  have hrow : qblk t.val * 256 + a.val = t.val / 18 * 2048 + r.val := by unfold qblk; rw [if_pos (by omega)]; omega
  have hc : ∀ d : ℕ, t.val / 9 % 2 * 1024 + (hh.val * 128 + d) = (t.val / 9 % 2 * 8 + hh.val) * 128 + d := fun d => by omega
  have hrr : (⟨min (t.val % 9) 7 * 256 + a.val, by omega⟩ : Fin 2048) = r := Fin.ext (show min (t.val % 9) 7 * 256 + a.val = r.val by omega)
  unfold latCell latEntry
  refine congr (congrArg after (funext fun j => ?_)) (funext fun j => ?_)
  · refine (score_point m c hz (runStart t) hh j _ (Mla.queryNope (QU m c) ⟨(batch t).val * 2048 + r.val, by omega⟩ (headOf t hh))
      (rot (Mla.queryPe (QU m c) ⟨(batch t).val * 2048 + r.val, by omega⟩ (headOf t hh)) (CO m c r) (SI m c r)) (fun d => ?_) (fun d => ?_)).trans ?_
    · unfold latLane
      rw [dif_pos d.isLt]
      refine (qn_apply m c t a ⟨hh.val * 128 + d.val, by omega⟩).trans ?_
      exact congr (congrArg (QU m c) (Fin.ext hrow)) (Fin.ext (hc d.val))
    · unfold latLane
      rw [dif_neg (by show ¬128 + d.val < 128; omega)]
      have hl : (⟨128 + d.val - 128, by omega⟩ : Fin 128) = lane 0 d := Fin.ext (show 128 + d.val - 128 = 0 * 64 + d.val by omega)
      have hq := funext fun l : Fin 128 => qp_apply m c t a ⟨hh.val * 128 + l.val, by omega⟩
      have hcq := funext fun l : Fin 128 => cq_apply m c t a l
      have hsq := funext fun l : Fin 128 => sq_apply m c t a l
      rw [hrr] at hcq hsq
      refine (congr (congr (congr (congrArg turn hq) hcq) hsq) hl).trans ?_
      refine (turn_rot _ (CO m c r) (SI m c r) 0 d).trans ?_
      refine congrFun (congrArg (fun q => rot q (CO m c r) (SI m c r)) (funext fun d => ?_)) d
      exact congr (congrArg (QU m c) (Fin.ext hrow)) (Fin.ext
        (show 2048 + (t.val / 9 % 2 * 1024 + (hh.val * 128 + (0 * 64 + d.val))) = 2048 + ((t.val / 9 % 2 * 8 + hh.val) * 128 + d.val) by omega))
    · rw [batch_start, head_start]
      rfl
  · rw [value_point m c (runStart t) hh j e, batch_start, head_start]

/-- Every entry of a block of context that a grid point stores, over the arguments. -/
theorem ctx_entry (c : Dev nD) (hz : Padded m c) (t : Fin cfg0.N) (h8 : t.val % 9 = 8) (y : S256x1024.Idx) (a : Fin 256) (hh : Fin 8) (e : Fin 128)
    (h0 : (y 0).val = a.val) (h1 : (y 1).val = hh.val * 128 + e.val) :
    (outsAt0 m c t.val t.isLt).1 y = ctxEntry m c (batch t) a (headOf t hh) e := by
  rw [cell_ctx m c t h8 y a hh e h0 h1, keys_held, vals_held]
  have lt := lt144 t
  have hrow : qblk t.val * 256 + a.val = 16384 + (t.val / 18 * 256 + a.val) := by unfold qblk; rw [if_neg (by omega)]; omega
  have hc : ∀ d : ℕ, t.val / 9 % 2 * 1024 + (hh.val * 128 + d) = (t.val / 9 % 2 * 8 + hh.val) * 128 + d := fun d => by omega
  unfold ctxCell ctxEntry
  refine congr (congrArg after (funext fun j => ?_)) (funext fun j => ?_)
  · refine (score_point m c hz (runStart t) hh (Mla.ctxKey j) _ (Mla.queryNope (QU m c) ⟨16384 + ((batch t).val * 256 + a.val), by omega⟩ (headOf t hh))
      (Mla.queryPe (QU m c) ⟨16384 + ((batch t).val * 256 + a.val), by omega⟩ (headOf t hh)) (fun d => ?_) (fun d => ?_)).trans ?_
    · unfold ctxLane
      rw [dif_pos d.isLt]
      refine (qn_apply m c t a ⟨hh.val * 128 + d.val, by omega⟩).trans ?_
      exact congr (congrArg (QU m c) (Fin.ext hrow)) (Fin.ext (hc d.val))
    · unfold ctxLane
      rw [dif_neg (by show ¬128 + d.val < 128; omega)]
      refine (qp_apply m c t a ⟨hh.val * 128 + (128 + d.val - 128), by omega⟩).trans ?_
      exact congr (congrArg (QU m c) (Fin.ext hrow)) (Fin.ext
        (show 2048 + (t.val / 9 % 2 * 1024 + (hh.val * 128 + (128 + d.val - 128))) = 2048 + ((t.val / 9 % 2 * 8 + hh.val) * 128 + d.val) by omega))
    · rw [batch_start, head_start]
      rfl
  · rw [value_point m c (runStart t) hh (Mla.ctxKey j) e, batch_start, head_start]

end Cert.Kernel10Ideal.Value
-- ==== Proof.MlaFinal.lean ====
/- The array the latent attention returns, entry by entry. -/
module

public import proofs.«01_k».proof.Proof.MlaEntry

@[expose] public section

set_option maxRecDepth 16384
noncomputable section
namespace Cert.Kernel10Ideal.Value
open Cert.Kernel10Ideal Cert.Kernel10Ideal.Gen Idealize.ShloMosaic Idealize.ShloMosaic.TcCoe Idealize.SL.Sem Cert.DiffAttn
variable (m : (ℓ : Loc nD τ sig) → Buf (Elt Ideal) ℓ)

/-- The kernel's array: the rows of the latents' batches come first, the rows of the context's behind them; column
    `h * 128 + e` is lane `e` of head `h`. -/
def outArr (c : Dev nD) : FVec Ideal S18432x2048 .bf16 := fun i =>
  if hi : (i 0).val < 16384 then
    latEntry m c ⟨(i 0).val / 2048, by omega⟩ ⟨(i 0).val % 2048, by omega⟩
      ⟨(i 1).val / 128, by have h : (i 1).val < 2048 := (i 1).isLt; omega⟩ ⟨(i 1).val % 128, by omega⟩
  else
    ctxEntry m c ⟨((i 0).val - 16384) / 256, by have h : (i 0).val < 18432 := (i 0).isLt; omega⟩ ⟨((i 0).val - 16384) % 256, by omega⟩
      ⟨(i 1).val / 128, by have h : (i 1).val < 2048 := (i 1).isLt; omega⟩ ⟨(i 1).val % 128, by omega⟩

/-- What a grid point stores at an index of its block is the array's entry at the index's place. -/
theorem point (c : Dev nD) (hz : Padded m c) (t : Fin cfg0.N) (y : S256x1024.Idx) (i : S18432x2048.Idx)
    (h0 : (i 0).val = qblk t.val * 256 + (y 0).val) (h1 : (i 1).val = t.val / 9 % 2 * 1024 + (y 1).val) :
    (outsAt0 m c t.val t.isLt).1 y = outArr m c i := by
  have l0 : (y 0).val < 256 := (y 0).isLt
  have l1 : (y 1).val < 1024 := (y 1).isLt
  have lt := lt144 t
  have hy : (y 1).val = (y 1).val / 128 * 128 + (y 1).val % 128 := by omega
  unfold outArr
  unfold qblk at h0
  by_cases h8 : t.val % 9 = 8
  · rw [if_neg (by omega)] at h0
    rw [dif_neg (by omega), ctx_entry m c hz t h8 y ⟨(y 0).val, l0⟩ ⟨(y 1).val / 128, by omega⟩ ⟨(y 1).val % 128, by omega⟩ rfl hy]
    refine congr (congr (congr (congrArg (ctxEntry m c) (Fin.ext ?_)) (Fin.ext ?_)) (Fin.ext ?_)) (Fin.ext ?_)
    · show t.val / 18 = ((i 0).val - 16384) / 256
      omega
    · show (y 0).val = ((i 0).val - 16384) % 256
      omega
    · show t.val / 9 % 2 * 8 + (y 1).val / 128 = (i 1).val / 128
      omega
    · show (y 1).val % 128 = (i 1).val % 128
      omega
  · rw [if_pos (by omega)] at h0
    rw [dif_pos (by omega), lat_entry m c hz t h8 y ⟨(y 0).val, l0⟩ ⟨(y 1).val / 128, by omega⟩ ⟨(y 1).val % 128, by omega⟩ rfl hy
      ⟨t.val % 9 * 256 + (y 0).val, by omega⟩ rfl]
    refine congr (congr (congr (congrArg (latEntry m c) (Fin.ext ?_)) (Fin.ext ?_)) (Fin.ext ?_)) (Fin.ext ?_)
    · show t.val / 18 = (i 0).val / 2048
      omega
    · show t.val % 9 * 256 + (y 0).val = (i 0).val % 2048
      omega
    · show t.val / 9 % 2 * 8 + (y 1).val / 128 = (i 1).val / 128
      omega
    · show (y 1).val % 128 = (i 1).val % 128
      omega

/-- The array after the run. -/
theorem final (c : Dev nD) (hz : Padded m c) : (dats m 0 c).arrAt 10 cfg0.N = outArr m c := by
  refine (dats m 0 c).arrAt_eq_of_covers 10 _ (by decide +kernel) fun t hf y => ?_
  blk_simp
  rw [after0_10]

  refine point m c hz t y _ ?_ ?_
  all_goals blk_simp [idx t]

end Cert.Kernel10Ideal.Value
-- ==== Proof.MlaReference.lean ====
/- The latent attention's reference as a tower of named arrays of its five arguments, and each of them read at an index. -/
module

public import proofs.«01_k».proof.Proof.Gen.Reference10Ideal
public import proofs.«01_k».proof.Proof.MlaSpec
public import Idealize.ShloMosaic.Lib.Pipeline.ValueKit
public import Idealize.ShloMosaic.Lib.Pointwise

@[expose] public section

set_option maxRecDepth 16384
noncomputable section
namespace Cert.Reference10Ideal.Value
open Cert.Reference10Ideal Cert.Reference10Ideal.Gen Idealize.ShloMosaic Cert.DiffAttn

/-! ## The arrays -/

/-- Rotary embedding of the latents' queries. -/
def ropeHeads (x : FVec Ideal S8x2048x16x64 .f32) (co si : FVec Ideal S2048x32 .f32) : FVec Ideal S8x2048x16x64 .f32 :=
  let c := broadcastInDim S8x2048x16x32 ![0, 1, 2, 3] bcast_S1x2048x1x32_S8x2048x16x32_0_1_2_3 (broadcastInDim S1x2048x1x32 ![1, 2, 3] bcast_S2048x1x32_S1x2048x1x32_1_2_3 (shapeCast S2048x1x32 co shapeCasts_S2048x32_S2048x1x32))
  let s := broadcastInDim S8x2048x16x32 ![0, 1, 2, 3] bcast_S1x2048x1x32_S8x2048x16x32_0_1_2_3 (broadcastInDim S1x2048x1x32 ![1, 2, 3] bcast_S2048x1x32_S1x2048x1x32_1_2_3 (shapeCast S2048x1x32 si shapeCasts_S2048x32_S2048x1x32))
  let a := extractStridedSlice S8x2048x16x32 ![0, 0, 0, 0] x slices_S8x2048x16x64_S8x2048x16x32_0_0_0_0
  let b := extractStridedSlice S8x2048x16x32 ![0, 0, 0, 32] x slices_S8x2048x16x64_S8x2048x16x32_0_0_0_32
  concatenate S8x2048x16x64 3 [⟨S8x2048x16x32, subf (mulf a c) (mulf b s)⟩, ⟨S8x2048x16x32, addf (mulf a s) (mulf b c)⟩]
    concatenates_S8x2048x16x32_S8x2048x16x32_S8x2048x16x64_d3

/-- Rotary embedding of the latents' keys. -/
def ropeRows (x : FVec Ideal S8x2048x64 .f32) (co si : FVec Ideal S2048x32 .f32) : FVec Ideal S8x2048x64 .f32 :=
  let c := broadcastInDim S8x2048x32 ![0, 1, 2] bcast_S1x2048x32_S8x2048x32_0_1_2 (broadcastInDim S1x2048x32 ![1, 2] bcast_S2048x32_S1x2048x32_1_2 co)
  let s := broadcastInDim S8x2048x32 ![0, 1, 2] bcast_S1x2048x32_S8x2048x32_0_1_2 (broadcastInDim S1x2048x32 ![1, 2] bcast_S2048x32_S1x2048x32_1_2 si)
  let a := extractStridedSlice S8x2048x32 ![0, 0, 0] x slices_S8x2048x64_S8x2048x32_0_0_0
  let b := extractStridedSlice S8x2048x32 ![0, 0, 32] x slices_S8x2048x64_S8x2048x32_0_0_32
  concatenate S8x2048x64 2 [⟨S8x2048x32, subf (mulf a c) (mulf b s)⟩, ⟨S8x2048x32, addf (mulf a s) (mulf b c)⟩]
    concatenates_S8x2048x32_S8x2048x32_S8x2048x64_d2

/-- The positionless parts of the queries, by heads. -/
def queryNopes (QU : FVec Ideal S18432x4096 .bf16) : FVec Ideal S18432x16x128 .f32 :=
  shapeCast S18432x16x128 (extractStridedSlice S18432x2048 ![0, 0] (extf .f32 QU bitsLt_bf16_f32) slices_S18432x4096_S18432x2048_0_0) shapeCasts_S18432x2048_S18432x16x128

/-- The rotary parts of the queries, by heads. -/
def queryPes (QU : FVec Ideal S18432x4096 .bf16) : FVec Ideal S18432x16x64 .f32 :=
  extractStridedSlice S18432x16x64 ![0, 0, 0] (shapeCast S18432x16x128 (extractStridedSlice S18432x2048 ![0, 2048] (extf .f32 QU bitsLt_bf16_f32) slices_S18432x4096_S18432x2048_0_2048) shapeCasts_S18432x2048_S18432x16x128) slices_S18432x16x128_S18432x16x64_0_0_0

/-- The positionless parts of the keys, by heads. -/
def keyNopes (KV : FVec Ideal S18432x4096 .bf16) : FVec Ideal S18432x16x128 .f32 :=
  extractStridedSlice S18432x16x128 ![0, 0, 0] (shapeCast S18432x16x256 (extf .f32 KV bitsLt_bf16_f32) shapeCasts_S18432x4096_S18432x16x256) slices_S18432x16x256_S18432x16x128_0_0_0

/-- The values, by heads. -/
def valRows (KV : FVec Ideal S18432x4096 .bf16) : FVec Ideal S18432x16x128 .f32 :=
  extractStridedSlice S18432x16x128 ![0, 0, 128] (shapeCast S18432x16x256 (extf .f32 KV bitsLt_bf16_f32) shapeCasts_S18432x4096_S18432x16x256) slices_S18432x16x256_S18432x16x128_0_0_128

/-- The rotary parts of the keys, which all heads share. -/
def keyPes (HL : FVec Ideal S18432x1664 .bf16) : FVec Ideal S18432x64 .f32 :=
  extractStridedSlice S18432x64 ![0, 1536] (extf .f32 HL bitsLt_bf16_f32) slices_S18432x1664_S18432x64_0_1536

/-- The latents' rows, by batch. -/
def latRows (x : FVec Ideal S18432x16x128 .f32) : FVec Ideal S8x2048x16x128 .f32 :=
  shapeCast S8x2048x16x128 (extractStridedSlice S16384x16x128 ![0, 0, 0] x slices_S18432x16x128_S16384x16x128_0_0_0) shapeCasts_S16384x16x128_S8x2048x16x128

/-- The context's rows, by batch. -/
def ctxRows (x : FVec Ideal S18432x16x128 .f32) : FVec Ideal S8x256x16x128 .f32 :=
  shapeCast S8x256x16x128 (extractStridedSlice S2048x16x128 ![16384, 0, 0] x slices_S18432x16x128_S2048x16x128_16384_0_0) shapeCasts_S2048x16x128_S8x256x16x128

/-- The latents' queries. -/
def latQueries (QU : FVec Ideal S18432x4096 .bf16) (co si : FVec Ideal S2048x32 .f32) : FVec Ideal S8x2048x16x192 .f32 :=
  concatenate S8x2048x16x192 3 [⟨S8x2048x16x128, latRows (queryNopes QU)⟩,
    ⟨S8x2048x16x64, ropeHeads (shapeCast S8x2048x16x64 (extractStridedSlice S16384x16x64 ![0, 0, 0] (queryPes QU) slices_S18432x16x64_S16384x16x64_0_0_0) shapeCasts_S16384x16x64_S8x2048x16x64) co si⟩]
    concatenates_S8x2048x16x128_S8x2048x16x64_S8x2048x16x192_d3

/-- The context's queries. -/
def ctxQueries (QU : FVec Ideal S18432x4096 .bf16) : FVec Ideal S8x256x16x192 .f32 :=
  concatenate S8x256x16x192 3 [⟨S8x256x16x128, ctxRows (queryNopes QU)⟩,
    ⟨S8x256x16x64, shapeCast S8x256x16x64 (extractStridedSlice S2048x16x64 ![16384, 0, 0] (queryPes QU) slices_S18432x16x64_S2048x16x64_16384_0_0) shapeCasts_S2048x16x64_S8x256x16x64⟩]
    concatenates_S8x256x16x128_S8x256x16x64_S8x256x16x192_d3

/-- The latents' keys. -/
def latKeys (KV : FVec Ideal S18432x4096 .bf16) (HL : FVec Ideal S18432x1664 .bf16) (co si : FVec Ideal S2048x32 .f32) : FVec Ideal S8x2048x16x192 .f32 :=
  concatenate S8x2048x16x192 3 [⟨S8x2048x16x128, latRows (keyNopes KV)⟩,
    ⟨S8x2048x16x64, broadcastInDim S8x2048x16x64 ![0, 1, 2, 3] bcast_S8x2048x1x64_S8x2048x16x64_0_1_2_3 (broadcastInDim S8x2048x1x64 ![0, 1, 3] bcast_S8x2048x64_S8x2048x1x64_0_1_3
      (ropeRows (shapeCast S8x2048x64 (extractStridedSlice S16384x64 ![0, 0] (keyPes HL) slices_S18432x64_S16384x64_0_0) shapeCasts_S16384x64_S8x2048x64) co si))⟩]
    concatenates_S8x2048x16x128_S8x2048x16x64_S8x2048x16x192_d3

/-- The context's keys. -/
def ctxKeys (KV : FVec Ideal S18432x4096 .bf16) (HL : FVec Ideal S18432x1664 .bf16) : FVec Ideal S8x256x16x192 .f32 :=
  concatenate S8x256x16x192 3 [⟨S8x256x16x128, ctxRows (keyNopes KV)⟩,
    ⟨S8x256x16x64, broadcastInDim S8x256x16x64 ![0, 1, 2, 3] bcast_S8x256x1x64_S8x256x16x64_0_1_2_3 (broadcastInDim S8x256x1x64 ![0, 1, 3] bcast_S8x256x64_S8x256x1x64_0_1_3
      (shapeCast S8x256x64 (extractStridedSlice S2048x64 ![16384, 0] (keyPes HL) slices_S18432x64_S2048x64_16384_0) shapeCasts_S2048x64_S8x256x64))⟩]
    concatenates_S8x256x16x128_S8x256x16x64_S8x256x16x192_d3

/-- All keys: the latents' and the context's behind them. -/
def keys (KV : FVec Ideal S18432x4096 .bf16) (HL : FVec Ideal S18432x1664 .bf16) (co si : FVec Ideal S2048x32 .f32) : FVec Ideal S8x2304x16x192 .f32 :=
  concatenate S8x2304x16x192 1 [⟨S8x2048x16x192, latKeys KV HL co si⟩, ⟨S8x256x16x192, ctxKeys KV HL⟩] concatenates_S8x2048x16x192_S8x256x16x192_S8x2304x16x192_d1

/-- All values: the latents' and the context's behind them. -/
def vals (KV : FVec Ideal S18432x4096 .bf16) : FVec Ideal S8x2304x16x128 .f32 :=
  concatenate S8x2304x16x128 1 [⟨S8x2048x16x128, latRows (valRows KV)⟩, ⟨S8x256x16x128, ctxRows (valRows KV)⟩] concatenates_S8x2048x16x128_S8x256x16x128_S8x2304x16x128_d1

/-- The scores of the latents' queries, times the logarithm of two. -/
def latScores (q : FVec Ideal S8x2048x16x192 .f32) (k : FVec Ideal S8x2304x16x192 .f32) : FVec Ideal S8x16x2048x2304 .f32 :=
  mulf (Host.dotGeneral dot_S8x2048x16x192_S8x2304x16x192_S8x16x2048x2304_3_3_1_1_02_02 none q k)
    (broadcastInDim S8x16x2048x2304 ![] bcast_S_S8x16x2048x2304 (Host.log (constant S_ .f32 0x40000000#32)))

/-- The exponentials of the latents' scores above their row's largest. -/
def latExps (s : FVec Ideal S8x16x2048x2304 .f32) : FVec Ideal S8x16x2048x2304 .f32 :=
  Host.exp (subf s (broadcastInDim S8x16x2048x2304 ![0, 1, 2, 3] bcast_S8x16x2048x1_S8x16x2048x2304_0_1_2_3 (broadcastInDim S8x16x2048x1 ![0, 1, 2] bcast_S8x16x2048_S8x16x2048x1_0_1_2
    (maximumf (broadcastInDim S8x16x2048 ![] bcast_S_S8x16x2048 (constant S_ .f32 0xFF800000#32))
      (Host.reduce FloatOps.maximumf s (constant S_ .f32 0xFF800000#32) reducesTo_S8x16x2048x2304_S8x16x2048_d3 h_S_)))))

/-- The softmax of the latents' scores: the exponentials over their row's sum. -/
def latSoftmax (e : FVec Ideal S8x16x2048x2304 .f32) : FVec Ideal S8x16x2048x2304 .f32 :=
  Host.divf e (broadcastInDim S8x16x2048x2304 ![0, 1, 2, 3] bcast_S8x16x2048x1_S8x16x2048x2304_0_1_2_3 (broadcastInDim S8x16x2048x1 ![0, 1, 2] bcast_S8x16x2048_S8x16x2048x1_0_1_2
    (Host.reduceAdd e (constant S_ .f32 0x00000000#32) reducesTo_S8x16x2048x2304_S8x16x2048_d3 h_S_)))

/-- The softmax of the latents' scores against the values, by rows. -/
def latAttn (v : FVec Ideal S8x2304x16x128 .f32) (p : FVec Ideal S8x16x2048x2304 .f32) : FVec Ideal S16384x2048 .f32 :=
  shapeCast S16384x2048 (transpose S8x2048x16x128 [0, 3, 1, 2]
    (Host.dotGeneral dot_S8x2304x16x128_S8x16x2048x2304_S8x16x128x2048_1_3_3_2_02_01 none v p) transposes_S8x16x128x2048_S8x2048x16x128_0_3_1_2) shapeCasts_S8x2048x16x128_S16384x2048

/-- The scores of the context's queries, times the logarithm of two. -/
def ctxScores (q : FVec Ideal S8x256x16x192 .f32) (k : FVec Ideal S8x256x16x192 .f32) : FVec Ideal S8x16x256x256 .f32 :=
  mulf (Host.dotGeneral dot_S8x256x16x192_S8x256x16x192_S8x16x256x256_3_3_1_1_02_02 none q k)
    (broadcastInDim S8x16x256x256 ![] bcast_S_S8x16x256x256 (Host.log (constant S_ .f32 0x40000000#32)))

/-- The exponentials of the context's scores above their row's largest. -/
def ctxExps (s : FVec Ideal S8x16x256x256 .f32) : FVec Ideal S8x16x256x256 .f32 :=
  Host.exp (subf s (broadcastInDim S8x16x256x256 ![0, 1, 2, 3] bcast_S8x16x256x1_S8x16x256x256_0_1_2_3 (broadcastInDim S8x16x256x1 ![0, 1, 2] bcast_S8x16x256_S8x16x256x1_0_1_2
    (maximumf (broadcastInDim S8x16x256 ![] bcast_S_S8x16x256 (constant S_ .f32 0xFF800000#32))
      (Host.reduce FloatOps.maximumf s (constant S_ .f32 0xFF800000#32) reducesTo_S8x16x256x256_S8x16x256_d3 h_S_)))))

/-- The softmax of the context's scores: the exponentials over their row's sum. -/
def ctxSoftmax (e : FVec Ideal S8x16x256x256 .f32) : FVec Ideal S8x16x256x256 .f32 :=
  Host.divf e (broadcastInDim S8x16x256x256 ![0, 1, 2, 3] bcast_S8x16x256x1_S8x16x256x256_0_1_2_3 (broadcastInDim S8x16x256x1 ![0, 1, 2] bcast_S8x16x256_S8x16x256x1_0_1_2
    (Host.reduceAdd e (constant S_ .f32 0x00000000#32) reducesTo_S8x16x256x256_S8x16x256_d3 h_S_)))

/-- The softmax of the context's scores against the values, by rows. -/
def ctxAttn (v : FVec Ideal S8x256x16x128 .f32) (p : FVec Ideal S8x16x256x256 .f32) : FVec Ideal S2048x2048 .f32 :=
  shapeCast S2048x2048 (transpose S8x256x16x128 [0, 3, 1, 2]
    (Host.dotGeneral dot_S8x256x16x128_S8x16x256x256_S8x16x128x256_1_3_3_2_02_01 none v p) transposes_S8x16x128x256_S8x256x16x128_0_3_1_2) shapeCasts_S8x256x16x128_S2048x2048

/-- The rows of the latents. -/
def latOut (QU KV : FVec Ideal S18432x4096 .bf16) (HL : FVec Ideal S18432x1664 .bf16) (co si : FVec Ideal S2048x32 .f32) : FVec Ideal S16384x2048 .f32 :=
  latAttn (vals KV) (latSoftmax (latExps (latScores (latQueries QU co si) (keys KV HL co si))))

/-- The rows of the context. -/
def ctxOut (QU KV : FVec Ideal S18432x4096 .bf16) (HL : FVec Ideal S18432x1664 .bf16) : FVec Ideal S2048x2048 .f32 :=
  ctxAttn (ctxRows (valRows KV)) (ctxSoftmax (ctxExps (ctxScores (ctxQueries QU) (ctxKeys KV HL))))

/-- The reference's result. -/
def result (QU KV : FVec Ideal S18432x4096 .bf16) (HL : FVec Ideal S18432x1664 .bf16) (co si : FVec Ideal S2048x32 .f32) : FVec Ideal S18432x2048 .bf16 :=
  truncf .bf16 (concatenate S18432x2048 0 [⟨S16384x2048, latOut QU KV HL co si⟩, ⟨S2048x2048, ctxOut QU KV HL⟩] concatenates_S16384x2048_S2048x2048_S18432x2048_d0) bitsLt_bf16_f32

/-! ## The arrays read at an index -/

/-- The rotary embedding of the latents' queries read at an index. -/
theorem ropeHeads_apply (x : FVec Ideal S8x2048x16x64 .f32) (co si : FVec Ideal S2048x32 .f32) (b : Fin 8) (r : Fin 2048) (h : Fin 16) (d : Fin 64) :
    ropeHeads x co si (ix4 b r h d) = rot (fun d => x (ix4 b r h d)) (fun j => co (ix2 r j)) (fun j => si (ix2 r j)) d := by
  pointwise [ropeHeads]
  rfl

/-- The rotary embedding of the latents' keys read at an index. -/
theorem ropeRows_apply (x : FVec Ideal S8x2048x64 .f32) (co si : FVec Ideal S2048x32 .f32) (b : Fin 8) (r : Fin 2048) (d : Fin 64) :
    ropeRows x co si (ix3 b r d) = rot (fun d => x (ix3 b r d)) (fun j => co (ix2 r j)) (fun j => si (ix2 r j)) d := by
  pointwise [ropeRows]
  rfl

/-- The scaled scores of the latents' queries read at an index. -/
theorem latScores_apply (q : FVec Ideal S8x2048x16x192 .f32) (k : FVec Ideal S8x2304x16x192 .f32) (b : Fin 8) (h : Fin 16) (r : Fin 2048) (j : Fin 2304) :
    latScores q k (ix4 b h r j) = (∑ x, q (ix4 b r h x) * k (ix4 b j h x)) * Ideal.log (Ideal.ofBits .f32 1073741824#32) := by
  pointwise [latScores]

/-- The largest score of a row of the latents' queries. -/
theorem latMax_apply (s : FVec Ideal S8x16x2048x2304 .f32) (b : Fin 8) (h : Fin 16) (r : Fin 2048) :
    Host.reduce FloatOps.maximumf s (constant S_ .f32 0xFF800000#32) reducesTo_S8x16x2048x2304_S8x16x2048_d3 h_S_ (ix3 b h r) = top fun x => s (ix4 b h r x) := by
  pointwise
  rw [ofBits_bot]
  rfl

/-- The exponentials of the latents' scores above any array of row maxima, read at an index. -/
theorem latExpsOf_apply (s : FVec Ideal S8x16x2048x2304 .f32) (M : FVec Ideal S8x16x2048 .f32) (b : Fin 8) (h : Fin 16) (r : Fin 2048) (j : Fin 2304) :
    Host.exp (subf s (broadcastInDim S8x16x2048x2304 ![0, 1, 2, 3] bcast_S8x16x2048x1_S8x16x2048x2304_0_1_2_3 (broadcastInDim S8x16x2048x1 ![0, 1, 2] bcast_S8x16x2048_S8x16x2048x1_0_1_2
      (maximumf (broadcastInDim S8x16x2048 ![] bcast_S_S8x16x2048 (constant S_ .f32 0xFF800000#32)) M)))) (ix4 b h r j)
      = Ideal.exp (s (ix4 b h r j) - M (ix3 b h r)) := by
  pointwise
  rw [ofBits_bot, max_eq_right bot_le]

/-- The exponentials of the latents' scores read at an index. -/
theorem latExps_apply (s : FVec Ideal S8x16x2048x2304 .f32) (b : Fin 8) (h : Fin 16) (r : Fin 2048) (j : Fin 2304) :
    latExps s (ix4 b h r j) = Ideal.exp (s (ix4 b h r j) - top fun x => s (ix4 b h r x)) := by
  unfold latExps
  rw [latExpsOf_apply, latMax_apply]

/-- The softmax of the latents' scores read at an index. -/
theorem latSoftmax_apply (e : FVec Ideal S8x16x2048x2304 .f32) (b : Fin 8) (h : Fin 16) (r : Fin 2048) (j : Fin 2304) :
    latSoftmax e (ix4 b h r j) = Ideal.div (e (ix4 b h r j)) (∑ x, e (ix4 b h r x)) := by
  pointwise [latSoftmax]

/-- The latents' rows of the attention read at an index. -/
theorem latAttn_apply (v : FVec Ideal S8x2304x16x128 .f32) (p : FVec Ideal S8x16x2048x2304 .f32) (b : Fin 8) (r : Fin 2048) (h : Fin 16) (e : Fin 128) :
    latAttn v p (ix2 ⟨b.val * 2048 + r.val, by omega⟩ ⟨h.val * 128 + e.val, by omega⟩) = ∑ x, v (ix4 b x h e) * p (ix4 b h r x) := by
  pointwise [latAttn]

/-- The scaled scores of the context's queries read at an index. -/
theorem ctxScores_apply (q : FVec Ideal S8x256x16x192 .f32) (k : FVec Ideal S8x256x16x192 .f32) (b : Fin 8) (h : Fin 16) (r : Fin 256) (j : Fin 256) :
    ctxScores q k (ix4 b h r j) = (∑ x, q (ix4 b r h x) * k (ix4 b j h x)) * Ideal.log (Ideal.ofBits .f32 1073741824#32) := by
  pointwise [ctxScores]

/-- The largest score of a row of the context's queries. -/
theorem ctxMax_apply (s : FVec Ideal S8x16x256x256 .f32) (b : Fin 8) (h : Fin 16) (r : Fin 256) :
    Host.reduce FloatOps.maximumf s (constant S_ .f32 0xFF800000#32) reducesTo_S8x16x256x256_S8x16x256_d3 h_S_ (ix3 b h r) = top fun x => s (ix4 b h r x) := by
  pointwise
  rw [ofBits_bot]
  rfl

/-- The exponentials of the context's scores above any array of row maxima, read at an index. -/
theorem ctxExpsOf_apply (s : FVec Ideal S8x16x256x256 .f32) (M : FVec Ideal S8x16x256 .f32) (b : Fin 8) (h : Fin 16) (r : Fin 256) (j : Fin 256) :
    Host.exp (subf s (broadcastInDim S8x16x256x256 ![0, 1, 2, 3] bcast_S8x16x256x1_S8x16x256x256_0_1_2_3 (broadcastInDim S8x16x256x1 ![0, 1, 2] bcast_S8x16x256_S8x16x256x1_0_1_2
      (maximumf (broadcastInDim S8x16x256 ![] bcast_S_S8x16x256 (constant S_ .f32 0xFF800000#32)) M)))) (ix4 b h r j)
      = Ideal.exp (s (ix4 b h r j) - M (ix3 b h r)) := by
  pointwise
  rw [ofBits_bot, max_eq_right bot_le]

/-- The exponentials of the context's scores read at an index. -/
theorem ctxExps_apply (s : FVec Ideal S8x16x256x256 .f32) (b : Fin 8) (h : Fin 16) (r : Fin 256) (j : Fin 256) :
    ctxExps s (ix4 b h r j) = Ideal.exp (s (ix4 b h r j) - top fun x => s (ix4 b h r x)) := by
  unfold ctxExps
  rw [ctxExpsOf_apply, ctxMax_apply]

/-- The softmax of the context's scores read at an index. -/
theorem ctxSoftmax_apply (e : FVec Ideal S8x16x256x256 .f32) (b : Fin 8) (h : Fin 16) (r : Fin 256) (j : Fin 256) :
    ctxSoftmax e (ix4 b h r j) = Ideal.div (e (ix4 b h r j)) (∑ x, e (ix4 b h r x)) := by
  pointwise [ctxSoftmax]

/-- The context's rows of the attention read at an index. -/
theorem ctxAttn_apply (v : FVec Ideal S8x256x16x128 .f32) (p : FVec Ideal S8x16x256x256 .f32) (b : Fin 8) (r : Fin 256) (h : Fin 16) (e : Fin 128) :
    ctxAttn v p (ix2 ⟨b.val * 256 + r.val, by omega⟩ ⟨h.val * 128 + e.val, by omega⟩) = ∑ x, v (ix4 b x h e) * p (ix4 b h r x) := by
  pointwise [ctxAttn]

/-- A sum over 192 lanes is the sum over the first 128 and over the other 64. -/
theorem sum_lanes (f : Fin 192 → EReal) : ∑ x, f x = ∑ d : Fin 128, f ⟨d.val, by omega⟩ + ∑ d : Fin 64, f ⟨128 + d.val, by omega⟩ := by
  rw [show (∑ x, f x) = ∑ x : Fin (128 + 64), f x from rfl, Fin.sum_univ_add]
  rfl

/-- The positionless part of a latent's query. -/
theorem latQueries_nope (QU : FVec Ideal S18432x4096 .bf16) (co si : FVec Ideal S2048x32 .f32) (b : Fin 8) (r : Fin 2048) (h : Fin 16) (d : Fin 128) :
    latQueries QU co si (ix4 b r h ⟨d.val, by omega⟩) = Mla.queryNope (fun i j => QU (ix2 i j)) ⟨b.val * 2048 + r.val, by omega⟩ h d := by
  pointwise [latQueries, latRows, queryNopes]
  rfl

/-- The rotary part of a latent's query. -/
theorem latQueries_pe (QU : FVec Ideal S18432x4096 .bf16) (co si : FVec Ideal S2048x32 .f32) (b : Fin 8) (r : Fin 2048) (h : Fin 16) (d : Fin 64) :
    latQueries QU co si (ix4 b r h ⟨128 + d.val, by omega⟩)
      = rot (Mla.queryPe (fun i j => QU (ix2 i j)) ⟨b.val * 2048 + r.val, by omega⟩ h) (fun j => co (ix2 r j)) (fun j => si (ix2 r j)) d := by
  pointwise [latQueries]
  refine (ropeHeads_apply _ co si b r h d).trans ?_
  refine congrFun (congrArg (fun q => rot q _ _) (funext fun d => ?_)) d
  pointwise [queryPes]
  rfl

/-- The positionless part of a context's query. -/
theorem ctxQueries_nope (QU : FVec Ideal S18432x4096 .bf16) (b : Fin 8) (r : Fin 256) (h : Fin 16) (d : Fin 128) :
    ctxQueries QU (ix4 b r h ⟨d.val, by omega⟩) = Mla.queryNope (fun i j => QU (ix2 i j)) ⟨16384 + (b.val * 256 + r.val), by omega⟩ h d := by
  pointwise [ctxQueries, ctxRows, queryNopes]
  rfl

/-- The rotary part of a context's query. -/
theorem ctxQueries_pe (QU : FVec Ideal S18432x4096 .bf16) (b : Fin 8) (r : Fin 256) (h : Fin 16) (d : Fin 64) :
    ctxQueries QU (ix4 b r h ⟨128 + d.val, by omega⟩) = Mla.queryPe (fun i j => QU (ix2 i j)) ⟨16384 + (b.val * 256 + r.val), by omega⟩ h d := by
  pointwise [ctxQueries, queryPes]
  rfl

/-- The positionless part of a latent's key. -/
theorem latKeys_nope (KV : FVec Ideal S18432x4096 .bf16) (HL : FVec Ideal S18432x1664 .bf16) (co si : FVec Ideal S2048x32 .f32) (b : Fin 8) (r : Fin 2048) (h : Fin 16) (d : Fin 128) :
    latKeys KV HL co si (ix4 b r h ⟨d.val, by omega⟩) = KV (ix2 ⟨b.val * 2048 + r.val, by omega⟩ ⟨h.val * 256 + d.val, by omega⟩) := by
  pointwise [latKeys, latRows, keyNopes]

/-- The rotary part of a latent's key. -/
theorem latKeys_pe (KV : FVec Ideal S18432x4096 .bf16) (HL : FVec Ideal S18432x1664 .bf16) (co si : FVec Ideal S2048x32 .f32) (b : Fin 8) (r : Fin 2048) (h : Fin 16) (d : Fin 64) :
    latKeys KV HL co si (ix4 b r h ⟨128 + d.val, by omega⟩)
      = rot (fun d => HL (ix2 ⟨b.val * 2048 + r.val, by omega⟩ ⟨1536 + d.val, by omega⟩)) (fun j => co (ix2 r j)) (fun j => si (ix2 r j)) d := by
  pointwise [latKeys]
  refine (ropeRows_apply _ co si b r d).trans ?_
  refine congrFun (congrArg (fun q => rot q _ _) (funext fun d => ?_)) d
  pointwise [keyPes]

/-- The positionless part of a context's key. -/
theorem ctxKeys_nope (KV : FVec Ideal S18432x4096 .bf16) (HL : FVec Ideal S18432x1664 .bf16) (b : Fin 8) (r : Fin 256) (h : Fin 16) (d : Fin 128) :
    ctxKeys KV HL (ix4 b r h ⟨d.val, by omega⟩) = KV (ix2 ⟨16384 + (b.val * 256 + r.val), by omega⟩ ⟨h.val * 256 + d.val, by omega⟩) := by
  pointwise [ctxKeys, ctxRows, keyNopes]

/-- The rotary part of a context's key. -/
theorem ctxKeys_pe (KV : FVec Ideal S18432x4096 .bf16) (HL : FVec Ideal S18432x1664 .bf16) (b : Fin 8) (r : Fin 256) (h : Fin 16) (d : Fin 64) :
    ctxKeys KV HL (ix4 b r h ⟨128 + d.val, by omega⟩) = HL (ix2 ⟨16384 + (b.val * 256 + r.val), by omega⟩ ⟨1536 + d.val, by omega⟩) := by
  pointwise [ctxKeys, keyPes]

/-- The positionless part of a key. -/
theorem keys_nope (KV : FVec Ideal S18432x4096 .bf16) (HL : FVec Ideal S18432x1664 .bf16) (co si : FVec Ideal S2048x32 .f32) (b : Fin 8) (j : Fin 2304) (h : Fin 16) (d : Fin 128) :
    keys KV HL co si (ix4 b j h ⟨d.val, by omega⟩) = KV (ix2 (Mla.keyRow b j) ⟨h.val * 256 + d.val, by omega⟩) := by
  pointwise [keys]
  by_cases hj : j.val < 2048
  · rw [dif_pos hj]
    refine (latKeys_nope KV HL co si b ⟨j.val, hj⟩ h d).trans ?_
    exact congrArg (fun q => KV (ix2 q ⟨h.val * 256 + d.val, by omega⟩)) (Fin.ext (if_pos hj).symm)
  · rw [dif_neg hj]
    refine (ctxKeys_nope KV HL b ⟨j.val - 2048, by omega⟩ h d).trans ?_
    exact congrArg (fun q => KV (ix2 q ⟨h.val * 256 + d.val, by omega⟩)) (Fin.ext (if_neg hj).symm)

/-- The rotary part of a key. -/
theorem keys_pe (KV : FVec Ideal S18432x4096 .bf16) (HL : FVec Ideal S18432x1664 .bf16) (co si : FVec Ideal S2048x32 .f32) (b : Fin 8) (j : Fin 2304) (h : Fin 16) (d : Fin 64) :
    keys KV HL co si (ix4 b j h ⟨128 + d.val, by omega⟩) = Mla.keyPe (fun i j => HL (ix2 i j)) (fun i j => co (ix2 i j)) (fun i j => si (ix2 i j)) b j d := by
  pointwise [keys]
  unfold Mla.keyPe
  by_cases hj : j.val < 2048
  · rw [dif_pos hj, dif_pos hj]
    refine (latKeys_pe KV HL co si b ⟨j.val, hj⟩ h d).trans ?_
    exact congrArg (fun i => rot (fun d => HL (ix2 i ⟨1536 + d.val, by omega⟩)) _ _ d) (Fin.ext (if_pos hj).symm)
  · rw [dif_neg hj, dif_neg hj]
    refine (ctxKeys_pe KV HL b ⟨j.val - 2048, by omega⟩ h d).trans ?_
    exact congrArg (fun q => HL (ix2 q ⟨1536 + d.val, by omega⟩)) (Fin.ext (if_neg hj).symm)

/-- A value. -/
theorem vals_apply (KV : FVec Ideal S18432x4096 .bf16) (b : Fin 8) (j : Fin 2304) (h : Fin 16) (e : Fin 128) :
    vals KV (ix4 b j h e) = Mla.value (fun i j => KV (ix2 i j)) b h e j := by
  unfold Mla.value
  by_cases hj : j.val < 2048
  · pointwise [vals, latRows, ctxRows, valRows]
    rw [dif_pos hj]
    exact congrArg (fun q => KV (ix2 q ⟨h.val * 256 + (128 + e.val), by omega⟩)) (Fin.ext (if_pos hj).symm)
  · pointwise [vals, latRows, ctxRows, valRows]
    rw [dif_neg hj]
    exact congrArg (fun q => KV (ix2 q ⟨h.val * 256 + (128 + e.val), by omega⟩)) (Fin.ext (if_neg hj).symm)

/-- Row `j` of the context is key `j` of the context among all keys. -/
theorem ctx_row (b : Fin 8) (j : Fin 256) : Mla.keyRow b (Mla.ctxKey j) = ⟨16384 + (b.val * 256 + j.val), by omega⟩ :=
  Fin.ext (by
    show (if 2048 + j.val < 2048 then _ else 16384 + (b.val * 256 + (2048 + j.val - 2048))) = 16384 + (b.val * 256 + j.val)
    rw [if_neg (by omega), Nat.add_sub_cancel_left])

/-- A value of the context. -/
theorem ctxVals_apply (KV : FVec Ideal S18432x4096 .bf16) (b : Fin 8) (j : Fin 256) (h : Fin 16) (e : Fin 128) :
    ctxRows (valRows KV) (ix4 b j h e) = Mla.value (fun i j => KV (ix2 i j)) b h e (Mla.ctxKey j) := by
  unfold Mla.value
  rw [ctx_row]
  pointwise [ctxRows, valRows]

/-- The score of a latent's query. -/
theorem latScore_apply (QU KV : FVec Ideal S18432x4096 .bf16) (HL : FVec Ideal S18432x1664 .bf16) (co si : FVec Ideal S2048x32 .f32) (b : Fin 8) (r : Fin 2048) (h : Fin 16) (j : Fin 2304) :
    ∑ x, latQueries QU co si (ix4 b r h x) * keys KV HL co si (ix4 b j h x)
      = Mla.latScore (fun i j => QU (ix2 i j)) (fun i j => KV (ix2 i j)) (fun i j => HL (ix2 i j)) (fun i j => co (ix2 i j)) (fun i j => si (ix2 i j)) b r h j := by
  rw [sum_lanes]
  simp only [latQueries_nope, latQueries_pe, keys_nope, keys_pe]
  rfl

/-- The score of a context's query. -/
theorem ctxScore_apply (QU KV : FVec Ideal S18432x4096 .bf16) (HL : FVec Ideal S18432x1664 .bf16) (co si : FVec Ideal S2048x32 .f32) (b : Fin 8) (r : Fin 256) (h : Fin 16) (j : Fin 256) :
    ∑ x, ctxQueries QU (ix4 b r h x) * ctxKeys KV HL (ix4 b j h x)
      = Mla.ctxScore (fun i j => QU (ix2 i j)) (fun i j => KV (ix2 i j)) (fun i j => HL (ix2 i j)) (fun i j => co (ix2 i j)) (fun i j => si (ix2 i j)) b r h j := by
  rw [sum_lanes]
  unfold Mla.ctxScore Mla.score Mla.keyPe
  rw [ctx_row]
  have hn : ¬(Mla.ctxKey j).val < 2048 := by show ¬2048 + j.val < 2048; omega
  simp only [ctxQueries_nope, ctxQueries_pe, ctxKeys_nope, ctxKeys_pe, dif_neg hn]

/-- An entry of the latents' rows. -/
theorem latOut_apply (QU KV : FVec Ideal S18432x4096 .bf16) (HL : FVec Ideal S18432x1664 .bf16) (co si : FVec Ideal S2048x32 .f32) (b : Fin 8) (r : Fin 2048) (h : Fin 16) (e : Fin 128) :
    latOut QU KV HL co si (ix2 ⟨b.val * 2048 + r.val, by omega⟩ ⟨h.val * 128 + e.val, by omega⟩)
      = ∑ j, weight (Mla.latScore (fun i j => QU (ix2 i j)) (fun i j => KV (ix2 i j)) (fun i j => HL (ix2 i j)) (fun i j => co (ix2 i j)) (fun i j => si (ix2 i j)) b r h) j * Mla.value (fun i j => KV (ix2 i j)) b h e j := by
  unfold latOut
  rw [latAttn_apply]
  simp only [latSoftmax_apply, latExps_apply, latScores_apply, latScore_apply, vals_apply, ofBits_two]
  exact Finset.sum_congr rfl fun j _ => mul_comm _ _

/-- An entry of the context's rows. -/
theorem ctxOut_apply (QU KV : FVec Ideal S18432x4096 .bf16) (HL : FVec Ideal S18432x1664 .bf16) (co si : FVec Ideal S2048x32 .f32) (b : Fin 8) (r : Fin 256) (h : Fin 16) (e : Fin 128) :
    ctxOut QU KV HL (ix2 ⟨b.val * 256 + r.val, by omega⟩ ⟨h.val * 128 + e.val, by omega⟩)
      = ∑ j, weight (Mla.ctxScore (fun i j => QU (ix2 i j)) (fun i j => KV (ix2 i j)) (fun i j => HL (ix2 i j)) (fun i j => co (ix2 i j)) (fun i j => si (ix2 i j)) b r h) j * Mla.value (fun i j => KV (ix2 i j)) b h e (Mla.ctxKey j) := by
  unfold ctxOut
  rw [ctxAttn_apply]
  simp only [ctxSoftmax_apply, ctxExps_apply, ctxScores_apply, ctxScore_apply QU KV HL co si, ctxVals_apply, ofBits_two]
  exact Finset.sum_congr rfl fun j _ => mul_comm _ _

/-- The result's rows of latents. -/
theorem result_lat (QU KV : FVec Ideal S18432x4096 .bf16) (HL : FVec Ideal S18432x1664 .bf16) (co si : FVec Ideal S2048x32 .f32) (i : S18432x2048.Idx) (b : Fin 8) (r : Fin 2048) (h : Fin 16) (e : Fin 128)
    (h0 : (i 0).val = b.val * 2048 + r.val) (h1 : (i 1).val = h.val * 128 + e.val) :
    result QU KV HL co si i
      = ∑ j, weight (Mla.latScore (fun i j => QU (ix2 i j)) (fun i j => KV (ix2 i j)) (fun i j => HL (ix2 i j)) (fun i j => co (ix2 i j)) (fun i j => si (ix2 i j)) b r h) j * Mla.value (fun i j => KV (ix2 i j)) b h e j := by
  have hi : (i 0).val < 16384 := by omega
  refine Eq.trans ?_ (latOut_apply QU KV HL co si b r h e)
  pointwise [result]
  rw [dif_pos hi]
  refine congrArg (latOut QU KV HL co si) (funext fun a => ?_)
  fin_cases a
  · exact Fin.ext h0
  · exact Fin.ext h1

/-- The result's rows of context. -/
theorem result_ctx (QU KV : FVec Ideal S18432x4096 .bf16) (HL : FVec Ideal S18432x1664 .bf16) (co si : FVec Ideal S2048x32 .f32) (i : S18432x2048.Idx) (b : Fin 8) (r : Fin 256) (h : Fin 16) (e : Fin 128)
    (h0 : (i 0).val = 16384 + (b.val * 256 + r.val)) (h1 : (i 1).val = h.val * 128 + e.val) :
    result QU KV HL co si i
      = ∑ j, weight (Mla.ctxScore (fun i j => QU (ix2 i j)) (fun i j => KV (ix2 i j)) (fun i j => HL (ix2 i j)) (fun i j => co (ix2 i j)) (fun i j => si (ix2 i j)) b r h) j * Mla.value (fun i j => KV (ix2 i j)) b h e (Mla.ctxKey j) := by
  have hi : ¬(i 0).val < 16384 := by omega
  refine Eq.trans ?_ (ctxOut_apply QU KV HL co si b r h e)
  pointwise [result]
  rw [dif_neg hi]
  refine congrArg (ctxOut QU KV HL) (funext fun a => ?_)
  fin_cases a
  · exact Fin.ext (by show (i 0).val - 16384 = b.val * 256 + r.val; omega)
  · exact Fin.ext h1

end Cert.Reference10Ideal.Value
-- ==== Proof.MlaEquation.lean ====
/- The latent attention's array is the reference's result, for queries, keys and tables that hold no infinity and latents whose columns
   behind the rotary parts are zero. -/
module

public import proofs.«01_k».proof.Proof.MlaFinal
public import proofs.«01_k».proof.Proof.MlaReference
public import proofs.«01_k».proof.Proof.Equation

@[expose] public section

set_option maxRecDepth 16384
noncomputable section

namespace Cert.Pre_padded
/-- The predicate's side conditions. -/
theorem facts : Facts := ⟨by decide, by decide, by decide, by decide, by decide, by decide, by decide, by decide, by decide, by decide, by decide, by decide, by decide⟩
end Cert.Pre_padded

namespace Cert.Kernel10Ideal.Value
open Cert.Kernel10Ideal Cert.Kernel10Ideal.Gen Idealize.ShloMosaic Idealize.ShloMosaic.TcCoe Idealize.SL.Sem Cert.DiffAttn
open Cert.KernelIdeal.Value (isReal_of_cmp16 isReal_of_cmp32)

attribute [local instance] Cert.Pre_padded.facts
variable (m : (ℓ : Loc nD τ sig) → Buf (Elt Ideal) ℓ)

/-- The word of zero. -/
theorem ofBits_zero16 : Ideal.ofBits .bf16 0x0000#16 = 0 := by simp [Ideal.ofBits, Ideal.ieee]

/-- A comparison with the word of zero that holds says that the operand is zero. -/
theorem zero_of_cmp {x : EReal} (h : Ideal.cmp .oeq x (Ideal.ofBits .bf16 0x0000#16) = 1#1) : x = 0 := by
  rw [ofBits_zero16] at h
  by_contra hn
  simp [Ideal.cmp, hn] at h

/-- The positionless parts of the queries, read at an index. -/
theorem nope_apply (X : FVec Ideal S18432x4096 .bf16) (i : Fin 18432) (j : Fin 2048) :
    extractStridedSlice Cert.Pre_padded.S18432x2048 ![0, 0] X Cert.Pre_padded.Facts.slices_S18432x4096_S18432x2048_0_0 (ix2 i j)
      = X (ix2 i ⟨j.val, by omega⟩) := by
  pointwise

/-- The rotary parts of the queries, read at an index. -/
theorem rotary_apply (X : FVec Ideal S18432x4096 .bf16) (i : Fin 18432) (h : Fin 16) (d : Fin 64) :
    extractStridedSlice Cert.Pre_padded.S18432x16x64 ![0, 0, 0]
        (shapeCast Cert.Pre_padded.S18432x16x128
          (extractStridedSlice Cert.Pre_padded.S18432x2048 ![0, 2048] X Cert.Pre_padded.Facts.slices_S18432x4096_S18432x2048_0_2048)
          Cert.Pre_padded.Facts.shapeCasts_S18432x2048_S18432x16x128)
        Cert.Pre_padded.Facts.slices_S18432x16x128_S18432x16x64_0_0_0 (ix3 i h d)
      = X (ix2 i ⟨2048 + (h.val * 128 + d.val), by omega⟩) := by
  pointwise

/-- The positionless parts of the keys, read at an index. -/
theorem keyNope_apply (X : FVec Ideal S18432x4096 .bf16) (i : Fin 18432) (h : Fin 16) (d : Fin 128) :
    extractStridedSlice Cert.Pre_padded.S18432x16x128 ![0, 0, 0]
        (shapeCast Cert.Pre_padded.S18432x16x256 X Cert.Pre_padded.Facts.shapeCasts_S18432x4096_S18432x16x256)
        Cert.Pre_padded.Facts.slices_S18432x16x256_S18432x16x128_0_0_0 (ix3 i h d)
      = X (ix2 i ⟨h.val * 256 + d.val, by omega⟩) := by
  pointwise

/-- The rotary parts of the latents, read at an index. -/
theorem keyRotary_apply (X : FVec Ideal S18432x1664 .bf16) (i : Fin 18432) (d : Fin 64) :
    extractStridedSlice Cert.Pre_padded.S18432x64 ![0, 1536] X Cert.Pre_padded.Facts.slices_S18432x1664_S18432x64_0_1536 (ix2 i d)
      = X (ix2 i ⟨1536 + d.val, by omega⟩) := by
  pointwise

/-- The latents' columns from 1600 on, read at an index. -/
theorem tail_apply (X : FVec Ideal S18432x1664 .bf16) (i : Fin 18432) (d : Fin 64) :
    extractStridedSlice Cert.Pre_padded.S18432x64 ![0, 1600] X Cert.Pre_padded.Facts.slices_S18432x1664_S18432x64_0_1600 (ix2 i d)
      = X (ix2 i ⟨1600 + d.val, by omega⟩) := by
  pointwise

/-- The precondition says that the queries are real. -/
theorem queries_of_pre (hpre : Cert.Pre_Kernel10Ideal_padded m) (c : Dev nD) :
    (∀ i h d, IsReal (Mla.queryNope (QU m c) i h d)) ∧ ∀ i h d, IsReal (Mla.queryPe (QU m c) i h d) := by
  obtain ⟨h0, h1, _⟩ := hpre c
  refine ⟨fun i h d => ?_, fun i h d => ?_⟩
  · have hr := congrFun h0 (ix2 i ⟨h.val * 128 + d.val, by omega⟩)
    exact (congrArg IsReal (nope_apply _ i ⟨h.val * 128 + d.val, by omega⟩)).mp (isReal_of_cmp16 hr)
  · have hr := congrFun h1 (ix3 i h d)
    exact (congrArg IsReal (rotary_apply _ i h d)).mp (isReal_of_cmp16 hr)

/-- The precondition says that the keys are real. -/
theorem keys_of_pre (hpre : Cert.Pre_Kernel10Ideal_padded m) (c : Dev nD) :
    (∀ i j, j.val % 256 < 128 → IsReal (KV m c i j)) ∧ ∀ i j, 1536 ≤ j.val → j.val < 1600 → IsReal (HL m c i j) := by
  obtain ⟨_, _, h2, h3, _⟩ := hpre c
  refine ⟨fun i j hj => ?_, fun i j h h' => ?_⟩
  · have hr := congrFun h2 (ix3 i ⟨j.val / 256, by omega⟩ ⟨j.val % 256, hj⟩)
    have e : (⟨j.val / 256 * 256 + j.val % 256, by omega⟩ : Fin 4096) = j := Fin.ext (show j.val / 256 * 256 + j.val % 256 = j.val by omega)
    exact (congrArg IsReal ((keyNope_apply _ i ⟨j.val / 256, by omega⟩ ⟨j.val % 256, hj⟩).trans (congrArg (KV m c i) e))).mp (isReal_of_cmp16 hr)
  · have hr := congrFun h3 (ix2 i ⟨j.val - 1536, by omega⟩)
    have e : (⟨1536 + (j.val - 1536), by omega⟩ : Fin 1664) = j := Fin.ext (show 1536 + (j.val - 1536) = j.val by omega)
    exact (congrArg IsReal ((keyRotary_apply _ i ⟨j.val - 1536, by omega⟩).trans (congrArg (HL m c i) e))).mp (isReal_of_cmp16 hr)

/-- The precondition says that the rotary tables are real. -/
theorem tables_of_pre (hpre : Cert.Pre_Kernel10Ideal_padded m) (c : Dev nD) :
    (∀ i j, IsReal (CO m c i j)) ∧ ∀ i j, IsReal (SI m c i j) := by
  obtain ⟨_, _, _, _, h4, h5, _⟩ := hpre c
  exact ⟨fun i j => isReal_of_cmp32 (congrFun h4 (ix2 i j)), fun i j => isReal_of_cmp32 (congrFun h5 (ix2 i j))⟩

/-- The precondition says that the columns behind the latents' rotary parts are zero. -/
theorem padded_of_pre (hpre : Cert.Pre_Kernel10Ideal_padded m) (c : Dev nD) : Padded m c := fun i d => by
  obtain ⟨_, _, _, _, _, _, h6⟩ := hpre c
  exact (tail_apply _ i d).symm.trans (zero_of_cmp (congrFun h6 (ix2 i d)))

/-- The kernel's array is the reference's result over the kernel's arguments. -/
theorem outArr_eq (hpre : Cert.Pre_Kernel10Ideal_padded m) (c : Dev nD) :
    outArr m c = Cert.Reference10Ideal.Value.result (m ((c : Thread nD τ).loc main_arg0)) (m ((c : Thread nD τ).loc main_arg1))
      (m ((c : Thread nD τ).loc main_arg2)) (m ((c : Thread nD τ).loc main_arg3)) (m ((c : Thread nD τ).loc main_arg4)) := by
  obtain ⟨hN, hP⟩ := queries_of_pre m hpre c
  obtain ⟨hK, hL⟩ := keys_of_pre m hpre c
  obtain ⟨hc, hs⟩ := tables_of_pre m hpre c
  funext i
  have l0 : (i 0).val < 18432 := (i 0).isLt
  have l1 : (i 1).val < 2048 := (i 1).isLt
  have h1 : (i 1).val = (i 1).val / 128 * 128 + (i 1).val % 128 := by omega
  unfold outArr
  by_cases hi : (i 0).val < 16384
  · rw [dif_pos hi]
    refine (Mla.lat_eq hN hP hK hL hc hs _ _ _ _).trans ?_
    exact (Cert.Reference10Ideal.Value.result_lat _ _ _ _ _ i ⟨(i 0).val / 2048, by omega⟩ ⟨(i 0).val % 2048, by omega⟩ ⟨(i 1).val / 128, by omega⟩ ⟨(i 1).val % 128, by omega⟩
      (by show (i 0).val = (i 0).val / 2048 * 2048 + (i 0).val % 2048; omega) h1).symm
  · rw [dif_neg hi]
    refine (Mla.ctx_eq hN hP hK hL hc hs _ _ _ _).trans ?_
    exact (Cert.Reference10Ideal.Value.result_ctx _ _ _ _ _ i ⟨((i 0).val - 16384) / 256, by omega⟩ ⟨((i 0).val - 16384) % 256, by omega⟩ ⟨(i 1).val / 128, by omega⟩ ⟨(i 1).val % 128, by omega⟩
      (by show (i 0).val = 16384 + (((i 0).val - 16384) / 256 * 256 + ((i 0).val - 16384) % 256); omega) h1).symm

end Cert.Kernel10Ideal.Value
-- ==== Proof.MlaReferenceRun.lean ====
/- The latent attention's reference, as it runs, leaves the tower of named arrays. -/
module

public import proofs.«01_k».proof.Proof.MlaReference
public import proofs.«01_k».proof.Proof.Gen.Reference10Ideal.Run

@[expose] public section

set_option maxRecDepth 16384
noncomputable section
namespace Cert.Reference10Ideal.Value
open Cert.Reference10Ideal Cert.Reference10Ideal.Gen Idealize.ShloMosaic Idealize.ShloMosaic.TcCoe Idealize.SL.Sem

set_option maxHeartbeats 1600000 in
/-- The reference's array after the run is the tower over its arguments. -/
theorem res_eq (m : (ℓ : Loc nD τ sig) → Buf (Elt Ideal) ℓ) (c : Dev nD) :
    res_main_v115 m c = result (m ((c : Thread nD τ).loc main_arg0)) (m ((c : Thread nD τ).loc main_arg1)) (m ((c : Thread nD τ).loc main_arg2))
      (m ((c : Thread nD τ).loc main_arg3)) (m ((c : Thread nD τ).loc main_arg4)) := by
  rfl

end Cert.Reference10Ideal.Value
-- ==== Proof.OddIn.lean ====
/- The odd layer's projection of the latents: the array the kernel leaves is the reference's. -/
module

public import proofs.«01_k».proof.Proof.Gen.Kernel2Ideal.Value
public import proofs.«01_k».proof.Proof.Gen.Reference2Ideal
public import proofs.«01_k».proof.Proof.Softmax
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel2Ideal.Value
open Cert.Kernel2Ideal Cert.Kernel2Ideal.Gen Idealize.ShloMosaic Idealize.ShloMosaic.TcCoe Idealize.SL.Sem
open Cert.DiffAttn (sum_scale)
variable (m : (ℓ : Loc nD τ sig) → Buf (Elt Ideal) ℓ)

/-- The windows' block indices at every point: 32 blocks of rows within each of 12 blocks of columns. -/
theorem idx : ∀ t : Fin cfg0.N, win0_0.index t = ![t.val % 32, 0] ∧ win0_1.index t = ![0, t.val / 32]
    ∧ win0_2.index t = ![t.val % 32, t.val / 32] :=
  (by decide +kernel : ∀ t : Fin grid0.N, _)
theorem lt384 (t : Fin cfg0.N) : t.val < 384 := t.isLt

/-- The latents' activations times the weights. -/
def prod (U : FVec Ideal S18432x4096 .bf16) (W : FVec Ideal S4096x12288 .f32) : FVec Ideal S16384x12288 .f32 :=
  Host.dotGeneral Cert.Reference2Ideal.dot_S16384x4096_S4096x12288_S16384x12288_1_0_0_1_n_n none
    (extf .f32 (extractStridedSlice Cert.Reference2Ideal.S16384x4096 ![0, 0] U Cert.Reference2Ideal.Gen.slices_S18432x4096_S16384x4096_0_0) Cert.Reference2Ideal.Gen.bitsLt_bf16_f32) W

/-- The reference's result: the product, its first 2048 columns, the queries', times their scale. -/
def result (U : FVec Ideal S18432x4096 .bf16) (W : FVec Ideal S4096x12288 .f32) : FVec Ideal S16384x12288 .bf16 :=
  truncf .bf16 (concatenate Cert.Reference2Ideal.S16384x12288 1 [⟨Cert.Reference2Ideal.S16384x2048,
      (mulf (extractStridedSlice Cert.Reference2Ideal.S16384x2048 ![0, 0] (prod U W) Cert.Reference2Ideal.Gen.slices_S16384x12288_S16384x2048_0_0)
        (broadcastInDim Cert.Reference2Ideal.S16384x2048 ![] Cert.Reference2Ideal.Gen.bcast_S_S16384x2048 (constant Cert.Reference2Ideal.S_ .f32 0x3E38AA3B#32)))⟩,
      ⟨Cert.Reference2Ideal.S16384x10240, (extractStridedSlice Cert.Reference2Ideal.S16384x10240 ![0, 2048] (prod U W) Cert.Reference2Ideal.Gen.slices_S16384x12288_S16384x10240_0_2048)⟩]
    Cert.Reference2Ideal.Gen.concatenates_S16384x2048_S16384x10240_S16384x12288_d1) Cert.Reference2Ideal.Gen.bitsLt_bf16_f32

/-- The queries' scale is a positive number. -/
theorem scale_real : ∃ r : ℝ, 0 ≤ r ∧ Ideal.ofBits .f32 0x3E38AA3B#32 = (r : EReal) := by
  simp [Ideal.ofBits, Ideal.ieee, -EReal.coe_mul]

/-- An entry of the reference's result. -/
theorem result_at (U : FVec Ideal S18432x4096 .bf16) (W : FVec Ideal S4096x12288 .f32) (i : Fin 16384) (j : Fin 12288) :
    result U W (ix2 i j) = (∑ k : Fin 4096, U (ix2 ⟨i.val, by omega⟩ k) * W (ix2 k j)) * (if j.val < 2048 then Ideal.ofBits .f32 0x3E38AA3B#32 else 1) := by
  pointwise [result, prod]
  by_cases h : j.val < 2048
  · rw [dif_pos h, if_pos h]
  · rw [dif_neg h, if_neg h, mul_one]
    have e : (⟨2048 + (j.val - 2048), by omega⟩ : Fin 12288) = j := Fin.ext (by dsimp only; omega)
    exact congrArg (fun q => ∑ k : Fin 4096, U (ix2 ⟨i.val, by omega⟩ k) * W (ix2 k q)) e

/-- The queries' scale in the columns of the latents' queries, one in the others, as the kernel's call makes it. -/
def scales : FVec Ideal S12288 .f32 :=
  select (cmpi .slt (iotaInDim S12288 32 0) (broadcastInDim S12288 ![] bcast_S_S12288 (constantI S_ 32 2048#32)))
    (broadcastInDim S12288 ![] bcast_S_S12288 (constant S_ .f32 0x3E38AA3B#32))
    (broadcastInDim S12288 ![] bcast_S_S12288 (constant S_ .f32 0x3F800000#32))

/-- A column's scale. -/
theorem scales_at (j : Fin 12288) : scales (ix1 j) = if j.val < 2048 then Ideal.ofBits .f32 0x3E38AA3B#32 else 1 := by
  have hj : IntOp.cmpi .slt (BitVec.ofNat 32 j.val) 2048#32 = if j.val < 2048 then 1#1 else 0#1 := by revert j; decide +kernel
  have h1 : Ideal.ofBits .f32 0x3F800000#32 = 1 := by
    rw [show (1 : EReal) = ((1 : ℝ) : EReal) by norm_cast]
    simp [Ideal.ofBits, Ideal.ieee, -EReal.coe_mul]; norm_num
  pointwise [scales]
  rw [hj]
  by_cases h : j.val < 2048
  · rw [if_pos h, if_pos h]; rfl
  · rw [if_neg h, if_neg h, ← h1]; rfl

/-- The weights the kernel is handed. -/
theorem weight (c : Dev nD) (k : Fin 4096) (j : Fin 12288) :
    (show FVec Ideal S4096x12288 .bf16 from V m c main_v8) (ix2 k j)
      = (show FVec Ideal S4096x12288 .f32 from m ((c : Thread nD τ).loc main_arg1)) (ix2 k j) * scales (ix1 j) := by
  unfold V
  simp only [List.flatten_cons, List.flatten_nil, List.append_nil, List.cons_append, List.nil_append, hostOps0, hostOps0_1, hostOps0_2]
  entry_read
  change truncf .bf16 (mulf (m ((c : Thread nD τ).loc main_arg1)) (broadcastInDim S4096x12288 ![0, 1] bcast_S1x12288_S4096x12288_0_1
      (broadcastInDim S1x12288 ![1] bcast_S12288_S1x12288_1 scales))) bitsLt_bf16_f32 (ix2 k j) = _
  pointwise

/-- A block of the weights. -/
theorem cell (c : Dev nD) (t : Fin cfg0.N) (k : Fin 4096) (l : Fin 1024) :
    (show FVec Ideal S4096x1024 .bf16 from iblk m c 1 t) (ix2 k l)
      = (show FVec Ideal S4096x12288 .f32 from m ((c : Thread nD τ).loc main_arg1)) (ix2 k ⟨t.val / 32 * 1024 + l.val, by have := lt384 t; omega⟩)
        * (if t.val / 32 * 1024 + l.val < 2048 then Ideal.ofBits .f32 0x3E38AA3B#32 else 1) := by
  have := lt384 t
  refine Eq.trans ?_ ((weight m c k ⟨t.val / 32 * 1024 + l.val, by omega⟩).trans ?_)
  · blk_ext [iblk, idx t]
  · rw [scales_at]

/-- A block of the activations. -/
theorem act (c : Dev nD) (t : Fin cfg0.N) (a : Fin 512) (k : Fin 4096) :
    (show FVec Ideal S512x4096 .bf16 from iblk m c 0 t) (ix2 a k)
      = (show FVec Ideal S18432x4096 .bf16 from m ((c : Thread nD τ).loc main_arg0)) (ix2 ⟨t.val % 32 * 512 + a.val, by omega⟩ k) := by
  blk_ext [iblk, V, idx t]

/-- What a grid point stores at an index of its block is the result's entry there. -/
theorem point (c : Dev nD) (t : Fin cfg0.N) (y) : k0_pay1 (iblk m c 0 t) (iblk m c 1 t) y
    = result (m ((c : Thread nD τ).loc main_arg0)) (m ((c : Thread nD τ).loc main_arg1)) (((cfg0.win 2).blk t).view.emb y) := by
  have := lt384 t
  have e : ((cfg0.win 2).blk t).view.emb y = ix2 (⟨t.val % 32 * 512 + (y 0).val, by have := (y 0).isLt; change (y 0).val < 512 at this; omega⟩ : Fin 16384)
      (⟨t.val / 32 * 1024 + (y 1).val, by have := (y 1).isLt; change (y 1).val < 1024 at this; omega⟩ : Fin 12288) := by
    blk_ext [idx t]
  refine Eq.trans ?_ (congrArg (result _ _) e).symm
  refine Eq.trans ?_ (result_at _ _ _ _).symm
  pointwise [k0_pay1]
  refine (Finset.sum_congr rfl fun k _ => congrArg₂ (· * ·) (act m c t (y 0) k) (cell m c t k (y 1))).trans ?_
  obtain ⟨r, hr, e⟩ := scale_real
  by_cases h : t.val / 32 * 1024 + (y 1).val < 2048
  · simp only [if_pos h, e, ← mul_assoc]
    exact sum_scale _ r hr
  · simp only [if_neg h, mul_one]

/-- The array after the run. -/
theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel2Ideal.Value
-- ==== Proof.OddCtx.lean ====
/- The odd layer's projection of the context to its keys and values: the array the kernel leaves is the reference's. -/
module

public import proofs.«01_k».proof.Proof.Gen.Kernel3Ideal.Value
public import proofs.«01_k».proof.Proof.Gen.Reference3Ideal
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel3Ideal.Value
open Cert.Kernel3Ideal Cert.Kernel3Ideal.Gen Idealize.ShloMosaic Idealize.ShloMosaic.TcCoe Idealize.SL.Sem
variable (m : (ℓ : Loc nD τ sig) → Buf (Elt Ideal) ℓ)

/-- The windows' block indices at every point: 4 blocks of the context's rows within each of 4 blocks of columns. -/
theorem idx : ∀ t : Fin cfg0.N, win0_0.index t = ![32 + t.val % 4, 0] ∧ win0_1.index t = ![0, 2 + t.val / 4]
    ∧ win0_2.index t = ![t.val % 4, t.val / 4] :=
  (by decide +kernel : ∀ t : Fin grid0.N, _)
theorem lt16 (t : Fin cfg0.N) : t.val < 16 := t.isLt

/-- The reference's result: the context's activations times the columns of the keys and the values. -/
abbrev result (U : FVec Ideal S18432x4096 .bf16) (W : FVec Ideal S4096x12288 .f32) : FVec Ideal S2048x4096 .bf16 :=
  truncf .bf16 (Host.dotGeneral Cert.Reference3Ideal.dot_S2048x4096_S4096x4096_S2048x4096_1_0_0_1_n_n none
    (extf .f32 (extractStridedSlice Cert.Reference3Ideal.S2048x4096 ![16384, 0] U Cert.Reference3Ideal.Gen.slices_S18432x4096_S2048x4096_16384_0) Cert.Reference3Ideal.Gen.bitsLt_bf16_f32)
    (extractStridedSlice Cert.Reference3Ideal.S4096x4096 ![0, 2048] W Cert.Reference3Ideal.Gen.slices_S4096x12288_S4096x4096_0_2048)) Cert.Reference3Ideal.Gen.bitsLt_bf16_f32

/-- The queries' scale in the columns of the latents' queries, one in the others, as the kernel's call makes it. -/
def scales : FVec Ideal S12288 .f32 :=
  select (cmpi .slt (iotaInDim S12288 32 0) (broadcastInDim S12288 ![] bcast_S_S12288 (constantI S_ 32 2048#32)))
    (broadcastInDim S12288 ![] bcast_S_S12288 (constant S_ .f32 0x3E38AA3B#32))
    (broadcastInDim S12288 ![] bcast_S_S12288 (constant S_ .f32 0x3F800000#32))

/-- A column's scale. -/
theorem scales_at (j : Fin 12288) : scales (ix1 j) = if j.val < 2048 then Ideal.ofBits .f32 0x3E38AA3B#32 else 1 := by
  have hj : IntOp.cmpi .slt (BitVec.ofNat 32 j.val) 2048#32 = if j.val < 2048 then 1#1 else 0#1 := by revert j; decide +kernel
  have h1 : Ideal.ofBits .f32 0x3F800000#32 = 1 := by
    rw [show (1 : EReal) = ((1 : ℝ) : EReal) by norm_cast]
    simp [Ideal.ofBits, Ideal.ieee, -EReal.coe_mul]; norm_num
  pointwise [scales]
  rw [hj]
  by_cases h : j.val < 2048
  · rw [if_pos h, if_pos h]; rfl
  · rw [if_neg h, if_neg h, ← h1]; rfl

/-- The weights the kernel is handed. -/
theorem weight (c : Dev nD) (k : Fin 4096) (j : Fin 12288) :
    (show FVec Ideal S4096x12288 .bf16 from V m c main_v8) (ix2 k j)
      = (show FVec Ideal S4096x12288 .f32 from m ((c : Thread nD τ).loc main_arg1)) (ix2 k j) * scales (ix1 j) := by
  unfold V
  simp only [List.flatten_cons, List.flatten_nil, List.append_nil, List.cons_append, List.nil_append, hostOps0, hostOps0_1, hostOps0_2]
  entry_read
  change truncf .bf16 (mulf (m ((c : Thread nD τ).loc main_arg1)) (broadcastInDim S4096x12288 ![0, 1] bcast_S1x12288_S4096x12288_0_1
      (broadcastInDim S1x12288 ![1] bcast_S12288_S1x12288_1 scales))) bitsLt_bf16_f32 (ix2 k j) = _
  pointwise

/-- A block of the weights: the columns past the queries carry the scale one. -/
theorem cell (c : Dev nD) (t : Fin cfg0.N) (k : Fin 4096) (l : Fin 1024) :
    (show FVec Ideal S4096x1024 .bf16 from iblk m c 1 t) (ix2 k l)
      = (show FVec Ideal S4096x12288 .f32 from m ((c : Thread nD τ).loc main_arg1)) (ix2 k ⟨2048 + (t.val / 4 * 1024 + l.val), by have := lt16 t; omega⟩) := by
  have := lt16 t
  refine Eq.trans ?_ ((weight m c k ⟨2048 + (t.val / 4 * 1024 + l.val), by omega⟩).trans ?_)
  · blk_ext [iblk, idx t]
  · rw [scales_at, if_neg (by dsimp only; omega), mul_one]

/-- A block of the activations. -/
theorem act (c : Dev nD) (t : Fin cfg0.N) (a : Fin 512) (k : Fin 4096) :
    (show FVec Ideal S512x4096 .bf16 from iblk m c 0 t) (ix2 a k)
      = (show FVec Ideal S18432x4096 .bf16 from m ((c : Thread nD τ).loc main_arg0)) (ix2 ⟨(32 + t.val % 4) * 512 + a.val, by omega⟩ k) := by
  blk_ext [iblk, V, idx t]

/-- What a grid point stores at an index of its block is the result's entry there. -/
theorem point (c : Dev nD) (t : Fin cfg0.N) (y) : k0_pay1 (iblk m c 0 t) (iblk m c 1 t) y
    = result (m ((c : Thread nD τ).loc main_arg0)) (m ((c : Thread nD τ).loc main_arg1)) (((cfg0.win 2).blk t).view.emb y) := by
  pointwise [k0_pay1, result]
  refine (Finset.sum_congr rfl fun k _ => congrArg₂ (· * ·) (act m c t (y 0) k) (cell m c t k (y 1))).trans ?_
  blk_point [iblk, V, idx t]

/-- The array after the run. -/
theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel3Ideal.Value
-- ==== Proof.EvenLatent.lean ====
/- The even layer's projection to the attention's latents: the array the kernel leaves is the reference's. -/
module

public import proofs.«01_k».proof.Proof.Gen.Kernel4Ideal.Value
public import proofs.«01_k».proof.Proof.Gen.Reference4Ideal
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel4Ideal.Value
open Cert.Kernel4Ideal Cert.Kernel4Ideal.Gen Idealize.ShloMosaic Idealize.ShloMosaic.TcCoe Idealize.SL.Sem
variable (m : (ℓ : Loc nD τ sig) → Buf (Elt Ideal) ℓ)

/-- The windows' block indices at every point: 36 blocks of rows, all columns. -/
theorem idx : ∀ t : Fin cfg0.N, win0_0.index t = ![t.val, 0] ∧ win0_1.index t = ![0, 0] ∧ win0_2.index t = ![t.val, 0] :=
  (by decide +kernel : ∀ t : Fin grid0.N, _)
theorem lt36 (t : Fin cfg0.N) : t.val < 36 := t.isLt

/-- The reference's result: the activations times the weights' first 1600 columns, and 64 columns of zero. -/
abbrev result (U : FVec Ideal S18432x4096 .bf16) (W : FVec Ideal S4096x7744 .f32) : FVec Ideal S18432x1664 .bf16 :=
  truncf .bf16 (concatenate Cert.Reference4Ideal.S18432x1664 1 [⟨Cert.Reference4Ideal.S18432x1600,
      (Host.dotGeneral Cert.Reference4Ideal.dot_S18432x4096_S4096x1600_S18432x1600_1_0_0_1_n_n none (extf .f32 U Cert.Reference4Ideal.Gen.bitsLt_bf16_f32)
        (extractStridedSlice Cert.Reference4Ideal.S4096x1600 ![0, 0] W Cert.Reference4Ideal.Gen.slices_S4096x7744_S4096x1600_0_0))⟩,
      ⟨Cert.Reference4Ideal.S18432x64, (broadcastInDim Cert.Reference4Ideal.S18432x64 ![] Cert.Reference4Ideal.Gen.bcast_S_S18432x64 (constant Cert.Reference4Ideal.S_ .f32 0x00000000#32))⟩]
    Cert.Reference4Ideal.Gen.concatenates_S18432x1600_S18432x64_S18432x1664_d1) Cert.Reference4Ideal.Gen.bitsLt_bf16_f32

/-- The weights the kernel is handed: the latents' 1600 columns, then 64 columns of zero. -/
theorem weight (c : Dev nD) (k : Fin 4096) (j : Fin 1664) :
    (show FVec Ideal S4096x1664 .bf16 from V m c main_v2) (ix2 k j)
      = if h : j.val < 1600 then (show FVec Ideal S4096x7744 .f32 from m ((c : Thread nD τ).loc main_arg1)) (ix2 k ⟨j.val, by omega⟩) else 0 := by
  unfold V
  simp only [List.flatten_cons, List.flatten_nil, List.append_nil, List.cons_append, List.nil_append, hostOps0, hostOps0_1, hostOps0_2]
  entry_read
  change truncf .bf16 (pad S4096x1664 ![0, 0] ![0, 64] ![0, 0]
      (extractStridedSlice S4096x1600 ![0, 0] (show FVec Ideal S4096x7744 .f32 from m ((c : Thread nD τ).loc main_arg1)) slices_S4096x7744_S4096x1600_0_0)
      (sitofp .f32 (constantI S_ 32 0#32)) pads_S4096x1600_S4096x1664_000_0640 h_S_) bitsLt_bf16_f32 (ix2 k j) = _
  have hz : (FloatOps.sitofp .f32 0#32 : Ideal .f32) = 0 := by
    show ((((0#32 : BitVec 32).toInt : ℝ)) : EReal) = 0
    simp
  pointwise
  rw [hz]

/-- A block of the weights. -/
theorem cell (c : Dev nD) (t : Fin cfg0.N) (k : Fin 4096) (j : Fin 1664) :
    (show FVec Ideal S4096x1664 .bf16 from iblk m c 1 t) (ix2 k j)
      = if h : j.val < 1600 then (show FVec Ideal S4096x7744 .f32 from m ((c : Thread nD τ).loc main_arg1)) (ix2 k ⟨j.val, by omega⟩) else 0 := by
  refine Eq.trans ?_ (weight m c k j)
  blk_ext [iblk, idx t]

/-- A block of the activations. -/
theorem act (c : Dev nD) (t : Fin cfg0.N) (a : Fin 512) (k : Fin 4096) :
    (show FVec Ideal S512x4096 .bf16 from iblk m c 0 t) (ix2 a k)
      = (show FVec Ideal S18432x4096 .bf16 from m ((c : Thread nD τ).loc main_arg0)) (ix2 ⟨t.val * 512 + a.val, by have := lt36 t; omega⟩ k) := by
  have := lt36 t
  blk_ext [iblk, V, idx t]

/-- What a grid point stores at an index of its block is the result's entry there. -/
theorem point (c : Dev nD) (t : Fin cfg0.N) (y) : k0_pay1 (iblk m c 0 t) (iblk m c 1 t) y
    = result (m ((c : Thread nD τ).loc main_arg0)) (m ((c : Thread nD τ).loc main_arg1)) (((cfg0.win 2).blk t).view.emb y) := by
  pointwise [k0_pay1, result]
  refine (Finset.sum_congr rfl fun k _ => congrArg₂ (· * ·) (act m c t (y 0) k) (cell m c t k (y 1))).trans ?_
  have hc : (((cfg0.win 2).blk t).view.emb y 1).val = (y 1).val := by blk_simp [idx t]
  by_cases h : (y 1).val < 1600
  · simp only [dif_pos h]
    rw [dif_pos (by rw [hc]; exact h)]
    blk_point [iblk, V, idx t]
  · simp only [dif_neg h, mul_zero, Finset.sum_const_zero]
    rw [dif_neg (by rw [hc]; exact h)]

/-- The array after the run. -/
theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.Value
-- ==== Proof.EvenConv.lean ====
/- The even layer's projection to the short convolution's inputs: the array the kernel leaves is the reference's. -/
module

public import proofs.«01_k».proof.Proof.Gen.Kernel5Ideal.Value
public import proofs.«01_k».proof.Proof.Gen.Reference5Ideal
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel5Ideal.Value
open Cert.Kernel5Ideal Cert.Kernel5Ideal.Gen Idealize.ShloMosaic Idealize.ShloMosaic.TcCoe Idealize.SL.Sem
variable (m : (ℓ : Loc nD τ sig) → Buf (Elt Ideal) ℓ)

/-- The windows' block indices at every point: 36 blocks of rows within each of 6 blocks of columns. -/
theorem idx : ∀ t : Fin cfg0.N, win0_0.index t = ![t.val % 36, 0] ∧ win0_1.index t = ![0, t.val / 36]
    ∧ win0_2.index t = ![t.val % 36, t.val / 36] :=
  (by decide +kernel : ∀ t : Fin grid0.N, _)

/-- The reference's result: the activations times the weights' last 6144 columns. -/
abbrev result (U : FVec Ideal S18432x4096 .bf16) (W : FVec Ideal S4096x7744 .f32) : FVec Ideal S18432x6144 .bf16 :=
  truncf .bf16 (Host.dotGeneral Cert.Reference5Ideal.dot_S18432x4096_S4096x6144_S18432x6144_1_0_0_1_n_n none
    (extf .f32 U Cert.Reference5Ideal.Gen.bitsLt_bf16_f32)
    (extractStridedSlice S4096x6144 ![0, 1600] W Cert.Reference5Ideal.Gen.slices_S4096x7744_S4096x6144_0_1600)) Cert.Reference5Ideal.Gen.bitsLt_bf16_f32

/-- What a grid point stores at an index of its block is the result's entry there. -/
theorem point (c : Dev nD) (t : Fin cfg0.N) (y) : k0_pay1 (iblk m c 0 t) (iblk m c 1 t) y
    = result (m ((c : Thread nD τ).loc main_arg0)) (m ((c : Thread nD τ).loc main_arg1)) (((cfg0.win 2).blk t).view.emb y) := by
  pointwise [k0_pay1, result]
  blk_point [iblk, V, idx t]

/-- The array after the run. -/
theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel5Ideal.Value
-- ==== Proof.EvenOut.lean ====
/- The even layer's output projection: the array the kernel leaves is the reference's. -/
module

public import proofs.«01_k».proof.Proof.Gen.Kernel6Ideal.Value
public import proofs.«01_k».proof.Proof.Gen.Reference6Ideal
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel6Ideal.Value
open Cert.Kernel6Ideal Cert.Kernel6Ideal.Gen Idealize.ShloMosaic Idealize.ShloMosaic.TcCoe Idealize.SL.Sem
variable (m : (ℓ : Loc nD τ sig) → Buf (Elt Ideal) ℓ)

/-- The windows' block indices at every point: 36 blocks of rows within each of 4 blocks of columns; the first 32 are the latents' rows,
    the last 4 the context's, whose gate is the ninth batch's. -/
theorem idx : ∀ t : Fin cfg0.N, win0_0.index t = ![t.val % 36, 0] ∧ win0_1.index t = ![t.val % 36, 0] ∧ win0_2.index t = ![0, t.val / 36]
    ∧ win0_3.index t = ![min (t.val % 36) 31, t.val / 36] ∧ win0_4.index t = ![t.val % 36 - 32, t.val / 36]
    ∧ win0_5.index t = ![0, t.val % 36 / 4, 0, 8 + t.val / 36]
    ∧ win0_6.index t = ![t.val % 36, t.val / 36] :=
  (by decide +kernel : ∀ t : Fin grid0.N, _)
/-- The kernel's test for the context's rows. -/
theorem test : ∀ t : Fin cfg0.N, Scalar.cmpi .sge (BitVec.ofNat 32 (grid0.coords t 1).val) 32#32 = if t.val % 36 < 32 then 0#1 else 1#1 :=
  (by decide +kernel : ∀ t : Fin grid0.N, _)
theorem lt144 (t : Fin cfg0.N) : t.val < 144 := t.isLt

/-- The reference's result: each part's residual stream plus its gate times the two halves' product with the weights. -/
def result (A : FVec Ideal S18432x2048 .bf16) (Z : FVec Ideal S18432x2048 .bf16) (W : FVec Ideal S4096x4096 .f32)
    (X : FVec Ideal S8x2048x4096 .f32) (C : FVec Ideal S8x256x4096 .f32) (M : FVec Ideal S2x16x1x24576 .f32) : FVec Ideal S18432x4096 .f32 :=
  concatenate Cert.Reference6Ideal.S18432x4096 0 [⟨Cert.Reference6Ideal.S16384x4096, (shapeCast _ (addf X (mulf (broadcastInDim Cert.Reference6Ideal.S8x2048x4096 ![0, 1, 2] Cert.Reference6Ideal.Gen.bcast_S8x1x4096_S8x2048x4096_0_1_2 (broadcastInDim Cert.Reference6Ideal.S8x1x4096 ![0, 2] Cert.Reference6Ideal.Gen.bcast_S8x4096_S8x1x4096_0_2 (extractStridedSlice Cert.Reference6Ideal.S8x4096 ![0, 0] (shapeCast _ (extractStridedSlice Cert.Reference6Ideal.S1x16x1x4096 ![0, 0, 0, 8192] M Cert.Reference6Ideal.Gen.slices_S2x16x1x24576_S1x16x1x4096_0_0_0_8192) Cert.Reference6Ideal.Gen.shapeCasts_S1x16x1x4096_S16x4096) Cert.Reference6Ideal.Gen.slices_S16x4096_S8x4096_0_0))) (shapeCast _ (extractStridedSlice Cert.Reference6Ideal.S16384x4096 ![0, 0] (Host.dotGeneral Cert.Reference6Ideal.dot_S18432x4096_S4096x4096_S18432x4096_1_0_0_1_n_n none (extf .f32 (concatenate Cert.Reference6Ideal.S18432x4096 1 [⟨Cert.Reference6Ideal.S18432x2048, A⟩, ⟨Cert.Reference6Ideal.S18432x2048, Z⟩] Cert.Reference6Ideal.Gen.concatenates_S18432x2048_S18432x2048_S18432x4096_d1) Cert.Reference6Ideal.Gen.bitsLt_bf16_f32) W) Cert.Reference6Ideal.Gen.slices_S18432x4096_S16384x4096_0_0) Cert.Reference6Ideal.Gen.shapeCasts_S16384x4096_S8x2048x4096))) Cert.Reference6Ideal.Gen.shapeCasts_S8x2048x4096_S16384x4096)⟩, ⟨Cert.Reference6Ideal.S2048x4096, (shapeCast _ (addf C (mulf (broadcastInDim Cert.Reference6Ideal.S8x256x4096 ![0, 1, 2] Cert.Reference6Ideal.Gen.bcast_S1x1x4096_S8x256x4096_0_1_2 (broadcastInDim Cert.Reference6Ideal.S1x1x4096 ![2] Cert.Reference6Ideal.Gen.bcast_S4096_S1x1x4096_2 (shapeCast _ (extractStridedSlice Cert.Reference6Ideal.S1x4096 ![8, 0] (shapeCast _ (extractStridedSlice Cert.Reference6Ideal.S1x16x1x4096 ![0, 0, 0, 8192] M Cert.Reference6Ideal.Gen.slices_S2x16x1x24576_S1x16x1x4096_0_0_0_8192) Cert.Reference6Ideal.Gen.shapeCasts_S1x16x1x4096_S16x4096) Cert.Reference6Ideal.Gen.slices_S16x4096_S1x4096_8_0) Cert.Reference6Ideal.Gen.shapeCasts_S1x4096_S4096))) (shapeCast _ (extractStridedSlice Cert.Reference6Ideal.S2048x4096 ![16384, 0] (Host.dotGeneral Cert.Reference6Ideal.dot_S18432x4096_S4096x4096_S18432x4096_1_0_0_1_n_n none (extf .f32 (concatenate Cert.Reference6Ideal.S18432x4096 1 [⟨Cert.Reference6Ideal.S18432x2048, A⟩, ⟨Cert.Reference6Ideal.S18432x2048, Z⟩] Cert.Reference6Ideal.Gen.concatenates_S18432x2048_S18432x2048_S18432x4096_d1) Cert.Reference6Ideal.Gen.bitsLt_bf16_f32) W) Cert.Reference6Ideal.Gen.slices_S18432x4096_S2048x4096_16384_0) Cert.Reference6Ideal.Gen.shapeCasts_S2048x4096_S8x256x4096))) Cert.Reference6Ideal.Gen.shapeCasts_S8x256x4096_S2048x4096)⟩] Cert.Reference6Ideal.Gen.concatenates_S16384x4096_S2048x4096_S18432x4096_d0

/-- An entry of the product with the weights, the two halves apart. -/
def entry (A : FVec Ideal S18432x2048 .bf16) (Z : FVec Ideal S18432x2048 .bf16) (W : FVec Ideal S4096x4096 .f32) (i : Fin 18432) (j : Fin 4096) : EReal :=
  ∑ k : Fin 2048, A (ix2 i k) * W (ix2 ⟨k.val, by omega⟩ j) + ∑ k : Fin 2048, Z (ix2 i k) * W (ix2 ⟨2048 + k.val, by omega⟩ j)

/-- An entry of the reference's result in the latents' rows. -/
theorem result_latent (A : FVec Ideal S18432x2048 .bf16) (Z : FVec Ideal S18432x2048 .bf16) (W : FVec Ideal S4096x4096 .f32)
    (X : FVec Ideal S8x2048x4096 .f32) (C : FVec Ideal S8x256x4096 .f32) (M : FVec Ideal S2x16x1x24576 .f32) (i : Fin 18432) (j : Fin 4096) (h : i.val < 16384) :
    result A Z W X C M (ix2 i j) = X (ix3 ⟨i.val / 2048, by omega⟩ ⟨i.val % 2048, by omega⟩ j)
      + M (ix4 0 ⟨i.val / 2048, by omega⟩ 0 ⟨8192 + j.val, by omega⟩) * entry A Z W i j := by
  pointwise [result, entry]
  rw [dif_pos h]
  simp only [Nat.div_add_mod']

/-- An entry of the reference's result in the context's rows. -/
theorem result_ctx (A : FVec Ideal S18432x2048 .bf16) (Z : FVec Ideal S18432x2048 .bf16) (W : FVec Ideal S4096x4096 .f32)
    (X : FVec Ideal S8x2048x4096 .f32) (C : FVec Ideal S8x256x4096 .f32) (M : FVec Ideal S2x16x1x24576 .f32) (i : Fin 18432) (j : Fin 4096) (h : ¬ i.val < 16384) :
    result A Z W X C M (ix2 i j) = C (ix3 ⟨(i.val - 16384) / 256, by omega⟩ ⟨(i.val - 16384) % 256, by omega⟩ j)
      + M (ix4 0 8 0 ⟨8192 + j.val, by omega⟩) * entry A Z W i j := by
  pointwise [result, entry]
  rw [dif_neg h]
  have e : 16384 + ((i.val - 16384) / 256 * 256 + (i.val - 16384) % 256) = i.val := by omega
  simp only [e]

/-- The weights the kernel is handed. -/
theorem weight (c : Dev nD) (k : Fin 4096) (j : Fin 4096) :
    (show FVec Ideal S4096x4096 .bf16 from V m c main_v2) (ix2 k j)
      = (show FVec Ideal S4096x4096 .f32 from m ((c : Thread nD τ).loc main_arg2)) (ix2 k j) := by
  unfold V
  simp only [List.flatten_cons, List.flatten_nil, List.append_nil, List.cons_append, List.nil_append, hostOps0]
  entry_read
  pointwise

/-- The latents' residual stream the kernel is handed. -/
theorem stream (c : Dev nD) (i : Fin 16384) (j : Fin 4096) :
    (show FVec Ideal S16384x4096 .f32 from V m c main_v0) (ix2 i j)
      = (show FVec Ideal S8x2048x4096 .f32 from m ((c : Thread nD τ).loc main_arg3)) (ix3 ⟨i.val / 2048, by omega⟩ ⟨i.val % 2048, by omega⟩ j) := by
  unfold V
  simp only [List.flatten_cons, List.flatten_nil, List.append_nil, List.cons_append, List.nil_append, hostOps0]
  entry_read
  pointwise

/-- The context's residual stream the kernel is handed. -/
theorem ctxStream (c : Dev nD) (i : Fin 2048) (j : Fin 4096) :
    (show FVec Ideal S2048x4096 .f32 from V m c main_v1) (ix2 i j)
      = (show FVec Ideal S8x256x4096 .f32 from m ((c : Thread nD τ).loc main_arg4)) (ix3 ⟨i.val / 256, by omega⟩ ⟨i.val % 256, by omega⟩ j) := by
  unfold V
  simp only [List.flatten_cons, List.flatten_nil, List.append_nil, List.cons_append, List.nil_append, hostOps0]
  entry_read
  pointwise

/-- The row of the activations a point's local row is. -/
def row (t : Fin cfg0.N) (a : Fin 512) : Fin 18432 := ⟨t.val % 36 * 512 + a.val, by omega⟩
/-- The column a point's local column is. -/
def col (t : Fin cfg0.N) (l : Fin 1024) : Fin 4096 := ⟨t.val / 36 * 1024 + l.val, by have := lt144 t; omega⟩

/-- A block of the attention's half. -/
theorem cell0 (c : Dev nD) (t : Fin cfg0.N) (a : Fin 512) (k : Fin 2048) :
    (show FVec Ideal S512x2048 .bf16 from iblk m c 0 t) (ix2 a k)
      = (show FVec Ideal S18432x2048 .bf16 from m ((c : Thread nD τ).loc main_arg0)) (ix2 (row t a) k) := by
  unfold row
  blk_ext [iblk, V, idx t]

/-- A block of the other half. -/
theorem cell1 (c : Dev nD) (t : Fin cfg0.N) (a : Fin 512) (k : Fin 2048) :
    (show FVec Ideal S512x2048 .bf16 from iblk m c 1 t) (ix2 a k)
      = (show FVec Ideal S18432x2048 .bf16 from m ((c : Thread nD τ).loc main_arg1)) (ix2 (row t a) k) := by
  unfold row
  blk_ext [iblk, V, idx t]

/-- A block of the weights. -/
theorem cell2 (c : Dev nD) (t : Fin cfg0.N) (k : Fin 4096) (l : Fin 1024) :
    (show FVec Ideal S4096x1024 .bf16 from iblk m c 2 t) (ix2 k l)
      = (show FVec Ideal S4096x4096 .f32 from m ((c : Thread nD τ).loc main_arg2)) (ix2 k (col t l)) := by
  have := lt144 t
  refine Eq.trans ?_ (weight m c k (col t l))
  unfold col
  blk_ext [iblk, idx t]

/-- A block of the latents' residual stream, at a point of the latents' rows. -/
theorem cell3 (c : Dev nD) (t : Fin cfg0.N) (h : t.val % 36 < 32) (y : S512x1024.Idx) :
    (show FVec Ideal S512x1024 .f32 from iblk m c 3 t) y
      = (show FVec Ideal S8x2048x4096 .f32 from m ((c : Thread nD τ).loc main_arg3))
          (ix3 ⟨(row t (y 0)).val / 2048, by have h0 : (y 0).val < 512 := (y 0).isLt; unfold row; dsimp only; omega⟩ ⟨(row t (y 0)).val % 2048, by omega⟩ (col t (y 1))) := by
  have := lt144 t
  have h0 : (y 0).val < 512 := (y 0).isLt
  have hm : min (t.val % 36) 31 = t.val % 36 := by omega
  refine Eq.trans ?_ (stream m c ⟨(row t (y 0)).val, by have h0 : (y 0).val < 512 := (y 0).isLt; unfold row; dsimp only; omega⟩ (col t (y 1)))
  unfold row col
  blk_ext [iblk, idx t, hm]

/-- A block of the context's residual stream, at a point of the context's rows. -/
theorem cell4 (c : Dev nD) (t : Fin cfg0.N) (h : ¬ t.val % 36 < 32) (y : S512x1024.Idx) :
    (show FVec Ideal S512x1024 .f32 from iblk m c 4 t) y
      = (show FVec Ideal S8x256x4096 .f32 from m ((c : Thread nD τ).loc main_arg4))
          (ix3 ⟨((row t (y 0)).val - 16384) / 256, by have h0 : (y 0).val < 512 := (y 0).isLt; unfold row; dsimp only; omega⟩ ⟨((row t (y 0)).val - 16384) % 256, by omega⟩ (col t (y 1))) := by
  have := lt144 t
  have h0 : (y 0).val < 512 := (y 0).isLt
  refine Eq.trans ?_ (ctxStream m c ⟨(row t (y 0)).val - 16384, by have h0 : (y 0).val < 512 := (y 0).isLt; unfold row; dsimp only; omega⟩ (col t (y 1)))
  unfold row col
  blk_ext [iblk, idx t]

/-- A block of the gates: the batch's in the latents' rows, the ninth in the context's. -/
theorem cell5 (c : Dev nD) (t : Fin cfg0.N) (a : Fin 512) (l : Fin 1024) :
    (show FVec Ideal S1x1x1x1024 .f32 from iblk m c 5 t) (ix4 0 0 0 l)
      = (show FVec Ideal S2x16x1x24576 .f32 from m ((c : Thread nD τ).loc main_arg5))
          (ix4 0 ⟨(row t a).val / 2048, by have := (row t a).isLt; omega⟩ 0 ⟨8192 + (col t l).val, by have := (col t l).isLt; omega⟩) := by
  have := lt144 t
  unfold row col
  blk_ext [iblk, V, idx t]

/-- A choice by a word of one bit. -/
theorem pick_second {α : Type} (x y : α) : Scalar.select 0#1 x y = y := rfl
theorem pick_first {α : Type} (x y : α) : Scalar.select 1#1 x y = x := rfl

/-- The array after the run. -/
theorem final (c : Dev nD) : (dats m 0 c).arrAt 6 cfg0.N
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  have e : ((cfg0.win 6).blk t).view.emb y = ix2 (row t (y 0)) (col t (y 1)) := by
    have := lt144 t
    unfold row col
    blk_ext [idx t]
  blk_simp
  rw [after0_6]; frame_out
  refine Eq.trans ?_ (congrArg (result _ _ _ _ _ _) e).symm
  pointwise [k0_pay1]
  have hE := congrArg₂ (· + ·)
    (Finset.sum_congr (s₁ := (Finset.univ : Finset (Fin 2048))) rfl fun k _ => congrArg₂ (· * ·) (cell0 m c t (y 0) k) (cell2 m c t ⟨k.val, by omega⟩ (y 1)))
    (Finset.sum_congr (s₁ := (Finset.univ : Finset (Fin 2048))) rfl fun k _ => congrArg₂ (· * ·) (cell1 m c t (y 0) k) (cell2 m c t ⟨2048 + k.val, by omega⟩ (y 1)))
  have h0 : (y 0).val < 512 := (y 0).isLt
  rw [test t]
  by_cases h : t.val % 36 < 32
  · rw [if_pos h, pick_second]
    refine Eq.trans ?_ (result_latent _ _ _ _ _ _ _ _ (by unfold row; dsimp only; omega)).symm
    exact congrArg₂ (· + ·) (cell3 m c t h y) (congrArg₂ (· * ·) (cell5 m c t (y 0) (y 1)) hE)
  · rw [if_neg h, pick_first]
    refine Eq.trans ?_ (result_ctx _ _ _ _ _ _ _ _ (by unfold row; dsimp only; omega)).symm
    have h8 : (⟨(row t (y 0)).val / 2048, by have := (row t (y 0)).isLt; omega⟩ : Fin 16) = 8 :=
      Fin.ext (show (row t (y 0)).val / 2048 = 8 by unfold row; dsimp only; omega)
    have h5 := cell5 m c t (y 0) (y 1)
    rw [h8] at h5
    exact congrArg₂ (· + ·) (cell4 m c t h y) (congrArg₂ (· * ·) h5 hE)

end Cert.Kernel6Ideal.Value
-- ==== Proof.Modulation.lean ====
/- The modulation rows of both layers: the array the kernel leaves is the reference's. -/
module

public import proofs.«01_k».proof.Proof.Gen.Kernel11Ideal.Value
public import proofs.«01_k».proof.Proof.Gen.Reference11Ideal
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel11Ideal.Value
open Cert.Kernel11Ideal Cert.Kernel11Ideal.Gen Idealize.ShloMosaic Idealize.ShloMosaic.TcCoe Idealize.SL.Sem
variable (m : (ℓ : Loc nD τ sig) → Buf (Elt Ideal) ℓ)

/-- The windows' block indices at every point: 48 blocks of columns within each layer. -/
theorem idx : ∀ t : Fin cfg0.N, win0_0.index t = ![0, 0] ∧ win0_1.index t = ![t.val / 48, 0, t.val % 48]
    ∧ win0_2.index t = ![t.val / 48, 0, t.val % 48] ∧ win0_3.index t = ![t.val / 48, 0, t.val % 48] :=
  (by decide +kernel : ∀ t : Fin grid0.N, _)
/-- A step's number is below 96. -/
theorem lt96 (t : Fin cfg0.N) : t.val < 96 := t.isLt

/-- The reference's result: for each layer the activated conditioning times its weights, plus its bias. -/
def result (X : FVec Ideal S16x4096 .f32) (W : FVec Ideal S2x4096x24576 .f32) (B : FVec Ideal S2x24576 .f32) : FVec Ideal S2x16x24576 .f32 :=
  concatenate Cert.Reference11Ideal.S2x16x24576 0 [⟨Cert.Reference11Ideal.S1x16x24576, (broadcastInDim Cert.Reference11Ideal.S1x16x24576 ![1, 2] Cert.Reference11Ideal.Gen.bcast_S16x24576_S1x16x24576_1_2 (addf (Host.dotGeneral Cert.Reference11Ideal.dot_S16x4096_S4096x24576_S16x24576_1_0_0_1_n_n none (mulf X (Host.divf (broadcastInDim Cert.Reference11Ideal.S16x4096 ![] Cert.Reference11Ideal.Gen.bcast_S_S16x4096 (constant Cert.Reference11Ideal.S_ .f32 0x3F800000#32)) (addf (broadcastInDim Cert.Reference11Ideal.S16x4096 ![] Cert.Reference11Ideal.Gen.bcast_S_S16x4096 (constant Cert.Reference11Ideal.S_ .f32 0x3F800000#32)) (Host.exp (Host.negf X))))) (shapeCast _ (extractStridedSlice Cert.Reference11Ideal.S1x4096x24576 ![0, 0, 0] W Cert.Reference11Ideal.Gen.slices_S2x4096x24576_S1x4096x24576_0_0_0) Cert.Reference11Ideal.Gen.shapeCasts_S1x4096x24576_S4096x24576)) (broadcastInDim Cert.Reference11Ideal.S16x24576 ![0, 1] Cert.Reference11Ideal.Gen.bcast_S1x24576_S16x24576_0_1 (broadcastInDim Cert.Reference11Ideal.S1x24576 ![1] Cert.Reference11Ideal.Gen.bcast_S24576_S1x24576_1 (shapeCast _ (extractStridedSlice Cert.Reference11Ideal.S1x24576 ![0, 0] B Cert.Reference11Ideal.Gen.slices_S2x24576_S1x24576_0_0) Cert.Reference11Ideal.Gen.shapeCasts_S1x24576_S24576)))))⟩, ⟨Cert.Reference11Ideal.S1x16x24576, (broadcastInDim Cert.Reference11Ideal.S1x16x24576 ![1, 2] Cert.Reference11Ideal.Gen.bcast_S16x24576_S1x16x24576_1_2 (addf (Host.dotGeneral Cert.Reference11Ideal.dot_S16x4096_S4096x24576_S16x24576_1_0_0_1_n_n none (mulf X (Host.divf (broadcastInDim Cert.Reference11Ideal.S16x4096 ![] Cert.Reference11Ideal.Gen.bcast_S_S16x4096 (constant Cert.Reference11Ideal.S_ .f32 0x3F800000#32)) (addf (broadcastInDim Cert.Reference11Ideal.S16x4096 ![] Cert.Reference11Ideal.Gen.bcast_S_S16x4096 (constant Cert.Reference11Ideal.S_ .f32 0x3F800000#32)) (Host.exp (Host.negf X))))) (shapeCast _ (extractStridedSlice Cert.Reference11Ideal.S1x4096x24576 ![1, 0, 0] W Cert.Reference11Ideal.Gen.slices_S2x4096x24576_S1x4096x24576_1_0_0) Cert.Reference11Ideal.Gen.shapeCasts_S1x4096x24576_S4096x24576)) (broadcastInDim Cert.Reference11Ideal.S16x24576 ![0, 1] Cert.Reference11Ideal.Gen.bcast_S1x24576_S16x24576_0_1 (broadcastInDim Cert.Reference11Ideal.S1x24576 ![1] Cert.Reference11Ideal.Gen.bcast_S24576_S1x24576_1 (shapeCast _ (extractStridedSlice Cert.Reference11Ideal.S1x24576 ![1, 0] B Cert.Reference11Ideal.Gen.slices_S2x24576_S1x24576_1_0) Cert.Reference11Ideal.Gen.shapeCasts_S1x24576_S24576)))))⟩] Cert.Reference11Ideal.Gen.concatenates_S1x16x24576_S1x16x24576_S2x16x24576_d0

/-- The bits of one are one. -/
theorem one_bits : Ideal.ofBits .f32 0x3F800000#32 = 1 := by
  simpa using Ideal.constant_one .f32

/-- An entry of the reference's result. -/
theorem result_at (X : FVec Ideal S16x4096 .f32) (W : FVec Ideal S2x4096x24576 .f32) (B : FVec Ideal S2x24576 .f32) (l : Fin 2) (i : Fin 16) (j : Fin 24576) :
    result X W B (ix3 l i j) = ∑ k : Fin 4096, X (ix2 i k) * Ideal.div 1 (1 + Ideal.exp (-X (ix2 i k))) * W (ix3 l k j) + B (ix2 l j) := by
  pointwise [result]
  by_cases h : l.val < 1
  · have : l = 0 := Fin.ext (by omega)
    subst this
    simp [one_bits]
  · have : l = 1 := Fin.ext (by omega)
    subst this
    simp [one_bits]

/-- An entry of what a grid point computes from its blocks. -/
theorem pay_at (X : FVec Ideal S16x4096 .f32) (W : FVec Ideal S1x4096x512 .f32) (B : FVec Ideal S1x1x512 .f32) (i : Fin 16) (j : Fin 512) :
    k0_pay1 (F := Ideal) X W B (ix3 0 i j) = ∑ k : Fin 4096, X (ix2 i k) * Ideal.div 1 (1 + Ideal.exp (-X (ix2 i k))) * W (ix3 0 k j) + B (ix3 0 0 j) := by
  pointwise [k0_pay1]
  rfl

/-- The conditioning. -/
theorem cond (c : Dev nD) (t : Fin cfg0.N) (i : Fin 16) (k : Fin 4096) :
    (show FVec Ideal S16x4096 .f32 from iblk m c 0 t) (ix2 i k) = (show FVec Ideal S16x4096 .f32 from m ((c : Thread nD τ).loc main_arg0)) (ix2 i k) := by
  blk_ext [iblk, V, idx t]

/-- The layer of a point. -/
def layer (t : Fin cfg0.N) : Fin 2 := ⟨t.val / 48, by have := lt96 t; omega⟩
/-- The column a point's local column is. -/
def col (t : Fin cfg0.N) (l : Fin 512) : Fin 24576 := ⟨t.val % 48 * 512 + l.val, by omega⟩

/-- A block of the weights. -/
theorem cell (c : Dev nD) (t : Fin cfg0.N) (k : Fin 4096) (j : Fin 512) :
    (show FVec Ideal S1x4096x512 .f32 from iblk m c 1 t) (ix3 0 k j)
      = (show FVec Ideal S2x4096x24576 .f32 from m ((c : Thread nD τ).loc main_arg1)) (ix3 (layer t) k (col t j)) := by
  unfold layer col
  blk_ext [iblk, V, idx t]

/-- The bias the kernel is handed. -/
theorem biasHost (c : Dev nD) (l : Fin 2) (j : Fin 24576) :
    (show FVec Ideal S2x1x24576 .f32 from V m c main_v0) (ix3 l 0 j) = (show FVec Ideal S2x24576 .f32 from m ((c : Thread nD τ).loc main_arg2)) (ix2 l j) := by
  unfold V
  simp only [List.flatten_cons, List.flatten_nil, List.append_nil, List.cons_append, List.nil_append, hostOps0]
  entry_read
  pointwise

/-- A block of the bias. -/
theorem bias (c : Dev nD) (t : Fin cfg0.N) (j : Fin 512) :
    (show FVec Ideal S1x1x512 .f32 from iblk m c 2 t) (ix3 0 0 j)
      = (show FVec Ideal S2x24576 .f32 from m ((c : Thread nD τ).loc main_arg2)) (ix2 (layer t) (col t j)) := by
  refine Eq.trans ?_ (biasHost m c (layer t) (col t j))
  unfold layer col
  blk_ext [iblk, idx t]

/-- The array after the run. -/
theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  have h0 : (y 0).val < 1 := (y 0).isLt
  have h1 : (y 1).val < 16 := (y 1).isLt
  have h2 : (y 2).val < 512 := (y 2).isLt
  have hy : y = ix3 (0 : Fin 1) (⟨(y 1).val, h1⟩ : Fin 16) (⟨(y 2).val, h2⟩ : Fin 512) := by
    blk_ext
  have e : ((cfg0.win 3).blk t).view.emb y = ix3 (layer t) (⟨(y 1).val, h1⟩ : Fin 16) (col t ⟨(y 2).val, h2⟩) := by
    unfold layer col
    blk_ext [idx t]
  blk_simp
  rw [after0_3]; frame_out
  refine Eq.trans ?_ (congrArg (result _ _ _) e).symm
  refine Eq.trans ?_ (result_at _ _ _ _ _ _).symm
  refine (congrArg (k0_pay1 (F := Ideal) _ _ _) hy).trans ((pay_at _ _ _ _ _).trans ?_)
  refine congrArg₂ (· + ·) (Finset.sum_congr rfl fun k _ => congrArg₂ (· * ·)
    (congrArg (fun x => x * Ideal.div 1 (1 + Ideal.exp (-x))) (cond m c t _ k)) (cell m c t k _)) (bias m c t _)

end Cert.Kernel11Ideal.Value
-- ==== Proof.OddConv.lean ====
/- The odd layer's convolution of three taps: the array the kernel leaves is the reference's. -/
module

public import proofs.«01_k».proof.Proof.Gen.Kernel12Ideal.Value
public import proofs.«01_k».proof.Proof.Gen.Reference12Ideal
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel12Ideal.Value
open Cert.Kernel12Ideal Cert.Kernel12Ideal.Gen Idealize.ShloMosaic Idealize.ShloMosaic.TcCoe Idealize.SL.Sem
variable (m : (ℓ : Loc nD τ sig) → Buf (Elt Ideal) ℓ)

/-- The windows' block indices at every point: 12 blocks of columns within each of 8 batches; the input's columns start at
    the thirteenth block. -/
theorem idx : ∀ t : Fin cfg0.N, win0_0.index t = ![t.val / 12, 12 + t.val % 12] ∧ win0_1.index t = ![0, t.val % 12]
    ∧ win0_2.index t = ![t.val / 12, t.val % 12] :=
  (by decide +kernel : ∀ t : Fin grid0.N, _)
/-- A step's number is below 96. -/
theorem lt96 (t : Fin cfg0.N) : t.val < 96 := t.isLt

/-- Three taps: the row before, the row itself and the row after, each times its weight. -/
def taps (p x n : EReal) (w : Fin 3 → EReal) : EReal := p * w 0 + x * w 1 + n * w 2

/-- Each batch's rows convolved with three taps, the padding's value beyond the batch's ends, as the reference writes it. -/
def conv (P : FVec Ideal Cert.Reference12Ideal.S8x2048x6144 .f32) (Z : FVec Ideal Cert.Reference12Ideal.S_ .f32) (W : FVec Ideal Cert.Reference12Ideal.S3x6144 .f32) : FVec Ideal Cert.Reference12Ideal.S8x2048x6144 .f32 :=
  (addf (addf (mulf (extractStridedSlice Cert.Reference12Ideal.S8x2048x6144 ![0, 0, 0] (pad Cert.Reference12Ideal.S8x2050x6144 ![0, 1, 0] ![0, 1, 0] ![0, 0, 0] P Z Cert.Reference12Ideal.Gen.pads_S8x2048x6144_S8x2050x6144_000_110_000 Cert.Reference12Ideal.Gen.h_S_) Cert.Reference12Ideal.Gen.slices_S8x2050x6144_S8x2048x6144_0_0_0) (broadcastInDim Cert.Reference12Ideal.S8x2048x6144 ![0, 1, 2] Cert.Reference12Ideal.Gen.bcast_S1x1x6144_S8x2048x6144_0_1_2 (broadcastInDim Cert.Reference12Ideal.S1x1x6144 ![2] Cert.Reference12Ideal.Gen.bcast_S6144_S1x1x6144_2 (shapeCast _ (extractStridedSlice Cert.Reference12Ideal.S1x6144 ![0, 0] W Cert.Reference12Ideal.Gen.slices_S3x6144_S1x6144_0_0) Cert.Reference12Ideal.Gen.shapeCasts_S1x6144_S6144)))) (mulf (extractStridedSlice Cert.Reference12Ideal.S8x2048x6144 ![0, 1, 0] (pad Cert.Reference12Ideal.S8x2050x6144 ![0, 1, 0] ![0, 1, 0] ![0, 0, 0] P Z Cert.Reference12Ideal.Gen.pads_S8x2048x6144_S8x2050x6144_000_110_000 Cert.Reference12Ideal.Gen.h_S_) Cert.Reference12Ideal.Gen.slices_S8x2050x6144_S8x2048x6144_0_1_0) (broadcastInDim Cert.Reference12Ideal.S8x2048x6144 ![0, 1, 2] Cert.Reference12Ideal.Gen.bcast_S1x1x6144_S8x2048x6144_0_1_2 (broadcastInDim Cert.Reference12Ideal.S1x1x6144 ![2] Cert.Reference12Ideal.Gen.bcast_S6144_S1x1x6144_2 (shapeCast _ (extractStridedSlice Cert.Reference12Ideal.S1x6144 ![1, 0] W Cert.Reference12Ideal.Gen.slices_S3x6144_S1x6144_1_0) Cert.Reference12Ideal.Gen.shapeCasts_S1x6144_S6144))))) (mulf (extractStridedSlice Cert.Reference12Ideal.S8x2048x6144 ![0, 2, 0] (pad Cert.Reference12Ideal.S8x2050x6144 ![0, 1, 0] ![0, 1, 0] ![0, 0, 0] P Z Cert.Reference12Ideal.Gen.pads_S8x2048x6144_S8x2050x6144_000_110_000 Cert.Reference12Ideal.Gen.h_S_) Cert.Reference12Ideal.Gen.slices_S8x2050x6144_S8x2048x6144_0_2_0) (broadcastInDim Cert.Reference12Ideal.S8x2048x6144 ![0, 1, 2] Cert.Reference12Ideal.Gen.bcast_S1x1x6144_S8x2048x6144_0_1_2 (broadcastInDim Cert.Reference12Ideal.S1x1x6144 ![2] Cert.Reference12Ideal.Gen.bcast_S6144_S1x1x6144_2 (shapeCast _ (extractStridedSlice Cert.Reference12Ideal.S1x6144 ![2, 0] W Cert.Reference12Ideal.Gen.slices_S3x6144_S1x6144_2_0) Cert.Reference12Ideal.Gen.shapeCasts_S1x6144_S6144)))))

/-- An entry of that convolution, the padding's value being zero. -/
theorem conv_at (P : FVec Ideal Cert.Reference12Ideal.S8x2048x6144 .f32) (Z : FVec Ideal Cert.Reference12Ideal.S_ .f32) (W : FVec Ideal Cert.Reference12Ideal.S3x6144 .f32) (hz : ∀ i, Z i = 0)
    (b : Fin 8) (r : Fin 2048) (j : Fin 6144) :
    conv P Z W (ix3 b r j) = taps (if r.val = 0 then 0 else P (ix3 b ⟨r.val - 1, by omega⟩ j)) (P (ix3 b r j))
      (if h : r.val = 2047 then 0 else P (ix3 b ⟨r.val + 1, by omega⟩ j)) fun k => W (ix2 k j) := by
  unfold taps
  pointwise [conv]
  simp only [hz]
  have e (x : ℕ) : 2 + x - 1 = x + 1 := by omega
  have hr := r.isLt
  by_cases h : r.val = 0
  · have h' : ¬ r.val = 2047 := by omega
    have c : ¬ 1 ≤ r.val := by omega
    have c' : 1 ≤ 2 + r.val ∧ 2 + r.val - 1 < 2048 := by omega
    rw [dif_neg (fun q => c q.1), dif_pos c', if_pos h, dif_neg h']
    simp only [e]
  · by_cases h' : r.val = 2047
    · have c : 1 ≤ r.val ∧ r.val - 1 < 2048 := by omega
      have c' : ¬ (1 ≤ 2 + r.val ∧ 2 + r.val - 1 < 2048) := by omega
      rw [dif_pos c, dif_neg c', if_neg h, dif_pos h']
    · have c : 1 ≤ r.val ∧ r.val - 1 < 2048 := by omega
      have c' : 1 ≤ 2 + r.val ∧ 2 + r.val - 1 < 2048 := by omega
      rw [dif_pos c, dif_pos c', if_neg h, dif_neg h']
      simp only [e]

/-- The input's columns the convolution reads, by batch, row and column. -/
def part (H : FVec Ideal S16384x12288 .bf16) : FVec Ideal Cert.Reference12Ideal.S8x2048x6144 .f32 :=
  shapeCast _ (extf .f32 (extractStridedSlice Cert.Reference12Ideal.S16384x6144 ![0, 6144] H Cert.Reference12Ideal.Gen.slices_S16384x12288_S16384x6144_0_6144) Cert.Reference12Ideal.Gen.bitsLt_bf16_f32) Cert.Reference12Ideal.Gen.shapeCasts_S16384x6144_S8x2048x6144

/-- An entry of it. -/
theorem part_at (H : FVec Ideal S16384x12288 .bf16) (b : Fin 8) (r : Fin 2048) (j : Fin 6144) :
    part H (ix3 b r j) = H (ix2 ⟨b.val * 2048 + r.val, by omega⟩ ⟨6144 + j.val, by omega⟩) := by
  pointwise [part]

/-- The padding's value, the integer zero converted. -/
def padding : FVec Ideal Cert.Reference12Ideal.S_ .f32 := sitofp .f32 (constantI Cert.Reference12Ideal.S_ 32 0#32)
/-- It is zero. -/
theorem padding_at (i) : padding i = 0 := by
  change (((0#32 : BitVec 32).toInt : ℝ) : EReal) = 0
  simp

/-- The reference's result: each batch's rows convolved with three taps, zero beyond the batch's ends. -/
def result (H : FVec Ideal S16384x12288 .bf16) (W : FVec Ideal S3x6144 .f32) : FVec Ideal S16384x6144 .bf16 :=
  truncf .bf16 (shapeCast _ (conv (part H) padding W) Cert.Reference12Ideal.Gen.shapeCasts_S8x2048x6144_S16384x6144) Cert.Reference12Ideal.Gen.bitsLt_bf16_f32

/-- An entry of the reference's result. -/
theorem result_at (H : FVec Ideal S16384x12288 .bf16) (W : FVec Ideal S3x6144 .f32) (i : Fin 16384) (j : Fin 6144) :
    result H W (ix2 i j) = conv (part H) padding W (ix3 ⟨i.val / 2048, by omega⟩ ⟨i.val % 2048, by omega⟩ j) := by
  pointwise [result]

/-- The kernel's test for a batch's first row. -/
theorem first (i : Fin 2048) : IntOp.cmpi .eq (BitVec.ofNat 32 i.val) 0#32 = if i.val = 0 then 1#1 else 0#1 := by revert i; decide +kernel
/-- The kernel's test for a batch's last row. -/
theorem last (i : Fin 2048) : IntOp.cmpi .eq (BitVec.ofNat 32 i.val) 2047#32 = if i.val = 2047 then 1#1 else 0#1 := by revert i; decide +kernel

/-- An entry of what a grid point computes from its blocks. -/
theorem pay_at (H : FVec Ideal S2048x512 .bf16) (W : FVec Ideal S3x512 .f32) (i : Fin 2048) (j : Fin 512) :
    k0_pay1 (F := Ideal) H W (ix2 i j) = taps (if i.val = 0 then 0 else H (ix2 ⟨i.val - 1, by omega⟩ j)) (H (ix2 i j))
      (if h : i.val = 2047 then 0 else H (ix2 ⟨i.val + 1, by omega⟩ j)) fun k => W (ix2 k j) := by
  pointwise [k0_pay1, taps]
  rw [first i, last i]
  have hi := i.isLt
  refine congrArg₂ (· + ·) (congrArg (· + _) ?_) ?_
  · by_cases h : i.val = 0
    · rw [if_pos h, if_pos h, zero_mul]; rfl
    · rw [if_neg h, if_neg h]
      exact congrArg (fun r => H (ix2 r j) * _) (Fin.ext (show (i.val + 2048 - 1) % 2048 = i.val - 1 by omega))
  · by_cases h : i.val = 2047
    · rw [if_pos h, dif_pos h, zero_mul]; rfl
    · rw [if_neg h, dif_neg h]
      exact congrArg (fun r => H (ix2 r j) * _) (Fin.ext (show (i.val + 2048 - 2047) % 2048 = i.val + 1 by omega))

/-- The row of the result a point's local row is. -/
def row (t : Fin cfg0.N) (a : Fin 2048) : Fin 16384 := ⟨t.val / 12 * 2048 + a.val, by have := lt96 t; omega⟩
/-- The column a point's local column is. -/
def col (t : Fin cfg0.N) (l : Fin 512) : Fin 6144 := ⟨t.val % 12 * 512 + l.val, by omega⟩

/-- A block of the input. -/
theorem act (c : Dev nD) (t : Fin cfg0.N) (a : Fin 2048) (l : Fin 512) :
    (show FVec Ideal S2048x512 .bf16 from iblk m c 0 t) (ix2 a l)
      = (show FVec Ideal S16384x12288 .bf16 from m ((c : Thread nD τ).loc main_arg0)) (ix2 (row t a) ⟨6144 + (col t l).val, by have := (col t l).isLt; omega⟩) := by
  have := lt96 t
  unfold row col
  blk_ext [iblk, V, idx t]

/-- A block of the taps' weights. -/
theorem cell (c : Dev nD) (t : Fin cfg0.N) (k : Fin 3) (l : Fin 512) :
    (show FVec Ideal S3x512 .f32 from iblk m c 1 t) (ix2 k l)
      = (show FVec Ideal S3x6144 .f32 from m ((c : Thread nD τ).loc main_arg1)) (ix2 k (col t l)) := by
  unfold col
  blk_ext [iblk, V, idx t]

/-- The array after the run. -/
theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  have h0 : (y 0).val < 2048 := (y 0).isLt
  have h1 : (y 1).val < 512 := (y 1).isLt
  have hy : y = ix2 (⟨(y 0).val, h0⟩ : Fin 2048) (⟨(y 1).val, h1⟩ : Fin 512) := by
    blk_ext
  have e : ((cfg0.win 2).blk t).view.emb y = ix2 (row t ⟨(y 0).val, h0⟩) (col t ⟨(y 1).val, h1⟩) := by
    unfold row col
    blk_ext [idx t]
  have hr : (row t ⟨(y 0).val, h0⟩).val = t.val / 12 * 2048 + (y 0).val := rfl
  have ht := lt96 t
  blk_simp
  rw [after0_2]; frame_out
  refine Eq.trans ?_ (congrArg (result _ _) e).symm
  refine (congrArg (k0_pay1 (F := Ideal) _ _) hy).trans ((pay_at _ _ _ _).trans (Eq.trans ?_ ((result_at _ _ _ _).trans (conv_at _ _ _ padding_at _ _ _)).symm))
  have hw := funext fun k => cell m c t k ⟨(y 1).val, h1⟩
  refine (congrArg (taps _ _ _) hw).trans ?_
  refine congrArg₂ (fun f x => f x) (congrArg₂ (fun p x n => taps p x n _) ?_ ?_) ?_
  · by_cases h : (y 0).val = 0
    · rw [if_pos (show (row t ⟨(y 0).val, h0⟩).val % 2048 = 0 by omega)]; exact if_pos h
    · rw [if_neg (show ¬ (row t ⟨(y 0).val, h0⟩).val % 2048 = 0 by omega), part_at]
      refine (if_neg h).trans ((act m c t ⟨(y 0).val - 1, by omega⟩ ⟨(y 1).val, h1⟩).trans ?_)
      exact congrArg (fun r => (show FVec Ideal S16384x12288 .bf16 from m ((c : Thread nD τ).loc main_arg0)) (ix2 r _))
        (Fin.ext (show t.val / 12 * 2048 + ((y 0).val - 1) = (row t ⟨(y 0).val, h0⟩).val / 2048 * 2048 + ((row t ⟨(y 0).val, h0⟩).val % 2048 - 1) by omega))
  · rw [part_at]
    refine (act m c t _ _).trans ?_
    exact congrArg (fun r => (show FVec Ideal S16384x12288 .bf16 from m ((c : Thread nD τ).loc main_arg0)) (ix2 r _))
      (Fin.ext (show (row t ⟨(y 0).val, h0⟩).val = (row t ⟨(y 0).val, h0⟩).val / 2048 * 2048 + (row t ⟨(y 0).val, h0⟩).val % 2048 by omega))
  · by_cases h : (y 0).val = 2047
    · rw [dif_pos (show (row t ⟨(y 0).val, h0⟩).val % 2048 = 2047 by omega)]; exact dif_pos h
    · rw [dif_neg (show ¬ (row t ⟨(y 0).val, h0⟩).val % 2048 = 2047 by omega), part_at]
      refine (dif_neg h).trans ((act m c t ⟨(y 0).val + 1, by omega⟩ ⟨(y 1).val, h1⟩).trans ?_)
      exact congrArg (fun r => (show FVec Ideal S16384x12288 .bf16 from m ((c : Thread nD τ).loc main_arg0)) (ix2 r _))
        (Fin.ext (show t.val / 12 * 2048 + ((y 0).val + 1) = (row t ⟨(y 0).val, h0⟩).val / 2048 * 2048 + ((row t ⟨(y 0).val, h0⟩).val % 2048 + 1) by omega))

end Cert.Kernel12Ideal.Value
-- ==== Proof.EvenModulate.lean ====
/- The even layer's modulation of the normalized residual streams: the array the kernel leaves is the reference's. -/
module

public import proofs.«01_k».proof.Proof.Gen.Kernel13Ideal.Value
public import proofs.«01_k».proof.Proof.Gen.Reference13Ideal
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel13Ideal.Value
open Cert.Kernel13Ideal Cert.Kernel13Ideal.Gen Idealize.ShloMosaic Idealize.ShloMosaic.TcCoe Idealize.SL.Sem
variable (m : (ℓ : Loc nD τ sig) → Buf (Elt Ideal) ℓ)

/-- The windows' block indices at every point: 72 blocks of rows; the first 64 are the latents' rows, the last 8 the context's,
    whose modulation row is the ninth. -/
theorem idx : ∀ t : Fin cfg0.N, win0_0.index t = ![min t.val 63, 0] ∧ win0_1.index t = ![t.val - 64, 0]
    ∧ win0_2.index t = ![0, t.val / 8, 0, 0] ∧ win0_3.index t = ![0, t.val / 8, 0, 1] ∧ win0_4.index t = ![t.val, 0] :=
  (by decide +kernel : ∀ t : Fin grid0.N, _)
/-- The kernel's test for the context's rows. -/
theorem test : ∀ t : Fin cfg0.N, Scalar.cmpi .sge (BitVec.ofNat 32 (grid0.coords t 0).val) 64#32 = if t.val < 64 then 0#1 else 1#1 :=
  (by decide +kernel : ∀ t : Fin grid0.N, _)
/-- A step's number is below 72. -/
theorem lt72 (t : Fin cfg0.N) : t.val < 72 := t.isLt

/-- The reference's result: each part's normalized residual stream, scaled and shifted by its modulation row. -/
def result (X : FVec Ideal S8x2048x4096 .f32) (C : FVec Ideal S8x256x4096 .f32) (M : FVec Ideal S2x16x1x24576 .f32) : FVec Ideal S18432x4096 .bf16 :=
  truncf .bf16 (concatenate Cert.Reference13Ideal.S18432x4096 0 [⟨Cert.Reference13Ideal.S16384x4096, (shapeCast _ (addf (mulf (mulf X (broadcastInDim Cert.Reference13Ideal.S8x2048x4096 ![0, 1, 2] Cert.Reference13Ideal.Gen.bcast_S8x2048x1_S8x2048x4096_0_1_2 (Host.rsqrt (addf (Host.divf (broadcastInDim Cert.Reference13Ideal.S8x2048x1 ![0, 1] Cert.Reference13Ideal.Gen.bcast_S8x2048_S8x2048x1_0_1 (Host.reduceAdd (mulf X X) (constant Cert.Reference13Ideal.S_ .f32 0x00000000#32) Cert.Reference13Ideal.Gen.reducesTo_S8x2048x4096_S8x2048_d2 Cert.Reference13Ideal.Gen.h_S_)) (broadcastInDim Cert.Reference13Ideal.S8x2048x1 ![] Cert.Reference13Ideal.Gen.bcast_S_S8x2048x1 (constant Cert.Reference13Ideal.S_ .f32 0x45800000#32))) (broadcastInDim Cert.Reference13Ideal.S8x2048x1 ![] Cert.Reference13Ideal.Gen.bcast_S_S8x2048x1 (constant Cert.Reference13Ideal.S_ .f32 0x358637BD#32)))))) (broadcastInDim Cert.Reference13Ideal.S8x2048x4096 ![0, 1, 2] Cert.Reference13Ideal.Gen.bcast_S8x1x4096_S8x2048x4096_0_1_2 (addf (broadcastInDim Cert.Reference13Ideal.S8x1x4096 ![] Cert.Reference13Ideal.Gen.bcast_S_S8x1x4096 (constant Cert.Reference13Ideal.S_ .f32 0x3F800000#32)) (broadcastInDim Cert.Reference13Ideal.S8x1x4096 ![0, 2] Cert.Reference13Ideal.Gen.bcast_S8x4096_S8x1x4096_0_2 (extractStridedSlice Cert.Reference13Ideal.S8x4096 ![0, 0] (shapeCast _ (extractStridedSlice Cert.Reference13Ideal.S1x16x1x4096 ![0, 0, 0, 4096] M Cert.Reference13Ideal.Gen.slices_S2x16x1x24576_S1x16x1x4096_0_0_0_4096) Cert.Reference13Ideal.Gen.shapeCasts_S1x16x1x4096_S16x4096) Cert.Reference13Ideal.Gen.slices_S16x4096_S8x4096_0_0))))) (broadcastInDim Cert.Reference13Ideal.S8x2048x4096 ![0, 1, 2] Cert.Reference13Ideal.Gen.bcast_S8x1x4096_S8x2048x4096_0_1_2 (broadcastInDim Cert.Reference13Ideal.S8x1x4096 ![0, 2] Cert.Reference13Ideal.Gen.bcast_S8x4096_S8x1x4096_0_2 (extractStridedSlice Cert.Reference13Ideal.S8x4096 ![0, 0] (shapeCast _ (extractStridedSlice Cert.Reference13Ideal.S1x16x1x4096 ![0, 0, 0, 0] M Cert.Reference13Ideal.Gen.slices_S2x16x1x24576_S1x16x1x4096_0_0_0_0) Cert.Reference13Ideal.Gen.shapeCasts_S1x16x1x4096_S16x4096) Cert.Reference13Ideal.Gen.slices_S16x4096_S8x4096_0_0)))) Cert.Reference13Ideal.Gen.shapeCasts_S8x2048x4096_S16384x4096)⟩, ⟨Cert.Reference13Ideal.S2048x4096, (shapeCast _ (addf (mulf (mulf C (broadcastInDim Cert.Reference13Ideal.S8x256x4096 ![0, 1, 2] Cert.Reference13Ideal.Gen.bcast_S8x256x1_S8x256x4096_0_1_2 (Host.rsqrt (addf (Host.divf (broadcastInDim Cert.Reference13Ideal.S8x256x1 ![0, 1] Cert.Reference13Ideal.Gen.bcast_S8x256_S8x256x1_0_1 (Host.reduceAdd (mulf C C) (constant Cert.Reference13Ideal.S_ .f32 0x00000000#32) Cert.Reference13Ideal.Gen.reducesTo_S8x256x4096_S8x256_d2 Cert.Reference13Ideal.Gen.h_S_)) (broadcastInDim Cert.Reference13Ideal.S8x256x1 ![] Cert.Reference13Ideal.Gen.bcast_S_S8x256x1 (constant Cert.Reference13Ideal.S_ .f32 0x45800000#32))) (broadcastInDim Cert.Reference13Ideal.S8x256x1 ![] Cert.Reference13Ideal.Gen.bcast_S_S8x256x1 (constant Cert.Reference13Ideal.S_ .f32 0x358637BD#32)))))) (broadcastInDim Cert.Reference13Ideal.S8x256x4096 ![0, 1, 2] Cert.Reference13Ideal.Gen.bcast_S1x1x4096_S8x256x4096_0_1_2 (broadcastInDim Cert.Reference13Ideal.S1x1x4096 ![2] Cert.Reference13Ideal.Gen.bcast_S4096_S1x1x4096_2 (addf (broadcastInDim Cert.Reference13Ideal.S4096 ![] Cert.Reference13Ideal.Gen.bcast_S_S4096 (constant Cert.Reference13Ideal.S_ .f32 0x3F800000#32)) (shapeCast _ (extractStridedSlice Cert.Reference13Ideal.S1x4096 ![8, 0] (shapeCast _ (extractStridedSlice Cert.Reference13Ideal.S1x16x1x4096 ![0, 0, 0, 4096] M Cert.Reference13Ideal.Gen.slices_S2x16x1x24576_S1x16x1x4096_0_0_0_4096) Cert.Reference13Ideal.Gen.shapeCasts_S1x16x1x4096_S16x4096) Cert.Reference13Ideal.Gen.slices_S16x4096_S1x4096_8_0) Cert.Reference13Ideal.Gen.shapeCasts_S1x4096_S4096))))) (broadcastInDim Cert.Reference13Ideal.S8x256x4096 ![0, 1, 2] Cert.Reference13Ideal.Gen.bcast_S1x1x4096_S8x256x4096_0_1_2 (broadcastInDim Cert.Reference13Ideal.S1x1x4096 ![2] Cert.Reference13Ideal.Gen.bcast_S4096_S1x1x4096_2 (shapeCast _ (extractStridedSlice Cert.Reference13Ideal.S1x4096 ![8, 0] (shapeCast _ (extractStridedSlice Cert.Reference13Ideal.S1x16x1x4096 ![0, 0, 0, 0] M Cert.Reference13Ideal.Gen.slices_S2x16x1x24576_S1x16x1x4096_0_0_0_0) Cert.Reference13Ideal.Gen.shapeCasts_S1x16x1x4096_S16x4096) Cert.Reference13Ideal.Gen.slices_S16x4096_S1x4096_8_0) Cert.Reference13Ideal.Gen.shapeCasts_S1x4096_S4096)))) Cert.Reference13Ideal.Gen.shapeCasts_S8x256x4096_S2048x4096)⟩] Cert.Reference13Ideal.Gen.concatenates_S16384x4096_S2048x4096_S18432x4096_d0) Cert.Reference13Ideal.Gen.bitsLt_bf16_f32

/-- A row's entry normalized, scaled and shifted. -/
def entry (x : Fin 4096 → EReal) (scale shift : EReal) (j : Fin 4096) : EReal :=
  x j * Ideal.rsqrt (Ideal.div (∑ l : Fin 4096, x l * x l) (Ideal.ofBits .f32 0x45800000#32) + Ideal.ofBits .f32 0x358637BD#32)
    * (Ideal.ofBits .f32 0x3F800000#32 + scale) + shift

set_option maxRecDepth 100000 in
/-- An entry of the reference's result in the latents' rows. -/
theorem result_latent (X : FVec Ideal S8x2048x4096 .f32) (C : FVec Ideal S8x256x4096 .f32) (M : FVec Ideal S2x16x1x24576 .f32) (i : Fin 18432) (j : Fin 4096) (h : i.val < 16384) :
    result X C M (ix2 i j) = entry (fun l => X (ix3 ⟨i.val / 2048, by omega⟩ ⟨i.val % 2048, by omega⟩ l))
      (M (ix4 0 ⟨i.val / 2048, by omega⟩ 0 ⟨4096 + j.val, by omega⟩)) (M (ix4 0 ⟨i.val / 2048, by omega⟩ 0 ⟨j.val, by omega⟩)) j := by
  pointwise [result, entry]
  rw [dif_pos h]

set_option maxRecDepth 100000 in
/-- An entry of the reference's result in the context's rows. -/
theorem result_ctx (X : FVec Ideal S8x2048x4096 .f32) (C : FVec Ideal S8x256x4096 .f32) (M : FVec Ideal S2x16x1x24576 .f32) (i : Fin 18432) (j : Fin 4096) (h : ¬ i.val < 16384) :
    result X C M (ix2 i j) = entry (fun l => C (ix3 ⟨(i.val - 16384) / 256, by omega⟩ ⟨(i.val - 16384) % 256, by omega⟩ l))
      (M (ix4 0 8 0 ⟨4096 + j.val, by omega⟩)) (M (ix4 0 8 0 ⟨j.val, by omega⟩)) j := by
  pointwise [result, entry]
  rw [dif_neg h]

/-- The latents' residual stream the kernel is handed. -/
theorem stream (c : Dev nD) (i : Fin 16384) (j : Fin 4096) :
    (show FVec Ideal S16384x4096 .f32 from V m c main_v0) (ix2 i j)
      = (show FVec Ideal S8x2048x4096 .f32 from m ((c : Thread nD τ).loc main_arg0)) (ix3 ⟨i.val / 2048, by omega⟩ ⟨i.val % 2048, by omega⟩ j) := by
  unfold V
  simp only [List.flatten_cons, List.flatten_nil, List.append_nil, List.cons_append, List.nil_append, hostOps0]
  entry_read
  pointwise

/-- The context's residual stream the kernel is handed. -/
theorem ctxStream (c : Dev nD) (i : Fin 2048) (j : Fin 4096) :
    (show FVec Ideal S2048x4096 .f32 from V m c main_v1) (ix2 i j)
      = (show FVec Ideal S8x256x4096 .f32 from m ((c : Thread nD τ).loc main_arg1)) (ix3 ⟨i.val / 256, by omega⟩ ⟨i.val % 256, by omega⟩ j) := by
  unfold V
  simp only [List.flatten_cons, List.flatten_nil, List.append_nil, List.cons_append, List.nil_append, hostOps0]
  entry_read
  pointwise

/-- The row of the result a point's local row is. -/
def row (t : Fin cfg0.N) (a : Fin 256) : Fin 18432 := ⟨t.val * 256 + a.val, by have := lt72 t; omega⟩

/-- A block of the latents' residual stream, at a point of the latents' rows. -/
theorem cell0 (c : Dev nD) (t : Fin cfg0.N) (h : t.val < 64) (a : Fin 256) (l : Fin 4096) :
    (show FVec Ideal S256x4096 .f32 from iblk m c 0 t) (ix2 a l)
      = (show FVec Ideal S8x2048x4096 .f32 from m ((c : Thread nD τ).loc main_arg0))
          (ix3 ⟨(row t a).val / 2048, by unfold row; dsimp only; omega⟩ ⟨(row t a).val % 2048, by omega⟩ l) := by
  have hm : min t.val 63 = t.val := by omega
  refine Eq.trans ?_ (stream m c ⟨(row t a).val, by unfold row; dsimp only; omega⟩ l)
  unfold row
  blk_ext [iblk, idx t, hm]

/-- A block of the context's residual stream, at a point of the context's rows. -/
theorem cell1 (c : Dev nD) (t : Fin cfg0.N) (h : ¬ t.val < 64) (a : Fin 256) (l : Fin 4096) :
    (show FVec Ideal S256x4096 .f32 from iblk m c 1 t) (ix2 a l)
      = (show FVec Ideal S8x256x4096 .f32 from m ((c : Thread nD τ).loc main_arg1))
          (ix3 ⟨((row t a).val - 16384) / 256, by have := lt72 t; unfold row; dsimp only; omega⟩ ⟨((row t a).val - 16384) % 256, by omega⟩ l) := by
  have := lt72 t
  refine Eq.trans ?_ (ctxStream m c ⟨(row t a).val - 16384, by unfold row; dsimp only; omega⟩ l)
  unfold row
  blk_ext [iblk, idx t]

/-- A block of the shifts: the batch's in the latents' rows, the ninth in the context's. -/
theorem cell2 (c : Dev nD) (t : Fin cfg0.N) (a : Fin 256) (l : Fin 4096) :
    (show FVec Ideal S1x1x1x4096 .f32 from iblk m c 2 t) (ix4 0 0 0 l)
      = (show FVec Ideal S2x16x1x24576 .f32 from m ((c : Thread nD τ).loc main_arg2))
          (ix4 0 ⟨(row t a).val / 2048, by have := (row t a).isLt; omega⟩ 0 ⟨l.val, by omega⟩) := by
  have := lt72 t
  unfold row
  blk_ext [iblk, V, idx t]

/-- A block of the scales. -/
theorem cell3 (c : Dev nD) (t : Fin cfg0.N) (a : Fin 256) (l : Fin 4096) :
    (show FVec Ideal S1x1x1x4096 .f32 from iblk m c 3 t) (ix4 0 0 0 l)
      = (show FVec Ideal S2x16x1x24576 .f32 from m ((c : Thread nD τ).loc main_arg2))
          (ix4 0 ⟨(row t a).val / 2048, by have := (row t a).isLt; omega⟩ 0 ⟨4096 + l.val, by omega⟩) := by
  have := lt72 t
  unfold row
  blk_ext [iblk, V, idx t]

/-- What a grid point of the latents' rows computes from its blocks. -/
theorem pay_latent (i : grid0.Coords) (h : Scalar.cmpi .sge (BitVec.ofNat 32 (i 0).val) 64#32 = 0#1) (X C : FVec Ideal S256x4096 .f32) (A B : FVec Ideal S1x1x1x4096 .f32) (a : Fin 256) (j : Fin 4096) :
    k0_pay1 (F := Ideal) i X C A B (ix2 a j) = entry (fun l => X (ix2 a l)) (A (ix4 0 0 0 j)) (B (ix4 0 0 0 j)) j := by
  unfold k0_pay1
  dsimp only
  rw [h]
  pointwise [entry]

/-- What a grid point of the context's rows computes from its blocks. -/
theorem pay_ctx (i : grid0.Coords) (h : Scalar.cmpi .sge (BitVec.ofNat 32 (i 0).val) 64#32 = 1#1) (X C : FVec Ideal S256x4096 .f32) (A B : FVec Ideal S1x1x1x4096 .f32) (a : Fin 256) (j : Fin 4096) :
    k0_pay1 (F := Ideal) i X C A B (ix2 a j) = entry (fun l => C (ix2 a l)) (A (ix4 0 0 0 j)) (B (ix4 0 0 0 j)) j := by
  unfold k0_pay1
  dsimp only
  rw [h]
  pointwise [entry]

/-- The array after the run. -/
theorem final (c : Dev nD) : (dats m 0 c).arrAt 4 cfg0.N
    = result (m ((c : Thread nD τ).loc main_arg0)) (m ((c : Thread nD τ).loc main_arg1)) (m ((c : Thread nD τ).loc main_arg2)) := by
  refine (dats m 0 c).arrAt_eq_of_covers 4 _ (by decide +kernel) fun t _ y => ?_
  have h0 : (y 0).val < 256 := (y 0).isLt
  have h1 : (y 1).val < 4096 := (y 1).isLt
  have hy : y = ix2 (⟨(y 0).val, h0⟩ : Fin 256) (⟨(y 1).val, h1⟩ : Fin 4096) := by
    blk_ext
  have e : ((cfg0.win 4).blk t).view.emb y = ix2 (row t ⟨(y 0).val, h0⟩) (⟨(y 1).val, h1⟩ : Fin 4096) := by
    unfold row
    blk_ext [idx t]
  have hr : (row t ⟨(y 0).val, h0⟩).val = t.val * 256 + (y 0).val := rfl
  have ht := lt72 t
  blk_simp
  rw [after0_4]; frame_out
  refine Eq.trans ?_ (congrArg (result _ _ _) e).symm
  refine (congrArg (k0_pay1 (F := Ideal) _ _ _ _ _) hy).trans ?_
  have e2 := cell2 m c t ⟨(y 0).val, h0⟩ ⟨(y 1).val, h1⟩
  have e3 := cell3 m c t ⟨(y 0).val, h0⟩ ⟨(y 1).val, h1⟩
  by_cases h : t.val < 64
  · refine (pay_latent _ ((test t).trans (if_pos h)) _ _ _ _ _ _).trans (Eq.trans ?_ (result_latent _ _ _ _ _ (by omega)).symm)
    rw [show (fun l => (show FVec Ideal S256x4096 .f32 from iblk m c 0 t) (ix2 (⟨(y 0).val, h0⟩ : Fin 256) l)) = _ from funext fun l => cell0 m c t h _ l]
    exact congrArg₂ (fun a b => entry _ a b _) e3 e2
  · refine (pay_ctx _ ((test t).trans (if_neg h)) _ _ _ _ _ _).trans (Eq.trans ?_ (result_ctx _ _ _ _ _ (by omega)).symm)
    have h8 : (⟨(row t ⟨(y 0).val, h0⟩).val / 2048, by have := (row t ⟨(y 0).val, h0⟩).isLt; omega⟩ : Fin 16) = 8 :=
      Fin.ext (show (row t ⟨(y 0).val, h0⟩).val / 2048 = 8 by omega)
    rw [h8] at e2 e3
    rw [show (fun l => (show FVec Ideal S256x4096 .f32 from iblk m c 1 t) (ix2 (⟨(y 0).val, h0⟩ : Fin 256) l)) = _ from funext fun l => cell1 m c t h _ l]
    exact congrArg₂ (fun a b => entry _ a b _) e3 e2

end Cert.Kernel13Ideal.Value
-- ==== Proof.EvenShortConv.lean ====
/- The even layer's gated convolution of three taps: the array the kernel leaves is the reference's. -/
module

public import proofs.«01_k».proof.Proof.Gen.Kernel14Ideal.Value
public import proofs.«01_k».proof.Proof.Gen.Reference14Ideal
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel14Ideal.Value
open Cert.Kernel14Ideal Cert.Kernel14Ideal.Gen Idealize.ShloMosaic Idealize.ShloMosaic.TcCoe Idealize.SL.Sem
variable (m : (ℓ : Loc nD τ sig) → Buf (Elt Ideal) ℓ)

/-- The windows' block indices at every point: 72 blocks of 256 rows, in 2 blocks of columns each; the rows before and after a
    block come from the blocks of 16 rows next to it. -/
theorem idx : ∀ t : Fin cfg0.N, win0_0.index t = ![t.val / 2, t.val % 2] ∧ win0_1.index t = ![t.val / 2, 2 + t.val % 2]
    ∧ win0_2.index t = ![t.val / 2, 4 + t.val % 2]
    ∧ win0_3.index t = ![t.val / 2 * 16 - 1, 2 + t.val % 2] ∧ win0_4.index t = ![t.val / 2 * 16 - 1, 4 + t.val % 2]
    ∧ win0_5.index t = ![min ((t.val / 2 + 1) * 16) 1151, 2 + t.val % 2] ∧ win0_6.index t = ![min ((t.val / 2 + 1) * 16) 1151, 4 + t.val % 2]
    ∧ win0_7.index t = ![0, t.val % 2] ∧ win0_8.index t = ![t.val / 2, t.val % 2] :=
  (by decide +kernel : ∀ t : Fin grid0.N, _)
/-- A step's number is below 144. -/
theorem lt144 (t : Fin cfg0.N) : t.val < 144 := t.isLt

/-- Three taps: the row before, the row itself and the row after, each times its weight. -/
def taps (p x n : EReal) (w : Fin 3 → EReal) : EReal := p * w 0 + x * w 1 + n * w 2

/-- Equal taps and weights give equal sums. -/
theorem taps_congr {p p' x x' n n' : EReal} {w w' : Fin 3 → EReal} (hp : p = p') (hx : x = x') (hn : n = n') (hw : ∀ k, w k = w' k) :
    taps p x n w = taps p' x' n' w' := by
  rw [hp, hx, hn, funext hw]

/-- The latents' rows, batch by batch, convolved with three taps, the padding's value beyond the batch's ends, as the reference writes it. -/
def convL (P : FVec Ideal Cert.Reference14Ideal.S8x2048x2048 .f32) (Z : FVec Ideal Cert.Reference14Ideal.S_ .f32) (W : FVec Ideal Cert.Reference14Ideal.S3x2048 .f32) : FVec Ideal Cert.Reference14Ideal.S8x2048x2048 .f32 :=
  (addf (addf (mulf (extractStridedSlice Cert.Reference14Ideal.S8x2048x2048 ![0, 0, 0] (pad Cert.Reference14Ideal.S8x2050x2048 ![0, 1, 0] ![0, 1, 0] ![0, 0, 0] P Z Cert.Reference14Ideal.Gen.pads_S8x2048x2048_S8x2050x2048_000_110_000 Cert.Reference14Ideal.Gen.h_S_) Cert.Reference14Ideal.Gen.slices_S8x2050x2048_S8x2048x2048_0_0_0) (broadcastInDim Cert.Reference14Ideal.S8x2048x2048 ![0, 1, 2] Cert.Reference14Ideal.Gen.bcast_S1x1x2048_S8x2048x2048_0_1_2 (broadcastInDim Cert.Reference14Ideal.S1x1x2048 ![2] Cert.Reference14Ideal.Gen.bcast_S2048_S1x1x2048_2 (shapeCast _ (extractStridedSlice Cert.Reference14Ideal.S1x2048 ![0, 0] W Cert.Reference14Ideal.Gen.slices_S3x2048_S1x2048_0_0) Cert.Reference14Ideal.Gen.shapeCasts_S1x2048_S2048)))) (mulf (extractStridedSlice Cert.Reference14Ideal.S8x2048x2048 ![0, 1, 0] (pad Cert.Reference14Ideal.S8x2050x2048 ![0, 1, 0] ![0, 1, 0] ![0, 0, 0] P Z Cert.Reference14Ideal.Gen.pads_S8x2048x2048_S8x2050x2048_000_110_000 Cert.Reference14Ideal.Gen.h_S_) Cert.Reference14Ideal.Gen.slices_S8x2050x2048_S8x2048x2048_0_1_0) (broadcastInDim Cert.Reference14Ideal.S8x2048x2048 ![0, 1, 2] Cert.Reference14Ideal.Gen.bcast_S1x1x2048_S8x2048x2048_0_1_2 (broadcastInDim Cert.Reference14Ideal.S1x1x2048 ![2] Cert.Reference14Ideal.Gen.bcast_S2048_S1x1x2048_2 (shapeCast _ (extractStridedSlice Cert.Reference14Ideal.S1x2048 ![1, 0] W Cert.Reference14Ideal.Gen.slices_S3x2048_S1x2048_1_0) Cert.Reference14Ideal.Gen.shapeCasts_S1x2048_S2048))))) (mulf (extractStridedSlice Cert.Reference14Ideal.S8x2048x2048 ![0, 2, 0] (pad Cert.Reference14Ideal.S8x2050x2048 ![0, 1, 0] ![0, 1, 0] ![0, 0, 0] P Z Cert.Reference14Ideal.Gen.pads_S8x2048x2048_S8x2050x2048_000_110_000 Cert.Reference14Ideal.Gen.h_S_) Cert.Reference14Ideal.Gen.slices_S8x2050x2048_S8x2048x2048_0_2_0) (broadcastInDim Cert.Reference14Ideal.S8x2048x2048 ![0, 1, 2] Cert.Reference14Ideal.Gen.bcast_S1x1x2048_S8x2048x2048_0_1_2 (broadcastInDim Cert.Reference14Ideal.S1x1x2048 ![2] Cert.Reference14Ideal.Gen.bcast_S2048_S1x1x2048_2 (shapeCast _ (extractStridedSlice Cert.Reference14Ideal.S1x2048 ![2, 0] W Cert.Reference14Ideal.Gen.slices_S3x2048_S1x2048_2_0) Cert.Reference14Ideal.Gen.shapeCasts_S1x2048_S2048)))))

/-- An entry of that convolution, the padding's value being zero. -/
theorem convL_at (P : FVec Ideal Cert.Reference14Ideal.S8x2048x2048 .f32) (Z : FVec Ideal Cert.Reference14Ideal.S_ .f32) (W : FVec Ideal Cert.Reference14Ideal.S3x2048 .f32) (hz : ∀ i, Z i = 0)
    (b : Fin 8) (r : Fin 2048) (j : Fin 2048) :
    convL P Z W (ix3 b r j) = taps (if r.val = 0 then 0 else P (ix3 b ⟨r.val - 1, by omega⟩ j)) (P (ix3 b r j))
      (if h : r.val = 2047 then 0 else P (ix3 b ⟨r.val + 1, by omega⟩ j)) fun k => W (ix2 k j) := by
  unfold taps
  pointwise [convL]
  simp only [hz]
  have e (x : ℕ) : 2 + x - 1 = x + 1 := by omega
  have hr := r.isLt
  by_cases h : r.val = 0
  · have h' : ¬ r.val = 2047 := by omega
    have c : ¬ 1 ≤ r.val := by omega
    have c' : 1 ≤ 2 + r.val ∧ 2 + r.val - 1 < 2048 := by omega
    rw [dif_neg (fun q => c q.1), dif_pos c', if_pos h, dif_neg h']
    simp only [e]
  · by_cases h' : r.val = 2047
    · have c : 1 ≤ r.val ∧ r.val - 1 < 2048 := by omega
      have c' : ¬ (1 ≤ 2 + r.val ∧ 2 + r.val - 1 < 2048) := by omega
      rw [dif_pos c, dif_neg c', if_neg h, dif_pos h']
    · have c : 1 ≤ r.val ∧ r.val - 1 < 2048 := by omega
      have c' : 1 ≤ 2 + r.val ∧ 2 + r.val - 1 < 2048 := by omega
      rw [dif_pos c, dif_pos c', if_neg h, dif_neg h']
      simp only [e]

/-- The context's rows, batch by batch, convolved with three taps, the padding's value beyond the batch's ends, as the reference writes it. -/
def convC (P : FVec Ideal Cert.Reference14Ideal.S8x256x2048 .f32) (Z : FVec Ideal Cert.Reference14Ideal.S_ .f32) (W : FVec Ideal Cert.Reference14Ideal.S3x2048 .f32) : FVec Ideal Cert.Reference14Ideal.S8x256x2048 .f32 :=
  (addf (addf (mulf (extractStridedSlice Cert.Reference14Ideal.S8x256x2048 ![0, 0, 0] (pad Cert.Reference14Ideal.S8x258x2048 ![0, 1, 0] ![0, 1, 0] ![0, 0, 0] P Z Cert.Reference14Ideal.Gen.pads_S8x256x2048_S8x258x2048_000_110_000 Cert.Reference14Ideal.Gen.h_S_) Cert.Reference14Ideal.Gen.slices_S8x258x2048_S8x256x2048_0_0_0) (broadcastInDim Cert.Reference14Ideal.S8x256x2048 ![0, 1, 2] Cert.Reference14Ideal.Gen.bcast_S1x1x2048_S8x256x2048_0_1_2 (broadcastInDim Cert.Reference14Ideal.S1x1x2048 ![2] Cert.Reference14Ideal.Gen.bcast_S2048_S1x1x2048_2 (shapeCast _ (extractStridedSlice Cert.Reference14Ideal.S1x2048 ![0, 0] W Cert.Reference14Ideal.Gen.slices_S3x2048_S1x2048_0_0) Cert.Reference14Ideal.Gen.shapeCasts_S1x2048_S2048)))) (mulf (extractStridedSlice Cert.Reference14Ideal.S8x256x2048 ![0, 1, 0] (pad Cert.Reference14Ideal.S8x258x2048 ![0, 1, 0] ![0, 1, 0] ![0, 0, 0] P Z Cert.Reference14Ideal.Gen.pads_S8x256x2048_S8x258x2048_000_110_000 Cert.Reference14Ideal.Gen.h_S_) Cert.Reference14Ideal.Gen.slices_S8x258x2048_S8x256x2048_0_1_0) (broadcastInDim Cert.Reference14Ideal.S8x256x2048 ![0, 1, 2] Cert.Reference14Ideal.Gen.bcast_S1x1x2048_S8x256x2048_0_1_2 (broadcastInDim Cert.Reference14Ideal.S1x1x2048 ![2] Cert.Reference14Ideal.Gen.bcast_S2048_S1x1x2048_2 (shapeCast _ (extractStridedSlice Cert.Reference14Ideal.S1x2048 ![1, 0] W Cert.Reference14Ideal.Gen.slices_S3x2048_S1x2048_1_0) Cert.Reference14Ideal.Gen.shapeCasts_S1x2048_S2048))))) (mulf (extractStridedSlice Cert.Reference14Ideal.S8x256x2048 ![0, 2, 0] (pad Cert.Reference14Ideal.S8x258x2048 ![0, 1, 0] ![0, 1, 0] ![0, 0, 0] P Z Cert.Reference14Ideal.Gen.pads_S8x256x2048_S8x258x2048_000_110_000 Cert.Reference14Ideal.Gen.h_S_) Cert.Reference14Ideal.Gen.slices_S8x258x2048_S8x256x2048_0_2_0) (broadcastInDim Cert.Reference14Ideal.S8x256x2048 ![0, 1, 2] Cert.Reference14Ideal.Gen.bcast_S1x1x2048_S8x256x2048_0_1_2 (broadcastInDim Cert.Reference14Ideal.S1x1x2048 ![2] Cert.Reference14Ideal.Gen.bcast_S2048_S1x1x2048_2 (shapeCast _ (extractStridedSlice Cert.Reference14Ideal.S1x2048 ![2, 0] W Cert.Reference14Ideal.Gen.slices_S3x2048_S1x2048_2_0) Cert.Reference14Ideal.Gen.shapeCasts_S1x2048_S2048)))))

/-- An entry of that convolution, the padding's value being zero. -/
theorem convC_at (P : FVec Ideal Cert.Reference14Ideal.S8x256x2048 .f32) (Z : FVec Ideal Cert.Reference14Ideal.S_ .f32) (W : FVec Ideal Cert.Reference14Ideal.S3x2048 .f32) (hz : ∀ i, Z i = 0)
    (b : Fin 8) (r : Fin 256) (j : Fin 2048) :
    convC P Z W (ix3 b r j) = taps (if r.val = 0 then 0 else P (ix3 b ⟨r.val - 1, by omega⟩ j)) (P (ix3 b r j))
      (if h : r.val = 255 then 0 else P (ix3 b ⟨r.val + 1, by omega⟩ j)) fun k => W (ix2 k j) := by
  unfold taps
  pointwise [convC]
  simp only [hz]
  have e (x : ℕ) : 2 + x - 1 = x + 1 := by omega
  have hr := r.isLt
  by_cases h : r.val = 0
  · have h' : ¬ r.val = 255 := by omega
    have c : ¬ 1 ≤ r.val := by omega
    have c' : 1 ≤ 2 + r.val ∧ 2 + r.val - 1 < 256 := by omega
    rw [dif_neg (fun q => c q.1), dif_pos c', if_pos h, dif_neg h']
    simp only [e]
  · by_cases h' : r.val = 255
    · have c : 1 ≤ r.val ∧ r.val - 1 < 256 := by omega
      have c' : ¬ (1 ≤ 2 + r.val ∧ 2 + r.val - 1 < 256) := by omega
      rw [dif_pos c, dif_neg c', if_neg h, dif_pos h']
    · have c : 1 ≤ r.val ∧ r.val - 1 < 256 := by omega
      have c' : 1 ≤ 2 + r.val ∧ 2 + r.val - 1 < 256 := by omega
      rw [dif_pos c, dif_pos c', if_neg h, dif_neg h']
      simp only [e]

/-- The padding's value, the integer zero converted. -/
def padding : FVec Ideal Cert.Reference14Ideal.S_ .f32 := sitofp .f32 (constantI Cert.Reference14Ideal.S_ 32 0#32)
/-- It is zero. -/
theorem padding_at (i) : padding i = 0 := by
  change (((0#32 : BitVec 32).toInt : ℝ) : EReal) = 0
  simp

/-- The latents' gates. -/
def gateL (H : FVec Ideal S18432x6144 .bf16) : FVec Ideal Cert.Reference14Ideal.S8x2048x2048 .f32 :=
  extractStridedSlice Cert.Reference14Ideal.S8x2048x2048 ![0, 0, 0] (shapeCast _ (extractStridedSlice Cert.Reference14Ideal.S16384x6144 ![0, 0] (extf .f32 H Cert.Reference14Ideal.Gen.bitsLt_bf16_f32) Cert.Reference14Ideal.Gen.slices_S18432x6144_S16384x6144_0_0) Cert.Reference14Ideal.Gen.shapeCasts_S16384x6144_S8x2048x6144) Cert.Reference14Ideal.Gen.slices_S8x2048x6144_S8x2048x2048_0_0_0
/-- The latents' products that are convolved. -/
def partL (H : FVec Ideal S18432x6144 .bf16) : FVec Ideal Cert.Reference14Ideal.S8x2048x2048 .f32 :=
  mulf (extractStridedSlice Cert.Reference14Ideal.S8x2048x2048 ![0, 0, 2048] (shapeCast _ (extractStridedSlice Cert.Reference14Ideal.S16384x6144 ![0, 0] (extf .f32 H Cert.Reference14Ideal.Gen.bitsLt_bf16_f32) Cert.Reference14Ideal.Gen.slices_S18432x6144_S16384x6144_0_0) Cert.Reference14Ideal.Gen.shapeCasts_S16384x6144_S8x2048x6144) Cert.Reference14Ideal.Gen.slices_S8x2048x6144_S8x2048x2048_0_0_2048) (extractStridedSlice Cert.Reference14Ideal.S8x2048x2048 ![0, 0, 4096] (shapeCast _ (extractStridedSlice Cert.Reference14Ideal.S16384x6144 ![0, 0] (extf .f32 H Cert.Reference14Ideal.Gen.bitsLt_bf16_f32) Cert.Reference14Ideal.Gen.slices_S18432x6144_S16384x6144_0_0) Cert.Reference14Ideal.Gen.shapeCasts_S16384x6144_S8x2048x6144) Cert.Reference14Ideal.Gen.slices_S8x2048x6144_S8x2048x2048_0_0_4096)
/-- The context's gates. -/
def gateC (H : FVec Ideal S18432x6144 .bf16) : FVec Ideal Cert.Reference14Ideal.S8x256x2048 .f32 :=
  extractStridedSlice Cert.Reference14Ideal.S8x256x2048 ![0, 0, 0] (shapeCast _ (extractStridedSlice Cert.Reference14Ideal.S2048x6144 ![16384, 0] (extf .f32 H Cert.Reference14Ideal.Gen.bitsLt_bf16_f32) Cert.Reference14Ideal.Gen.slices_S18432x6144_S2048x6144_16384_0) Cert.Reference14Ideal.Gen.shapeCasts_S2048x6144_S8x256x6144) Cert.Reference14Ideal.Gen.slices_S8x256x6144_S8x256x2048_0_0_0
/-- The context's products that are convolved. -/
def partC (H : FVec Ideal S18432x6144 .bf16) : FVec Ideal Cert.Reference14Ideal.S8x256x2048 .f32 :=
  mulf (extractStridedSlice Cert.Reference14Ideal.S8x256x2048 ![0, 0, 2048] (shapeCast _ (extractStridedSlice Cert.Reference14Ideal.S2048x6144 ![16384, 0] (extf .f32 H Cert.Reference14Ideal.Gen.bitsLt_bf16_f32) Cert.Reference14Ideal.Gen.slices_S18432x6144_S2048x6144_16384_0) Cert.Reference14Ideal.Gen.shapeCasts_S2048x6144_S8x256x6144) Cert.Reference14Ideal.Gen.slices_S8x256x6144_S8x256x2048_0_0_2048) (extractStridedSlice Cert.Reference14Ideal.S8x256x2048 ![0, 0, 4096] (shapeCast _ (extractStridedSlice Cert.Reference14Ideal.S2048x6144 ![16384, 0] (extf .f32 H Cert.Reference14Ideal.Gen.bitsLt_bf16_f32) Cert.Reference14Ideal.Gen.slices_S18432x6144_S2048x6144_16384_0) Cert.Reference14Ideal.Gen.shapeCasts_S2048x6144_S8x256x6144) Cert.Reference14Ideal.Gen.slices_S8x256x6144_S8x256x2048_0_0_4096)

/-- The reference's result: each part's gates times its products convolved with three taps, zero beyond each batch's ends. -/
def result (H : FVec Ideal S18432x6144 .bf16) (W : FVec Ideal S3x2048 .f32) : FVec Ideal S18432x2048 .bf16 :=
  truncf .bf16 (concatenate Cert.Reference14Ideal.S18432x2048 0 [⟨Cert.Reference14Ideal.S16384x2048, (shapeCast _ (mulf (gateL H) (convL (partL H) padding W)) Cert.Reference14Ideal.Gen.shapeCasts_S8x2048x2048_S16384x2048)⟩, ⟨Cert.Reference14Ideal.S2048x2048, (shapeCast _ (mulf (gateC H) (convC (partC H) padding W)) Cert.Reference14Ideal.Gen.shapeCasts_S8x256x2048_S2048x2048)⟩] Cert.Reference14Ideal.Gen.concatenates_S16384x2048_S2048x2048_S18432x2048_d0) Cert.Reference14Ideal.Gen.bitsLt_bf16_f32

/-- The product that is convolved, by row and column. -/
def prod (H : FVec Ideal S18432x6144 .bf16) (i : Fin 18432) (j : Fin 2048) : EReal :=
  H (ix2 i ⟨2048 + j.val, by omega⟩) * H (ix2 i ⟨4096 + j.val, by omega⟩)
/-- The row before. -/
def prv (i : Fin 18432) : Fin 18432 := ⟨i.val - 1, by omega⟩
/-- The row after. -/
def nxt (i : Fin 18432) : Fin 18432 := ⟨min (i.val + 1) 18431, by omega⟩

/-- A gated sum of three taps, the row before left out at a batch's start and the row after at its end. -/
def value (H : FVec Ideal S18432x6144 .bf16) (W : FVec Ideal S3x2048 .f32) (i : Fin 18432) (j : Fin 2048) (s e : Prop) [Decidable s] [Decidable e] : EReal :=
  H (ix2 i ⟨j.val, by omega⟩) * taps (if s then 0 else prod H (prv i) j) (prod H i j) (if e then 0 else prod H (nxt i) j) fun k => W (ix2 k j)

/-- It depends on the truth of the two conditions only. -/
theorem value_congr (H : FVec Ideal S18432x6144 .bf16) (W : FVec Ideal S3x2048 .f32) (i : Fin 18432) (j : Fin 2048) {s e s' e' : Prop}
    [Decidable s] [Decidable e] [Decidable s'] [Decidable e'] (hs : s ↔ s') (he : e ↔ e') : value H W i j s e = value H W i j s' e' := by
  unfold value
  rw [if_congr hs rfl rfl, if_congr he rfl rfl]

/-- An entry of the latents' gates. -/
theorem gateL_at (H : FVec Ideal S18432x6144 .bf16) (b : Fin 8) (r : Fin 2048) (j : Fin 2048) :
    gateL H (ix3 b r j) = H (ix2 ⟨b.val * 2048 + r.val, by omega⟩ ⟨j.val, by omega⟩) := by
  pointwise [gateL]
/-- An entry of the latents' products. -/
theorem partL_at (H : FVec Ideal S18432x6144 .bf16) (b : Fin 8) (r : Fin 2048) (j : Fin 2048) :
    partL H (ix3 b r j) = prod H ⟨b.val * 2048 + r.val, by omega⟩ j := by
  unfold prod
  pointwise [partL]
/-- An entry of the context's gates. -/
theorem gateC_at (H : FVec Ideal S18432x6144 .bf16) (b : Fin 8) (r : Fin 256) (j : Fin 2048) :
    gateC H (ix3 b r j) = H (ix2 ⟨16384 + (b.val * 256 + r.val), by omega⟩ ⟨j.val, by omega⟩) := by
  pointwise [gateC]
/-- An entry of the context's products. -/
theorem partC_at (H : FVec Ideal S18432x6144 .bf16) (b : Fin 8) (r : Fin 256) (j : Fin 2048) :
    partC H (ix3 b r j) = prod H ⟨16384 + (b.val * 256 + r.val), by omega⟩ j := by
  unfold prod
  pointwise [partC]

set_option maxRecDepth 100000 in
/-- An entry of the reference's result in the latents' rows, as its operations give it. -/
theorem result_latent_raw (H : FVec Ideal S18432x6144 .bf16) (W : FVec Ideal S3x2048 .f32) (i : Fin 18432) (j : Fin 2048) (h : i.val < 16384) :
    result H W (ix2 i j) = gateL H (ix3 ⟨i.val / 2048, by omega⟩ ⟨i.val % 2048, by omega⟩ j)
      * convL (partL H) padding W (ix3 ⟨i.val / 2048, by omega⟩ ⟨i.val % 2048, by omega⟩ j) := by
  pointwise [result]
  rw [dif_pos h]

/-- An entry of the reference's result in the latents' rows. -/
theorem result_latent (H : FVec Ideal S18432x6144 .bf16) (W : FVec Ideal S3x2048 .f32) (i : Fin 18432) (j : Fin 2048) (h : i.val < 16384) :
    result H W (ix2 i j) = value H W i j (i.val % 2048 = 0) (i.val % 2048 = 2047) := by
  rw [result_latent_raw H W i j h, gateL_at, convL_at _ _ _ padding_at]
  unfold value
  have hi := i.isLt
  refine congrArg₂ (· * ·) (congrArg (fun r => H (ix2 r _)) (Fin.ext (show i.val / 2048 * 2048 + i.val % 2048 = i.val by omega))) (taps_congr ?_ ?_ ?_ fun k => rfl)
  · by_cases c : i.val % 2048 = 0
    · exact (if_pos c).trans (if_pos c).symm
    · refine (if_neg c).trans (((partL_at _ _ _ _).trans (congrArg (fun r => prod H r j) (Fin.ext ?_))).trans (if_neg c).symm)
      show i.val / 2048 * 2048 + (i.val % 2048 - 1) = i.val - 1
      omega
  · refine (partL_at _ _ _ _).trans (congrArg (fun r => prod H r j) (Fin.ext ?_))
    show i.val / 2048 * 2048 + i.val % 2048 = i.val
    omega
  · by_cases c : i.val % 2048 = 2047
    · exact (dif_pos c).trans (if_pos c).symm
    · refine (dif_neg c).trans (((partL_at _ _ _ _).trans (congrArg (fun r => prod H r j) (Fin.ext ?_))).trans (if_neg c).symm)
      show i.val / 2048 * 2048 + (i.val % 2048 + 1) = min (i.val + 1) 18431
      omega

set_option maxRecDepth 100000 in
/-- An entry of the reference's result in the context's rows, as its operations give it. -/
theorem result_ctx_raw (H : FVec Ideal S18432x6144 .bf16) (W : FVec Ideal S3x2048 .f32) (i : Fin 18432) (j : Fin 2048) (h : ¬ i.val < 16384) :
    result H W (ix2 i j) = gateC H (ix3 ⟨(i.val - 16384) / 256, by omega⟩ ⟨(i.val - 16384) % 256, by omega⟩ j)
      * convC (partC H) padding W (ix3 ⟨(i.val - 16384) / 256, by omega⟩ ⟨(i.val - 16384) % 256, by omega⟩ j) := by
  pointwise [result]
  rw [dif_neg h]

/-- An entry of the reference's result in the context's rows. -/
theorem result_ctx (H : FVec Ideal S18432x6144 .bf16) (W : FVec Ideal S3x2048 .f32) (i : Fin 18432) (j : Fin 2048) (h : ¬ i.val < 16384) :
    result H W (ix2 i j) = value H W i j ((i.val - 16384) % 256 = 0) ((i.val - 16384) % 256 = 255) := by
  rw [result_ctx_raw H W i j h, gateC_at, convC_at _ _ _ padding_at]
  unfold value
  have hi := i.isLt
  refine congrArg₂ (· * ·) (congrArg (fun r => H (ix2 r _)) (Fin.ext (show 16384 + ((i.val - 16384) / 256 * 256 + (i.val - 16384) % 256) = i.val by omega))) (taps_congr ?_ ?_ ?_ fun k => rfl)
  · by_cases c : (i.val - 16384) % 256 = 0
    · exact (if_pos c).trans (if_pos c).symm
    · refine (if_neg c).trans (((partC_at _ _ _ _).trans (congrArg (fun r => prod H r j) (Fin.ext ?_))).trans (if_neg c).symm)
      show 16384 + ((i.val - 16384) / 256 * 256 + ((i.val - 16384) % 256 - 1)) = i.val - 1
      omega
  · refine (partC_at _ _ _ _).trans (congrArg (fun r => prod H r j) (Fin.ext ?_))
    show 16384 + ((i.val - 16384) / 256 * 256 + (i.val - 16384) % 256) = i.val
    omega
  · by_cases c : (i.val - 16384) % 256 = 255
    · exact (dif_pos c).trans (if_pos c).symm
    · refine (dif_neg c).trans (((partC_at _ _ _ _).trans (congrArg (fun r => prod H r j) (Fin.ext ?_))).trans (if_neg c).symm)
      show 16384 + ((i.val - 16384) / 256 * 256 + ((i.val - 16384) % 256 + 1)) = min (i.val + 1) 18431
      omega

/-- The kernel's test for a block at the start of a batch. -/
def startBit (i : grid0.Coords) : BitVec 1 :=
  let arg0 : BitVec 32 := BitVec.ofNat 32 (i 0).val
  let v0 : BitVec 32 := Scalar.muli arg0 256#32
  let v1 : BitVec 1 := Scalar.cmpi .slt v0 16384#32
  let v2 : BitVec 32 := Scalar.select v1 2048#32 256#32
  let v3 : BitVec 1 := Scalar.cmpi .slt v0 16384#32
  let v4 : BitVec 32 := Scalar.subi v0 16384#32
  let v5 : BitVec 32 := Scalar.select v3 v0 v4
  let v6 : BitVec 32 := Scalar.remsi v5 v2
  Scalar.cmpi .eq v6 0#32
/-- The kernel's test for a block at the end of a batch. -/
def endBit (i : grid0.Coords) : BitVec 1 :=
  let arg0 : BitVec 32 := BitVec.ofNat 32 (i 0).val
  let v0 : BitVec 32 := Scalar.muli arg0 256#32
  let v1 : BitVec 1 := Scalar.cmpi .slt v0 16384#32
  let v2 : BitVec 32 := Scalar.select v1 2048#32 256#32
  let v3 : BitVec 1 := Scalar.cmpi .slt v0 16384#32
  let v4 : BitVec 32 := Scalar.subi v0 16384#32
  let v5 : BitVec 32 := Scalar.select v3 v0 v4
  let v8 : BitVec 32 := Scalar.addi v5 256#32
  let v9 : BitVec 32 := Scalar.remsi v8 v2
  Scalar.cmpi .eq v9 0#32
/-- Where the first test holds: at every eighth block of the latents, at every block of the context. -/
theorem start : ∀ t : Fin cfg0.N, startBit (grid0.coords t) = if t.val / 2 < 64 ∧ ¬ t.val / 2 % 8 = 0 then 0#1 else 1#1 :=
  (by decide +kernel : ∀ t : Fin grid0.N, _)
/-- Where the second test holds: at the blocks before those. -/
theorem stop : ∀ t : Fin cfg0.N, endBit (grid0.coords t) = if t.val / 2 < 64 ∧ ¬ t.val / 2 % 8 = 7 then 0#1 else 1#1 :=
  (by decide +kernel : ∀ t : Fin grid0.N, _)
/-- A choice by a word of one bit. -/
theorem pick_second {α : Type} (x y : α) : Scalar.select 0#1 x y = y := rfl
/-- A choice whose condition holds is its first operand. -/
theorem pick_first {α : Type} (x y : α) : Scalar.select 1#1 x y = x := rfl

/-- The kernel's test for a block's first row. -/
theorem first (i : Fin 256) : IntOp.cmpi .eq (BitVec.ofNat 32 i.val) 0#32 = if i.val = 0 then 1#1 else 0#1 := by revert i; decide +kernel
/-- The kernel's test for a block's last row. -/
theorem last (i : Fin 256) : IntOp.cmpi .eq (BitVec.ofNat 32 i.val) 255#32 = if i.val = 255 then 1#1 else 0#1 := by revert i; decide +kernel

/-- What a grid point stores, from the products and the rows before and after. -/
theorem pay_at (V : FVec Ideal S256x1024 .f32) (p n : FVec Ideal S1x1024 .f32) (W : FVec Ideal S3x1024 .f32) (g : FVec Ideal S256x1024 .bf16) (i : Fin 256) (j : Fin 1024) :
    k0_pay1 (F := Ideal) V p n (iota .tc S256x1024 32 [0] iota_S256x1024_d0_w32) k0_pay5 1#32 W g (ix2 i j)
      = g (ix2 i j) * taps (if i.val = 0 then p (ix2 0 j) else V (ix2 ⟨i.val - 1, by omega⟩ j)) (V (ix2 i j))
        (if h : i.val = 255 then n (ix2 0 j) else V (ix2 ⟨i.val + 1, by omega⟩ j)) fun k => W (ix2 k j) := by
  unfold taps
  pointwise [k0_pay1, k0_pay5]
  rw [first i, last i]
  have hi := i.isLt
  have e0 (h : ¬ i.val = 0) : (i.val + 256 - 1) % 256 = i.val - 1 := by omega
  have e2 (h : ¬ i.val = 255) : (i.val + 256 - 255) % 256 = i.val + 1 := by omega
  by_cases h : i.val = 0
  · have h' : ¬ i.val = 255 := by omega
    rw [if_pos h, if_neg h', if_pos h, dif_neg h']
    simp only [e2 h', pick_first, pick_second]
  · by_cases h' : i.val = 255
    · rw [if_neg h, if_pos h', if_neg h, dif_pos h']
      simp only [e0 h, pick_first, pick_second]
    · rw [if_neg h, if_neg h', if_neg h, dif_neg h']
      simp only [e0 h, e2 h', pick_first, pick_second]

/-- The products of a block. -/
theorem pay2_at (A B : FVec Ideal S256x1024 .bf16) (i : Fin 256) (j : Fin 1024) : k0_pay2 (F := Ideal) A B (ix2 i j) = A (ix2 i j) * B (ix2 i j) := by
  pointwise [k0_pay2]
/-- The row before a block, zero at a batch's start. -/
theorem pay3_at (i : grid0.Coords) (A B : FVec Ideal S1x1024 .bf16) (j : Fin 1024) :
    k0_pay3 (F := Ideal) i A B (ix2 0 j) = Scalar.select (startBit i) 0 (A (ix2 0 j) * B (ix2 0 j)) := by
  unfold startBit
  pointwise [k0_pay3]
/-- The row after a block, zero at a batch's end. -/
theorem pay4_at (i : grid0.Coords) (A B : FVec Ideal S1x1024 .bf16) (j : Fin 1024) :
    k0_pay4 (F := Ideal) i A B (ix2 0 j) = Scalar.select (endBit i) 0 (A (ix2 0 j) * B (ix2 0 j)) := by
  unfold endBit
  pointwise [k0_pay4]

/-- The row of the result a point's local row is. -/
def row (t : Fin cfg0.N) (a : Fin 256) : Fin 18432 := ⟨t.val / 2 * 256 + a.val, by have := lt144 t; omega⟩
/-- The column a point's local column is. -/
def col (t : Fin cfg0.N) (l : Fin 1024) : Fin 2048 := ⟨t.val % 2 * 1024 + l.val, by omega⟩

/-- A block of the gates. -/
theorem cell0 (c : Dev nD) (t : Fin cfg0.N) (a : Fin 256) (l : Fin 1024) :
    (show FVec Ideal S256x1024 .bf16 from iblk m c 0 t) (ix2 a l) = (show FVec Ideal S18432x6144 .bf16 from m ((c : Thread nD τ).loc main_arg0)) (ix2 (row t a) ⟨(col t l).val, by have := (col t l).isLt; omega⟩) := by
  have := lt144 t
  unfold row col
  blk_ext [iblk, V, idx t]

/-- A block of the products' first factor. -/
theorem cell1 (c : Dev nD) (t : Fin cfg0.N) (a : Fin 256) (l : Fin 1024) :
    (show FVec Ideal S256x1024 .bf16 from iblk m c 1 t) (ix2 a l) = (show FVec Ideal S18432x6144 .bf16 from m ((c : Thread nD τ).loc main_arg0)) (ix2 (row t a) ⟨2048 + (col t l).val, by have := (col t l).isLt; omega⟩) := by
  have := lt144 t
  unfold row col
  blk_ext [iblk, V, idx t]

/-- A block of the products' second factor. -/
theorem cell2 (c : Dev nD) (t : Fin cfg0.N) (a : Fin 256) (l : Fin 1024) :
    (show FVec Ideal S256x1024 .bf16 from iblk m c 2 t) (ix2 a l) = (show FVec Ideal S18432x6144 .bf16 from m ((c : Thread nD τ).loc main_arg0)) (ix2 (row t a) ⟨4096 + (col t l).val, by have := (col t l).isLt; omega⟩) := by
  have := lt144 t
  unfold row col
  blk_ext [iblk, V, idx t]

/-- The row before a block, the products' first factor. -/
theorem cell3 (c : Dev nD) (t : Fin cfg0.N) (h : 0 < t.val / 2) (l : Fin 1024) :
    (show FVec Ideal S16x1024 .bf16 from iblk m c 3 t) (ix2 15 l) = (show FVec Ideal S18432x6144 .bf16 from m ((c : Thread nD τ).loc main_arg0)) (ix2 ⟨t.val / 2 * 256 - 1, by have := lt144 t; omega⟩ ⟨2048 + (col t l).val, by have := (col t l).isLt; omega⟩) := by
  have := lt144 t
  unfold col
  blk_ext [iblk, V, idx t]

/-- The row before a block, the products' second factor. -/
theorem cell4 (c : Dev nD) (t : Fin cfg0.N) (h : 0 < t.val / 2) (l : Fin 1024) :
    (show FVec Ideal S16x1024 .bf16 from iblk m c 4 t) (ix2 15 l) = (show FVec Ideal S18432x6144 .bf16 from m ((c : Thread nD τ).loc main_arg0)) (ix2 ⟨t.val / 2 * 256 - 1, by have := lt144 t; omega⟩ ⟨4096 + (col t l).val, by have := (col t l).isLt; omega⟩) := by
  have := lt144 t
  unfold col
  blk_ext [iblk, V, idx t]

/-- The row after a block, the products' first factor. -/
theorem cell5 (c : Dev nD) (t : Fin cfg0.N) (h : t.val / 2 < 71) (l : Fin 1024) :
    (show FVec Ideal S16x1024 .bf16 from iblk m c 5 t) (ix2 0 l) = (show FVec Ideal S18432x6144 .bf16 from m ((c : Thread nD τ).loc main_arg0)) (ix2 ⟨t.val / 2 * 256 + 256, by omega⟩ ⟨2048 + (col t l).val, by have := (col t l).isLt; omega⟩) := by
  have := lt144 t
  have hm : min ((t.val / 2 + 1) * 16) 1151 = (t.val / 2 + 1) * 16 := by omega
  unfold col
  blk_ext [iblk, V, idx t, hm]

/-- The row after a block, the products' second factor. -/
theorem cell6 (c : Dev nD) (t : Fin cfg0.N) (h : t.val / 2 < 71) (l : Fin 1024) :
    (show FVec Ideal S16x1024 .bf16 from iblk m c 6 t) (ix2 0 l) = (show FVec Ideal S18432x6144 .bf16 from m ((c : Thread nD τ).loc main_arg0)) (ix2 ⟨t.val / 2 * 256 + 256, by omega⟩ ⟨4096 + (col t l).val, by have := (col t l).isLt; omega⟩) := by
  have := lt144 t
  have hm : min ((t.val / 2 + 1) * 16) 1151 = (t.val / 2 + 1) * 16 := by omega
  unfold col
  blk_ext [iblk, V, idx t, hm]

/-- A block of the taps' weights. -/
theorem cell7 (c : Dev nD) (t : Fin cfg0.N) (k : Fin 3) (l : Fin 1024) :
    (show FVec Ideal S3x1024 .f32 from iblk m c 7 t) (ix2 k l)
      = (show FVec Ideal S3x2048 .f32 from m ((c : Thread nD τ).loc main_arg1)) (ix2 k (col t l)) := by
  unfold col
  blk_ext [iblk, V, idx t]

/-- The row a point reads of the blocks of 16 rows before its own. -/
theorem ld_before (x : Vec Ideal S16x1024 .bf16) (l : Fin 1024) : View.ld x r0_1 (ix2 0 l) = x (ix2 15 l) := by
  refine View.ld_unit_apply_of x _ _ _ _ (ix2 15 l) fun a => ?_
  fin_cases a
  · rfl
  · exact (Nat.zero_add l.val).symm
/-- The row a point reads of the blocks of 16 rows after its own. -/
theorem ld_after (x : Vec Ideal S16x1024 .bf16) (l : Fin 1024) : View.ld x r0_2 (ix2 0 l) = x (ix2 0 l) := by
  refine View.ld_unit_apply_of x _ _ _ _ (ix2 0 l) fun a => ?_
  fin_cases a
  · rfl
  · exact (Nat.zero_add l.val).symm

/-- The products of a point's block are the products of its rows. -/
theorem prods (c : Dev nD) (t : Fin cfg0.N) (a : Fin 256) (l : Fin 1024) :
    k0_pay2 (F := Ideal) (iblk m c 1 t) (iblk m c 2 t) (ix2 a l)
      = prod (m ((c : Thread nD τ).loc main_arg0)) (row t a) (col t l) :=
  (pay2_at _ _ _ _).trans (congrArg₂ (· * ·) (cell1 m c t a l) (cell2 m c t a l))

/-- The row before a point's block, zero at a batch's start. -/
theorem before (c : Dev nD) (t : Fin cfg0.N) (l : Fin 1024) :
    k0_pay3 (F := Ideal) (grid0.coords t) (View.ld (iblk m c 3 t) r0_1) (View.ld (iblk m c 4 t) r0_1) (ix2 0 l)
      = if ¬ (t.val / 2 < 64 ∧ ¬ t.val / 2 % 8 = 0) then 0 else prod (m ((c : Thread nD τ).loc main_arg0)) (prv (row t 0)) (col t l) := by
  rw [pay3_at, start t]
  by_cases h : t.val / 2 < 64 ∧ ¬ t.val / 2 % 8 = 0
  · have hp : 0 < t.val / 2 := by omega
    rw [if_pos h, if_neg (not_not_intro h), pick_second, ld_before, ld_before]
    have e : (⟨t.val / 2 * 256 - 1, by have := lt144 t; omega⟩ : Fin 18432) = prv (row t 0) :=
      Fin.ext (show t.val / 2 * 256 - 1 = t.val / 2 * 256 + 0 - 1 by omega)
    have e3 := cell3 m c t hp l
    have e4 := cell4 m c t hp l
    rw [e] at e3 e4
    exact congrArg₂ (· * ·) e3 e4
  · rw [if_neg h, if_pos h, pick_first]

/-- The row after a point's block, zero at a batch's end. -/
theorem after (c : Dev nD) (t : Fin cfg0.N) (l : Fin 1024) :
    k0_pay4 (F := Ideal) (grid0.coords t) (View.ld (iblk m c 5 t) r0_2) (View.ld (iblk m c 6 t) r0_2) (ix2 0 l)
      = if ¬ (t.val / 2 < 64 ∧ ¬ t.val / 2 % 8 = 7) then 0 else prod (m ((c : Thread nD τ).loc main_arg0)) (nxt (row t 255)) (col t l) := by
  rw [pay4_at, stop t]
  by_cases h : t.val / 2 < 64 ∧ ¬ t.val / 2 % 8 = 7
  · have hp : t.val / 2 < 71 := by omega
    rw [if_pos h, if_neg (not_not_intro h), pick_second, ld_after, ld_after]
    have e : (⟨t.val / 2 * 256 + 256, by omega⟩ : Fin 18432) = nxt (row t 255) :=
      Fin.ext (show t.val / 2 * 256 + 256 = min (t.val / 2 * 256 + 255 + 1) 18431 by omega)
    have e5 := cell5 m c t hp l
    have e6 := cell6 m c t hp l
    rw [e] at e5 e6
    exact congrArg₂ (· * ·) e5 e6
  · rw [if_neg h, if_pos h, pick_first]

/-- The sum a point stores, by the rows of the whole array. -/
theorem spec (c : Dev nD) (t : Fin cfg0.N) (a : Fin 256) (l : Fin 1024) :
    (show FVec Ideal S256x1024 .bf16 from iblk m c 0 t) (ix2 a l)
      * taps (if a.val = 0 then k0_pay3 (F := Ideal) (grid0.coords t) (View.ld (iblk m c 3 t) r0_1) (View.ld (iblk m c 4 t) r0_1) (ix2 0 l)
          else k0_pay2 (F := Ideal) (iblk m c 1 t) (iblk m c 2 t) (ix2 ⟨a.val - 1, by omega⟩ l))
        (k0_pay2 (F := Ideal) (iblk m c 1 t) (iblk m c 2 t) (ix2 a l))
        (if h : a.val = 255 then k0_pay4 (F := Ideal) (grid0.coords t) (View.ld (iblk m c 5 t) r0_2) (View.ld (iblk m c 6 t) r0_2) (ix2 0 l)
          else k0_pay2 (F := Ideal) (iblk m c 1 t) (iblk m c 2 t) (ix2 ⟨a.val + 1, by omega⟩ l))
        (fun k => (show FVec Ideal S3x1024 .f32 from iblk m c 7 t) (ix2 k l))
      = value (m ((c : Thread nD τ).loc main_arg0)) (m ((c : Thread nD τ).loc main_arg1)) (row t a) (col t l)
        (a.val = 0 ∧ ¬ (t.val / 2 < 64 ∧ ¬ t.val / 2 % 8 = 0)) (a.val = 255 ∧ ¬ (t.val / 2 < 64 ∧ ¬ t.val / 2 % 8 = 7)) := by
  have ht := lt144 t
  unfold value
  refine congrArg₂ (· * ·) (cell0 m c t a l) (taps_congr ?_ (prods m c t a l) ?_ fun k => cell7 m c t k l)
  · by_cases h : a.val = 0
    · have ha : a = 0 := Fin.ext h
      subst ha
      rw [if_pos h, before]
      exact if_congr (by omega) rfl rfl
    · rw [if_neg h, if_neg (fun q => h q.1), prods]
      exact congrArg (fun r => prod _ r _) (Fin.ext (show t.val / 2 * 256 + (a.val - 1) = t.val / 2 * 256 + a.val - 1 by omega))
  · by_cases h : a.val = 255
    · have ha : a = 255 := Fin.ext h
      subst ha
      rw [dif_pos h, after]
      exact if_congr (by omega) rfl rfl
    · rw [dif_neg h, if_neg (fun q => h q.1), prods]
      exact congrArg (fun r => prod _ r _) (Fin.ext (show t.val / 2 * 256 + (a.val + 1) = min (t.val / 2 * 256 + a.val + 1) 18431 by omega))

/-- The array after the run. -/
theorem final (c : Dev nD) : (dats m 0 c).arrAt 8 cfg0.N
    = result (m ((c : Thread nD τ).loc main_arg0)) (m ((c : Thread nD τ).loc main_arg1)) := by
  refine (dats m 0 c).arrAt_eq_of_covers 8 _ (by decide +kernel) fun t _ y => ?_
  have h0 : (y 0).val < 256 := (y 0).isLt
  have h1 : (y 1).val < 1024 := (y 1).isLt
  have hy : y = ix2 (⟨(y 0).val, h0⟩ : Fin 256) (⟨(y 1).val, h1⟩ : Fin 1024) := by
    blk_ext
  have e : ((cfg0.win 8).blk t).view.emb y = ix2 (row t ⟨(y 0).val, h0⟩) (col t ⟨(y 1).val, h1⟩) := by
    unfold row col
    blk_ext [idx t]
  have hr : (row t ⟨(y 0).val, h0⟩).val = t.val / 2 * 256 + (y 0).val := rfl
  have ht := lt144 t
  blk_simp
  rw [after0_8]; frame_out
  refine Eq.trans ?_ (congrArg (result _ _) e).symm
  refine (congrArg (k0_pay1 (F := Ideal) _ _ _ _ _ _ _ _) hy).trans ?_
  refine ((pay_at _ _ _ _ _ _ _).trans (spec m c t ⟨(y 0).val, h0⟩ ⟨(y 1).val, h1⟩)).trans ?_
  by_cases h : t.val / 2 < 64
  · refine (value_congr _ _ _ _ ?_ ?_).trans (result_latent _ _ _ _ (by omega)).symm
    · show (y 0).val = 0 ∧ ¬ (t.val / 2 < 64 ∧ ¬ t.val / 2 % 8 = 0) ↔ _
      omega
    · show (y 0).val = 255 ∧ ¬ (t.val / 2 < 64 ∧ ¬ t.val / 2 % 8 = 7) ↔ _
      omega
  · refine (value_congr _ _ _ _ ?_ ?_).trans (result_ctx _ _ _ _ (by omega)).symm
    · show (y 0).val = 0 ∧ ¬ (t.val / 2 < 64 ∧ ¬ t.val / 2 % 8 = 0) ↔ _
      omega
    · show (y 0).val = 255 ∧ ¬ (t.val / 2 < 64 ∧ ¬ t.val / 2 % 8 = 7) ↔ _
      omega

end Cert.Kernel14Ideal.Value
-- ==== Proof.OddOut.lean ====
/- The odd layer's output projection: the array the kernel leaves is the reference's. -/
module

public import proofs.«01_k».proof.Proof.Gen.Kernel7Ideal.Value
public import proofs.«01_k».proof.Proof.Gen.Reference7Ideal
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel7Ideal.Value
open Cert.Kernel7Ideal Cert.Kernel7Ideal.Gen Idealize.ShloMosaic Idealize.ShloMosaic.TcCoe Idealize.SL.Sem
variable (m : (ℓ : Loc nD τ sig) → Buf (Elt Ideal) ℓ)

/-- The windows' block indices at every point: 32 blocks of rows within each of 4 blocks of columns. -/
theorem idx : ∀ t : Fin cfg0.N, win0_0.index t = ![t.val % 32, 0] ∧ win0_1.index t = ![t.val % 32, 0] ∧ win0_2.index t = ![0, t.val / 32]
    ∧ win0_3.index t = ![t.val % 32, t.val / 32] ∧ win0_4.index t = ![1, t.val % 32 / 4, 0, 8 + t.val / 32]
    ∧ win0_5.index t = ![t.val % 32, t.val / 32] :=
  (by decide +kernel : ∀ t : Fin grid0.N, _)
theorem lt128 (t : Fin cfg0.N) : t.val < 128 := t.isLt

/-- The reference's result: the residual stream plus the gate times the two halves' product with the weights. -/
def result (A : FVec Ideal S16384x2048 .bf16) (Z : FVec Ideal S16384x2048 .bf16) (W : FVec Ideal S4096x4096 .f32)
    (H : FVec Ideal S18432x4096 .f32) (M : FVec Ideal S2x16x1x24576 .f32) : FVec Ideal S16384x4096 .f32 :=
  shapeCast _ (addf (shapeCast _ (extractStridedSlice Cert.Reference7Ideal.S16384x4096 ![0, 0] H Cert.Reference7Ideal.Gen.slices_S18432x4096_S16384x4096_0_0) Cert.Reference7Ideal.Gen.shapeCasts_S16384x4096_S8x2048x4096) (mulf (broadcastInDim Cert.Reference7Ideal.S8x2048x4096 ![0, 1, 2] Cert.Reference7Ideal.Gen.bcast_S8x1x4096_S8x2048x4096_0_1_2 (broadcastInDim Cert.Reference7Ideal.S8x1x4096 ![0, 2] Cert.Reference7Ideal.Gen.bcast_S8x4096_S8x1x4096_0_2 (shapeCast _ (extractStridedSlice Cert.Reference7Ideal.S1x8x1x4096 ![1, 0, 0, 8192] M Cert.Reference7Ideal.Gen.slices_S2x16x1x24576_S1x8x1x4096_1_0_0_8192) Cert.Reference7Ideal.Gen.shapeCasts_S1x8x1x4096_S8x4096))) (shapeCast _ (Host.dotGeneral Cert.Reference7Ideal.dot_S16384x4096_S4096x4096_S16384x4096_1_0_0_1_n_n none (extf .f32 (concatenate Cert.Reference7Ideal.S16384x4096 1 [⟨Cert.Reference7Ideal.S16384x2048, A⟩, ⟨Cert.Reference7Ideal.S16384x2048, Z⟩] Cert.Reference7Ideal.Gen.concatenates_S16384x2048_S16384x2048_S16384x4096_d1) Cert.Reference7Ideal.Gen.bitsLt_bf16_f32) W) Cert.Reference7Ideal.Gen.shapeCasts_S16384x4096_S8x2048x4096))) Cert.Reference7Ideal.Gen.shapeCasts_S8x2048x4096_S16384x4096

/-- An entry of the reference's result. -/
theorem result_at (A : FVec Ideal S16384x2048 .bf16) (Z : FVec Ideal S16384x2048 .bf16) (W : FVec Ideal S4096x4096 .f32)
    (H : FVec Ideal S18432x4096 .f32) (M : FVec Ideal S2x16x1x24576 .f32) (i : Fin 16384) (j : Fin 4096) :
    result A Z W H M (ix2 i j) = H (ix2 ⟨i.val, by omega⟩ j) + M (ix4 1 ⟨i.val / 2048, by omega⟩ 0 ⟨8192 + j.val, by omega⟩)
      * (∑ k : Fin 2048, A (ix2 i k) * W (ix2 ⟨k.val, by omega⟩ j) + ∑ k : Fin 2048, Z (ix2 i k) * W (ix2 ⟨2048 + k.val, by omega⟩ j)) := by
  pointwise [result]

/-- The weights the kernel is handed. -/
theorem weight (c : Dev nD) (k : Fin 4096) (j : Fin 4096) :
    (show FVec Ideal S4096x4096 .bf16 from V m c main_v0) (ix2 k j)
      = (show FVec Ideal S4096x4096 .f32 from m ((c : Thread nD τ).loc main_arg2)) (ix2 k j) := by
  unfold V
  simp only [List.flatten_cons, List.flatten_nil, List.append_nil, List.cons_append, List.nil_append, hostOps0]
  entry_read
  pointwise

/-- The row of the latents a point's local row is. -/
def row (t : Fin cfg0.N) (a : Fin 512) : Fin 16384 := ⟨t.val % 32 * 512 + a.val, by omega⟩
/-- The column a point's local column is. -/
def col (t : Fin cfg0.N) (l : Fin 1024) : Fin 4096 := ⟨t.val / 32 * 1024 + l.val, by have := lt128 t; omega⟩

/-- A block of the attention's half. -/
theorem cell0 (c : Dev nD) (t : Fin cfg0.N) (a : Fin 512) (k : Fin 2048) :
    (show FVec Ideal S512x2048 .bf16 from iblk m c 0 t) (ix2 a k)
      = (show FVec Ideal S16384x2048 .bf16 from m ((c : Thread nD τ).loc main_arg0)) (ix2 (row t a) k) := by
  unfold row
  blk_ext [iblk, V, idx t]

/-- A block of the other half. -/
theorem cell1 (c : Dev nD) (t : Fin cfg0.N) (a : Fin 512) (k : Fin 2048) :
    (show FVec Ideal S512x2048 .bf16 from iblk m c 1 t) (ix2 a k)
      = (show FVec Ideal S16384x2048 .bf16 from m ((c : Thread nD τ).loc main_arg1)) (ix2 (row t a) k) := by
  unfold row
  blk_ext [iblk, V, idx t]

/-- A block of the weights. -/
theorem cell2 (c : Dev nD) (t : Fin cfg0.N) (k : Fin 4096) (l : Fin 1024) :
    (show FVec Ideal S4096x1024 .bf16 from iblk m c 2 t) (ix2 k l)
      = (show FVec Ideal S4096x4096 .f32 from m ((c : Thread nD τ).loc main_arg2)) (ix2 k (col t l)) := by
  have := lt128 t
  refine Eq.trans ?_ (weight m c k (col t l))
  unfold col
  blk_ext [iblk, idx t]

/-- A block of the residual stream. -/
theorem cell3 (c : Dev nD) (t : Fin cfg0.N) (y : S512x1024.Idx) :
    (show FVec Ideal S512x1024 .f32 from iblk m c 3 t) y
      = (show FVec Ideal S18432x4096 .f32 from m ((c : Thread nD τ).loc main_arg3)) (ix2 ⟨(row t (y 0)).val, by have := (row t (y 0)).isLt; omega⟩ (col t (y 1))) := by
  have := lt128 t
  unfold row col
  blk_ext [iblk, V, idx t]

/-- A block of the gates: the batch's. -/
theorem cell4 (c : Dev nD) (t : Fin cfg0.N) (a : Fin 512) (l : Fin 1024) :
    (show FVec Ideal S1x1x1x1024 .f32 from iblk m c 4 t) (ix4 0 0 0 l)
      = (show FVec Ideal S2x16x1x24576 .f32 from m ((c : Thread nD τ).loc main_arg4))
          (ix4 1 ⟨(row t a).val / 2048, by have := (row t a).isLt; omega⟩ 0 ⟨8192 + (col t l).val, by have := (col t l).isLt; omega⟩) := by
  have := lt128 t
  unfold row col
  blk_ext [iblk, V, idx t]

/-- The array after the run. -/
theorem final (c : Dev nD) : (dats m 0 c).arrAt 5 cfg0.N
    = result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  have e : ((cfg0.win 5).blk t).view.emb y = ix2 (row t (y 0)) (col t (y 1)) := by
    have := lt128 t
    unfold row col
    blk_ext [idx t]
  blk_simp
  rw [after0_5]; frame_out
  refine Eq.trans ?_ (congrArg (result _ _ _ _ _) e).symm
  refine Eq.trans ?_ (result_at _ _ _ _ _ _ _).symm
  pointwise [k0_pay1]
  exact congrArg₂ (· + ·) (cell3 m c t y) (congrArg₂ (· * ·) (cell4 m c t (y 0) (y 1)) (congrArg₂ (· + ·)
    (Finset.sum_congr rfl fun k _ => congrArg₂ (· * ·) (cell0 m c t (y 0) k) (cell2 m c t ⟨k.val, by omega⟩ (y 1)))
    (Finset.sum_congr rfl fun k _ => congrArg₂ (· * ·) (cell1 m c t (y 0) k) (cell2 m c t ⟨2048 + k.val, by omega⟩ (y 1)))))

end Cert.Kernel7Ideal.Value
-- ==== Proof.EvenKv.lean ====
/- The even layer's keys and values from their normalized latents: the array the kernel leaves is the reference's. -/
module

public import proofs.«01_k».proof.Proof.Gen.Kernel8Ideal.Value
public import proofs.«01_k».proof.Proof.Gen.Reference8Ideal
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel8Ideal.Value
open Cert.Kernel8Ideal Cert.Kernel8Ideal.Gen Idealize.ShloMosaic Idealize.ShloMosaic.TcCoe Idealize.SL.Sem
variable (m : (ℓ : Loc nD τ sig) → Buf (Elt Ideal) ℓ)

/-- The windows' block indices at every point: 36 blocks of rows; the activations' third block of 512 columns. -/
theorem idx : ∀ t : Fin cfg0.N, win0_0.index t = ![t.val, 2] ∧ win0_1.index t = ![0, 0] ∧ win0_2.index t = ![0, 0] ∧ win0_3.index t = ![t.val, 0] :=
  (by decide +kernel : ∀ t : Fin grid0.N, _)
theorem lt36 (t : Fin cfg0.N) : t.val < 36 := t.isLt

/-- The reference's result: the key-value latents, normalized, times the weights. -/
def result (U : FVec Ideal S18432x1664 .bf16) (g : FVec Ideal S512 .f32) (W : FVec Ideal S512x4096 .f32) : FVec Ideal S18432x4096 .bf16 :=
  truncf .bf16 (Host.dotGeneral Cert.Reference8Ideal.dot_S18432x512_S512x4096_S18432x4096_1_0_0_1_n_n none (mulf (mulf (extf .f32 (extractStridedSlice Cert.Reference8Ideal.S18432x512 ![0, 1024] U Cert.Reference8Ideal.Gen.slices_S18432x1664_S18432x512_0_1024) Cert.Reference8Ideal.Gen.bitsLt_bf16_f32) (broadcastInDim Cert.Reference8Ideal.S18432x512 ![0, 1] Cert.Reference8Ideal.Gen.bcast_S18432x1_S18432x512_0_1 (Host.rsqrt (addf (Host.divf (broadcastInDim Cert.Reference8Ideal.S18432x1 ![0] Cert.Reference8Ideal.Gen.bcast_S18432_S18432x1_0 (Host.reduceAdd (mulf (extf .f32 (extractStridedSlice Cert.Reference8Ideal.S18432x512 ![0, 1024] U Cert.Reference8Ideal.Gen.slices_S18432x1664_S18432x512_0_1024) Cert.Reference8Ideal.Gen.bitsLt_bf16_f32) (extf .f32 (extractStridedSlice Cert.Reference8Ideal.S18432x512 ![0, 1024] U Cert.Reference8Ideal.Gen.slices_S18432x1664_S18432x512_0_1024) Cert.Reference8Ideal.Gen.bitsLt_bf16_f32)) (constant Cert.Reference8Ideal.S_ .f32 0x00000000#32) Cert.Reference8Ideal.Gen.reducesTo_S18432x512_S18432_d1 Cert.Reference8Ideal.Gen.h_S_)) (broadcastInDim Cert.Reference8Ideal.S18432x1 ![] Cert.Reference8Ideal.Gen.bcast_S_S18432x1 (constant Cert.Reference8Ideal.S_ .f32 0x44000000#32))) (broadcastInDim Cert.Reference8Ideal.S18432x1 ![] Cert.Reference8Ideal.Gen.bcast_S_S18432x1 (constant Cert.Reference8Ideal.S_ .f32 0x358637BD#32)))))) (broadcastInDim Cert.Reference8Ideal.S18432x512 ![0, 1] Cert.Reference8Ideal.Gen.bcast_S1x512_S18432x512_0_1 (broadcastInDim Cert.Reference8Ideal.S1x512 ![1] Cert.Reference8Ideal.Gen.bcast_S512_S1x512_1 g))) W) Cert.Reference8Ideal.Gen.bitsLt_bf16_f32

/-- An entry of the reference's result. -/
theorem result_at (U : FVec Ideal S18432x1664 .bf16) (g : FVec Ideal S512 .f32) (W : FVec Ideal S512x4096 .f32) (i : Fin 18432) (j : Fin 4096) :
    result U g W (ix2 i j) = ∑ k : Fin 512, U (ix2 i ⟨1024 + k.val, by omega⟩)
      * Ideal.rsqrt (Ideal.div (∑ l : Fin 512, U (ix2 i ⟨1024 + l.val, by omega⟩) * U (ix2 i ⟨1024 + l.val, by omega⟩)) (Ideal.ofBits .f32 0x44000000#32) + Ideal.ofBits .f32 0x358637BD#32)
      * g (ix1 k) * W (ix2 k j) := by
  pointwise [result]

/-- An entry of what a grid point computes from its blocks. -/
theorem pay_at (U : FVec Ideal S512x512 .bf16) (g : FVec Ideal S1x512 .f32) (W : FVec Ideal S512x4096 .bf16) (i : Fin 512) (j : Fin 4096) :
    k0_pay1 (F := Ideal) U g W (ix2 i j) = ∑ k : Fin 512, U (ix2 i k)
      * Ideal.rsqrt (Ideal.div (∑ l : Fin 512, U (ix2 i l) * U (ix2 i l)) (Ideal.ofBits .f32 0x44000000#32) + Ideal.ofBits .f32 0x358637BD#32)
      * g (ix2 0 k) * W (ix2 k j) := by
  pointwise [k0_pay1]

/-- A block of the latents. -/
theorem act (c : Dev nD) (t : Fin cfg0.N) (a : Fin 512) (k : Fin 512) :
    (show FVec Ideal S512x512 .bf16 from X0_0 m c t) (ix2 a k)
      = (show FVec Ideal S18432x1664 .bf16 from m ((c : Thread nD τ).loc main_arg0)) (ix2 ⟨t.val * 512 + a.val, by have := lt36 t; omega⟩ ⟨1024 + k.val, by omega⟩) := by
  have := lt36 t
  have hm := moved0_0 t (ix2 a k)
  unfold X0_0 Pipeline.Window.fill
  refine (dif_pos hm).trans ?_
  blk_ext [iblk, V, idx t]

/-- The gain. -/
theorem gain (c : Dev nD) (t : Fin cfg0.N) (k : Fin 512) :
    (show FVec Ideal S1x512 .f32 from iblk m c 1 t) (ix2 0 k) = (show FVec Ideal S512 .f32 from m ((c : Thread nD τ).loc main_arg1)) (ix1 k) := by
  have e : (show FVec Ideal S1x512 .f32 from V m c main_v1) (ix2 0 k) = (show FVec Ideal S512 .f32 from m ((c : Thread nD τ).loc main_arg1)) (ix1 k) := by
    unfold V
    simp only [List.flatten_cons, List.flatten_nil, List.append_nil, List.cons_append, List.nil_append, hostOps0]
    entry_read
    pointwise
  refine Eq.trans ?_ e
  blk_ext [iblk, idx t]

/-- A block of the weights. -/
theorem cell (c : Dev nD) (t : Fin cfg0.N) (k : Fin 512) (j : Fin 4096) :
    (show FVec Ideal S512x4096 .bf16 from iblk m c 2 t) (ix2 k j) = (show FVec Ideal S512x4096 .f32 from m ((c : Thread nD τ).loc main_arg2)) (ix2 k j) := by
  have e : (show FVec Ideal S512x4096 .bf16 from V m c main_v0) (ix2 k j) = (show FVec Ideal S512x4096 .f32 from m ((c : Thread nD τ).loc main_arg2)) (ix2 k j) := by
    unfold V
    simp only [List.flatten_cons, List.flatten_nil, List.append_nil, List.cons_append, List.nil_append, hostOps0]
    entry_read
    pointwise
  refine Eq.trans ?_ e
  blk_ext [iblk, idx t]

/-- The array after the run. -/
theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  have := lt36 t
  have hy : y = ix2 (⟨(y 0).val, by have := (y 0).isLt; change (y 0).val < 512 at this; omega⟩ : Fin 512) (⟨(y 1).val, by have := (y 1).isLt; change (y 1).val < 4096 at this; omega⟩ : Fin 4096) := by
    blk_ext
  have e : ((cfg0.win 3).blk t).view.emb y = ix2 (⟨t.val * 512 + (y 0).val, by have := (y 0).isLt; change (y 0).val < 512 at this; omega⟩ : Fin 18432)
      (⟨(y 1).val, by have := (y 1).isLt; change (y 1).val < 4096 at this; omega⟩ : Fin 4096) := by
    blk_ext [idx t]
  blk_simp
  rw [after0_3, outsAt0]; frame_out
  refine Eq.trans ?_ (congrArg (result _ _ _) e).symm
  refine Eq.trans ?_ (result_at _ _ _ _ _).symm
  refine (congrArg (k0_pay1 (F := Ideal) _ _ _) hy).trans ((pay_at _ _ _ _ _).trans ?_)
  refine Finset.sum_congr rfl fun k _ => congrArg₂ (· * ·) (congrArg₂ (· * ·) (congrArg₂ (· * ·) (act m c t _ k)
    (congrArg (fun s => Ideal.rsqrt (Ideal.div s (Ideal.ofBits .f32 0x44000000#32) + Ideal.ofBits .f32 0x358637BD#32))
      (Finset.sum_congr rfl fun l _ => congrArg₂ (· * ·) (act m c t _ l) (act m c t _ l)))) (gain m c t k)) (cell m c t k _)

end Cert.Kernel8Ideal.Value
-- ==== Proof.EvenQ.lean ====
/- The even layer's queries from their normalized latents: the array the kernel leaves is the reference's. -/
module

public import proofs.«01_k».proof.Proof.Gen.Kernel9Ideal.Value
public import proofs.«01_k».proof.Proof.Gen.Reference9Ideal
public import proofs.«01_k».proof.Proof.Softmax
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384
noncomputable section
namespace Cert.Kernel9Ideal.Value
open Cert.Kernel9Ideal Cert.Kernel9Ideal.Gen Idealize.ShloMosaic Idealize.ShloMosaic.TcCoe Idealize.SL.Sem
open Cert.DiffAttn (sum_scale)
variable (m : (ℓ : Loc nD τ sig) → Buf (Elt Ideal) ℓ)

/-- The windows' block indices at every point: 36 blocks of rows; the activations' first block of 1024 columns. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)
theorem lt36 (t : Fin cfg0.N) : t.val < 36 := t.isLt

/-- The query latents, normalized, times the weights, times the scale. -/
def scaled (U : FVec Ideal S18432x1664 .bf16) (g : FVec Ideal S1024 .f32) (W : FVec Ideal S1024x3072 .f32) : FVec Ideal Cert.Reference9Ideal.S18432x3072 .f32 :=
  mulf (Host.dotGeneral Cert.Reference9Ideal.dot_S18432x1024_S1024x3072_S18432x3072_1_0_0_1_n_n none (mulf (mulf (extf .f32 (extractStridedSlice Cert.Reference9Ideal.S18432x1024 ![0, 0] U Cert.Reference9Ideal.Gen.slices_S18432x1664_S18432x1024_0_0) Cert.Reference9Ideal.Gen.bitsLt_bf16_f32) (broadcastInDim Cert.Reference9Ideal.S18432x1024 ![0, 1] Cert.Reference9Ideal.Gen.bcast_S18432x1_S18432x1024_0_1 (Host.rsqrt (addf (Host.divf (broadcastInDim Cert.Reference9Ideal.S18432x1 ![0] Cert.Reference9Ideal.Gen.bcast_S18432_S18432x1_0 (Host.reduceAdd (mulf (extf .f32 (extractStridedSlice Cert.Reference9Ideal.S18432x1024 ![0, 0] U Cert.Reference9Ideal.Gen.slices_S18432x1664_S18432x1024_0_0) Cert.Reference9Ideal.Gen.bitsLt_bf16_f32) (extf .f32 (extractStridedSlice Cert.Reference9Ideal.S18432x1024 ![0, 0] U Cert.Reference9Ideal.Gen.slices_S18432x1664_S18432x1024_0_0) Cert.Reference9Ideal.Gen.bitsLt_bf16_f32)) (constant Cert.Reference9Ideal.S_ .f32 0x00000000#32) Cert.Reference9Ideal.Gen.reducesTo_S18432x1024_S18432_d1 Cert.Reference9Ideal.Gen.h_S_)) (broadcastInDim Cert.Reference9Ideal.S18432x1 ![] Cert.Reference9Ideal.Gen.bcast_S_S18432x1 (constant Cert.Reference9Ideal.S_ .f32 0x44800000#32))) (broadcastInDim Cert.Reference9Ideal.S18432x1 ![] Cert.Reference9Ideal.Gen.bcast_S_S18432x1 (constant Cert.Reference9Ideal.S_ .f32 0x358637BD#32)))))) (broadcastInDim Cert.Reference9Ideal.S18432x1024 ![0, 1] Cert.Reference9Ideal.Gen.bcast_S1x1024_S18432x1024_0_1 (broadcastInDim Cert.Reference9Ideal.S1x1024 ![1] Cert.Reference9Ideal.Gen.bcast_S1024_S1x1024_1 g))) W) (broadcastInDim Cert.Reference9Ideal.S18432x3072 ![] Cert.Reference9Ideal.Gen.bcast_S_S18432x3072 (constant Cert.Reference9Ideal.S_ .f32 0x3DD53B95#32))

/-- The reference's result: the positionless parts of all heads, then their rotary parts with 64 zeros behind each. -/
def result (U : FVec Ideal S18432x1664 .bf16) (g : FVec Ideal S1024 .f32) (W : FVec Ideal S1024x3072 .f32) : FVec Ideal S18432x4096 .bf16 :=
  truncf .bf16 (concatenate Cert.Reference9Ideal.S18432x4096 1 [⟨Cert.Reference9Ideal.S18432x2048, (shapeCast _ (extractStridedSlice Cert.Reference9Ideal.S18432x16x128 ![0, 0, 0] (shapeCast _ (scaled U g W) Cert.Reference9Ideal.Gen.shapeCasts_S18432x3072_S18432x16x192) Cert.Reference9Ideal.Gen.slices_S18432x16x192_S18432x16x128_0_0_0) Cert.Reference9Ideal.Gen.shapeCasts_S18432x16x128_S18432x2048)⟩, ⟨Cert.Reference9Ideal.S18432x2048, (shapeCast _ (concatenate Cert.Reference9Ideal.S18432x16x128 2 [⟨Cert.Reference9Ideal.S18432x16x64, (extractStridedSlice Cert.Reference9Ideal.S18432x16x64 ![0, 0, 128] (shapeCast _ (scaled U g W) Cert.Reference9Ideal.Gen.shapeCasts_S18432x3072_S18432x16x192) Cert.Reference9Ideal.Gen.slices_S18432x16x192_S18432x16x64_0_0_128)⟩, ⟨Cert.Reference9Ideal.S18432x16x64, (broadcastInDim Cert.Reference9Ideal.S18432x16x64 ![] Cert.Reference9Ideal.Gen.bcast_S_S18432x16x64 (constant Cert.Reference9Ideal.S_ .f32 0x00000000#32))⟩] Cert.Reference9Ideal.Gen.concatenates_S18432x16x64_S18432x16x64_S18432x16x128_d2) Cert.Reference9Ideal.Gen.shapeCasts_S18432x16x128_S18432x2048)⟩] Cert.Reference9Ideal.Gen.concatenates_S18432x2048_S18432x2048_S18432x4096_d1) Cert.Reference9Ideal.Gen.bitsLt_bf16_f32

/-- The result's column `j` out of the weights' columns: a head's first 128 columns, then its last 64 and 64 zeros. -/
def pick (j : Fin 4096) (f : Fin 3072 → EReal) : EReal :=
  if h : j.val < 2048 then f ⟨j.val / 128 * 192 + j.val % 128, by omega⟩
  else if h' : (j.val - 2048) % 128 < 64 then f ⟨(j.val - 2048) / 128 * 192 + (128 + (j.val - 2048) % 128), by omega⟩
  else 0

/-- An entry of the reference's result. -/
theorem result_at (U : FVec Ideal S18432x1664 .bf16) (g : FVec Ideal S1024 .f32) (W : FVec Ideal S1024x3072 .f32) (i : Fin 18432) (j : Fin 4096) :
    result U g W (ix2 i j) = pick j fun q => scaled U g W (ix2 i q) := by
  unfold pick
  pointwise [result]

/-- An entry of the scaled product. -/
theorem scaled_at (U : FVec Ideal S18432x1664 .bf16) (g : FVec Ideal S1024 .f32) (W : FVec Ideal S1024x3072 .f32) (i : Fin 18432) (q : Fin 3072) :
    scaled U g W (ix2 i q) = (∑ k : Fin 1024, U (ix2 i ⟨k.val, by omega⟩)
      * Ideal.rsqrt (Ideal.div (∑ l : Fin 1024, U (ix2 i ⟨l.val, by omega⟩) * U (ix2 i ⟨l.val, by omega⟩)) (Ideal.ofBits .f32 0x44800000#32) + Ideal.ofBits .f32 0x358637BD#32)
      * g (ix1 k) * W (ix2 k q)) * Ideal.ofBits .f32 0x3DD53B95#32 := by
  pointwise [scaled]

/-- An entry of what a grid point computes from its blocks. -/
theorem pay_at (U : FVec Ideal S512x1024 .bf16) (g : FVec Ideal S1x1024 .f32) (W : FVec Ideal S1024x4096 .bf16) (i : Fin 512) (j : Fin 4096) :
    k0_pay1 (F := Ideal) U g W (ix2 i j) = ∑ k : Fin 1024, U (ix2 i k)
      * Ideal.rsqrt (Ideal.div (∑ l : Fin 1024, U (ix2 i l) * U (ix2 i l)) (Ideal.ofBits .f32 0x44800000#32) + Ideal.ofBits .f32 0x358637BD#32)
      * g (ix2 0 k) * W (ix2 k j) := by
  pointwise [k0_pay1]

/-- The scale is a positive number. -/
theorem scale_real : ∃ r : ℝ, 0 ≤ r ∧ Ideal.ofBits .f32 0x3DD53B95#32 = (r : EReal) := by
  simp [Ideal.ofBits, Ideal.ieee, -EReal.coe_mul]

/-- A product with the picked and scaled columns is the picked column of the scaled product. -/
theorem sum_pick (j : Fin 4096) (f : Fin 1024 → EReal) (w : Fin 1024 → Fin 3072 → EReal) :
    ∑ k, f k * pick j (fun q => w k q * Ideal.ofBits .f32 0x3DD53B95#32)
      = pick j fun q => (∑ k, f k * w k q) * Ideal.ofBits .f32 0x3DD53B95#32 := by
  obtain ⟨r, hr, e⟩ := scale_real
  simp only [e, pick]
  by_cases h : j.val < 2048
  · simp only [dif_pos h, ← mul_assoc]
    exact sum_scale _ r hr
  · by_cases h' : (j.val - 2048) % 128 < 64
    · simp only [dif_neg h, dif_pos h', ← mul_assoc]
      exact sum_scale _ r hr
    · simp only [dif_neg h, dif_neg h', mul_zero, Finset.sum_const_zero]

/-- The scaled weights, as the kernel's call makes them. -/
def heads (W : FVec Ideal S1024x3072 .f32) : FVec Ideal S1024x16x192 .f32 :=
  shapeCast S1024x16x192 (mulf W (broadcastInDim S1024x3072 ![] bcast_S_S1024x3072 (constant S_ .f32 0x3DD53B95#32))) shapeCasts_S1024x3072_S1024x16x192

/-- A picked column, with the bound on the head and the padding's value spelt as the call spells them. -/
theorem pick_eq (j : Fin 4096) (f : Fin 3072 → EReal) (z : EReal) (hz : z = 0) :
    (if h : j.val < 2048 then f ⟨j.val / 128 * 192 + j.val % 128, by omega⟩
      else if h' : (j.val - 2048) / 128 < 16 ∧ (j.val - 2048) % 128 < 64 then f ⟨(j.val - 2048) / 128 * 192 + (128 + (j.val - 2048) % 128), by omega⟩
      else z) = pick j f := by
  unfold pick
  subst hz
  by_cases h : j.val < 2048
  · simp only [dif_pos h]
  · by_cases h' : (j.val - 2048) % 128 < 64
    · have h2 : (j.val - 2048) / 128 < 16 ∧ (j.val - 2048) % 128 < 64 := ⟨by omega, h'⟩
      simp only [dif_neg h, dif_pos h', dif_pos h2]
    · have h2 : ¬((j.val - 2048) / 128 < 16 ∧ (j.val - 2048) % 128 < 64) := fun q => h' q.2
      simp only [dif_neg h, dif_neg h', dif_neg h2]

/-- The weights the kernel is handed. -/
theorem weight (c : Dev nD) (k : Fin 1024) (j : Fin 4096) :
    (show FVec Ideal S1024x4096 .bf16 from V m c main_v9) (ix2 k j)
      = pick j fun q => (show FVec Ideal S1024x3072 .f32 from m ((c : Thread nD τ).loc main_arg2)) (ix2 k q) * Ideal.ofBits .f32 0x3DD53B95#32 := by
  unfold V
  simp only [List.flatten_cons, List.flatten_nil, List.append_nil, List.cons_append, List.nil_append, hostOps0, hostOps0_1, hostOps0_2]
  entry_read
  change truncf .bf16 (concatenate S1024x4096 1
        [⟨S1024x2048, shapeCast S1024x2048 (extractStridedSlice S1024x16x128 ![0, 0, 0] (heads (show FVec Ideal S1024x3072 .f32 from m ((c : Thread nD τ).loc main_arg2))) slices_S1024x16x192_S1024x16x128_0_0_0) shapeCasts_S1024x16x128_S1024x2048⟩,
          ⟨S1024x2048, shapeCast S1024x2048 (pad S1024x16x128 ![0, 0, 0] ![0, 0, 64] ![0, 0, 0]
                  (extractStridedSlice S1024x16x64 ![0, 0, 128] (heads (show FVec Ideal S1024x3072 .f32 from m ((c : Thread nD τ).loc main_arg2))) slices_S1024x16x192_S1024x16x64_0_0_128)
                  (sitofp .f32 (constantI S_ 32 0#32)) pads_S1024x16x64_S1024x16x128_000_000_0640 h_S_) shapeCasts_S1024x16x128_S1024x2048⟩]
        concatenates_S1024x2048_S1024x2048_S1024x4096_d1) bitsLt_bf16_f32 (ix2 k j) = _
  have hz : (FloatOps.sitofp .f32 0#32 : Ideal .f32) = 0 := by
    show ((((0#32 : BitVec 32).toInt : ℝ)) : EReal) = 0
    simp
  refine Eq.trans ?_ (pick_eq j _ _ hz)
  pointwise [heads]

/-- A block of the latents. -/
theorem act (c : Dev nD) (t : Fin cfg0.N) (a : Fin 512) (k : Fin 1024) :
    (show FVec Ideal S512x1024 .bf16 from X0_0 m c t) (ix2 a k)
      = (show FVec Ideal S18432x1664 .bf16 from m ((c : Thread nD τ).loc main_arg0)) (ix2 ⟨t.val * 512 + a.val, by have := lt36 t; omega⟩ ⟨k.val, by omega⟩) := by
  have := lt36 t
  have hm := moved0_0 t (ix2 a k)
  unfold X0_0 Pipeline.Window.fill
  refine (dif_pos hm).trans ?_
  blk_ext [iblk, V, idx t]

/-- The gain. -/
theorem gain (c : Dev nD) (t : Fin cfg0.N) (k : Fin 1024) :
    (show FVec Ideal S1x1024 .f32 from iblk m c 1 t) (ix2 0 k) = (show FVec Ideal S1024 .f32 from m ((c : Thread nD τ).loc main_arg1)) (ix1 k) := by
  have e : (show FVec Ideal S1x1024 .f32 from V m c main_v10) (ix2 0 k) = (show FVec Ideal S1024 .f32 from m ((c : Thread nD τ).loc main_arg1)) (ix1 k) := by
    unfold V
    simp only [List.flatten_cons, List.flatten_nil, List.append_nil, List.cons_append, List.nil_append, hostOps0, hostOps0_1, hostOps0_2]
    entry_read
    pointwise
  refine Eq.trans ?_ e
  blk_ext [iblk, idx t]

/-- A block of the weights. -/
theorem cell (c : Dev nD) (t : Fin cfg0.N) (k : Fin 1024) (j : Fin 4096) :
    (show FVec Ideal S1024x4096 .bf16 from iblk m c 2 t) (ix2 k j)
      = pick j fun q => (show FVec Ideal S1024x3072 .f32 from m ((c : Thread nD τ).loc main_arg2)) (ix2 k q) * Ideal.ofBits .f32 0x3DD53B95#32 := by
  refine Eq.trans ?_ (weight m c k j)
  blk_ext [iblk, idx t]

/-- The array after the run. -/
theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  have := lt36 t
  have hy : y = ix2 (⟨(y 0).val, by have := (y 0).isLt; change (y 0).val < 512 at this; omega⟩ : Fin 512) (⟨(y 1).val, by have := (y 1).isLt; change (y 1).val < 4096 at this; omega⟩ : Fin 4096) := by
    blk_ext
  have e : ((cfg0.win 3).blk t).view.emb y = ix2 (⟨t.val * 512 + (y 0).val, by have := (y 0).isLt; change (y 0).val < 512 at this; omega⟩ : Fin 18432)
      (⟨(y 1).val, by have := (y 1).isLt; change (y 1).val < 4096 at this; omega⟩ : Fin 4096) := by
    blk_ext [idx t]
  blk_simp
  rw [after0_3, outsAt0]; frame_out
  refine Eq.trans ?_ (congrArg (result _ _ _) e).symm
  refine Eq.trans ?_ (result_at _ _ _ _ _).symm
  refine Eq.trans ?_ (congrArg (pick _) (funext fun q => (scaled_at _ _ _ _ q).symm))
  refine (congrArg (k0_pay1 (F := Ideal) _ _ _) hy).trans ((pay_at _ _ _ _ _).trans ?_)
  refine Eq.trans ?_ (sum_pick _ _ fun k q => (show FVec Ideal S1024x3072 .f32 from m ((c : Thread nD τ).loc main_arg2)) (ix2 k q))
  refine Finset.sum_congr rfl fun k _ => congrArg₂ (· * ·) (congrArg₂ (· * ·) (congrArg₂ (· * ·) (act m c t _ k)
    (congrArg (fun s => Ideal.rsqrt (Ideal.div s (Ideal.ofBits .f32 0x44800000#32) + Ideal.ofBits .f32 0x358637BD#32))
      (Finset.sum_congr rfl fun l _ => congrArg₂ (· * ·) (act m c t _ l) (act m c t _ l)))) (gain m c t k)) (cell m c t k _)

end Cert.Kernel9Ideal.Value
-- ==== Proof.lean ====
/- The certificate: the frames of the programs; the differential attention's array equal to the plain reference's, for
   operands that hold no infinity; the latent attention's, for operands that hold none and are padded with zeros; and the
   arrays of the eight projections, the modulations and the two convolutions of three taps, for any operands. -/
module

public import proofs.«01_k».proof.Defs
public import proofs.«01_k».proof.Proof.Equation
public import proofs.«01_k».proof.Proof.MlaEquation
public import proofs.«01_k».proof.Proof.MlaReferenceRun
public import proofs.«01_k».proof.Proof.OddIn
public import proofs.«01_k».proof.Proof.OddCtx
public import proofs.«01_k».proof.Proof.EvenLatent
public import proofs.«01_k».proof.Proof.EvenConv
public import proofs.«01_k».proof.Proof.EvenOut
public import proofs.«01_k».proof.Proof.Modulation
public import proofs.«01_k».proof.Proof.OddConv
public import proofs.«01_k».proof.Proof.EvenModulate
public import proofs.«01_k».proof.Proof.EvenShortConv
public import proofs.«01_k».proof.Proof.OddOut
public import proofs.«01_k».proof.Proof.EvenKv
public import proofs.«01_k».proof.Proof.EvenQ
public import proofs.«01_k».proof.Proof.Gen.KernelIdeal.Value
public import proofs.«01_k».proof.Proof.Gen.ReferenceIdeal.Run
public import proofs.«01_k».proof.Proof.Gen.Reference.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2
public import proofs.«01_k».proof.Proof.Gen.Reference2.Run
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3
public import proofs.«01_k».proof.Proof.Gen.Reference3.Run
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4
public import proofs.«01_k».proof.Proof.Gen.Reference4.Run
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5
public import proofs.«01_k».proof.Proof.Gen.Reference5.Run
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6
public import proofs.«01_k».proof.Proof.Gen.Reference6.Run
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7
public import proofs.«01_k».proof.Proof.Gen.Reference7.Run
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8
public import proofs.«01_k».proof.Proof.Gen.Reference8.Run
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9
public import proofs.«01_k».proof.Proof.Gen.Reference9.Run
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10
public import proofs.«01_k».proof.Proof.Gen.Reference10.Run
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11
public import proofs.«01_k».proof.Proof.Gen.Reference11.Run
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12
public import proofs.«01_k».proof.Proof.Gen.Reference12.Run
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13
public import proofs.«01_k».proof.Proof.Gen.Reference13.Run
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14
public import proofs.«01_k».proof.Proof.Gen.Reference14.Run
public import proofs.«01_k».proof.Proof.Gen.Reference14Ideal
public import proofs.«01_k».proof.Proof.Gen.Reference14Ideal.Run
public import Idealize.ShloMosaic.Adequacy
public import Idealize.ShloMosaic.Init

@[expose] public section

noncomputable section

namespace Cert.Proof

open Idealize.ShloMosaic Idealize.SL.Sem Cert.Kernel

set_option maxHeartbeats 1600000 in
/-- The array the kernel leaves is the array the reference leaves. -/
theorem algebraic : ∀ [Cert.Pre_finite.Facts], Cert.algebraic_KernelIdeal_ReferenceIdeal_pre_finite := by
  intro _
  pair_intro
  · run_from Cert.KernelIdeal.Value.run_blocks m g
  · hlo_run
    refine Eq.trans ?_ ((Cert.KernelIdeal.Value.final m c).trans (Cert.KernelIdeal.Value.outArr_eq m hpre c)).symm
    rfl

/-- The plain reference has no semaphore. -/
theorem noSem (s : SemLoc Cert.ReferenceIdeal.sig) : False := by
  rcases s with ⟨i⟩ | ⟨i⟩ <;> exact absurd i.isLt (by decide +revert)

/-- The plain reference has no semaphore. -/
theorem noSem' (s : SemLoc Cert.Reference.sig) : False := by
  rcases s with ⟨i⟩ | ⟨i⟩ <;> exact absurd i.isLt (by decide +revert)

set_option maxHeartbeats 1600000 in
/-- The plain reference leaves its arguments alone. -/
theorem refFrame : Cert.quiescent_ReferenceIdeal := by
  intro m g _
  hlo_run
  · exact fun _ => ⟨trivial, trivial, trivial, trivial, trivial, trivial⟩
  · funext s
    exact (noSem s.2).elim

/-- The idealized kernel leaves its arguments alone. -/
theorem idealFrame : Cert.quiescent_KernelIdeal := fun m ρ _ => Cert.KernelIdeal.Gen.frame m ρ

set_option maxHeartbeats 1600000 in
/-- The odd layer's projection of the latents: the array the kernel leaves is the array the reference leaves. -/
theorem algebraic2 : Cert.algebraic_Kernel2Ideal_Reference2Ideal := by
  pair_intro
  · run_from Cert.Kernel2Ideal.Value.run_blocks m g
  · hlo_run
    exact (Cert.Kernel2Ideal.Value.final m c).symm

/-- The reference of the odd layer's projection of the latents has no semaphore. -/
theorem noSem2Ideal (s : SemLoc Cert.Reference2Ideal.sig) : False := by
  rcases s with ⟨i⟩ | ⟨i⟩ <;> exact absurd i.isLt (by decide +revert)

set_option maxHeartbeats 1600000 in
/-- The reference of the odd layer's projection of the latents leaves its arguments alone. -/
theorem refFrame2Ideal : Cert.quiescent_Reference2Ideal := by
  intro m g _
  hlo_run
  · exact fun _ => ⟨trivial, trivial⟩
  · funext s
    exact (noSem2Ideal s.2).elim

/-- The reference of the odd layer's projection of the latents has no semaphore. -/
theorem noSem2 (s : SemLoc Cert.Reference2.sig) : False := by
  rcases s with ⟨i⟩ | ⟨i⟩ <;> exact absurd i.isLt (by decide +revert)

set_option maxHeartbeats 1600000 in
/-- The reference of the odd layer's projection of the latents leaves its arguments alone. -/
theorem refFrame2 : Cert.quiescent_Reference2 := by
  intro m g _
  hlo_run
  · exact fun _ => ⟨trivial, trivial⟩
  · funext s
    exact (noSem2 s.2).elim

set_option maxHeartbeats 1600000 in
/-- The odd layer's projection of the context: the array the kernel leaves is the array the reference leaves. -/
theorem algebraic3 : Cert.algebraic_Kernel3Ideal_Reference3Ideal := by
  pair_intro
  · run_from Cert.Kernel3Ideal.Value.run_blocks m g
  · hlo_run
    exact (Cert.Kernel3Ideal.Value.final m c).symm

/-- The reference of the odd layer's projection of the context has no semaphore. -/
theorem noSem3Ideal (s : SemLoc Cert.Reference3Ideal.sig) : False := by
  rcases s with ⟨i⟩ | ⟨i⟩ <;> exact absurd i.isLt (by decide +revert)

set_option maxHeartbeats 1600000 in
/-- The reference of the odd layer's projection of the context leaves its arguments alone. -/
theorem refFrame3Ideal : Cert.quiescent_Reference3Ideal := by
  intro m g _
  hlo_run
  · exact fun _ => ⟨trivial, trivial⟩
  · funext s
    exact (noSem3Ideal s.2).elim

/-- The reference of the odd layer's projection of the context has no semaphore. -/
theorem noSem3 (s : SemLoc Cert.Reference3.sig) : False := by
  rcases s with ⟨i⟩ | ⟨i⟩ <;> exact absurd i.isLt (by decide +revert)

set_option maxHeartbeats 1600000 in
/-- The reference of the odd layer's projection of the context leaves its arguments alone. -/
theorem refFrame3 : Cert.quiescent_Reference3 := by
  intro m g _
  hlo_run
  · exact fun _ => ⟨trivial, trivial⟩
  · funext s
    exact (noSem3 s.2).elim

set_option maxHeartbeats 1600000 in
/-- The even layer's projection to the latents: the array the kernel leaves is the array the reference leaves. -/
theorem algebraic4 : Cert.algebraic_Kernel4Ideal_Reference4Ideal := by
  pair_intro
  · run_from Cert.Kernel4Ideal.Value.run_blocks m g
  · hlo_run
    exact (Cert.Kernel4Ideal.Value.final m c).symm

/-- The reference of the even layer's projection to the latents has no semaphore. -/
theorem noSem4Ideal (s : SemLoc Cert.Reference4Ideal.sig) : False := by
  rcases s with ⟨i⟩ | ⟨i⟩ <;> exact absurd i.isLt (by decide +revert)

set_option maxHeartbeats 1600000 in
/-- The reference of the even layer's projection to the latents leaves its arguments alone. -/
theorem refFrame4Ideal : Cert.quiescent_Reference4Ideal := by
  intro m g _
  hlo_run
  · exact fun _ => ⟨trivial, trivial⟩
  · funext s
    exact (noSem4Ideal s.2).elim

/-- The reference of the even layer's projection to the latents has no semaphore. -/
theorem noSem4 (s : SemLoc Cert.Reference4.sig) : False := by
  rcases s with ⟨i⟩ | ⟨i⟩ <;> exact absurd i.isLt (by decide +revert)

set_option maxHeartbeats 1600000 in
/-- The reference of the even layer's projection to the latents leaves its arguments alone. -/
theorem refFrame4 : Cert.quiescent_Reference4 := by
  intro m g _
  hlo_run
  · exact fun _ => ⟨trivial, trivial⟩
  · funext s
    exact (noSem4 s.2).elim

set_option maxHeartbeats 1600000 in
/-- The even layer's projection to the convolution: the array the kernel leaves is the array the reference leaves. -/
theorem algebraic5 : Cert.algebraic_Kernel5Ideal_Reference5Ideal := by
  pair_intro
  · run_from Cert.Kernel5Ideal.Value.run_blocks m g
  · hlo_run
    exact (Cert.Kernel5Ideal.Value.final m c).symm

/-- The reference of the even layer's projection to the convolution has no semaphore. -/
theorem noSem5Ideal (s : SemLoc Cert.Reference5Ideal.sig) : False := by
  rcases s with ⟨i⟩ | ⟨i⟩ <;> exact absurd i.isLt (by decide +revert)

set_option maxHeartbeats 1600000 in
/-- The reference of the even layer's projection to the convolution leaves its arguments alone. -/
theorem refFrame5Ideal : Cert.quiescent_Reference5Ideal := by
  intro m g _
  hlo_run
  · exact fun _ => ⟨trivial, trivial⟩
  · funext s
    exact (noSem5Ideal s.2).elim

/-- The reference of the even layer's projection to the convolution has no semaphore. -/
theorem noSem5 (s : SemLoc Cert.Reference5.sig) : False := by
  rcases s with ⟨i⟩ | ⟨i⟩ <;> exact absurd i.isLt (by decide +revert)

set_option maxHeartbeats 1600000 in
/-- The reference of the even layer's projection to the convolution leaves its arguments alone. -/
theorem refFrame5 : Cert.quiescent_Reference5 := by
  intro m g _
  hlo_run
  · exact fun _ => ⟨trivial, trivial⟩
  · funext s
    exact (noSem5 s.2).elim

set_option maxHeartbeats 1600000 in
/-- The even layer's output projection: the array the kernel leaves is the array the reference leaves. -/
theorem algebraic6 : Cert.algebraic_Kernel6Ideal_Reference6Ideal := by
  pair_intro
  · run_from Cert.Kernel6Ideal.Value.run_blocks m g
  · hlo_run
    obtain ⟨_, _, _, _, a4, a5⟩ := hagree c
    exact (congrArg₂ (Cert.Kernel6Ideal.Value.result _ _ _ _) a4 a5).trans (Cert.Kernel6Ideal.Value.final m c).symm

/-- The reference of the even layer's output projection has no semaphore. -/
theorem noSem6Ideal (s : SemLoc Cert.Reference6Ideal.sig) : False := by
  rcases s with ⟨i⟩ | ⟨i⟩ <;> exact absurd i.isLt (by decide +revert)

set_option maxHeartbeats 1600000 in
/-- The reference of the even layer's output projection leaves its arguments alone. -/
theorem refFrame6Ideal : Cert.quiescent_Reference6Ideal := by
  intro m g _
  hlo_run
  · exact fun _ => ⟨trivial, trivial, trivial, trivial, trivial, trivial⟩
  · funext s
    exact (noSem6Ideal s.2).elim

/-- The reference of the even layer's output projection has no semaphore. -/
theorem noSem6 (s : SemLoc Cert.Reference6.sig) : False := by
  rcases s with ⟨i⟩ | ⟨i⟩ <;> exact absurd i.isLt (by decide +revert)

set_option maxHeartbeats 1600000 in
/-- The reference of the even layer's output projection leaves its arguments alone. -/
theorem refFrame6 : Cert.quiescent_Reference6 := by
  intro m g _
  hlo_run
  · exact fun _ => ⟨trivial, trivial, trivial, trivial, trivial, trivial⟩
  · funext s
    exact (noSem6 s.2).elim

set_option maxHeartbeats 1600000 in
/-- The odd layer's output projection: the array the kernel leaves is the array the reference leaves. -/
theorem algebraic7 : Cert.algebraic_Kernel7Ideal_Reference7Ideal := by
  pair_intro
  · run_from Cert.Kernel7Ideal.Value.run_blocks m g
  · hlo_run
    exact (Cert.Kernel7Ideal.Value.final m c).symm

/-- The reference of the odd layer's output projection has no semaphore. -/
theorem noSem7Ideal (s : SemLoc Cert.Reference7Ideal.sig) : False := by
  rcases s with ⟨i⟩ | ⟨i⟩ <;> exact absurd i.isLt (by decide +revert)

set_option maxHeartbeats 1600000 in
/-- The reference of the odd layer's output projection leaves its arguments alone. -/
theorem refFrame7Ideal : Cert.quiescent_Reference7Ideal := by
  intro m g _
  hlo_run
  · exact fun _ => ⟨trivial, trivial, trivial, trivial, trivial⟩
  · funext s
    exact (noSem7Ideal s.2).elim

/-- The reference of the odd layer's output projection has no semaphore. -/
theorem noSem7 (s : SemLoc Cert.Reference7.sig) : False := by
  rcases s with ⟨i⟩ | ⟨i⟩ <;> exact absurd i.isLt (by decide +revert)

set_option maxHeartbeats 1600000 in
/-- The reference of the odd layer's output projection leaves its arguments alone. -/
theorem refFrame7 : Cert.quiescent_Reference7 := by
  intro m g _
  hlo_run
  · exact fun _ => ⟨trivial, trivial, trivial, trivial, trivial⟩
  · funext s
    exact (noSem7 s.2).elim

set_option maxHeartbeats 1600000 in
/-- The even layer's keys and values from their latents: the array the kernel leaves is the array the reference leaves. -/
theorem algebraic8 : Cert.algebraic_Kernel8Ideal_Reference8Ideal := by
  pair_intro
  · run_from Cert.Kernel8Ideal.Value.run_blocks m g
  · hlo_run
    exact (Cert.Kernel8Ideal.Value.final m c).symm

/-- The reference of the even layer's keys and values from their latents has no semaphore. -/
theorem noSem8Ideal (s : SemLoc Cert.Reference8Ideal.sig) : False := by
  rcases s with ⟨i⟩ | ⟨i⟩ <;> exact absurd i.isLt (by decide +revert)

set_option maxHeartbeats 1600000 in
/-- The reference of the even layer's keys and values from their latents leaves its arguments alone. -/
theorem refFrame8Ideal : Cert.quiescent_Reference8Ideal := by
  intro m g _
  hlo_run
  · exact fun _ => ⟨trivial, trivial, trivial⟩
  · funext s
    exact (noSem8Ideal s.2).elim

/-- The reference of the even layer's keys and values from their latents has no semaphore. -/
theorem noSem8 (s : SemLoc Cert.Reference8.sig) : False := by
  rcases s with ⟨i⟩ | ⟨i⟩ <;> exact absurd i.isLt (by decide +revert)

set_option maxHeartbeats 1600000 in
/-- The reference of the even layer's keys and values from their latents leaves its arguments alone. -/
theorem refFrame8 : Cert.quiescent_Reference8 := by
  intro m g _
  hlo_run
  · exact fun _ => ⟨trivial, trivial, trivial⟩
  · funext s
    exact (noSem8 s.2).elim

set_option maxHeartbeats 1600000 in
/-- The even layer's queries from their latents: the array the kernel leaves is the array the reference leaves. -/
theorem algebraic9 : Cert.algebraic_Kernel9Ideal_Reference9Ideal := by
  pair_intro
  · run_from Cert.Kernel9Ideal.Value.run_blocks m g
  · hlo_run
    obtain ⟨_, _, a2⟩ := hagree c
    exact (congrArg (Cert.Kernel9Ideal.Value.result _ _) a2).trans (Cert.Kernel9Ideal.Value.final m c).symm

/-- The reference of the even layer's queries from their latents has no semaphore. -/
theorem noSem9Ideal (s : SemLoc Cert.Reference9Ideal.sig) : False := by
  rcases s with ⟨i⟩ | ⟨i⟩ <;> exact absurd i.isLt (by decide +revert)

set_option maxHeartbeats 1600000 in
/-- The reference of the even layer's queries from their latents leaves its arguments alone. -/
theorem refFrame9Ideal : Cert.quiescent_Reference9Ideal := by
  intro m g _
  hlo_run
  · exact fun _ => ⟨trivial, trivial, trivial⟩
  · funext s
    exact (noSem9Ideal s.2).elim

/-- The reference of the even layer's queries from their latents has no semaphore. -/
theorem noSem9 (s : SemLoc Cert.Reference9.sig) : False := by
  rcases s with ⟨i⟩ | ⟨i⟩ <;> exact absurd i.isLt (by decide +revert)

set_option maxHeartbeats 1600000 in
/-- The reference of the even layer's queries from their latents leaves its arguments alone. -/
theorem refFrame9 : Cert.quiescent_Reference9 := by
  intro m g _
  hlo_run
  · exact fun _ => ⟨trivial, trivial, trivial⟩
  · funext s
    exact (noSem9 s.2).elim

set_option maxHeartbeats 1600000 in
/-- The even layer's attention: the array the kernel leaves is the array the reference leaves. -/
theorem algebraic10 : ∀ [Cert.Pre_padded.Facts], Cert.algebraic_Kernel10Ideal_Reference10Ideal_pre_padded := by
  intro _
  pair_intro
  · run_from Cert.Kernel10Ideal.Value.run_blocks m g
  · run_from Cert.Reference10Ideal.Value.run m' g'
    obtain ⟨a0, a1, a2, a3, a4⟩ := hagree c
    refine (Cert.Reference10Ideal.Value.res_eq m' c).trans (Eq.trans ?_
      ((Cert.Kernel10Ideal.Value.final m c (Cert.Kernel10Ideal.Value.padded_of_pre m hpre c)).trans (Cert.Kernel10Ideal.Value.outArr_eq m hpre c)).symm)
    exact congr (congr (congr (congr (congrArg Cert.Reference10Ideal.Value.result a0) a1) a2) a3) a4

/-- The reference of the even layer's attention has no semaphore. -/
theorem noSem10Ideal (s : SemLoc Cert.Reference10Ideal.sig) : False := by
  rcases s with ⟨i⟩ | ⟨i⟩ <;> exact absurd i.isLt (by decide +revert)

set_option maxHeartbeats 1600000 in
/-- The reference of the even layer's attention leaves its arguments alone. -/
theorem refFrame10Ideal : Cert.quiescent_Reference10Ideal := by
  intro m g _
  hlo_run
  · exact fun _ => ⟨trivial, trivial, trivial, trivial, trivial⟩
  · funext s
    exact (noSem10Ideal s.2).elim

/-- The reference of the even layer's attention has no semaphore. -/
theorem noSem10 (s : SemLoc Cert.Reference10.sig) : False := by
  rcases s with ⟨i⟩ | ⟨i⟩ <;> exact absurd i.isLt (by decide +revert)

set_option maxHeartbeats 1600000 in
/-- The reference of the even layer's attention leaves its arguments alone. -/
theorem refFrame10 : Cert.quiescent_Reference10 := by
  intro m g _
  hlo_run
  · exact fun _ => ⟨trivial, trivial, trivial, trivial, trivial⟩
  · funext s
    exact (noSem10 s.2).elim

set_option maxHeartbeats 1600000 in
/-- The modulation rows of both layers: the array the kernel leaves is the array the reference leaves. -/
theorem algebraic11 : Cert.algebraic_Kernel11Ideal_Reference11Ideal := by
  pair_intro
  · run_from Cert.Kernel11Ideal.Value.run_blocks m g
  · hlo_run
    obtain ⟨_, _, a2⟩ := hagree c
    exact (congrArg (Cert.Kernel11Ideal.Value.result _ _) a2).trans (Cert.Kernel11Ideal.Value.final m c).symm

/-- The reference of the modulation rows of both layers has no semaphore. -/
theorem noSem11Ideal (s : SemLoc Cert.Reference11Ideal.sig) : False := by
  rcases s with ⟨i⟩ | ⟨i⟩ <;> exact absurd i.isLt (by decide +revert)

set_option maxHeartbeats 1600000 in
/-- The reference of the modulation rows of both layers leaves its arguments alone. -/
theorem refFrame11Ideal : Cert.quiescent_Reference11Ideal := by
  intro m g _
  hlo_run
  · exact fun _ => ⟨trivial, trivial, trivial⟩
  · funext s
    exact (noSem11Ideal s.2).elim

/-- The reference of the modulation rows of both layers has no semaphore. -/
theorem noSem11 (s : SemLoc Cert.Reference11.sig) : False := by
  rcases s with ⟨i⟩ | ⟨i⟩ <;> exact absurd i.isLt (by decide +revert)

set_option maxHeartbeats 1600000 in
/-- The reference of the modulation rows of both layers leaves its arguments alone. -/
theorem refFrame11 : Cert.quiescent_Reference11 := by
  intro m g _
  hlo_run
  · exact fun _ => ⟨trivial, trivial, trivial⟩
  · funext s
    exact (noSem11 s.2).elim

set_option maxHeartbeats 1600000 in
/-- The odd layer's convolution of three taps: the array the kernel leaves is the array the reference leaves. -/
theorem algebraic12 : Cert.algebraic_Kernel12Ideal_Reference12Ideal := by
  pair_intro
  · run_from Cert.Kernel12Ideal.Value.run_blocks m g
  · hlo_run
    exact (Cert.Kernel12Ideal.Value.final m c).symm

/-- The reference of the odd layer's convolution of three taps has no semaphore. -/
theorem noSem12Ideal (s : SemLoc Cert.Reference12Ideal.sig) : False := by
  rcases s with ⟨i⟩ | ⟨i⟩ <;> exact absurd i.isLt (by decide +revert)

set_option maxHeartbeats 1600000 in
/-- The reference of the odd layer's convolution of three taps leaves its arguments alone. -/
theorem refFrame12Ideal : Cert.quiescent_Reference12Ideal := by
  intro m g _
  hlo_run
  · exact fun _ => ⟨trivial, trivial⟩
  · funext s
    exact (noSem12Ideal s.2).elim

/-- The reference of the odd layer's convolution of three taps has no semaphore. -/
theorem noSem12 (s : SemLoc Cert.Reference12.sig) : False := by
  rcases s with ⟨i⟩ | ⟨i⟩ <;> exact absurd i.isLt (by decide +revert)

set_option maxHeartbeats 1600000 in
/-- The reference of the odd layer's convolution of three taps leaves its arguments alone. -/
theorem refFrame12 : Cert.quiescent_Reference12 := by
  intro m g _
  hlo_run
  · exact fun _ => ⟨trivial, trivial⟩
  · funext s
    exact (noSem12 s.2).elim

set_option maxHeartbeats 1600000 in
/-- The even layer's modulation of the normalized residual streams: the array the kernel leaves is the array the reference leaves. -/
theorem algebraic13 : Cert.algebraic_Kernel13Ideal_Reference13Ideal := by
  pair_intro
  · run_from Cert.Kernel13Ideal.Value.run_blocks m g
  · hlo_run
    obtain ⟨_, _, a2⟩ := hagree c
    exact (congrArg (Cert.Kernel13Ideal.Value.result _ _) a2).trans (Cert.Kernel13Ideal.Value.final m c).symm

/-- The reference of the even layer's modulation of the normalized residual streams has no semaphore. -/
theorem noSem13Ideal (s : SemLoc Cert.Reference13Ideal.sig) : False := by
  rcases s with ⟨i⟩ | ⟨i⟩ <;> exact absurd i.isLt (by decide +revert)

set_option maxHeartbeats 1600000 in
/-- The reference of the even layer's modulation of the normalized residual streams leaves its arguments alone. -/
theorem refFrame13Ideal : Cert.quiescent_Reference13Ideal := by
  intro m g _
  hlo_run
  · exact fun _ => ⟨trivial, trivial, trivial⟩
  · funext s
    exact (noSem13Ideal s.2).elim

/-- The reference of the even layer's modulation of the normalized residual streams has no semaphore. -/
theorem noSem13 (s : SemLoc Cert.Reference13.sig) : False := by
  rcases s with ⟨i⟩ | ⟨i⟩ <;> exact absurd i.isLt (by decide +revert)

set_option maxHeartbeats 1600000 in
/-- The reference of the even layer's modulation of the normalized residual streams leaves its arguments alone. -/
theorem refFrame13 : Cert.quiescent_Reference13 := by
  intro m g _
  hlo_run
  · exact fun _ => ⟨trivial, trivial, trivial⟩
  · funext s
    exact (noSem13 s.2).elim

set_option maxHeartbeats 1600000 in
/-- The even layer's gated convolution of three taps: the array the kernel leaves is the array the reference leaves. -/
theorem algebraic14 : Cert.algebraic_Kernel14Ideal_Reference14Ideal := by
  pair_intro
  · run_from Cert.Kernel14Ideal.Value.run_blocks m g
  · run_from Cert.Reference14Ideal.Value.run m' g'
    obtain ⟨a0, a1⟩ := hagree c
    have e : Cert.Reference14Ideal.Value.res_main_v60 m' c = Cert.Kernel14Ideal.Value.result (m' (c.tc.loc Cert.Reference14Ideal.main_arg0))
        (m' (c.tc.loc Cert.Reference14Ideal.main_arg1)) := rfl
    exact e.trans ((congrArg₂ Cert.Kernel14Ideal.Value.result a0 a1).trans (Cert.Kernel14Ideal.Value.final m c).symm)

/-- The reference of the even layer's gated convolution of three taps has no semaphore. -/
theorem noSem14Ideal (s : SemLoc Cert.Reference14Ideal.sig) : False := by
  rcases s with ⟨i⟩ | ⟨i⟩ <;> exact absurd i.isLt (by decide +revert)

set_option maxHeartbeats 1600000 in
/-- The reference of the even layer's gated convolution of three taps leaves its arguments alone. -/
theorem refFrame14Ideal : Cert.quiescent_Reference14Ideal := by
  intro m g _
  hlo_run
  · exact fun _ => ⟨trivial, trivial⟩
  · funext s
    exact (noSem14Ideal s.2).elim

/-- The reference of the even layer's gated convolution of three taps has no semaphore. -/
theorem noSem14 (s : SemLoc Cert.Reference14.sig) : False := by
  rcases s with ⟨i⟩ | ⟨i⟩ <;> exact absurd i.isLt (by decide +revert)

set_option maxHeartbeats 1600000 in
/-- The reference of the even layer's gated convolution of three taps leaves its arguments alone. -/
theorem refFrame14 : Cert.quiescent_Reference14 := by
  intro m g _
  hlo_run
  · exact fun _ => ⟨trivial, trivial⟩
  · funext s
    exact (noSem14 s.2).elim

set_option maxHeartbeats 1600000 in
/-- All claims: every program ends well, and every kernel's array is its reference's. -/
theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Reference2.Gen.facts,
  Cert.Kernel3.Gen.facts, Cert.Kernel3Ideal.Gen.facts, Cert.Reference3Ideal.Gen.facts, Cert.Reference3.Gen.facts,
  Cert.Kernel4.Gen.facts, Cert.Kernel4Ideal.Gen.facts, Cert.Reference4Ideal.Gen.facts, Cert.Reference4.Gen.facts,
  Cert.Kernel5.Gen.facts, Cert.Kernel5Ideal.Gen.facts, Cert.Reference5Ideal.Gen.facts, Cert.Reference5.Gen.facts,
  Cert.Kernel6.Gen.facts, Cert.Kernel6Ideal.Gen.facts, Cert.Reference6Ideal.Gen.facts, Cert.Reference6.Gen.facts,
  Cert.Kernel7.Gen.facts, Cert.Kernel7Ideal.Gen.facts, Cert.Reference7Ideal.Gen.facts, Cert.Reference7.Gen.facts,
  Cert.Kernel8.Gen.facts, Cert.Kernel8Ideal.Gen.facts, Cert.Reference8Ideal.Gen.facts, Cert.Reference8.Gen.facts,
  Cert.Kernel9.Gen.facts, Cert.Kernel9Ideal.Gen.facts, Cert.Reference9Ideal.Gen.facts, Cert.Reference9.Gen.facts,
  Cert.Kernel10.Gen.facts, Cert.Kernel10Ideal.Gen.facts, Cert.Reference10Ideal.Gen.facts, Cert.Reference10.Gen.facts,
  Cert.Kernel11.Gen.facts, Cert.Kernel11Ideal.Gen.facts, Cert.Reference11Ideal.Gen.facts, Cert.Reference11.Gen.facts,
  Cert.Kernel12.Gen.facts, Cert.Kernel12Ideal.Gen.facts, Cert.Reference12Ideal.Gen.facts, Cert.Reference12.Gen.facts,
  Cert.Kernel13.Gen.facts, Cert.Kernel13Ideal.Gen.facts, Cert.Reference13Ideal.Gen.facts, Cert.Reference13.Gen.facts,
  Cert.Kernel14.Gen.facts, Cert.Kernel14Ideal.Gen.facts, Cert.Reference14Ideal.Gen.facts, Cert.Reference14.Gen.facts,
  Cert.Pre_finite.facts, Cert.Pre_padded.facts,
  fun m ρ _ => Cert.Kernel.Gen.frame m ρ, idealFrame, fun m g _ => idealFrame m g trivial,
  refFrame, fun m g _ => refFrame m g trivial,
  by
    intro m g _
    hlo_run
    · exact fun _ => ⟨trivial, trivial, trivial, trivial, trivial, trivial⟩
    · funext s
      exact (noSem' s.2).elim,
  fun m ρ _ => Cert.Kernel2.Gen.frame m ρ, fun m ρ _ => Cert.Kernel2Ideal.Gen.frame m ρ, refFrame2Ideal, refFrame2,
  fun m ρ _ => Cert.Kernel3.Gen.frame m ρ, fun m ρ _ => Cert.Kernel3Ideal.Gen.frame m ρ, refFrame3Ideal, refFrame3,
  fun m ρ _ => Cert.Kernel4.Gen.frame m ρ, fun m ρ _ => Cert.Kernel4Ideal.Gen.frame m ρ, refFrame4Ideal, refFrame4,
  fun m ρ _ => Cert.Kernel5.Gen.frame m ρ, fun m ρ _ => Cert.Kernel5Ideal.Gen.frame m ρ, refFrame5Ideal, refFrame5,
  fun m ρ _ => Cert.Kernel6.Gen.frame m ρ, fun m ρ _ => Cert.Kernel6Ideal.Gen.frame m ρ, refFrame6Ideal, refFrame6,
  fun m ρ _ => Cert.Kernel7.Gen.frame m ρ, fun m ρ _ => Cert.Kernel7Ideal.Gen.frame m ρ, refFrame7Ideal, refFrame7,
  fun m ρ _ => Cert.Kernel8.Gen.frame m ρ, fun m ρ _ => Cert.Kernel8Ideal.Gen.frame m ρ, refFrame8Ideal, refFrame8,
  fun m ρ _ => Cert.Kernel9.Gen.frame m ρ, fun m ρ _ => Cert.Kernel9Ideal.Gen.frame m ρ, refFrame9Ideal, refFrame9,
  fun m ρ _ => Cert.Kernel10.Gen.frame m ρ, fun m ρ _ => Cert.Kernel10Ideal.Gen.frame m ρ, fun m ρ _ => Cert.Kernel10Ideal.Gen.frame m ρ,
  refFrame10Ideal, fun m g _ => refFrame10Ideal m g trivial, refFrame10,
  fun m ρ _ => Cert.Kernel11.Gen.frame m ρ, fun m ρ _ => Cert.Kernel11Ideal.Gen.frame m ρ, refFrame11Ideal, refFrame11,
  fun m ρ _ => Cert.Kernel12.Gen.frame m ρ, fun m ρ _ => Cert.Kernel12Ideal.Gen.frame m ρ, refFrame12Ideal, refFrame12,
  fun m ρ _ => Cert.Kernel13.Gen.frame m ρ, fun m ρ _ => Cert.Kernel13Ideal.Gen.frame m ρ, refFrame13Ideal, refFrame13,
  fun m ρ _ => Cert.Kernel14.Gen.frame m ρ, fun m ρ _ => Cert.Kernel14Ideal.Gen.frame m ρ, refFrame14Ideal, refFrame14,
  trivial, trivial, @algebraic Cert.Pre_finite.facts,
  trivial, trivial, algebraic2,
  trivial, trivial, algebraic3,
  trivial, trivial, algebraic4,
  trivial, trivial, algebraic5,
  trivial, trivial, algebraic6,
  trivial, trivial, algebraic7,
  trivial, trivial, algebraic8,
  trivial, trivial, algebraic9,
  trivial, trivial, @algebraic10 Cert.Pre_padded.facts,
  trivial, trivial, algebraic11,
  trivial, trivial, algebraic12,
  trivial, trivial, algebraic13,
  trivial, trivial, algebraic14⟩

end Cert.Proof

end
